-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "ln2" .f32 0x3F317218#32 ((Real.log 2 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v67)) (v1 : (c : Dev Cert.Kernel2Ideal.nD) → Buf (Elt Ideal) ((c.tc : Thread Cert.Kernel2Ideal.nD Cert.Kernel2Ideal.τ).loc Cert.Kernel2Ideal.main_v70)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v67) = v0 c
          ∧ r.2.mem ((c.tc : Thread Cert.Kernel2Ideal.nD Cert.Kernel2Ideal.τ).loc Cert.Kernel2Ideal.main_v70) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_v20) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bitsLt_bf16_f32 : FTy.bits .bf16 < FTy.bits .f32
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v16 : IVec S_ 1) (main_v17 : FVec F S8192x8x64 .f32) : IVec S_ 1 :=
  let main_v18 : FVec F S8192x8x64 .f32 := Host.absf main_v17
  let main_cst_4 : FVec F S_ .f32 := constant S_ .f32 0x7F800000#32
  let main_v19 : FVec F S8192x8x64 .f32 := broadcastInDim S8192x8x64 ![] bcast_S_S8192x8x64 main_cst_4
  let main_v20 : IVec S8192x8x64 1 := cmpf .olt main_v18 main_v19
  let main_c_5 : IVec S_ 1 := constantI S_ 1 1#1
  let main_v21 : IVec S_ 1 := (fun x v => Host.reduce IntOp.andi x v reducesTo_S8192x8x64_S_d0_1_2 h_S_) main_v20 main_c_5
  let main_v22 : IVec S_ 1 := andi main_v16 main_v21
  main_v22

def fn {F : FTy → Type} [FloatOps F] (main_arg0 : FVec F S8192x8x96 .bf16) (main_arg1 : FVec F S8192x8x96 .bf16) (main_arg2 : FVec F S8192x8x64 .bf16) (main_arg3 : FVec F S8192x8x64 .bf16) : IVec S_ 1 :=
  let main_v0 : FVec F S8192x8x96 .f32 := (extf .f32 · bitsLt_bf16_f32) main_arg0
  let main_v1 : FVec F S8192x8x96 .f32 := Host.absf main_v0
  let main_cst : FVec F S_ .f32 := constant S_ .f32 0x7F800000#32
  let main_v2 : FVec F S8192x8x96 .f32 := broadcastInDim S8192x8x96 ![] bcast_S_S8192x8x96 main_cst
  let main_v3 : IVec S8192x8x96 1 := cmpf .olt main_v1 main_v2
  let main_c : IVec S_ 1 := constantI S_ 1 1#1
  let main_v4 : IVec S_ 1 := (fun x v => Host.reduce IntOp.andi x v reducesTo_S8192x8x96_S_d0_1_2 h_S_) main_v3 main_c
  let main_v5 : FVec F S8192x8x96 .f32 := (extf .f32 · bitsLt_bf16_f32) main_arg1
  let main_v6 : FVec F S8192x8x96 .f32 := Host.absf main_v5
  let main_cst_0 : FVec F S_ .f32 := constant S_ .f32 0x7F800000#32
  let main_v7 : FVec F S8192x8x96 .f32 := broadcastInDim S8192x8x96 ![] bcast_S_S8192x8x96 main_cst_0
  let main_v8 : IVec S8192x8x96 1 := cmpf .olt main_v6 main_v7
  let main_c_1 : IVec S_ 1 := constantI S_ 1 1#1
  let main_v9 : IVec S_ 1 := (fun x v => Host.reduce IntOp.andi x v reducesTo_S8192x8x96_S_d0_1_2 h_S_) main_v8 main_c_1
  let main_v10 : IVec S_ 1 := andi main_v4 main_v9
  let main_v11 : FVec F S8192x8x64 .f32 := (extf .f32 · bitsLt_bf16_f32) main_arg2
  let main_v12 : FVec F S8192x8x64 .f32 := Host.absf main_v11
  let main_cst_2 : FVec F S_ .f32 := constant S_ .f32 0x7F800000#32
  let main_v13 : FVec F S8192x8x64 .f32 := broadcastInDim S8192x8x64 ![] bcast_S_S8192x8x64 main_cst_2
  let main_v14 : IVec S8192x8x64 1 := cmpf .olt main_v12 main_v13
  let main_c_3 : IVec S_ 1 := constantI S_ 1 1#1
  let main_v15 : IVec S_ 1 := (fun x v => Host.reduce IntOp.andi x v reducesTo_S8192x8x64_S_d0_1_2 h_S_) main_v14 main_c_3
  let main_v16 : IVec S_ 1 := andi main_v10 main_v15
  let main_v17 : FVec F S8192x8x64 .f32 := (extf .f32 · bitsLt_bf16_f32) main_arg3
  fn_part1 (F := F) main_v16 main_v17
-- ==== Pre_finite3.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2x8192x2816 : S_.BroadcastsInDim S2x8192x2816 (![] : Fin 0 → Fin S2x8192x2816.rank)
  reducesTo_S2x8192x2816_S_d0_1_2 : S2x8192x2816.ReducesTo [0, 1, 2] S_

variable [Facts]

def fn {F : FTy → Type} [FloatOps F] (main_arg0 : FVec F S8192x1024 .bf16) (main_arg1 : FVec F S2816x1024 .bf16) (main_arg2 : FVec F S2x8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2x8192x2816 .f32 := (extf .f32 · bitsLt_bf16_f32) main_arg2
  let main_v12 : FVec F S2x8192x2816 .f32 := Host.absf main_v11
  let main_cst_2 : FVec F S_ .f32 := constant S_ .f32 0x7F800000#32
  let main_v13 : FVec F S2x8192x2816 .f32 := broadcastInDim S2x8192x2816 ![] bcast_S_S2x8192x2816 main_cst_2
  let main_v14 : IVec S2x8192x2816 1 := cmpf .olt main_v12 main_v13
  let main_c_3 : IVec S_ 1 := constantI S_ 1 1#1
  let main_v15 : IVec S_ 1 := (fun x v => Host.reduce IntOp.andi x v reducesTo_S2x8192x2816_S_d0_1_2 h_S_) main_v14 main_c_3
  let main_v16 : IVec S_ 1 := andi main_v10 main_v15
  main_v16
-- ==== Kernel.lean ====
abbrev S8192x8x96 : Shape := ⟨3, ![8192, 8, 96]⟩
abbrev S8192x8x64 : Shape := ⟨3, ![8192, 8, 64]⟩
abbrev S10 : Shape := ⟨1, ![10]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x32 : Shape := ⟨3, ![8192, 8, 32]⟩
abbrev S8192x8x128 : Shape := ⟨3, ![8192, 8, 128]⟩
abbrev S8192x1024 : Shape := ⟨2, ![8192, 1024]⟩
abbrev S8192x8x1 : Shape := ⟨3, ![8192, 8, 1]⟩
abbrev S8192x8x63 : Shape := ⟨3, ![8192, 8, 63]⟩
abbrev S2048x128 : Shape := ⟨2, ![2048, 128]⟩
abbrev S1 : Shape := ⟨1, ![1]⟩
abbrev S512x128 : Shape := ⟨2, ![512, 128]⟩
abbrev S512x2048 : Shape := ⟨2, ![512, 2048]⟩
abbrev S512x512 : Shape := ⟨2, ![512, 512]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩

abbrev nBuf : Space → Nat
  | .hbm => 88
  | .vmem => 15
  | .smem => 2
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x8x64, .bf16⟩
  | .hbm, ⟨4, _⟩ => ⟨S8192x8x96, .f32⟩
  | .hbm, ⟨5, _⟩ => ⟨S8192x8x96, .f32⟩
  | .hbm, ⟨6, _⟩ => ⟨S8192x8x64, .f32⟩
  | .hbm, ⟨7, _⟩ => ⟨S8192x8x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S_, .f32⟩
  | .hbm, ⟨20, _⟩ => ⟨S_, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x64x8192, .f32⟩
  | .hbm, ⟨36, _⟩ => ⟨S8192x8x64, .f32⟩
  | .hbm, ⟨37, _⟩ => ⟨S8x8192x1, .f32⟩
  | .hbm, ⟨38, _⟩ => ⟨S8x8192x1, .f32⟩
  | .hbm, ⟨39, _⟩ => ⟨S8x8192, .f32⟩
  | .hbm, ⟨40, _⟩ => ⟨S8192x8, .f32⟩
  | .hbm, ⟨41, _⟩ => ⟨S8192x8x64, .f32⟩
  | .hbm, ⟨42, _⟩ => ⟨S_, .f32⟩
  | .hbm, ⟨43, _⟩ => ⟨S8192x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x8x96, .f32⟩
  | .hbm, ⟨48, _⟩ => ⟨S8192x8x96, .f32⟩
  | .hbm, ⟨49, _⟩ => ⟨S8192x8x96, .f32⟩
  | .hbm, ⟨50, _⟩ => ⟨S8192x8x96, .f32⟩
  | .hbm, ⟨51, _⟩ => ⟨S_, .f32⟩
  | .hbm, ⟨52, _⟩ => ⟨S8192x8x32, .f32⟩
  | .hbm, ⟨53, _⟩ => ⟨S8192x8x128, .f32⟩
  | .hbm, ⟨54, _⟩ => ⟨S8192x1024, .f32⟩
  | .hbm, ⟨55, _⟩ => ⟨S8192x1024, .bf16⟩
  | .hbm, ⟨56, _⟩ => ⟨S_, .f32⟩
  | .hbm, ⟨57, _⟩ => ⟨S8192x8x32, .f32⟩
  | .hbm, ⟨58, _⟩ => ⟨S8192x8x128, .f32⟩
  | .hbm, ⟨59, _⟩ => ⟨S8192x1024, .f32⟩
  | .hbm, ⟨60, _⟩ => ⟨S8192x1024, .bf16⟩
  | .hbm, ⟨61, _⟩ => ⟨S_, .f32⟩
  | .hbm, ⟨62, _⟩ => ⟨S8192x8x1, .f32⟩
  | .hbm, ⟨63, _⟩ => ⟨S_, .f32⟩
  | .hbm, ⟨64, _⟩ => ⟨S8192x8x63, .f32⟩
  | .hbm, ⟨65, _⟩ => ⟨S8192x8x128, .f32⟩
  | .hbm, ⟨66, _⟩ => ⟨S8192x1024, .f32⟩
  | .hbm, ⟨67, _⟩ => ⟨S8192x1024, .bf16⟩
  | .hbm, ⟨68, _⟩ => ⟨S_, .f32⟩
  | .hbm, ⟨69, _⟩ => ⟨S8192x8x64, .f32⟩
  | .hbm, ⟨70, _⟩ => ⟨S8192x8x128, .f32⟩
  | .hbm, ⟨71, _⟩ => ⟨S8192x1024, .f32⟩
  | .hbm, ⟨72, _⟩ => ⟨S8192x1024, .bf16⟩
  | .hbm, ⟨73, _⟩ => ⟨S8192x8, .f32⟩
  | .hbm, ⟨74, _⟩ => ⟨S8192x8, .f32⟩
  | .hbm, ⟨75, _⟩ => ⟨S8192x8x1, .f32⟩
  | .hbm, ⟨76, _⟩ => ⟨S8192x8x128, .f32⟩
  | .hbm, ⟨77, _⟩ => ⟨S8192x1024, .f32⟩
  | .hbm, ⟨78, _⟩ => ⟨S8192x8x1, .f32⟩
  | .hbm, ⟨79, _⟩ => ⟨S8192x8x128, .f32⟩
  | .hbm, ⟨80, _⟩ => ⟨S8192x1024, .f32⟩
  | .hbm, ⟨81, _⟩ => ⟨S8192x1024, .bf16⟩
  | .hbm, ⟨82, _⟩ => ⟨S8192x1024, .f32⟩
  | .hbm, ⟨83, _⟩ => ⟨S8192x8x128, .f32⟩
  | .hbm, ⟨84, _⟩ => ⟨S8192x8x96, .f32⟩
  | .hbm, ⟨85, _⟩ => ⟨S_, .f32⟩
  | .hbm, ⟨86, _⟩ => ⟨S8192x8x96, .f32⟩
  | .hbm, ⟨87, _⟩ => ⟨S8192x8x96, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .f32⟩
  | .local _ .smem, ⟨0, _⟩ => ⟨S10, .i32⟩
  | .local _ .smem, ⟨1, _⟩ => ⟨S10, .i32⟩
  | _, _ => ⟨S8192x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 90
  | .vmem => 0
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x8x64, .bf16⟩
  | .hbm, ⟨4, _⟩ => ⟨S8192x8x96, .f32⟩
  | .hbm, ⟨5, _⟩ => ⟨S8192x8x96, .f32⟩
  | .hbm, ⟨6, _⟩ => ⟨S8192x8x64, .f32⟩
  | .hbm, ⟨7, _⟩ => ⟨S8192x8x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S_, .f32⟩
  | .hbm, ⟨20, _⟩ => ⟨S_, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .i1⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S8x8192, .i1⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S8x64x8192, .f32⟩
  | .hbm, ⟨65, _⟩ => ⟨S8192x8x64, .f32⟩
  | .hbm, ⟨66, _⟩ => ⟨S8x64x8192, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x96, .f32⟩
  | .hbm, ⟨89, _⟩ => ⟨S8192x8x96, .f32⟩
  | _, _ => ⟨S8192x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel2.lean ====
abbrev S8192x8x96 : Shape := ⟨3, ![8192, 8, 96]⟩
abbrev S8192x8x64 : Shape := ⟨3, ![8192, 8, 64]⟩
abbrev S10 : Shape := ⟨1, ![10]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x32 : Shape := ⟨3, ![8192, 8, 32]⟩
abbrev S8192x8x128 : Shape := ⟨3, ![8192, 8, 128]⟩
abbrev S8192x1024 : Shape := ⟨2, ![8192, 1024]⟩
abbrev S8192x8x1 : Shape := ⟨3, ![8192, 8, 1]⟩
abbrev S8192x8x63 : Shape := ⟨3, ![8192, 8, 63]⟩
abbrev S8x1x8192 : Shape := ⟨3, ![8, 1, 8192]⟩
abbrev S8x8x8192 : Shape := ⟨3, ![8, 8, 8192]⟩
abbrev S64x8192 : Shape := ⟨2, ![64, 8192]⟩
abbrev S8x128x8192 : Shape := ⟨3, ![8, 128, 8192]⟩
abbrev S1024x8192 : Shape := ⟨2, ![1024, 8192]⟩
abbrev S2048x128 : Shape := ⟨2, ![2048, 128]⟩
abbrev S1 : Shape := ⟨1, ![1]⟩
abbrev S8x2048 : Shape := ⟨2, ![8, 2048]⟩
abbrev S512x128 : Shape := ⟨2, ![512, 128]⟩
abbrev S512x2048 : Shape := ⟨2, ![512, 2048]⟩
abbrev S1536x128 : Shape := ⟨2, ![1536, 128]⟩
abbrev S512x1536 : Shape := ⟨2, ![512, 1536]⟩
abbrev S1x2048 : Shape := ⟨2, ![1, 2048]⟩
abbrev S1024x128 : Shape := ⟨2, ![1024, 128]⟩
abbrev S512x1024 : Shape := ⟨2, ![512, 1024]⟩
abbrev S1x1536 : Shape := ⟨2, ![1, 1536]⟩
abbrev S512x512 : Shape := ⟨2, ![512, 512]⟩
abbrev S1x1024 : Shape := ⟨2, ![1, 1024]⟩
abbrev S1x512 : Shape := ⟨2, ![1, 512]⟩

abbrev nBuf : Space → Nat
  | .hbm => 91
  | .vmem => 18
  | .smem => 2
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x8x64, .bf16⟩
  | .hbm, ⟨4, _⟩ => ⟨S8192x8x96, .f32⟩
  | .hbm, ⟨5, _⟩ => ⟨S8192x8x96, .f32⟩
  | .hbm, ⟨6, _⟩ => ⟨S8192x8x64, .f32⟩
  | .hbm, ⟨7, _⟩ => ⟨S8192x8x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S_, .f32⟩
  | .hbm, ⟨20, _⟩ => ⟨S_, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x64x8192, .f32⟩
  | .hbm, ⟨36, _⟩ => ⟨S8192x8x64, .f32⟩
  | .hbm, ⟨37, _⟩ => ⟨S8x8192x1, .f32⟩
  | .hbm, ⟨38, _⟩ => ⟨S8x8192x1, .f32⟩
  | .hbm, ⟨39, _⟩ => ⟨S8x8192, .f32⟩
  | .hbm, ⟨40, _⟩ => ⟨S8192x8, .f32⟩
  | .hbm, ⟨41, _⟩ => ⟨S8192x8x64, .f32⟩
  | .hbm, ⟨42, _⟩ => ⟨S_, .f32⟩
  | .hbm, ⟨43, _⟩ => ⟨S8192x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x8x96, .f32⟩
  | .hbm, ⟨48, _⟩ => ⟨S8192x8x96, .f32⟩
  | .hbm, ⟨49, _⟩ => ⟨S8192x8x96, .f32⟩
  | .hbm, ⟨50, _⟩ => ⟨S8192x8x96, .f32⟩
  | .hbm, ⟨51, _⟩ => ⟨S_, .f32⟩
  | .hbm, ⟨52, _⟩ => ⟨S8192x8x32, .f32⟩
  | .hbm, ⟨53, _⟩ => ⟨S8192x8x128, .f32⟩
  | .hbm, ⟨54, _⟩ => ⟨S8192x1024, .f32⟩
  | .hbm, ⟨55, _⟩ => ⟨S8192x1024, .bf16⟩
  | .hbm, ⟨56, _⟩ => ⟨S_, .f32⟩
  | .hbm, ⟨57, _⟩ => ⟨S8192x8x32, .f32⟩
  | .hbm, ⟨58, _⟩ => ⟨S8192x8x128, .f32⟩
  | .hbm, ⟨59, _⟩ => ⟨S8192x1024, .f32⟩
  | .hbm, ⟨60, _⟩ => ⟨S8192x1024, .bf16⟩
  | .hbm, ⟨61, _⟩ => ⟨S_, .f32⟩
  | .hbm, ⟨62, _⟩ => ⟨S8192x8x1, .f32⟩
  | .hbm, ⟨63, _⟩ => ⟨S_, .f32⟩
  | .hbm, ⟨64, _⟩ => ⟨S8192x8x63, .f32⟩
  | .hbm, ⟨65, _⟩ => ⟨S8192x8x128, .f32⟩
  | .hbm, ⟨66, _⟩ => ⟨S8192x1024, .f32⟩
  | .hbm, ⟨67, _⟩ => ⟨S8192x1024, .bf16⟩
  | .hbm, ⟨68, _⟩ => ⟨S_, .f32⟩
  | .hbm, ⟨69, _⟩ => ⟨S8192x8x64, .f32⟩
  | .hbm, ⟨70, _⟩ => ⟨S8192x8x128, .f32⟩
  | .hbm, ⟨71, _⟩ => ⟨S8192x1024, .f32⟩
  | .hbm, ⟨72, _⟩ => ⟨S8192x1024, .bf16⟩
  | .hbm, ⟨73, _⟩ => ⟨S8192x8, .f32⟩
  | .hbm, ⟨74, _⟩ => ⟨S8192x8, .f32⟩
  | .hbm, ⟨75, _⟩ => ⟨S8x8192, .f32⟩
  | .hbm, ⟨76, _⟩ => ⟨S8x1x8192, .f32⟩
  | .hbm, ⟨77, _⟩ => ⟨S8x8x8192, .f32⟩
  | .hbm, ⟨78, _⟩ => ⟨S64x8192, .f32⟩
  | .hbm, ⟨79, _⟩ => ⟨S8x8192, .f32⟩
  | .hbm, ⟨80, _⟩ => ⟨S8x1x8192, .f32⟩
  | .hbm, ⟨81, _⟩ => ⟨S8x128x8192, .f32⟩
  | .hbm, ⟨82, _⟩ => ⟨S1024x8192, .f32⟩
  | .hbm, ⟨83, _⟩ => ⟨S8192x1024, .bf16⟩
  | .hbm, ⟨84, _⟩ => ⟨S8192x1024, .bf16⟩
  | .hbm, ⟨85, _⟩ => ⟨S8192x1024, .f32⟩
  | .hbm, ⟨86, _⟩ => ⟨S8192x8x128, .f32⟩
  | .hbm, ⟨87, _⟩ => ⟨S8192x8x96, .f32⟩
  | .hbm, ⟨88, _⟩ => ⟨S8192x1024, .f32⟩
  | .hbm, ⟨89, _⟩ => ⟨S8192x8x128, .f32⟩
  | .hbm, ⟨90, _⟩ => ⟨S8192x8x64, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .smem, ⟨0, _⟩ => ⟨S10, .i32⟩
  | .local _ .smem, ⟨1, _⟩ => ⟨S10, .i32⟩
  | _, _ => ⟨S8192x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v3 : BitVec 32) : BitVec 1 :=
  let c3_i32 : BitVec 32 := 3#32
  let v13 : BitVec 1 := Scalar.cmpi .eq v3 c3_i32
  let v14 : BitVec 32 := Scalar.extui v13
  let c0_i32_2 : BitVec 32 := 0#32
  let v15 : BitVec 1 := Scalar.cmpi .ne v14 c0_i32_2
  v15

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![arg0.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S10) ![v1.toNat] S1.size (k0_off1_inb i)) numel1_S1
  let c0_i32 : BitVec 32 := 0#32
  ![v0.toNat, v2.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "ln2" => some ((Real.log 2 : ℝ) : EReal)
  | _ => none
-- ==== Reference2Ideal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 92
  | .vmem => 0
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x8x64, .bf16⟩
  | .hbm, ⟨4, _⟩ => ⟨S8192x8x96, .f32⟩
  | .hbm, ⟨5, _⟩ => ⟨S8192x8x96, .f32⟩
  | .hbm, ⟨6, _⟩ => ⟨S8192x8x64, .f32⟩
  | .hbm, ⟨7, _⟩ => ⟨S8192x8x64, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S1x8192x8192, .i1⟩
  | .hbm, ⟨19, _⟩ => ⟨S_, .f32⟩
  | .hbm, ⟨20, _⟩ => ⟨S_, .f32⟩
  | .hbm, ⟨21, _⟩ => ⟨S8x8192x8192, .i1⟩
  | .hbm, ⟨22, _⟩ => ⟨S8x8192x8192, .f32⟩
  | .hbm, ⟨23, _⟩ => ⟨S8x8192x8192, .f32⟩
  | .hbm, ⟨24, _⟩ => ⟨S_, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .i1⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S8x8192, .i1⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .f32⟩
  | .hbm, ⟨50, _⟩ => ⟨S8x8192, .f32⟩
  | .hbm, ⟨51, _⟩ => ⟨S8x8192x1, .f32⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S8x64x8192, .f32⟩
  | .hbm, ⟨65, _⟩ => ⟨S8192x8x64, .f32⟩
  | .hbm, ⟨66, _⟩ => ⟨S8x64x8192, .f32⟩
  | .hbm, ⟨67, _⟩ => ⟨S8x8192x8192, .f32⟩
  | .hbm, ⟨68, _⟩ => ⟨S8x64x8192, .f32⟩
  | .hbm, ⟨69, _⟩ => ⟨S8192x8x64, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x96, .f32⟩
  | .hbm, ⟨91, _⟩ => ⟨S8192x8x96, .f32⟩
  | _, _ => ⟨S8192x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_v14_1 : Ref sig .tc := ⟨.hbm, 21, rfl⟩
abbrev main_call0_v2 : Ref sig .tc := ⟨.hbm, 22, rfl⟩
abbrev main_v14_0 : Ref sig .tc := ⟨.hbm, 23, rfl⟩
abbrev main_call0_cst : Ref sig .tc := ⟨.hbm, 24, rfl⟩
abbrev main_v14_2 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel3.lean ====
abbrev S8192x1024 : Shape := ⟨2, ![8192, 1024]⟩
abbrev S2816x1024 : Shape := ⟨2, ![2816, 1024]⟩
abbrev S2x8192x2816 : Shape := ⟨3, ![2, 8192, 2816]⟩
abbrev S1024x1024 : Shape := ⟨2, ![1024, 1024]⟩
abbrev S1408x1024 : Shape := ⟨2, ![1408, 1024]⟩
abbrev S2x1024x1408 : Shape := ⟨3, ![2, 1024, 1408]⟩
abbrev S256x1024 : Shape := ⟨2, ![256, 1024]⟩
abbrev S1024x256 : Shape := ⟨2, ![1024, 256]⟩
abbrev S1x1024x256 : Shape := ⟨3, ![1, 1024, 256]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S8192x1024, .f32⟩
  | .hbm, ⟨4, _⟩ => ⟨S2816x1024, .f32⟩
  | .hbm, ⟨5, _⟩ => ⟨S2x8192x2816, .f32⟩
  | .hbm, ⟨6, _⟩ => ⟨S1x8192x2816, .f32⟩
  | .hbm, ⟨7, _⟩ => ⟨S8192x2816, .f32⟩
  | .hbm, ⟨8, _⟩ => ⟨S1x8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x8192x2816, .f32⟩
  | .hbm, ⟨33, _⟩ => ⟨S1x8192x2816, .f32⟩
  | .hbm, ⟨34, _⟩ => ⟨S2x8192x2816, .f32⟩
  | .hbm, ⟨35, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Kernel4.lean ====
abbrev S8192x1024 : Shape := ⟨2, ![8192, 1024]⟩
abbrev S2x8192x2816 : Shape := ⟨3, ![2, 8192, 2816]⟩
abbrev S1024x8192 : Shape := ⟨2, ![1024, 8192]⟩
abbrev S1024x5632 : Shape := ⟨2, ![1024, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x8192, .bf16⟩
  | .hbm, ⟨3, _⟩ => ⟨S1024x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S8192x1024, .f32⟩
  | .hbm, ⟨3, _⟩ => ⟨S2x8192x2816, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S1x8192x2816, .f32⟩
  | .hbm, ⟨10, _⟩ => ⟨S1x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S8192x5632, .f32⟩
  | .hbm, ⟨17, _⟩ => ⟨S5632x1024, .f32⟩
  | .hbm, ⟨18, _⟩ => ⟨S1024x5632, .f32⟩
  | .hbm, ⟨19, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel5.lean ====
abbrev S2x8192x2816 : Shape := ⟨3, ![2, 8192, 2816]⟩
abbrev S1024x5632 : Shape := ⟨2, ![1024, 5632]⟩
abbrev S8192x1024 : Shape := ⟨2, ![8192, 1024]⟩
abbrev S1x2048x1408 : Shape := ⟨3, ![1, 2048, 1408]⟩
abbrev S1024x1408 : Shape := ⟨2, ![1024, 1408]⟩
abbrev S2048x1024 : Shape := ⟨2, ![2048, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S2x8192x2816 : Shape := ⟨3, ![2, 8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S2x8192x2816, .f32⟩
  | .hbm, ⟨3, _⟩ => ⟨S1024x5632, .f32⟩
  | .hbm, ⟨4, _⟩ => ⟨S_, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S1x8192x2816, .f32⟩
  | .hbm, ⟨10, _⟩ => ⟨S1x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S8192x5632, .f32⟩
  | .hbm, ⟨17, _⟩ => ⟨S8192x1024, .f32⟩
  | .hbm, ⟨18, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x8192, .bf16⟩
  | .hbm, ⟨3, _⟩ => ⟨S2816x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S2816x8192 : Shape := ⟨2, ![2816, 8192]⟩
abbrev S1024x1024 : Shape := ⟨2, ![1024, 1024]⟩
abbrev S1024x1408 : Shape := ⟨2, ![1024, 1408]⟩
abbrev S2x1024x1408 : Shape := ⟨3, ![2, 1024, 1408]⟩
abbrev S1408x1024 : Shape := ⟨2, ![1408, 1024]⟩
abbrev S1024x256 : Shape := ⟨2, ![1024, 256]⟩
abbrev S1x1024x256 : Shape := ⟨3, ![1, 1024, 256]⟩
abbrev S256x1024 : Shape := ⟨2, ![256, 1024]⟩
abbrev S1024x128 : Shape := ⟨2, ![1024, 128]⟩
abbrev S1x1024x128 : Shape := ⟨3, ![1, 1024, 128]⟩
abbrev S128x1024 : Shape := ⟨2, ![128, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2x8192x2816, .bf16⟩
  | .hbm, ⟨3, _⟩ => ⟨S8192x2816, .bf16⟩
  | .hbm, ⟨4, _⟩ => ⟨S2816x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1408x1024, .bf16⟩
  | .local _ .vmem, ⟨11, _⟩ => ⟨S1408x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩
abbrev S2816x8192 : Shape := ⟨2, ![2816, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S1x8192x2816, .f32⟩
  | .hbm, ⟨11, _⟩ => ⟨S8192x2816, .f32⟩
  | .hbm, ⟨12, _⟩ => ⟨S1x8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S1x8192x2816, .f32⟩
  | .hbm, ⟨25, _⟩ => ⟨S1x8192x2816, .f32⟩
  | .hbm, ⟨26, _⟩ => ⟨S2x8192x2816, .f32⟩
  | .hbm, ⟨27, _⟩ => ⟨S2x8192x2816, .bf16⟩
  | .hbm, ⟨28, _⟩ => ⟨S8192x2816, .bf16⟩
  | .hbm, ⟨29, _⟩ => ⟨S2816x8192, .f32⟩
  | .hbm, ⟨30, _⟩ => ⟨S2816x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S8192x5376 : Shape := ⟨2, ![8192, 5376]⟩
abbrev S1024x8192 : Shape := ⟨2, ![1024, 8192]⟩
abbrev S1024x5376 : Shape := ⟨2, ![1024, 5376]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5376, .bf16⟩
  | .hbm, ⟨2, _⟩ => ⟨S1024x8192, .bf16⟩
  | .hbm, ⟨3, _⟩ => ⟨S1024x5376, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x5376 : Shape := ⟨2, ![8192, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5376, .bf16⟩
  | .hbm, ⟨2, _⟩ => ⟨S8192x1024, .f32⟩
  | .hbm, ⟨3, _⟩ => ⟨S8192x5376, .f32⟩
  | .hbm, ⟨4, _⟩ => ⟨S_, .f32⟩
  | .hbm, ⟨5, _⟩ => ⟨S1024x5376, .f32⟩
  | .hbm, ⟨6, _⟩ => ⟨S8192x5376, .f32⟩
  | .hbm, ⟨7, _⟩ => ⟨S5376x1024, .f32⟩
  | .hbm, ⟨8, _⟩ => ⟨S1024x5376, .f32⟩
  | .hbm, ⟨9, _⟩ => ⟨S1024x5376, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x5376 : Shape := ⟨2, ![8192, 5376]⟩
abbrev S1024x5376 : Shape := ⟨2, ![1024, 5376]⟩
abbrev S8192x1024 : Shape := ⟨2, ![8192, 1024]⟩
abbrev S1024x2688 : Shape := ⟨2, ![1024, 2688]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5376, .bf16⟩
  | .hbm, ⟨1, _⟩ => ⟨S1024x5376, .bf16⟩
  | .hbm, ⟨2, _⟩ => ⟨S8192x1024, .bf16⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x5376 : Shape := ⟨2, ![8192, 5376]⟩
abbrev S1024x5376 : Shape := ⟨2, ![1024, 5376]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S1024x5376, .bf16⟩
  | .hbm, ⟨2, _⟩ => ⟨S8192x5376, .f32⟩
  | .hbm, ⟨3, _⟩ => ⟨S1024x5376, .f32⟩
  | .hbm, ⟨4, _⟩ => ⟨S_, .f32⟩
  | .hbm, ⟨5, _⟩ => ⟨S8192x1024, .f32⟩
  | .hbm, ⟨6, _⟩ => ⟨S8192x5376, .f32⟩
  | .hbm, ⟨7, _⟩ => ⟨S8192x1024, .f32⟩
  | .hbm, ⟨8, _⟩ => ⟨S8192x1024, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x5376 : Shape := ⟨2, ![1024, 5376]⟩
abbrev S8192x5376 : Shape := ⟨2, ![8192, 5376]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x5376 : Shape := ⟨2, ![1024, 5376]⟩
abbrev S8192x5376 : Shape := ⟨2, ![8192, 5376]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x1024, .f32⟩
  | .hbm, ⟨3, _⟩ => ⟨S1024x5376, .f32⟩
  | .hbm, ⟨4, _⟩ => ⟨S8192x5376, .f32⟩
  | .hbm, ⟨5, _⟩ => ⟨S8192x5376, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x8192, .bf16⟩
  | .hbm, ⟨3, _⟩ => ⟨S512x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Dq.Tables.lean ====
/- The schedule of the query-gradient kernel: the two prefetched tables list the ten pairs (query tile, key tile) of the
   causal triangle, each head walks them in order, and every fact of the eighty grid points that the launch needs is decided here,
   for any float values. -/
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The tables and the accumulator the kernel is handed, whole. -/
abbrev tbI : Memref sig .tc .smem S10 .i32 := Memref.whole main_c
abbrev tbJ : Memref sig .tc .smem S10 .i32 := Memref.whole main_c_0
abbrev scA : Memref sig .tc .vmem S2048x128 .f32 := Memref.whole cc0_scratch0

/-- The query tiles of the ten pairs, and their key tiles. -/
def tabI : S10.Idx → BitVec 32 := fun x => lit0 (S10.rowMajor x)
def tabJ : S10.Idx → BitVec 32 := fun x => lit1 (S10.rowMajor x)

set_option backward.proofsInPublic true in
/-- The tables' contents. -/
def pfN : pre0.Contents (Elt F) := fun | ⟨0, _⟩ => tabI | ⟨1, _⟩ => tabJ | ⟨_ + 2, h⟩ => absurd h (by simp)

/-- Every block of a window whose index is read off the tables lies inside its array. -/
abbrev Inside (f : grid0.Coords → Fin 2 → ℕ) : Prop := ∀ i : grid0.Coords, ∀ a, (f i a + 1) * S2048x128.size a ≤ S8192x1024.size a

theorem inb0 : Inside (cc0_transform_0 k0_off1_inb numel1_S1 (pfN (F := F))) := of_decide_eq_true (by sl_kernel_rfl)
theorem inb1 : Inside (cc0_transform_1 k0_off1_inb numel1_S1 (pfN (F := F))) := of_decide_eq_true (by sl_kernel_rfl)
theorem inb2 : Inside (cc0_transform_2 k0_off1_inb numel1_S1 (pfN (F := F))) := of_decide_eq_true (by sl_kernel_rfl)
theorem inb3 : Inside (cc0_transform_3 k0_off1_inb numel1_S1 (pfN (F := F))) := of_decide_eq_true (by sl_kernel_rfl)
theorem inb4 : Inside (cc0_transform_4 k0_off1_inb numel1_S1 (pfN (F := F))) := of_decide_eq_true (by sl_kernel_rfl)
theorem inb5 : Inside (cc0_transform_5 k0_off1_inb numel1_S1 (pfN (F := F))) := of_decide_eq_true (by sl_kernel_rfl)
theorem inb6 : Inside (cc0_transform_6 k0_off1_inb numel1_S1 (pfN (F := F))) := of_decide_eq_true (by sl_kernel_rfl)

/-- A block of whole rows and lanes starts and ends at whole words. -/
theorem words_bf16 {f : Fin 2 → ℕ} (h : ∀ a, (f a + 1) * S2048x128.size a ≤ S8192x1024.size a) :
    EltTy.bits .bf16 = 32 ∨ (Rect.block (s := S8192x1024) S2048x128.size f h).WholeWords (EltTy.packing .bf16) :=
  .inr (Affine.block_words_dvd (s := S8192x1024) (p := EltTy.packing .bf16) (by decide) (by decide))

/-- The tables are admissible. -/
theorem ok_pfN : ok0 (F := F) pfN :=
  ⟨fun i => ⟨inb0 i, words_bf16 _⟩, fun i => ⟨inb1 i, words_bf16 _⟩, fun i => ⟨inb2 i, words_bf16 _⟩, fun i => ⟨inb3 i, words_bf16 _⟩,
    fun i => ⟨inb4 i, .inl rfl⟩, fun i => ⟨inb5 i, .inl rfl⟩, fun i => ⟨inb6 i, words_bf16 _⟩⟩

variable (F) in
/-- The pipeline at these tables. -/
def adm : (pcfg0 (F := F)).Adm := ⟨pfN, ok_pfN⟩
variable (F) in
abbrev cfgA : Pipeline.Cfg sig Λ₀ := cfg0 (F := F) (adm F)
variable (F) in
abbrev pcs : Fin 1 → Pipeline.Cfg sig Λ₀ := Pipeline.pin (pcfgs (F := F)) fun _ => adm F

/-- Point `t`'s coordinates. -/
abbrev crd (t : Fin (cfgA F).N) : (cfgA F).grid.Coords := (cfgA F).grid.coords t

/-- The words the body loads at a point: the pair's query tile and key tile. -/
abbrev wI (i : grid0.Coords) : BitVec 32 := View.readAt (Elt F) tbI.view (Rect.unit (s := S10) (k0_off1 i) S1.size (k0_off1_inb i)).toLoadRect tabI (Shape.Idx.first (numel1_S1.symm ▸ Nat.one_pos))
abbrev wJ (i : grid0.Coords) : BitVec 32 := View.readAt (Elt F) tbJ.view (Rect.unit (s := S10) (k0_off1 i) S1.size (k0_off1_inb i)).toLoadRect tabJ (Shape.Idx.first (numel1_S1.symm ▸ Nat.one_pos))

/-- The body's three decisions: the first key tile, a key tile before the diagonal, the diagonal tile. -/
abbrev First (t : Fin (cfgA F).N) : Prop := Scalar.cmpi .ne (Scalar.extui (Scalar.cmpi .eq (wJ (F := F) (crd t)) 0#32)) 0#32 = 1#1
abbrev Before (t : Fin (cfgA F).N) : Prop := Scalar.cmpi .ne (Scalar.extui (Scalar.cmpi .slt (wJ (F := F) (crd t)) (wI (F := F) (crd t)))) 0#32 = 1#1
abbrev Diag (t : Fin (cfgA F).N) : Prop := k0_cond3 (wI (F := F) (crd t)) (wJ (F := F) (crd t)) = 1#1

/-- What the launch needs of a point: a tile is before the diagonal or on it, not both; only there is the result stored and written
    back; only the first point of all, which is a first tile, finds the accumulator undetermined. -/
abbrev PointFacts (t : Fin (cfgA F).N) : Prop :=
  ((Before t ∧ ¬ Diag t) ∨ (¬ Before t ∧ Diag t))
  ∧ (Diag t ↔ (cfgA F).idle (6 : Fin 7) ((cfgA F).grid.coords t) = false)
  ∧ (Diag t ↔ ((cfgA F).win (6 : Fin 7)).flush t = true)
  ∧ (t.val = 0 → First t)

/-- Some range of points at a time. -/
abbrev FactsFrom (a : ℕ) : Prop := ∀ t : Fin (cfgA F).N, a ≤ t.val → t.val < a + 20 → PointFacts t

theorem facts_0 : FactsFrom (F := F) 0 := of_decide_eq_true (by sl_kernel_rfl)
theorem facts_20 : FactsFrom (F := F) 20 := of_decide_eq_true (by sl_kernel_rfl)
theorem facts_40 : FactsFrom (F := F) 40 := of_decide_eq_true (by sl_kernel_rfl)
theorem facts_60 : FactsFrom (F := F) 60 := of_decide_eq_true (by sl_kernel_rfl)

theorem facts (t : Fin (cfgA F).N) : PointFacts t := by
  have hN : t.val < 80 := t.isLt.trans_eq N_0
  rcases Nat.lt_or_ge t.val 20 with h1 | h1
  · exact facts_0 t (Nat.zero_le _) h1
  rcases Nat.lt_or_ge t.val 40 with h2 | h2
  · exact facts_20 t h1 h2
  rcases Nat.lt_or_ge t.val 60 with h3 | h3
  · exact facts_40 t h2 h3
  · exact facts_60 t h3 hN

end Cert.KernelIdeal.Dq

end
-- ==== Proof.Dq.Runs.lean ====
/- The body of the query-gradient kernel, run once for each way its decisions can fall, for any float values. A run finds what the
   body leaves in the accumulator, and in the result's block where it stores one. -/
module

public import proofs.«01_k».proof.Proof.Dq.Tables

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A buffer of the result's block, through which its contents are stated. -/
abbrev VO : View sig .tc .vmem S2048x128 .bf16 := (Memref.whole cc0_stg6_0 : Memref sig .tc .vmem S2048x128 .bf16).view

/-- The words loaded from the tables, and the decisions on them. -/
abbrev ldI (T0 : S10.Idx → Elt F .i32) (i : grid0.Coords) : BitVec 32 := View.readAt (Elt F) tbI.view (Rect.unit (s := S10) (k0_off1 i) S1.size (k0_off1_inb i)).toLoadRect T0 (Shape.Idx.first (numel1_S1.symm ▸ Nat.one_pos))
abbrev ldJ (T1 : S10.Idx → Elt F .i32) (i : grid0.Coords) : BitVec 32 := View.readAt (Elt F) tbJ.view (Rect.unit (s := S10) (k0_off1 i) S1.size (k0_off1_inb i)).toLoadRect T1 (Shape.Idx.first (numel1_S1.symm ▸ Nat.one_pos))
abbrev IsFirst (T1 : S10.Idx → Elt F .i32) (i : grid0.Coords) : Prop := Scalar.cmpi .ne (Scalar.extui (Scalar.cmpi .eq (ldJ T1 i) 0#32)) 0#32 = 1#1
abbrev IsBefore (T0 T1 : S10.Idx → Elt F .i32) (i : grid0.Coords) : Prop := Scalar.cmpi .ne (Scalar.extui (Scalar.cmpi .slt (ldJ T1 i) (ldI T0 i))) 0#32 = 1#1
abbrev IsDiag (T0 T1 : S10.Idx → Elt F .i32) (i : grid0.Coords) : Prop := k0_cond3 (ldI T0 i) (ldJ T1 i) = 1#1

variable (c : Dev nD) (i : grid0.Coords) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole)
  (T0 T1 : S10.Idx → Elt F .i32) (x0 x1 x2 x3 : S2048x128.Idx → Elt F .bf16) (x4 x5 : S2048x128.Idx → Elt F .f32)

/-- The body at a point, on these buffers. -/
abbrev bodyOn : Prog (TpuEff nD τ sig (Elt F) Λ₀ .tc) PUnit :=
  cc0_mla_flash_dq i tbI (Memref.isWhole_whole _) tbJ (Memref.isWhole_whole _) arg4 harg4 arg5 harg5 arg6 harg6 arg7 harg7 arg8 harg8 arg9 harg9 arg10 harg10 scA (Memref.isWhole_whole _)

/-- The blocks and the tables the body reads. -/
abbrev reads : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tbI.view.loc (c : Thread nD τ) ↦{fullShare.right} T0)
    ∗ (tbJ.view.loc (c : Thread nD τ) ↦{fullShare.right} T1))

set_option backward.proofsInPublic true in
set_option maxHeartbeats 8000000 in
/-- The first tile of a row that is also its last: the accumulator starts at zero, the diagonal tile is added, the result stored. -/
def runInitDiag (h1 : IsFirst T1 i) (h2 : ¬IsBefore T0 T1 i) (h3 : IsDiag T0 T1 i) :
    Σ' (out : List (View.Piece (Elt F) S2048x128 .bf16)), { acc : Buf (Elt F) ((c : Thread nD τ).loc cc0_scratch0) //
      ∀ (xa : Buf (Elt F) ((c : Thread nD τ).loc cc0_scratch0)) (K : PUnit → sProp 𝕄), iprop(reads c arg4 arg5 arg6 arg7 arg8 arg9 T0 T1 x0 x1 x2 x3 x4 x5 ∗ (∃ d, owns (c : Thread nD τ) arg10 fullShare d) ∗ (scA.view.loc (c : Thread nD τ) ↦{fullShare} xa)
            ∗ (iprop(reads c arg4 arg5 arg6 arg7 arg8 arg9 T0 T1 x0 x1 x2 x3 x4 x5 ∗ (∃ f, arg10.view.loc (c : Thread nD τ) ↦[arg10.view.set]{fullShare} arg10.view.writes (Elt F) f out) ∗ (scA.view.loc (c : Thread nD τ) ↦{fullShare} acc)) -∗ K ⟨⟩))
          ⊢ wp frame (wpE (defs₀ (F := F)) Variants.none c none) Set.univ (bodyOn i arg4 harg4 arg5 harg5 arg6 harg6 arg7 harg7 arg8 harg8 arg9 harg9 arg10 harg10) K } :=
  ⟨_, _, fun xa K => by
    unfold owns reads bodyOn
    rw [cc0_mla_flash_dq_eq_skeleton]; unfold cc0_mla_flash_dq_skel
    iintro ⟨⟨H0, H1, H2, H3, H4, H5, HT0, HT1⟩, ⟨%d6, %f6, -, HO⟩, HS, Hk⟩
    have hS : scA.IsWhole := Memref.isWhole_whole _
    have hT0 : tbI.IsWhole := Memref.isWhole_whole _
    have hT1 : tbJ.IsWhole := Memref.isWhole_whole _
    sl_exec! (disch := first | (guard_target = Scalar.cmpi = _; exact h1) | (guard_target = ¬(Scalar.cmpi = _); exact h2) | (guard_target = k0_cond3 _ _ = _; exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; iexact HO
    iexact HS⟩

set_option backward.proofsInPublic true in
set_option maxHeartbeats 8000000 in
/-- The first tile of a longer row: the accumulator starts at zero and the whole tile is added. -/
def runInitFull (h1 : IsFirst T1 i) (h2 : IsBefore T0 T1 i) (h3 : ¬IsDiag T0 T1 i) :
    { acc : Buf (Elt F) ((c : Thread nD τ).loc cc0_scratch0) //
      ∀ (y : S2048x128.Idx → Elt F .bf16) (xa : Buf (Elt F) ((c : Thread nD τ).loc cc0_scratch0)) (K : PUnit → sProp 𝕄), iprop(reads c arg4 arg5 arg6 arg7 arg8 arg9 T0 T1 x0 x1 x2 x3 x4 x5 ∗ owns (c : Thread nD τ) arg10 fullShare y ∗ (scA.view.loc (c : Thread nD τ) ↦{fullShare} xa)
            ∗ (iprop(reads c arg4 arg5 arg6 arg7 arg8 arg9 T0 T1 x0 x1 x2 x3 x4 x5 ∗ owns (c : Thread nD τ) arg10 fullShare y ∗ (scA.view.loc (c : Thread nD τ) ↦{fullShare} acc)) -∗ K ⟨⟩))
          ⊢ wp frame (wpE (defs₀ (F := F)) Variants.none c none) Set.univ (bodyOn i arg4 harg4 arg5 harg5 arg6 harg6 arg7 harg7 arg8 harg8 arg9 harg9 arg10 harg10) K } :=
  ⟨_, fun y xa K => by
    unfold owns reads bodyOn
    rw [cc0_mla_flash_dq_eq_skeleton]; unfold cc0_mla_flash_dq_skel
    iintro ⟨⟨H0, H1, H2, H3, H4, H5, HT0, HT1⟩, ⟨%f6, %hf6, HO⟩, HS, Hk⟩
    obtain rfl := harg10.eq_unread hf6
    have hS : scA.IsWhole := Memref.isWhole_whole _
    have hT0 : tbI.IsWhole := Memref.isWhole_whole _
    have hT1 : tbJ.IsWhole := Memref.isWhole_whole _
    sl_exec! (disch := first | (guard_target = Scalar.cmpi = _; exact h1) | (guard_target = Scalar.cmpi = _; exact h2) | (guard_target = ¬(k0_cond3 _ _ = _); exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; isplitr; · ipureintro; exact harg10.read_unread _
      iexact HO
    iexact HS⟩

set_option backward.proofsInPublic true in
set_option maxHeartbeats 8000000 in
/-- The last tile of a longer row: the diagonal tile is added to what the accumulator held, the result stored. -/
def runDiag (xa : Buf (Elt F) ((c : Thread nD τ).loc cc0_scratch0)) (h1 : ¬IsFirst T1 i) (h2 : ¬IsBefore T0 T1 i) (h3 : IsDiag T0 T1 i) :
    Σ' (out : List (View.Piece (Elt F) S2048x128 .bf16)), { acc : Buf (Elt F) ((c : Thread nD τ).loc cc0_scratch0) //
      ∀ (K : PUnit → sProp 𝕄), iprop(reads c arg4 arg5 arg6 arg7 arg8 arg9 T0 T1 x0 x1 x2 x3 x4 x5 ∗ (∃ d, owns (c : Thread nD τ) arg10 fullShare d) ∗ (scA.view.loc (c : Thread nD τ) ↦{fullShare} xa)
            ∗ (iprop(reads c arg4 arg5 arg6 arg7 arg8 arg9 T0 T1 x0 x1 x2 x3 x4 x5 ∗ (∃ f, arg10.view.loc (c : Thread nD τ) ↦[arg10.view.set]{fullShare} arg10.view.writes (Elt F) f out) ∗ (scA.view.loc (c : Thread nD τ) ↦{fullShare} acc)) -∗ K ⟨⟩))
          ⊢ wp frame (wpE (defs₀ (F := F)) Variants.none c none) Set.univ (bodyOn i arg4 harg4 arg5 harg5 arg6 harg6 arg7 harg7 arg8 harg8 arg9 harg9 arg10 harg10) K } :=
  ⟨_, _, fun K => by
    unfold owns reads bodyOn
    rw [cc0_mla_flash_dq_eq_skeleton]; unfold cc0_mla_flash_dq_skel
    iintro ⟨⟨H0, H1, H2, H3, H4, H5, HT0, HT1⟩, ⟨%d6, %f6, -, HO⟩, HS, Hk⟩
    have hS : scA.IsWhole := Memref.isWhole_whole _
    have hT0 : tbI.IsWhole := Memref.isWhole_whole _
    have hT1 : tbJ.IsWhole := Memref.isWhole_whole _
    sl_exec! (disch := first | (guard_target = ¬(Scalar.cmpi = _); exact h1) | (guard_target = ¬(Scalar.cmpi = _); exact h2) | (guard_target = k0_cond3 _ _ = _; exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; iexact HO
    iexact HS⟩

set_option backward.proofsInPublic true in
set_option maxHeartbeats 8000000 in
/-- A tile in the middle of a row: the whole tile is added to what the accumulator held. -/
def runFull (xa : Buf (Elt F) ((c : Thread nD τ).loc cc0_scratch0)) (h1 : ¬IsFirst T1 i) (h2 : IsBefore T0 T1 i) (h3 : ¬IsDiag T0 T1 i) :
    { acc : Buf (Elt F) ((c : Thread nD τ).loc cc0_scratch0) //
      ∀ (y : S2048x128.Idx → Elt F .bf16) (K : PUnit → sProp 𝕄), iprop(reads c arg4 arg5 arg6 arg7 arg8 arg9 T0 T1 x0 x1 x2 x3 x4 x5 ∗ owns (c : Thread nD τ) arg10 fullShare y ∗ (scA.view.loc (c : Thread nD τ) ↦{fullShare} xa)
            ∗ (iprop(reads c arg4 arg5 arg6 arg7 arg8 arg9 T0 T1 x0 x1 x2 x3 x4 x5 ∗ owns (c : Thread nD τ) arg10 fullShare y ∗ (scA.view.loc (c : Thread nD τ) ↦{fullShare} acc)) -∗ K ⟨⟩))
          ⊢ wp frame (wpE (defs₀ (F := F)) Variants.none c none) Set.univ (bodyOn i arg4 harg4 arg5 harg5 arg6 harg6 arg7 harg7 arg8 harg8 arg9 harg9 arg10 harg10) K } :=
  ⟨_, fun y K => by
    unfold owns reads bodyOn
    rw [cc0_mla_flash_dq_eq_skeleton]; unfold cc0_mla_flash_dq_skel
    iintro ⟨⟨H0, H1, H2, H3, H4, H5, HT0, HT1⟩, ⟨%f6, %hf6, HO⟩, HS, Hk⟩
    obtain rfl := harg10.eq_unread hf6
    have hS : scA.IsWhole := Memref.isWhole_whole _
    have hT0 : tbI.IsWhole := Memref.isWhole_whole _
    have hT1 : tbJ.IsWhole := Memref.isWhole_whole _
    sl_exec! (disch := first | (guard_target = ¬(Scalar.cmpi = _); exact h1) | (guard_target = Scalar.cmpi = _; exact h2) | (guard_target = ¬(k0_cond3 _ _ = _); exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; isplitr; · ipureintro; exact harg10.read_unread _
      iexact HO
    iexact HS⟩

/-- The stored pieces tile the result's block. -/
theorem runInitDiag_cover (h1 : IsFirst T1 i) (h2 : ¬IsBefore T0 T1 i) (h3 : IsDiag T0 T1 i) (y : S2048x128.Idx) :
    ∃ pc ∈ (runInitDiag c i arg4 harg4 arg5 harg5 arg6 harg6 arg7 harg7 arg8 harg8 arg9 harg9 arg10 harg10 T0 T1 x0 x1 x2 x3 x4 x5 h1 h2 h3).1, y ∈ pc.1.set :=
  View.cover_of_tiledL (runInitDiag c i arg4 harg4 arg5 harg5 arg6 harg6 arg7 harg7 arg8 harg8 arg9 harg9 arg10 harg10 T0 T1 x0 x1 x2 x3 x4 x5 h1 h2 h3).1 S2048x128.size (by sl_kernel_rfl) y

/-- What the result's block then holds. -/
def runInitDiag_out (h1 : IsFirst T1 i) (h2 : ¬IsBefore T0 T1 i) (h3 : IsDiag T0 T1 i) : S2048x128.Idx → Elt F .bf16 :=
  VO.read (Elt F) (VO.writes (Elt F) VO.junk (runInitDiag c i arg4 harg4 arg5 harg5 arg6 harg6 arg7 harg7 arg8 harg8 arg9 harg9 arg10 harg10 T0 T1 x0 x1 x2 x3 x4 x5 h1 h2 h3).1)

/-- The stored pieces tile the result's block. -/
theorem runDiag_cover (xa : Buf (Elt F) ((c : Thread nD τ).loc cc0_scratch0)) (h1 : ¬IsFirst T1 i) (h2 : ¬IsBefore T0 T1 i) (h3 : IsDiag T0 T1 i) (y : S2048x128.Idx) :
    ∃ pc ∈ (runDiag c i arg4 harg4 arg5 harg5 arg6 harg6 arg7 harg7 arg8 harg8 arg9 harg9 arg10 harg10 T0 T1 x0 x1 x2 x3 x4 x5 xa h1 h2 h3).1, y ∈ pc.1.set :=
  View.cover_of_tiledL (runDiag c i arg4 harg4 arg5 harg5 arg6 harg6 arg7 harg7 arg8 harg8 arg9 harg9 arg10 harg10 T0 T1 x0 x1 x2 x3 x4 x5 xa h1 h2 h3).1 S2048x128.size (by sl_kernel_rfl) y

/-- What the result's block then holds. -/
def runDiag_out (xa : Buf (Elt F) ((c : Thread nD τ).loc cc0_scratch0)) (h1 : ¬IsFirst T1 i) (h2 : ¬IsBefore T0 T1 i) (h3 : IsDiag T0 T1 i) : S2048x128.Idx → Elt F .bf16 :=
  VO.read (Elt F) (VO.writes (Elt F) VO.junk (runDiag c i arg4 harg4 arg5 harg5 arg6 harg6 arg7 harg7 arg8 harg8 arg9 harg9 arg10 harg10 T0 T1 x0 x1 x2 x3 x4 x5 xa h1 h2 h3).1)

end Cert.KernelIdeal.Dq

end
-- ==== Proof.Dq.Body.lean ====
/- What the accumulator holds along the eighty grid points, and the kernel's body at each of them: the inputs' blocks are found and left in
   place, the accumulator moves one tile on, a diagonal tile leaves its row's result. -/
module

public import proofs.«01_k».proof.Proof.Dq.Runs

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Window 0's staging buffer at a point. -/
abbrev ms0_0 (t : Fin (cfgA F).N) : Memref sig .tc .vmem S2048x128 .bf16 := spec0_0.stage ((cfgA F).slots t (0 : Fin 7))
theorem hs0_0 (t : Fin (cfgA F).N) : (ms0_0 t).IsWhole := hstage0_0 (((cfgA F).slots t (0 : Fin 7)).cast nbuf0_0)
/-- Window 1's staging buffer at a point. -/
abbrev ms0_1 (t : Fin (cfgA F).N) : Memref sig .tc .vmem S2048x128 .bf16 := spec0_1.stage ((cfgA F).slots t (1 : Fin 7))
theorem hs0_1 (t : Fin (cfgA F).N) : (ms0_1 t).IsWhole := hstage0_1 (((cfgA F).slots t (1 : Fin 7)).cast nbuf0_1)
/-- Window 2's staging buffer at a point. -/
abbrev ms0_2 (t : Fin (cfgA F).N) : Memref sig .tc .vmem S2048x128 .bf16 := spec0_2.stage ((cfgA F).slots t (2 : Fin 7))
theorem hs0_2 (t : Fin (cfgA F).N) : (ms0_2 t).IsWhole := hstage0_2 (((cfgA F).slots t (2 : Fin 7)).cast nbuf0_2)
/-- Window 3's staging buffer at a point. -/
abbrev ms0_3 (t : Fin (cfgA F).N) : Memref sig .tc .vmem S2048x128 .bf16 := spec0_3.stage ((cfgA F).slots t (3 : Fin 7))
theorem hs0_3 (t : Fin (cfgA F).N) : (ms0_3 t).IsWhole := hstage0_3 (((cfgA F).slots t (3 : Fin 7)).cast nbuf0_3)
/-- Window 4's staging buffer at a point. -/
abbrev ms0_4 (t : Fin (cfgA F).N) : Memref sig .tc .vmem S2048x128 .f32 := spec0_4.stage ((cfgA F).slots t (4 : Fin 7))
theorem hs0_4 (t : Fin (cfgA F).N) : (ms0_4 t).IsWhole := hstage0_4 (((cfgA F).slots t (4 : Fin 7)).cast nbuf0_4)
/-- Window 5's staging buffer at a point. -/
abbrev ms0_5 (t : Fin (cfgA F).N) : Memref sig .tc .vmem S2048x128 .f32 := spec0_5.stage ((cfgA F).slots t (5 : Fin 7))
theorem hs0_5 (t : Fin (cfgA F).N) : (ms0_5 t).IsWhole := hstage0_5 (((cfgA F).slots t (5 : Fin 7)).cast nbuf0_5)
/-- Window 6's staging buffer at a point. -/
abbrev ms0_6 (t : Fin (cfgA F).N) : Memref sig .tc .vmem S2048x128 .bf16 := spec0_6.stage ((cfgA F).slots t (6 : Fin 7))
theorem hs0_6 (t : Fin (cfgA F).N) : (ms0_6 t).IsWhole := hstage0_6 (((cfgA F).slots t (6 : Fin 7)).cast nbuf0_6)

variable (V : Dev nD → Valuation τ sig (Elt F))

/-- The block of window `w`'s array that point `t` sees. -/
def iblk (c : Dev nD) (w : Fin (cfgA F).W) (t : Fin (cfgA F).N) : (((cfgA F).win w).xblock (crd t)).Idx → Elt F ((cfgA F).win w).elt :=
  (((cfgA F).win w).blk t).view.read (Elt F) (V c (Proc.devRef .tc (Pipeline.arrRef (cfgA F).spec w)))

/-- The accumulator after point `t`, from the one before it. -/
def accStep (c : Dev nD) (t : Fin (cfgA F).N) (prev : Buf (Elt F) ((c : Thread nD τ).loc cc0_scratch0)) : Buf (Elt F) ((c : Thread nD τ).loc cc0_scratch0) :=
  if h1 : First t then
    if h : ¬Before t ∧ Diag t then (runInitDiag c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h.1 h.2).2.1
    else if h : Before t ∧ ¬Diag t then (runInitFull c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h.1 h.2).1 else prev
  else
    if h : ¬Before t ∧ Diag t then (runDiag c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) prev h1 h.1 h.2).2.1
    else if h : Before t ∧ ¬Diag t then (runFull c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) prev h1 h.1 h.2).1 else prev

/-- What a diagonal tile leaves in the result's block. -/
def outStep (c : Dev nD) (t : Fin (cfgA F).N) (prev : Buf (Elt F) ((c : Thread nD τ).loc cc0_scratch0)) : S2048x128.Idx → Elt F .bf16 :=
  if h : ¬Before t ∧ Diag t then
    if h1 : First t then runInitDiag_out c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h.1 h.2
    else runDiag_out c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) prev h1 h.1 h.2
  else VO.read (Elt F) VO.junk

theorem accStep_InitDiag (c : Dev nD) (t : Fin (cfgA F).N) (prev : Buf (Elt F) ((c : Thread nD τ).loc cc0_scratch0)) (h1 : First t) (h2 : ¬Before t) (h3 : Diag t) :
    accStep V c t prev = (runInitDiag c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h2 h3).2.1 := by
  unfold accStep
  rw [dif_pos h1, dif_pos ⟨h2, h3⟩]

theorem outStep_InitDiag (c : Dev nD) (t : Fin (cfgA F).N) (prev : Buf (Elt F) ((c : Thread nD τ).loc cc0_scratch0)) (h1 : First t) (h2 : ¬Before t) (h3 : Diag t) :
    outStep V c t prev = runInitDiag_out c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h2 h3 := by
  unfold outStep
  rw [dif_pos ⟨h2, h3⟩, dif_pos h1]

theorem accStep_InitFull (c : Dev nD) (t : Fin (cfgA F).N) (prev : Buf (Elt F) ((c : Thread nD τ).loc cc0_scratch0)) (h1 : First t) (h2 : Before t) (h3 : ¬Diag t) :
    accStep V c t prev = (runInitFull c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h2 h3).1 := by
  unfold accStep
  rw [dif_pos h1, dif_neg (fun h => h.1 h2), dif_pos ⟨h2, h3⟩]

theorem accStep_Diag (c : Dev nD) (t : Fin (cfgA F).N) (prev : Buf (Elt F) ((c : Thread nD τ).loc cc0_scratch0)) (h1 : ¬First t) (h2 : ¬Before t) (h3 : Diag t) :
    accStep V c t prev = (runDiag c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) prev h1 h2 h3).2.1 := by
  unfold accStep
  rw [dif_neg h1, dif_pos ⟨h2, h3⟩]

theorem outStep_Diag (c : Dev nD) (t : Fin (cfgA F).N) (prev : Buf (Elt F) ((c : Thread nD τ).loc cc0_scratch0)) (h1 : ¬First t) (h2 : ¬Before t) (h3 : Diag t) :
    outStep V c t prev = runDiag_out c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) prev h1 h2 h3 := by
  unfold outStep
  rw [dif_pos ⟨h2, h3⟩, dif_neg h1]

theorem accStep_Full (c : Dev nD) (t : Fin (cfgA F).N) (prev : Buf (Elt F) ((c : Thread nD τ).loc cc0_scratch0)) (h1 : ¬First t) (h2 : Before t) (h3 : ¬Diag t) :
    accStep V c t prev = (runFull c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) prev h1 h2 h3).1 := by
  unfold accStep
  rw [dif_neg h1, dif_neg (fun h => h.1 h2), dif_pos ⟨h2, h3⟩]

/-- The accumulator before point `n`. -/
def accAt (c : Dev nD) : ℕ → Buf (Elt F) ((c : Thread nD τ).loc cc0_scratch0)
  | 0 => default
  | n + 1 => if h : n < (cfgA F).N then accStep V c ⟨n, h⟩ (accAt c n) else accAt c n

theorem accAt_succ (c : Dev nD) (t : Fin (cfgA F).N) : accAt V c (t.val + 1) = accStep V c t (accAt V c t.val) := by
  rw [accAt]; exact dif_pos t.isLt

/-- Between two points: the accumulator as far as it is determined, the body's halves of the tables, the random-number register. -/
def Phi (c : Dev nD) (t : Fin ((cfgA F).N + 1)) : sProp 𝕄 :=
  iprop((∃ a, ⌜t.val = 0 ∨ a = accAt V c t.val⌝ ∗ (scA.view.loc (c : Thread nD τ) ↦{fullShare} a))
    ∗ (tbI.view.loc (c : Thread nD τ) ↦{fullShare.right} (tabI : S10.Idx → Elt F .i32)) ∗ (tbJ.view.loc (c : Thread nD τ) ↦{fullShare.right} (tabJ : S10.Idx → Elt F .i32))
    ∗ (∃ r, prngReg c r))

/-- The pipeline's data on core `c`. -/
def dats (_ : Fin 1) (c : Dev nD) : Dat τ (Elt F) Unit ℕ (UR sig nD τ) ℕ (cfgA F) c where
  A w := V c (Proc.devRef .tc (Pipeline.arrRef (cfgA F).spec w))
  after w t := match w with
    | ⟨0, _⟩ => iblk V c (0 : Fin 7) t
    | ⟨1, _⟩ => iblk V c (1 : Fin 7) t
    | ⟨2, _⟩ => iblk V c (2 : Fin 7) t
    | ⟨3, _⟩ => iblk V c (3 : Fin 7) t
    | ⟨4, _⟩ => iblk V c (4 : Fin 7) t
    | ⟨5, _⟩ => iblk V c (5 : Fin 7) t
    | ⟨6, _⟩ => outStep V c t (accAt V c t.val)
  Φ t := Phi V c t
  q _ := fullShare
  owed _ := 0

theorem after0_0 (c : Dev nD) (t : Fin (cfgA F).N) : (dats V 0 c).after (0 : Fin 7) t = iblk V c (0 : Fin 7) t := rfl
theorem after0_1 (c : Dev nD) (t : Fin (cfgA F).N) : (dats V 0 c).after (1 : Fin 7) t = iblk V c (1 : Fin 7) t := rfl
theorem after0_2 (c : Dev nD) (t : Fin (cfgA F).N) : (dats V 0 c).after (2 : Fin 7) t = iblk V c (2 : Fin 7) t := rfl
theorem after0_3 (c : Dev nD) (t : Fin (cfgA F).N) : (dats V 0 c).after (3 : Fin 7) t = iblk V c (3 : Fin 7) t := rfl
theorem after0_4 (c : Dev nD) (t : Fin (cfgA F).N) : (dats V 0 c).after (4 : Fin 7) t = iblk V c (4 : Fin 7) t := rfl
theorem after0_5 (c : Dev nD) (t : Fin (cfgA F).N) : (dats V 0 c).after (5 : Fin 7) t = iblk V c (5 : Fin 7) t := rfl
theorem after0_6 (c : Dev nD) (t : Fin (cfgA F).N) : (dats V 0 c).after (6 : Fin 7) t = outStep V c t (accAt V c t.val) := by dsimp only [dats]

set_option maxHeartbeats 2000000 in
theorem before0_0 (c : Dev nD) (t : Fin (cfgA F).N) (d) : (dats V 0 c).before (0 : Fin 7) t d = iblk V c (0 : Fin 7) t :=
  ((dats V 0 c).before_in_eq_fetched (0 : Fin 7) rfl (fun _ => rfl) (fun _ _ _ => rfl) (fun t => by rw [after0_0]; unfold Dat.blockOf iblk; rfl) t d).trans
    (by unfold Dat.fetched Dat.blockOf iblk; rfl)
set_option maxHeartbeats 2000000 in
theorem before0_1 (c : Dev nD) (t : Fin (cfgA F).N) (d) : (dats V 0 c).before (1 : Fin 7) t d = iblk V c (1 : Fin 7) t :=
  ((dats V 0 c).before_in_eq_fetched (1 : Fin 7) rfl (fun _ => rfl) (fun _ _ _ => rfl) (fun t => by rw [after0_1]; unfold Dat.blockOf iblk; rfl) t d).trans
    (by unfold Dat.fetched Dat.blockOf iblk; rfl)
set_option maxHeartbeats 2000000 in
theorem before0_2 (c : Dev nD) (t : Fin (cfgA F).N) (d) : (dats V 0 c).before (2 : Fin 7) t d = iblk V c (2 : Fin 7) t :=
  ((dats V 0 c).before_in_eq_fetched (2 : Fin 7) rfl (fun _ => rfl) (fun _ _ _ => rfl) (fun t => by rw [after0_2]; unfold Dat.blockOf iblk; rfl) t d).trans
    (by unfold Dat.fetched Dat.blockOf iblk; rfl)
set_option maxHeartbeats 2000000 in
theorem before0_3 (c : Dev nD) (t : Fin (cfgA F).N) (d) : (dats V 0 c).before (3 : Fin 7) t d = iblk V c (3 : Fin 7) t :=
  ((dats V 0 c).before_in_eq_fetched (3 : Fin 7) rfl (fun _ => rfl) (fun _ _ _ => rfl) (fun t => by rw [after0_3]; unfold Dat.blockOf iblk; rfl) t d).trans
    (by unfold Dat.fetched Dat.blockOf iblk; rfl)
set_option maxHeartbeats 2000000 in
theorem before0_4 (c : Dev nD) (t : Fin (cfgA F).N) (d) : (dats V 0 c).before (4 : Fin 7) t d = iblk V c (4 : Fin 7) t :=
  ((dats V 0 c).before_in_eq_fetched (4 : Fin 7) rfl (fun _ => rfl) (fun _ _ _ => rfl) (fun t => by rw [after0_4]; unfold Dat.blockOf iblk; rfl) t d).trans
    (by unfold Dat.fetched Dat.blockOf iblk; rfl)
set_option maxHeartbeats 2000000 in
theorem before0_5 (c : Dev nD) (t : Fin (cfgA F).N) (d) : (dats V 0 c).before (5 : Fin 7) t d = iblk V c (5 : Fin 7) t :=
  ((dats V 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- The body at point `t`. -/
abbrev bodyAt (t : Fin (cfgA F).N) : Prog (TpuEff nD τ sig (Elt F) Λ₀ .tc) PUnit :=
  cc0_mla_flash_dq (crd t) tbI (Memref.isWhole_whole _) tbJ (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scA (Memref.isWhole_whole _)

set_option maxHeartbeats 4000000 in
theorem sound_InitDiag (c : Dev nD) (t : Fin (cfgA F).N) (h1 : First t) (h2 : ¬Before t) (h3 : Diag t) :
    iprop((dats V 0 c).Φ t.castSucc ∗ (dats V 0 c).owesAt () t.castSucc
        ∗ (∃ d, owns (c : Thread nD τ) (ms0_0 t) fullShare ((dats V 0 c).before (0 : Fin 7) t d))
        ∗ (∃ d, owns (c : Thread nD τ) (ms0_1 t) fullShare ((dats V 0 c).before (1 : Fin 7) t d))
        ∗ (∃ d, owns (c : Thread nD τ) (ms0_2 t) fullShare ((dats V 0 c).before (2 : Fin 7) t d))
        ∗ (∃ d, owns (c : Thread nD τ) (ms0_3 t) fullShare ((dats V 0 c).before (3 : Fin 7) t d))
        ∗ (∃ d, owns (c : Thread nD τ) (ms0_4 t) fullShare ((dats V 0 c).before (4 : Fin 7) t d))
        ∗ (∃ d, owns (c : Thread nD τ) (ms0_5 t) fullShare ((dats V 0 c).before (5 : Fin 7) t d))
        ∗ (∃ d, owns (c : Thread nD τ) (ms0_6 t) fullShare ((dats V 0 c).before (6 : Fin 7) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  obtain ⟨-, hi, hf, h0⟩ := facts t
  have i6 := hi.1 h3
  rw [bigSep_W0]
  rewrite [i6]
  simp only [before0_0, before0_1, before0_2, before0_3, before0_4, before0_5, after0_0, after0_1, after0_2, after0_3, after0_4, after0_5, after0_6]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_InitDiag V c t _ h1 h2 h3, outStep_InitDiag V c t _ h1 h2 h3]
  iintro ⟨⟨⟨%a0, %ha0, HS⟩, HT0, HT1, HR⟩, Ho, ⟨%d0, H0⟩, ⟨%d1, H1⟩, ⟨%d2, H2⟩, ⟨%d3, H3⟩, ⟨%d4, H4⟩, ⟨%d5, H5⟩, ⟨%d6, H6⟩⟩
  iapply ((runInitDiag c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h2 h3).2.2 a0 _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexists _; iexact H6
  isplitl [HS]; · iexact HS
  iintro ⟨⟨H0, H1, H2, H3, H4, H5, HT0, HT1⟩, ⟨%e6, H6⟩, HS⟩
  isplitl [HS HT0 HT1 HR]
  · isplitl [HS]
    · iexists _; isplitr; swap
      · iexact HS
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  unfold owns; iexists _; isplitr; swap
  · iexact H6
  · ipureintro; exact View.read_writes_of_cover _ _ _ _ _ (runInitDiag_cover c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h2 h3)

set_option maxHeartbeats 4000000 in
theorem sound_InitFull (c : Dev nD) (t : Fin (cfgA F).N) (h1 : First t) (h2 : Before t) (h3 : ¬Diag t) :
    iprop((dats V 0 c).Φ t.castSucc ∗ (dats V 0 c).owesAt () t.castSucc
        ∗ (∃ d, owns (c : Thread nD τ) (ms0_0 t) fullShare ((dats V 0 c).before (0 : Fin 7) t d))
        ∗ (∃ d, owns (c : Thread nD τ) (ms0_1 t) fullShare ((dats V 0 c).before (1 : Fin 7) t d))
        ∗ (∃ d, owns (c : Thread nD τ) (ms0_2 t) fullShare ((dats V 0 c).before (2 : Fin 7) t d))
        ∗ (∃ d, owns (c : Thread nD τ) (ms0_3 t) fullShare ((dats V 0 c).before (3 : Fin 7) t d))
        ∗ (∃ d, owns (c : Thread nD τ) (ms0_4 t) fullShare ((dats V 0 c).before (4 : Fin 7) t d))
        ∗ (∃ d, owns (c : Thread nD τ) (ms0_5 t) fullShare ((dats V 0 c).before (5 : Fin 7) t d))
        ∗ (∃ d, owns (c : Thread nD τ) (ms0_6 t) fullShare ((dats V 0 c).before (6 : Fin 7) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  obtain ⟨-, hi, hf, h0⟩ := facts t
  have i6 : (cfgA F).idle (6 : Fin 7) ((cfgA F).grid.coords t) = true := by
    cases h : (cfgA F).idle (6 : Fin 7) ((cfgA F).grid.coords t) with
    | true => rfl
    | false => exact absurd (hi.2 h) h3
  have f6 : ((cfgA F).win (6 : Fin 7)).flush t = false := by
    cases h : ((cfgA F).win (6 : Fin 7)).flush t with
    | false => rfl
    | true => exact absurd (hf.2 h) h3
  rw [bigSep_W0]
  rewrite [i6]
  simp only [before0_0, before0_1, before0_2, before0_3, before0_4, before0_5, after0_0, after0_1, after0_2, after0_3, after0_4, after0_5, after0_6, f6]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_InitFull V c t _ h1 h2 h3]
  iintro ⟨⟨⟨%a0, %ha0, HS⟩, HT0, HT1, HR⟩, Ho, ⟨%d0, H0⟩, ⟨%d1, H1⟩, ⟨%d2, H2⟩, ⟨%d3, H3⟩, ⟨%d4, H4⟩, ⟨%d5, H5⟩, ⟨%d6, H6⟩⟩
  iapply ((runInitFull c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) h1 h2 h3).2 _ a0 _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [HS]; · iexact HS
  iintro ⟨⟨H0, H1, H2, H3, H4, H5, HT0, HT1⟩, H6, HS⟩
  isplitl [HS HT0 HT1 HR]
  · isplitl [HS]
    · iexists _; isplitr; swap
      · iexact HS
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  iexists d6; iexact H6

set_option maxHeartbeats 4000000 in
theorem sound_Diag (c : Dev nD) (t : Fin (cfgA F).N) (h1 : ¬First t) (h2 : ¬Before t) (h3 : Diag t) :
    iprop((dats V 0 c).Φ t.castSucc ∗ (dats V 0 c).owesAt () t.castSucc
        ∗ (∃ d, owns (c : Thread nD τ) (ms0_0 t) fullShare ((dats V 0 c).before (0 : Fin 7) t d))
        ∗ (∃ d, owns (c : Thread nD τ) (ms0_1 t) fullShare ((dats V 0 c).before (1 : Fin 7) t d))
        ∗ (∃ d, owns (c : Thread nD τ) (ms0_2 t) fullShare ((dats V 0 c).before (2 : Fin 7) t d))
        ∗ (∃ d, owns (c : Thread nD τ) (ms0_3 t) fullShare ((dats V 0 c).before (3 : Fin 7) t d))
        ∗ (∃ d, owns (c : Thread nD τ) (ms0_4 t) fullShare ((dats V 0 c).before (4 : Fin 7) t d))
        ∗ (∃ d, owns (c : Thread nD τ) (ms0_5 t) fullShare ((dats V 0 c).before (5 : Fin 7) t d))
        ∗ (∃ d, owns (c : Thread nD τ) (ms0_6 t) fullShare ((dats V 0 c).before (6 : Fin 7) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  obtain ⟨-, hi, hf, h0⟩ := facts t
  have i6 := hi.1 h3
  have ht : t.val ≠ 0 := fun h => h1 (h0 h)
  rw [bigSep_W0]
  rewrite [i6]
  simp only [before0_0, before0_1, before0_2, before0_3, before0_4, before0_5, after0_0, after0_1, after0_2, after0_3, after0_4, after0_5, after0_6]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_Diag V c t _ h1 h2 h3, outStep_Diag V c t _ h1 h2 h3]
  iintro ⟨⟨⟨%a0, %ha0, HS⟩, HT0, HT1, HR⟩, Ho, ⟨%d0, H0⟩, ⟨%d1, H1⟩, ⟨%d2, H2⟩, ⟨%d3, H3⟩, ⟨%d4, H4⟩, ⟨%d5, H5⟩, ⟨%d6, H6⟩⟩
  obtain rfl := ha0.resolve_left ht
  iapply ((runDiag c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) (accAt V c t.val) h1 h2 h3).2.2 _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexists _; iexact H6
  isplitl [HS]; · iexact HS
  iintro ⟨⟨H0, H1, H2, H3, H4, H5, HT0, HT1⟩, ⟨%e6, H6⟩, HS⟩
  isplitl [HS HT0 HT1 HR]
  · isplitl [HS]
    · iexists _; isplitr; swap
      · iexact HS
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  unfold owns; iexists _; isplitr; swap
  · iexact H6
  · ipureintro; exact View.read_writes_of_cover _ _ _ _ _ (runDiag_cover c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) (accAt V c t.val) h1 h2 h3)

set_option maxHeartbeats 4000000 in
theorem sound_Full (c : Dev nD) (t : Fin (cfgA F).N) (h1 : ¬First t) (h2 : Before t) (h3 : ¬Diag t) :
    iprop((dats V 0 c).Φ t.castSucc ∗ (dats V 0 c).owesAt () t.castSucc
        ∗ (∃ d, owns (c : Thread nD τ) (ms0_0 t) fullShare ((dats V 0 c).before (0 : Fin 7) t d))
        ∗ (∃ d, owns (c : Thread nD τ) (ms0_1 t) fullShare ((dats V 0 c).before (1 : Fin 7) t d))
        ∗ (∃ d, owns (c : Thread nD τ) (ms0_2 t) fullShare ((dats V 0 c).before (2 : Fin 7) t d))
        ∗ (∃ d, owns (c : Thread nD τ) (ms0_3 t) fullShare ((dats V 0 c).before (3 : Fin 7) t d))
        ∗ (∃ d, owns (c : Thread nD τ) (ms0_4 t) fullShare ((dats V 0 c).before (4 : Fin 7) t d))
        ∗ (∃ d, owns (c : Thread nD τ) (ms0_5 t) fullShare ((dats V 0 c).before (5 : Fin 7) t d))
        ∗ (∃ d, owns (c : Thread nD τ) (ms0_6 t) fullShare ((dats V 0 c).before (6 : Fin 7) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  obtain ⟨-, hi, hf, h0⟩ := facts t
  have i6 : (cfgA F).idle (6 : Fin 7) ((cfgA F).grid.coords t) = true := by
    cases h : (cfgA F).idle (6 : Fin 7) ((cfgA F).grid.coords t) with
    | true => rfl
    | false => exact absurd (hi.2 h) h3
  have f6 : ((cfgA F).win (6 : Fin 7)).flush t = false := by
    cases h : ((cfgA F).win (6 : Fin 7)).flush t with
    | false => rfl
    | true => exact absurd (hf.2 h) h3
  have ht : t.val ≠ 0 := fun h => h1 (h0 h)
  rw [bigSep_W0]
  rewrite [i6]
  simp only [before0_0, before0_1, before0_2, before0_3, before0_4, before0_5, after0_0, after0_1, after0_2, after0_3, after0_4, after0_5, after0_6, f6]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_Full V c t _ h1 h2 h3]
  iintro ⟨⟨⟨%a0, %ha0, HS⟩, HT0, HT1, HR⟩, Ho, ⟨%d0, H0⟩, ⟨%d1, H1⟩, ⟨%d2, H2⟩, ⟨%d3, H3⟩, ⟨%d4, H4⟩, ⟨%d5, H5⟩, ⟨%d6, H6⟩⟩
  obtain rfl := ha0.resolve_left ht
  iapply ((runFull c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) tabI tabJ (iblk V c (0 : Fin 7) t) (iblk V c (1 : Fin 7) t) (iblk V c (2 : Fin 7) t) (iblk V c (3 : Fin 7) t) (iblk V c (4 : Fin 7) t) (iblk V c (5 : Fin 7) t) (accAt V c t.val) h1 h2 h3).2 _ _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [HS]; · iexact HS
  iintro ⟨⟨H0, H1, H2, H3, H4, H5, HT0, HT1⟩, H6, HS⟩
  isplitl [HS HT0 HT1 HR]
  · isplitl [HS]
    · iexists _; isplitr; swap
      · iexact HS
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  iexists d6; iexact H6

/-- The body at a point, whatever its tile. -/
theorem sound_body (c : Dev nD) (t : Fin (cfgA F).N) :
    iprop((dats V 0 c).Φ t.castSucc ∗ (dats V 0 c).owesAt () t.castSucc
        ∗ (∃ d, owns (c : Thread nD τ) (ms0_0 t) fullShare ((dats V 0 c).before (0 : Fin 7) t d))
        ∗ (∃ d, owns (c : Thread nD τ) (ms0_1 t) fullShare ((dats V 0 c).before (1 : Fin 7) t d))
        ∗ (∃ d, owns (c : Thread nD τ) (ms0_2 t) fullShare ((dats V 0 c).before (2 : Fin 7) t d))
        ∗ (∃ d, owns (c : Thread nD τ) (ms0_3 t) fullShare ((dats V 0 c).before (3 : Fin 7) t d))
        ∗ (∃ d, owns (c : Thread nD τ) (ms0_4 t) fullShare ((dats V 0 c).before (4 : Fin 7) t d))
        ∗ (∃ d, owns (c : Thread nD τ) (ms0_5 t) fullShare ((dats V 0 c).before (5 : Fin 7) t d))
        ∗ (∃ d, owns (c : Thread nD τ) (ms0_6 t) fullShare ((dats V 0 c).before (6 : Fin 7) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  rcases (facts t).1 with ⟨h2, h3⟩ | ⟨h2, h3⟩
  · by_cases h1 : First t
    · exact sound_InitFull V c t h1 h2 h3
    · exact sound_Full V c t h1 h2 h3
  · by_cases h1 : First t
    · exact sound_InitDiag V c t h1 h2 h3
    · exact sound_Diag V c t h1 h2 h3

end Cert.KernelIdeal.Dq

end
-- ==== Proof.Dq.Launch.lean ====
/- The whole run of the query-gradient program, for any float values: the host lines that prepare the kernel's operands, the eighty
   points of the kernel, and the host lines that take the result out of its lanes. -/
module

public import proofs.«01_k».proof.Proof.Dq.Body
public import Idealize.ShloMosaic.Lib.Pipeline.FrameSuffix
public import Idealize.ShloMosaic.Lib.StableHlo.RunRead

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the buffers hold when the kernel starts, over what they held when the program did. -/
def preV (V : Valuation τ sig (Elt F)) : Valuation τ sig (Elt F) :=
  StableHlo.after hostOps0_2 (StableHlo.after hostOps0_1 (StableHlo.after hostOps0 V))

theorem preV_arg0 (V : Valuation τ sig (Elt F)) : preV V (Proc.devRef .tc main_arg0) = V (Proc.devRef .tc main_arg0) := by
  unfold preV; after_reads_simp
theorem preV_arg1 (V : Valuation τ sig (Elt F)) : preV V (Proc.devRef .tc main_arg1) = V (Proc.devRef .tc main_arg1) := by
  unfold preV; after_reads_simp
theorem preV_arg2 (V : Valuation τ sig (Elt F)) : preV V (Proc.devRef .tc main_arg2) = V (Proc.devRef .tc main_arg2) := by
  unfold preV; after_reads_simp
theorem preV_arg3 (V : Valuation τ sig (Elt F)) : preV V (Proc.devRef .tc main_arg3) = V (Proc.devRef .tc main_arg3) := by
  unfold preV; after_reads_simp
theorem preV_tabI (V : Valuation τ sig (Elt F)) : preV V (Proc.devRef .tc main_c) = tabI := by
  unfold preV tabI; after_reads_simp; rfl
theorem preV_tabJ (V : Valuation τ sig (Elt F)) : preV V (Proc.devRef .tc main_c_0) = tabJ := by
  unfold preV tabJ; after_reads_simp; rfl

/-- What the result is, of what the kernel left: widened, cut to the real features of each head, scaled. -/
def postF (o : (⟨S8192x1024, .bf16⟩ : BufTy).Contents (Elt F)) : (⟨S8192x8x96, .f32⟩ : BufTy).Contents (Elt F) :=
  mulf (extractStridedSlice S8192x8x96 ![0, 0, 0] (shapeCast S8192x8x128 (((extf .f32 · bitsLt_bf16_f32) : (⟨S8192x1024, .bf16⟩ : BufTy).Contents (Elt F) → (⟨S8192x1024, .f32⟩ : BufTy).Contents (Elt F)) o) shapeCasts_S8192x1024_S8192x8x128) slices_S8192x8x128_S8192x8x96_0_0_0)
    (broadcastInDim S8192x8x96 ![] bcast_S_S8192x8x96 (constant S_ .f32 0x3DD105EC#32))

theorem post_res (V : Valuation τ sig (Elt F)) : StableHlo.after hostOps1 V (Proc.devRef .tc main_v67) = postF (V (Proc.devRef .tc main_v62)) := by
  unfold postF; after_reads_simp; rfl
theorem post_arg0 (V : Valuation τ sig (Elt F)) : StableHlo.after hostOps1 V (Proc.devRef .tc main_arg0) = V (Proc.devRef .tc main_arg0) := by
  after_reads_simp
theorem post_arg1 (V : Valuation τ sig (Elt F)) : StableHlo.after hostOps1 V (Proc.devRef .tc main_arg1) = V (Proc.devRef .tc main_arg1) := by
  after_reads_simp
theorem post_arg2 (V : Valuation τ sig (Elt F)) : StableHlo.after hostOps1 V (Proc.devRef .tc main_arg2) = V (Proc.devRef .tc main_arg2) := by
  after_reads_simp
theorem post_arg3 (V : Valuation τ sig (Elt F)) : StableHlo.after hostOps1 V (Proc.devRef .tc main_arg3) = V (Proc.devRef .tc main_arg3) := by
  after_reads_simp

variable (m : (ℓ : Loc nD τ sig) → Buf (Elt F) ℓ)

/-- The buffers of a device when the kernel starts. -/
def V0 (c : Dev nD) : Valuation τ sig (Elt F) := preV fun b => m (c, b)

theorem body_obligation (V : Dev nD → Valuation τ sig (Elt F)) (c : Dev nD) : BodyObligation (dats V 0 c) (defs₀ (F := F)) Variants.none () Set.univ := fun t => by
  rw [bigSep_W0]
  exact sound_body V c t

theorem share_eq (V : Dev nD → Valuation τ sig (Elt F)) (c : Dev nD) (w : Fin (cfgA F).W) : (dats V 0 c).share w = fullShare := by
  unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_start (V : Dev nD → Valuation τ sig (Elt F)) (c : Dev nD) :
    iprop(Pipeline.ΦA spec0 c ∗ Pipeline.ΦT pre0 (adm F).1 c) ⊢ (dats V 0 c).Φ 0 := by
  unfold Pipeline.ΦA Pipeline.ΦT
  rw [prefHeld_eq, scopedRest0_eq, show (dats V 0 c).Φ 0 = Phi V c 0 from rfl]
  unfold Phi
  iintro ⟨⟨⟨%a, HS⟩, HR⟩, HT0, HT1⟩
  isplitl [HS]
  · iexists a; isplitr; swap
    · iexact HS
    · ipureintro; exact Or.inl rfl
  isplitl [HT0]
  · iexact HT0
  isplitl [HT1]
  · iexact HT1
  iexact HR

theorem phi_end (V : Dev nD → Valuation τ sig (Elt F)) (c : Dev nD) : (dats V 0 c).Φ (Fin.last (cfgA F).N) ⊢ Pipeline.ΦA spec0 c := by
  unfold Pipeline.ΦA
  rw [scopedRest0_eq, show (dats V 0 c).Φ (Fin.last (cfgA F).N) = Phi V c (Fin.last _) from rfl]
  unfold Phi
  iintro ⟨⟨%a, -, HS⟩, -, -, HR⟩
  isplitl [HS]
  · iexists a; iexact HS
  iexact HR

theorem tail_sub : ∀ ops ∈ ([hostOps1] : List (List (HloOp τ sig (Elt F)))), ∀ op ∈ ops, op.bufs ⊆ Pipeline.tailRefs (τ := τ) sig pre0 spec0 := by
  intro ops hops op hop
  rw [List.mem_singleton] at hops; subst hops
  refine Pipeline.sub_tailRefs pre0 spec0 op ((List.forall_iff_forall_mem.mp hostOps1_sub) op hop) fun k => ?_
  simp only [List.mem_cons, List.mem_nil_iff, or_false] at hop
  rcases hop with rfl | rfl | rfl | rfl | rfl | rfl <;> fin_cases k <;> exact of_decide_eq_true (by sl_kernel_rfl)

theorem tail_fresh : ∀ ops ∈ ([hostOps1] : List (List (HloOp τ sig (Elt F)))), ∀ op ∈ ops, op.fresh = ∅ := by
  intro ops hops op hop
  rw [List.mem_singleton] at hops; subst hops
  simp only [List.mem_cons, List.mem_nil_iff, or_false] at hop
  rcases hop with rfl | rfl | rfl | rfl | rfl | rfl <;> rfl

theorem tail_keep : ∀ ops ∈ ([hostOps1] : List (List (HloOp τ sig (Elt F)))), ∀ op ∈ ops, ∀ w, Proc.devRef .tc (Pipeline.arrRef spec0 w) ∉ op.writes := by
  intro ops hops op hop
  rw [List.mem_singleton] at hops; subst hops
  simp only [List.mem_cons, List.mem_nil_iff, or_false] at hop
  rcases hop with rfl | rfl | rfl | rfl | rfl | rfl <;> exact of_decide_eq_true (by sl_kernel_rfl)

theorem head_fresh : ([hostOps0, hostOps0_1, hostOps0_2] : List (List (HloOp τ sig (Elt F)))).Forall fun ops => ops.Forall fun op => op.fresh = ∅ := by
  refine ⟨?_, ?_, ?_⟩ <;> repeat' first | exact rfl | constructor

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem V0_eq (c : Dev nD) : StableHlo.after ([hostOps0, hostOps0_1, hostOps0_2] : List (List (HloOp τ sig (Elt F)))).flatten (fun b => m (c, b)) = V0 m c := by
  unfold V0 preV
  rw [List.flatten_cons, List.flatten_cons, List.flatten_cons, List.flatten_nil, List.append_nil, after_app, after_app]

theorem hmain : Pipeline.HMainPK (Ix := Unit) (Name := ℕ) (U := UR sig nD τ) (Lvl := ℕ) (pcfgs (F := F)) 0 defs₀ Variants.none m main
    (fun c b => V0 m c (Proc.devRef .tc b)) (fun _ => Pipeline.chain (([hostOps1] : List (List (HloOp τ sig (Elt F)))).map StableHlo.seq)) := by
  have h := Pipeline.hmainP_around (Ix := Unit) (Name := ℕ) (U := UR sig nD τ) (Lvl := ℕ) (pcfgs (F := F)) 0 defs₀ Variants.none m main
    [hostOps0, hostOps0_1, hostOps0_2] [hostOps1] ⟨hostOps0_sub, hostOps0_1_sub, hostOps0_2_sub⟩ head_fresh main_chain
  simp only [V0_eq] at h
  exact h

/-- What the kernel leaves in its result's array. -/
def outArr (c : Dev nD) : (⟨S8192x1024, .bf16⟩ : BufTy).Contents (Elt F) := (dats (V0 m) 0 c).arrAt (6 : Fin 7) (cfgA F).N

set_option backward.isDefEq.respectTransparency.types false in
set_option maxHeartbeats 4000000 in
/-- Every execution ends with each array at what the points left, every other buffer as the host lines leave it, every counter at zero. -/
theorem run_frame (ρ : Dev nD → PrngReg) : θ_run (defs (F := F)) (onTc (τ := τ) (main (F := F))) ⟨m, fun _ => 0, ρ⟩
    (fun r => Pipeline.FramePost (pcs F) (dats (V0 m)) 0 (Pipeline.afterTail (pcfgs (F := F)) (fun _ => adm F) (dats (V0 m)) 0 (V0 m) [hostOps1]) r ∧ r.2.sem = fun _ => 0) :=
  Pipeline.θ_run_frameP_around_track (pcfgs (F := F)) (fun _ => adm F) (dats (V0 m)) 0 launch0 defs₀ Variants.none m ρ main
    (hbody := fun c => (body_obligation (V0 m) c).loose) (hshare := share_eq (V0 m)) (howed := fun _ _ => rfl) (V₀ := V0 m) (opss := [hostOps1])
    (hsub := tail_sub) (hfresh := tail_fresh) (hkeep := tail_keep) (hmain := hmain m)
    (hA := fun c w => by dsimp only [dats])
    (hpf := fun c k => by
      match k with
      | ⟨0, _⟩ => exact preV_tabI _
      | ⟨1, _⟩ => exact preV_tabJ _)
    (hin := phi_start (V0 m)) (hout := phi_end (V0 m))
    (Q' := fun r => Pipeline.FramePost (pcs F) (dats (V0 m)) 0 (Pipeline.afterTail (pcfgs (F := F)) (fun _ => adm F) (dats (V0 m)) 0 (V0 m) [hostOps1]) r ∧ r.2.sem = fun _ => 0)
    (hQ' := fun _ h => h)

/-- The buffers when the host lines after the kernel start. -/
def endV (c : Dev nD) : Valuation τ sig (Elt F) :=
  Pipeline.withArrays (cfgA F).spec c (V0 m c) fun w => (dats (V0 m) 0 c).arrAt w (cfgA F).N

theorem endV_out (c : Dev nD) : endV m c (Proc.devRef .tc main_v62) = outArr m c :=
  Pipeline.withArrays_arr (cfgA F).spec (launch0 (F := F)).win.arr_inj c (V0 m c) (fun w => (dats (V0 m) 0 c).arrAt w (cfgA F).N) (6 : Fin 7)

theorem endV_of_ne (c : Dev nD) (b : Ref sig .tc) (hb : ∀ w : Fin 7, Pipeline.arrRef spec0 w ≠ b) : endV m c (Proc.devRef .tc b) = V0 m c (Proc.devRef .tc b) :=
  Pipeline.withArrays_of_ne (cfgA F).spec c (V0 m c) _ _ fun w e => hb w e

theorem afterTail_eq (c : Dev nD) (b : Ref sig .tc) :
    Pipeline.afterTail (pcfgs (F := F)) (fun _ => adm F) (dats (V0 m)) 0 (V0 m) [hostOps1] c b = StableHlo.after hostOps1 (endV m c) (Proc.devRef .tc b) := by
  unfold Pipeline.afterTail
  rw [List.flatten_cons, List.flatten_nil, List.append_nil]
  rfl

/-- Every execution of the program ends, with the result read off the kernel's array, the arguments as they were, every counter at zero. -/
theorem run_main (ρ : Dev nD → PrngReg) : θ_run (defs (F := F)) (onTc (τ := τ) (main (F := F))) ⟨m, fun _ => 0, ρ⟩
    (fun r => (∀ c : Dev nD, r.2.mem ((c.tc : Thread nD τ).loc main_v67) = postF (outArr m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  refine (θ_run defs _ _).mono (fun r h => ⟨fun c => ⟨?_, ?_, ?_, ?_, ?_⟩, h.2⟩) (run_frame m ρ)
  · refine ((h.1 c).2 main_v67 (show _ ∈ Pipeline.restRefs sig spec0 from by decide)).trans ((afterTail_eq m c main_v67).trans ((post_res _).trans ?_))
    rw [endV_out]
  · refine ((h.1 c).2 main_arg0 (show _ ∈ Pipeline.restRefs sig spec0 from by decide)).trans ((afterTail_eq m c main_arg0).trans ((post_arg0 _).trans ?_))
    exact (endV_of_ne m c main_arg0 (by decide)).trans (preV_arg0 _)
  · refine ((h.1 c).2 main_arg1 (show _ ∈ Pipeline.restRefs sig spec0 from by decide)).trans ((afterTail_eq m c main_arg1).trans ((post_arg1 _).trans ?_))
    exact (endV_of_ne m c main_arg1 (by decide)).trans (preV_arg1 _)
  · refine ((h.1 c).2 main_arg2 (show _ ∈ Pipeline.restRefs sig spec0 from by decide)).trans ((afterTail_eq m c main_arg2).trans ((post_arg2 _).trans ?_))
    exact (endV_of_ne m c main_arg2 (by decide)).trans (preV_arg2 _)
  · refine ((h.1 c).2 main_arg3 (show _ ∈ Pipeline.restRefs sig spec0 from by decide)).trans ((afterTail_eq m c main_arg3).trans ((post_arg3 _).trans ?_))
    exact (endV_of_ne m c main_arg3 (by decide)).trans (preV_arg3 _)

end Cert.KernelIdeal.Dq

end
-- ==== Proof.Dq.Blocks.lean ====
/- The query-gradient kernel's row blocks over the extended reals: what each of the body's stored values is at a row and a lane. -/
module

public import proofs.«01_k».proof.Proof.Gen.KernelIdeal
public import proofs.«01_k».proof.Proof.Gen.KernelIdeal.Skeleton
public import Idealize.ShloMosaic.Lib.Pointwise
public import Idealize.ShloMosaic.Lib.Pipeline.Value

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The lane of a column's tile in which the row's number stands. -/
abbrev ln {n : ℕ} (k : Fin n) : Fin 128 := ⟨k.val % 128, Nat.mod_lt _ (by decide)⟩

/-- Two to the power of a row's score at a column, less the row's number. -/
def pw {n : ℕ} (Q L : S512x128.Idx → EReal) (K : (⟨2, ![n, 128]⟩ : Shape).Idx → EReal) (a : Fin 512) (k : Fin n) : EReal :=
  Ideal.exp2 ((∑ e : Fin 128, Q (ix2 a e) * K (ix2 k e)) - L (ix2 a (ln k)))

/-- A row's product with a column, less the row's number. -/
def tw {n : ℕ} (DO D : S512x128.Idx → EReal) (V : (⟨2, ![n, 128]⟩ : Shape).Idx → EReal) (a : Fin 512) (k : Fin n) : EReal :=
  (∑ e : Fin 128, DO (ix2 a e) * V (ix2 k e)) - D (ix2 a (ln k))

theorem conc4 (x : S512x128.Idx → EReal) (h) :
    concatenate S512x512 1 [⟨S512x128, x⟩, ⟨S512x128, x⟩, ⟨S512x128, x⟩, ⟨S512x128, x⟩] h = fun j => x (ix2 (j 0) (ln (n := 512) (j 1))) := by
  funext j
  exact concatenate_replicate_apply (s₁ := S512x128) (t := S512x512) 1 4 x h rfl j (ix2 (j 0) (ln (n := 512) (j 1))) rfl
    (fun b hb => by
      match b, hb with
      | ⟨0, _⟩, _ => rfl
      | ⟨1, _⟩, hb => exact absurd rfl hb)

theorem conc8 (x : S512x128.Idx → EReal) (h) :
    concatenate S512x1024 1 [⟨S512x128, x⟩, ⟨S512x128, x⟩, ⟨S512x128, x⟩, ⟨S512x128, x⟩, ⟨S512x128, x⟩, ⟨S512x128, x⟩, ⟨S512x128, x⟩, ⟨S512x128, x⟩] h = fun j => x (ix2 (j 0) (ln (n := 1024) (j 1))) := by
  funext j
  exact concatenate_replicate_apply (s₁ := S512x128) (t := S512x1024) 1 8 x h rfl j (ix2 (j 0) (ln (n := 1024) (j 1))) rfl
    (fun b hb => by
      match b, hb with
      | ⟨0, _⟩, _ => rfl
      | ⟨1, _⟩, hb => exact absurd rfl hb)

theorem conc12 (x : S512x128.Idx → EReal) (h) :
    concatenate S512x1536 1 [⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩] h = fun j => x (ix2 (j 0) (ln (n := 1536) (j 1))) := by
  funext j
  exact concatenate_replicate_apply (s₁ := S512x128) (t := S512x1536) 1 12 x h rfl j (ix2 (j 0) (ln (n := 1536) (j 1))) rfl
    (fun b hb => by
      match b, hb with
      | ⟨0, _⟩, _ => rfl
      | ⟨1, _⟩, hb => exact absurd rfl hb)

theorem conc16 (x : S512x128.Idx → EReal) (h) :
    concatenate S512x2048 1 [⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩, ⟨S512x128, x⟩] h = fun j => x (ix2 (j 0) (ln (n := 2048) (j 1))) := by
  funext j
  exact concatenate_replicate_apply (s₁ := S512x128) (t := S512x2048) 1 16 x h rfl j (ix2 (j 0) (ln (n := 2048) (j 1))) rfl
    (fun b hb => by
      match b, hb with
      | ⟨0, _⟩, _ => rfl
      | ⟨1, _⟩, hb => exact absurd rfl hb)

/-- The mask's comparison of a column's number with a row's. -/
theorem sel_le (x y r : ℕ) (hx : x < 4096) (hy : y < 1024) (hr : r < 4096) (X : EReal) :
    (Scalar.select (IntOp.cmpi CmpIPredicate.sle (IntOp.addi (BitVec.ofNat 32 x) 0#32) (IntOp.addi (BitVec.ofNat 32 y) (BitVec.ofNat 32 r))) X 0 : EReal) = if x ≤ r + y then X else 0 := by
  have e1 : IntOp.addi (BitVec.ofNat 32 x) 0#32 = BitVec.ofNat 32 x := by simp [IntOp.addi]
  have e2 : IntOp.addi (BitVec.ofNat 32 y) (BitVec.ofNat 32 r) = BitVec.ofNat 32 (r + y) := by
    simp only [IntOp.addi, ← BitVec.ofNat_add, Nat.add_comm]
  have e3 : (BitVec.ofNat 32 x).sle (BitVec.ofNat 32 (r + y)) = decide (x ≤ r + y) := by
    rw [BitVec.sle, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by exact_mod_cast Iff.rfl)
  rw [e1, e2]
  by_cases h : x ≤ r + y <;> simp [Scalar.select, IntOp.cmpi, e3, h]

theorem full0 (A Q DO L D : S512x128.Idx → EReal) (K V : S2048x128.Idx → EReal) (a : Fin 512) (d : Fin 128) :
    (k0_pay8 (F := Ideal) A (k0_pay7 (F := Ideal) Q K DO V L D) K) (ix2 a d) = A (ix2 a d) + ∑ k : Fin 2048, (pw Q L K a k * tw DO D V a k) * K (ix2 k d) := by
  simp only [k0_pay7, k0_pay8, pw, tw, shapeCast_self, conc16]
  pointwise
  rfl

theorem full1 (A Q DO L D : S512x128.Idx → EReal) (K V : S2048x128.Idx → EReal) (a : Fin 512) (d : Fin 128) :
    (k0_pay12 (F := Ideal) (k0_pay11 (F := Ideal) (k0_pay5 (F := Ideal) Q K) (k0_pay6 (F := Ideal) DO V) L A D K)) (ix2 a d) = A (ix2 a d) + ∑ k : Fin 2048, (pw Q L K a k * tw DO D V a k) * K (ix2 k d) := by
  simp only [k0_pay11, k0_pay12, k0_pay5, k0_pay6, pw, tw, shapeCast_self, conc16]
  pointwise
  rfl

theorem full2 (A Q DO L D : S512x128.Idx → EReal) (K V : S2048x128.Idx → EReal) (a : Fin 512) (d : Fin 128) :
    (k0_pay14 (F := Ideal) (k0_pay9 (F := Ideal) Q K) (k0_pay10 (F := Ideal) DO V) L A D K) (ix2 a d) = A (ix2 a d) + ∑ k : Fin 2048, (pw Q L K a k * tw DO D V a k) * K (ix2 k d) := by
  simp only [k0_pay10, k0_pay14, k0_pay9, pw, tw, shapeCast_self, conc16]
  pointwise
  rfl

theorem full3 (A Q DO L D : S512x128.Idx → EReal) (K V : S2048x128.Idx → EReal) (a : Fin 512) (d : Fin 128) :
    (k0_pay2 (F := Ideal) (k0_pay13 (F := Ideal) DO V) (k0_pay15 (F := Ideal) Q K L) A D K) (ix2 a d) = A (ix2 a d) + ∑ k : Fin 2048, (pw Q L K a k * tw DO D V a k) * K (ix2 k d) := by
  simp only [k0_pay13, k0_pay15, k0_pay2, pw, tw, shapeCast_self, conc16]
  pointwise
  rfl

theorem diag0 (A Q DO L D : S512x128.Idx → EReal) (K V : S512x128.Idx → EReal) (a : Fin 512) (d : Fin 128) :
    (k0_pay20 (F := Ideal) (k0_pay16 (F := Ideal) DO V) (k0_pay19 (F := Ideal) Q K L) A D K) (ix2 a d) = A (ix2 a d) + ∑ k : Fin 512, if k.val ≤ 0 + a.val then (pw Q L K a k * tw DO D V a k) * K (ix2 k d) else 0 := by
  simp only [k0_pay16, k0_pay19, k0_pay20, pw, tw, shapeCast_self, conc4]
  pointwise
  refine congrArg (A (ix2 a d) + ·) (Finset.sum_congr rfl fun k _ => ?_)
  refine (sel_le k.val a.val 0 (by omega) (by omega) (by decide) _).trans ?_
  rw [Nat.zero_add]
  rfl

theorem diag1 (A Q DO L D : S512x128.Idx → EReal) (K V : S1024x128.Idx → EReal) (a : Fin 512) (d : Fin 128) :
    (k0_pay25 (F := Ideal) (k0_pay18 (F := Ideal) DO V) (k0_pay23 (F := Ideal) (k0_pay17 (F := Ideal) Q K) L) k0_pay24 (FloatOps.ofBits (F := Ideal) .f32 0#32) A D K) (ix2 a d) = A (ix2 a d) + ∑ k : Fin 1024, if k.val ≤ 512 + a.val then (pw Q L K a k * tw DO D V a k) * K (ix2 k d) else 0 := by
  simp only [k0_pay17, k0_pay18, k0_pay23, k0_pay24, k0_pay25, pw, tw, shapeCast_self, conc8]
  pointwise
  refine congrArg (A (ix2 a d) + ·) (Finset.sum_congr rfl fun k _ => ?_)
  refine (sel_le k.val a.val 512 (by omega) (by omega) (by decide) _).trans ?_
  rfl

theorem diag2 (A Q DO L D : S512x128.Idx → EReal) (K V : S1536x128.Idx → EReal) (a : Fin 512) (d : Fin 128) :
    (k0_pay31 (F := Ideal) (k0_pay22 (F := Ideal) DO V) (k0_pay28 (F := Ideal) (k0_pay21 (F := Ideal) Q K) L) k0_pay29 (iota .tc S512x1536 32 [1] iota_S512x1536_d1_w32) k0_pay30 A D K) (ix2 a d) = A (ix2 a d) + ∑ k : Fin 1536, if k.val ≤ 1024 + a.val then (pw Q L K a k * tw DO D V a k) * K (ix2 k d) else 0 := by
  simp only [k0_pay21, k0_pay22, k0_pay28, k0_pay29, k0_pay30, k0_pay31, pw, tw, shapeCast_self, conc12]
  pointwise
  refine congrArg (A (ix2 a d) + ·) (Finset.sum_congr rfl fun k _ => ?_)
  refine (sel_le k.val a.val 1024 (by omega) (by omega) (by decide) _).trans ?_
  rfl

theorem diag3 (A Q DO L D : S512x128.Idx → EReal) (K V : S2048x128.Idx → EReal) (a : Fin 512) (d : Fin 128) :
    (k0_pay3 (F := Ideal) A (k0_pay32 (F := Ideal) (k0_pay26 (F := Ideal) Q K) (k0_pay27 (F := Ideal) DO V) L D) K) (ix2 a d) = A (ix2 a d) + ∑ k : Fin 2048, if k.val ≤ 1536 + a.val then (pw Q L K a k * tw DO D V a k) * K (ix2 k d) else 0 := by
  simp only [k0_pay26, k0_pay27, k0_pay3, k0_pay32, pw, tw, shapeCast_self, conc16]
  pointwise
  refine congrArg (A (ix2 a d) + ·) (Finset.sum_congr rfl fun k _ => ?_)
  refine (sel_le k.val a.val 1536 (by omega) (by omega) (by decide) _).trans ?_
  rfl

end Cert.KernelIdeal.Dq

end
-- ==== Proof.Dq.Step.lean ====
/- The query-gradient kernel's body over the extended reals: one tile adds to the accumulator, at each row and feature, the sum over the tile's columns. -/
module

public import proofs.«01_k».proof.Proof.Dq.Runs
public import proofs.«01_k».proof.Proof.Dq.Blocks
public import Idealize.ShloMosaic.Lib.VecWindow
public import Idealize.ShloMosaic.Lib.Writes
public import Idealize.ShloMosaic.Lib.Pipeline.ReadBack

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- 512 rows of a block, from a row on. -/
abbrev rows {α : Type} (o : ℕ) (ho : o + 512 ≤ 2048) (x : S2048x128.Idx → α) : S512x128.Idx → α :=
  fun z => x (ix2 ⟨o + (z 0).val, by have := (z 0).isLt; change (z 0).val < 512 at this; omega⟩ (z 1))

/-- The first rows of a block. -/
abbrev tops {α : Type} (w : ℕ) (hw : w ≤ 2048) (x : S2048x128.Idx → α) : (⟨2, ![w, 128]⟩ : Shape).Idx → α :=
  fun z => x (ix2 ⟨(z 0).val, lt_of_lt_of_le (z 0).isLt hw⟩ (z 1))

variable {F : FTy → Type} [FloatOps F]

theorem rd_rows {e : EltTy} {sp : Space} (v : View sig .tc sp S2048x128 e) (x : S2048x128.Idx → Elt F e) (o : ℕ) (ho : o + 512 ≤ 2048) (inb) :
    v.readAt (Elt F) (Rect.unit (s := S2048x128) ![o, 0] S512x128.size inb).toLoadRect (v.rep x) = rows o ho x := by
  rw [View.readAt_rep_unit v x inb rfl inb]
  funext z
  refine congrArg x (funext fun b => Fin.ext ?_)
  match b with
  | ⟨0, _⟩ => show o + 1 * (z 0).val = o + (z 0).val; rw [Nat.one_mul]
  | ⟨1, _⟩ => show 0 + 1 * (z 1).val = (z 1).val; rw [Nat.one_mul, Nat.zero_add]

theorem rd_tops {e : EltTy} {sp : Space} (v : View sig .tc sp S2048x128 e) (x : S2048x128.Idx → Elt F e) (w : ℕ) (hw : w ≤ 2048) (inb) :
    v.readAt (Elt F) (Rect.unit (s := S2048x128) ![0, 0] (⟨2, ![w, 128]⟩ : Shape).size inb).toLoadRect (v.rep x) = tops w hw x := by
  rw [View.readAt_rep_unit v x inb rfl inb]
  funext z
  refine congrArg x (funext fun b => Fin.ext ?_)
  match b with
  | ⟨0, _⟩ => show 0 + 1 * (z 0).val = (z 0).val; rw [Nat.one_mul, Nat.zero_add]
  | ⟨1, _⟩ => show 0 + 1 * (z 1).val = (z 1).val; rw [Nat.one_mul, Nat.zero_add]

theorem rd_acc (xa : S2048x128.Idx → Elt F .f32) (o : ℕ) (ho : o + 512 ≤ 2048) (inb) :
    scA.view.readAt (Elt F) (Rect.unit (s := S2048x128) ![o, 0] S512x128.size inb).toLoadRect xa = rows o ho xa := by
  funext z
  refine congrArg xa (funext fun b => Fin.ext ?_)
  match b with
  | ⟨0, _⟩ => show o + 1 * (z 0).val = o + (z 0).val; rw [Nat.one_mul]
  | ⟨1, _⟩ => show 0 + 1 * (z 1).val = (z 1).val; rw [Nat.one_mul, Nat.zero_add]

/-- Two to the power of a row's score at a column of a tile, less the row's number. -/
def pT (q l k : S2048x128.Idx → EReal) (r c : Fin 2048) : EReal :=
  Ideal.exp2 ((∑ e : Fin 128, q (ix2 r e) * k (ix2 c e)) - l (ix2 r (ln c)))

/-- A row's product with a column of a tile, less the row's number. -/
def tT (o d v : S2048x128.Idx → EReal) (r c : Fin 2048) : EReal :=
  (∑ e : Fin 128, o (ix2 r e) * v (ix2 c e)) - d (ix2 r (ln c))

/-- What a tile before the diagonal adds. -/
def fullC (q k v o l d : S2048x128.Idx → EReal) (r : Fin 2048) (f : Fin 128) : EReal :=
  ∑ c : Fin 2048, (pT q l k r c * tT o d v r c) * k (ix2 c f)

/-- What a diagonal tile adds. -/
def diagC (q k v o l d : S2048x128.Idx → EReal) (r : Fin 2048) (f : Fin 128) : EReal :=
  ∑ c : Fin 2048, if c.val ≤ r.val then (pT q l k r c * tT o d v r c) * k (ix2 c f) else 0

/-- A sum over the columns not after a row stops with the columns that can be. -/
theorem sum_stop (w : ℕ) (hw : w ≤ 2048) (r : ℕ) (hr : r < w) (g : Fin 2048 → EReal) :
    (∑ c : Fin w, if c.val ≤ r then g ⟨c.val, lt_of_lt_of_le c.isLt hw⟩ else 0) = ∑ c : Fin 2048, if c.val ≤ r then g c else 0 := by
  rw [← Finset.sum_filter, ← Finset.sum_filter]
  refine Finset.sum_bij (fun c _ => (⟨c.val, lt_of_lt_of_le c.isLt hw⟩ : Fin 2048)) ?_ ?_ ?_ ?_
  · intro c hc; simpa using hc
  · intro c _ c' _ h; exact Fin.ext (by simpa using h)
  · intro c hc; have h : c.val ≤ r := by simpa using hc
    exact ⟨⟨c.val, by omega⟩, by simpa using h, rfl⟩
  · intro c _; rfl

theorem fullT0 (q k v o l d : S2048x128.Idx → EReal) (a : Fin 512) (f : Fin 128) :
    (∑ c : Fin 2048, (pw (rows 0 (by decide) q) (rows 0 (by decide) l) (tops 2048 (by decide) k) a c * tw (rows 0 (by decide) o) (rows 0 (by decide) d) (tops 2048 (by decide) v) a c) * (tops 2048 (by decide) k) (ix2 c f))
      = fullC q k v o l d ⟨0 + a.val, by omega⟩ f := rfl

theorem diagT0 (q k v o l d : S2048x128.Idx → EReal) (a : Fin 512) (f : Fin 128) :
    (∑ c : Fin 512, if c.val ≤ 0 + a.val then (pw (rows 0 (by decide) q) (rows 0 (by decide) l) (tops 512 (by decide) k) a c * tw (rows 0 (by decide) o) (rows 0 (by decide) d) (tops 512 (by decide) v) a c) * (tops 512 (by decide) k) (ix2 c f) else 0)
      = diagC q k v o l d ⟨0 + a.val, by omega⟩ f := by
  refine Eq.trans ?_ (sum_stop 512 (by decide) (0 + a.val) (by omega) fun c => (pT q l k ⟨0 + a.val, by omega⟩ c * tT o d v ⟨0 + a.val, by omega⟩ c) * k (ix2 c f))
  rfl

theorem fullT1 (q k v o l d : S2048x128.Idx → EReal) (a : Fin 512) (f : Fin 128) :
    (∑ c : Fin 2048, (pw (rows 512 (by decide) q) (rows 512 (by decide) l) (tops 2048 (by decide) k) a c * tw (rows 512 (by decide) o) (rows 512 (by decide) d) (tops 2048 (by decide) v) a c) * (tops 2048 (by decide) k) (ix2 c f))
      = fullC q k v o l d ⟨512 + a.val, by omega⟩ f := rfl

theorem diagT1 (q k v o l d : S2048x128.Idx → EReal) (a : Fin 512) (f : Fin 128) :
    (∑ c : Fin 1024, if c.val ≤ 512 + a.val then (pw (rows 512 (by decide) q) (rows 512 (by decide) l) (tops 1024 (by decide) k) a c * tw (rows 512 (by decide) o) (rows 512 (by decide) d) (tops 1024 (by decide) v) a c) * (tops 1024 (by decide) k) (ix2 c f) else 0)
      = diagC q k v o l d ⟨512 + a.val, by omega⟩ f := by
  refine Eq.trans ?_ (sum_stop 1024 (by decide) (512 + a.val) (by omega) fun c => (pT q l k ⟨512 + a.val, by omega⟩ c * tT o d v ⟨512 + a.val, by omega⟩ c) * k (ix2 c f))
  rfl

theorem fullT2 (q k v o l d : S2048x128.Idx → EReal) (a : Fin 512) (f : Fin 128) :
    (∑ c : Fin 2048, (pw (rows 1024 (by decide) q) (rows 1024 (by decide) l) (tops 2048 (by decide) k) a c * tw (rows 1024 (by decide) o) (rows 1024 (by decide) d) (tops 2048 (by decide) v) a c) * (tops 2048 (by decide) k) (ix2 c f))
      = fullC q k v o l d ⟨1024 + a.val, by omega⟩ f := rfl

theorem diagT2 (q k v o l d : S2048x128.Idx → EReal) (a : Fin 512) (f : Fin 128) :
    (∑ c : Fin 1536, if c.val ≤ 1024 + a.val then (pw (rows 1024 (by decide) q) (rows 1024 (by decide) l) (tops 1536 (by decide) k) a c * tw (rows 1024 (by decide) o) (rows 1024 (by decide) d) (tops 1536 (by decide) v) a c) * (tops 1536 (by decide) k) (ix2 c f) else 0)
      = diagC q k v o l d ⟨1024 + a.val, by omega⟩ f := by
  refine Eq.trans ?_ (sum_stop 1536 (by decide) (1024 + a.val) (by omega) fun c => (pT q l k ⟨1024 + a.val, by omega⟩ c * tT o d v ⟨1024 + a.val, by omega⟩ c) * k (ix2 c f))
  rfl

theorem fullT3 (q k v o l d : S2048x128.Idx → EReal) (a : Fin 512) (f : Fin 128) :
    (∑ c : Fin 2048, (pw (rows 1536 (by decide) q) (rows 1536 (by decide) l) (tops 2048 (by decide) k) a c * tw (rows 1536 (by decide) o) (rows 1536 (by decide) d) (tops 2048 (by decide) v) a c) * (tops 2048 (by decide) k) (ix2 c f))
      = fullC q k v o l d ⟨1536 + a.val, by omega⟩ f := rfl

theorem diagT3 (q k v o l d : S2048x128.Idx → EReal) (a : Fin 512) (f : Fin 128) :
    (∑ c : Fin 2048, if c.val ≤ 1536 + a.val then (pw (rows 1536 (by decide) q) (rows 1536 (by decide) l) (tops 2048 (by decide) k) a c * tw (rows 1536 (by decide) o) (rows 1536 (by decide) d) (tops 2048 (by decide) v) a c) * (tops 2048 (by decide) k) (ix2 c f) else 0)
      = diagC q k v o l d ⟨1536 + a.val, by omega⟩ f := by
  refine Eq.trans ?_ (sum_stop 2048 (by decide) (1536 + a.val) (by omega) fun c => (pT q l k ⟨1536 + a.val, by omega⟩ c * tT o d v ⟨1536 + a.val, by omega⟩ c) * k (ix2 c f))
  rfl

/-- Four stored blocks of rows make a whole, whatever was stored before them. -/
theorem four {sp : Space} (v : View sig .tc sp S2048x128 .f32) (f0 : v.ty.Contents (Elt Ideal)) (i3 i2 i1 i0) (P3 P2 P1 P0 : S512x128.Idx → EReal)
    (L : List (View.Piece (Elt Ideal) S2048x128 .f32)) (G : S2048x128.Idx → EReal)
    (h3 : ∀ (a : Fin 512) (f : Fin 128), P3 (ix2 a f) = G (ix2 ⟨1536 + a.val, by omega⟩ f))
    (h2 : ∀ (a : Fin 512) (f : Fin 128), P2 (ix2 a f) = G (ix2 ⟨1024 + a.val, by omega⟩ f))
    (h1 : ∀ (a : Fin 512) (f : Fin 128), P1 (ix2 a f) = G (ix2 ⟨512 + a.val, by omega⟩ f))
    (h0 : ∀ (a : Fin 512) (f : Fin 128), P0 (ix2 a f) = G (ix2 ⟨0 + a.val, by omega⟩ f)) :
    v.read (Elt Ideal) (v.writes (Elt Ideal) f0 (⟨Rect.unit (s := S2048x128) ![1536, 0] S512x128.size i3, P3⟩ :: ⟨Rect.unit (s := S2048x128) ![1024, 0] S512x128.size i2, P2⟩
      :: ⟨Rect.unit (s := S2048x128) ![512, 0] S512x128.size i1, P1⟩ :: ⟨Rect.unit (s := S2048x128) ![0, 0] S512x128.size i0, P0⟩ :: L)) = G := by
  funext y
  obtain ⟨r, f, rfl⟩ : ∃ (r : Fin 2048) (f : Fin 128), y = ix2 r f := ⟨y 0, y 1, funext fun b => by
    match b with
    | ⟨0, _⟩ => rfl
    | ⟨1, _⟩ => rfl⟩
  by_cases c3 : 1536 ≤ r.val
  · refine (View.read_writes_cons_rows_of_mem v f0 i3 P3 _ (ix2 r f) (ix2 (n0 := 512) (n1 := 128) ⟨r.val - 1536, by omega⟩ f) rfl (show r.val = 1536 + (r.val - 1536) by omega) rfl).trans ((h3 _ _).trans ?_)
    exact congrArg (fun z => G (ix2 z f)) (Fin.ext (show 1536 + (r.val - 1536) = r.val by omega))
  refine (View.read_writes_cons_rows_of_not_mem (W := 512) v f0 i3 P3 _ (ix2 r f) rfl rfl (Or.inl (show r.val < 1536 by omega))).trans ?_
  by_cases c2 : 1024 ≤ r.val
  · refine (View.read_writes_cons_rows_of_mem v f0 i2 P2 _ (ix2 r f) (ix2 (n0 := 512) (n1 := 128) ⟨r.val - 1024, by omega⟩ f) rfl (show r.val = 1024 + (r.val - 1024) by omega) rfl).trans ((h2 _ _).trans ?_)
    exact congrArg (fun z => G (ix2 z f)) (Fin.ext (show 1024 + (r.val - 1024) = r.val by omega))
  refine (View.read_writes_cons_rows_of_not_mem (W := 512) v f0 i2 P2 _ (ix2 r f) rfl rfl (Or.inl (show r.val < 1024 by omega))).trans ?_
  by_cases c1 : 512 ≤ r.val
  · refine (View.read_writes_cons_rows_of_mem v f0 i1 P1 _ (ix2 r f) (ix2 (n0 := 512) (n1 := 128) ⟨r.val - 512, by omega⟩ f) rfl (show r.val = 512 + (r.val - 512) by omega) rfl).trans ((h1 _ _).trans ?_)
    exact congrArg (fun z => G (ix2 z f)) (Fin.ext (show 512 + (r.val - 512) = r.val by omega))
  refine (View.read_writes_cons_rows_of_not_mem (W := 512) v f0 i1 P1 _ (ix2 r f) rfl rfl (Or.inl (show r.val < 512 by omega))).trans ?_
  refine (View.read_writes_cons_rows_of_mem v f0 i0 P0 _ (ix2 r f) (ix2 (n0 := 512) (n1 := 128) ⟨r.val, by omega⟩ f) rfl (show r.val = 0 + r.val by omega) rfl).trans ((h0 _ _).trans ?_)
  exact congrArg (fun z => G (ix2 z f)) (Fin.ext (show 0 + r.val = r.val by omega))

/-- The rows of the accumulator a run finds there where it has only been cleared. -/
theorem rd_clear (o : ℕ) (inb) (inb0) :
    scA.view.readCov (Val := Elt Ideal) [⟨Rect.unit (s := S2048x128) ![0, 0] S2048x128.size inb0, k0_pay1 (F := Ideal)⟩] (Rect.unit (s := S2048x128) ![o, 0] S512x128.size inb).toLoadRect = fun _ => (0 : EReal) := by
  funext z
  show scA.view.read (Elt Ideal) (scA.view.writes (Elt Ideal) scA.view.junk _) ((Rect.unit (s := S2048x128) ![o, 0] S512x128.size inb).toLoadRect.idx z) = (0 : EReal)
  refine (congrFun (View.read_writes_full (Val := Elt Ideal) scA.view scA.view.junk inb0 (k0_pay1 (F := Ideal)) []) _).trans ?_
  simp only [k0_pay1]
  pointwise

/-- Rows stored above do not matter to the rows read. -/
theorem skip_at {sp : Space} (v : View sig .tc sp S2048x128 .f32) (f0 : v.ty.Contents (Elt Ideal)) (o' : ℕ) (inb') (P : S512x128.Idx → EReal) (L : List (View.Piece (Elt Ideal) S2048x128 .f32))
    (y : S2048x128.Idx) (h : o' + 512 ≤ (y (0 : Fin 2)).val) :
    v.read (Elt Ideal) (v.writes (Elt Ideal) f0 (⟨Rect.unit (s := S2048x128) ![o', 0] S512x128.size inb', P⟩ :: L)) y = v.read (Elt Ideal) (v.writes (Elt Ideal) f0 L) y :=
  View.read_writes_cons_rows_of_not_mem (W := 512) v f0 inb' P L y rfl rfl (Or.inr h)

theorem rd_skip {sp : Space} (v : View sig .tc sp S2048x128 .f32) (o' o : ℕ) (h : o' + 512 ≤ o) (inb) (inb') (P : S512x128.Idx → EReal) (L : List (View.Piece (Elt Ideal) S2048x128 .f32)) :
    v.readCov (Val := Elt Ideal) (⟨Rect.unit (s := S2048x128) ![o', 0] S512x128.size inb', P⟩ :: L) (Rect.unit (s := S2048x128) ![o, 0] S512x128.size inb).toLoadRect
      = v.readCov (Val := Elt Ideal) L (Rect.unit (s := S2048x128) ![o, 0] S512x128.size inb).toLoadRect := by
  funext z
  have e := skip_at v v.junk o' inb' P L ((Rect.unit (s := S2048x128) ![o, 0] S512x128.size inb).toLoadRect.idx z) (show o' + 512 ≤ o + 1 * (z 0).val by omega)
  exact e

variable (c : Dev nD) (i : grid0.Coords) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .bf16) (harg10 : arg10.IsWhole)
  (T0 T1 : S10.Idx → Elt Ideal .i32) (x0 x1 x2 x3 : S2048x128.Idx → Elt Ideal .bf16) (x4 x5 : S2048x128.Idx → Elt Ideal .f32)

/-- What the accumulator holds after it. -/
theorem runFull_val (xa : S2048x128.Idx → EReal) (h1 : ¬IsFirst T1 i) (h2 : IsBefore T0 T1 i) (h3 : ¬IsDiag T0 T1 i) :
    (runFull (F := Ideal) c i arg4 harg4 arg5 harg5 arg6 harg6 arg7 harg7 arg8 harg8 arg9 harg9 arg10 harg10 T0 T1 x0 x1 x2 x3 x4 x5 xa h1 h2 h3).1 = (fun y => xa y + fullC x0 x1 x2 x3 x4 x5 (y 0) (y 1) : S2048x128.Idx → EReal) := by
  dsimp only [runFull]
  sl_unfold_run_names
  refine (View.read_whole cc0_scratch0 _).symm.trans ?_
  refine four (View.whole cc0_scratch0) _ _ _ _ _ _ _ _ _ _ (fun y => xa y + fullC x0 x1 x2 x3 x4 x5 (y 0) (y 1) : S2048x128.Idx → EReal) ?_ ?_ ?_ ?_
  · intro a f
    rw [rd_rows (F := Ideal) arg4.view x0 1536 (by decide), rd_rows (F := Ideal) arg7.view x3 1536 (by decide), rd_rows (F := Ideal) arg8.view x4 1536 (by decide), rd_rows (F := Ideal) arg9.view x5 1536 (by decide),
      rd_tops (F := Ideal) arg5.view x1 2048 (by decide), rd_tops (F := Ideal) arg6.view x2 2048 (by decide), rd_acc (F := Ideal) xa 1536 (by decide)]
    refine (full3 (rows 1536 (by decide) xa) _ _ _ _ _ _ a f).trans ?_
    rw [fullT3]
    rfl
  · intro a f
    rw [rd_rows (F := Ideal) arg4.view x0 1024 (by decide), rd_rows (F := Ideal) arg7.view x3 1024 (by decide), rd_rows (F := Ideal) arg8.view x4 1024 (by decide), rd_rows (F := Ideal) arg9.view x5 1024 (by decide),
      rd_tops (F := Ideal) arg5.view x1 2048 (by decide), rd_tops (F := Ideal) arg6.view x2 2048 (by decide), rd_acc (F := Ideal) xa 1024 (by decide)]
    refine (full2 (rows 1024 (by decide) xa) _ _ _ _ _ _ a f).trans ?_
    rw [fullT2]
    rfl
  · intro a f
    rw [rd_rows (F := Ideal) arg4.view x0 512 (by decide), rd_rows (F := Ideal) arg7.view x3 512 (by decide), rd_rows (F := Ideal) arg8.view x4 512 (by decide), rd_rows (F := Ideal) arg9.view x5 512 (by decide),
      rd_tops (F := Ideal) arg5.view x1 2048 (by decide), rd_tops (F := Ideal) arg6.view x2 2048 (by decide), rd_acc (F := Ideal) xa 512 (by decide)]
    refine (full1 (rows 512 (by decide) xa) _ _ _ _ _ _ a f).trans ?_
    rw [fullT1]
    rfl
  · intro a f
    rw [rd_rows (F := Ideal) arg4.view x0 0 (by decide), rd_rows (F := Ideal) arg7.view x3 0 (by decide), rd_rows (F := Ideal) arg8.view x4 0 (by decide), rd_rows (F := Ideal) arg9.view x5 0 (by decide),
      rd_tops (F := Ideal) arg5.view x1 2048 (by decide), rd_tops (F := Ideal) arg6.view x2 2048 (by decide), rd_acc (F := Ideal) xa 0 (by decide)]
    refine (full0 (rows 0 (by decide) xa) _ _ _ _ _ _ a f).trans ?_
    rw [fullT0]
    rfl

/-- What the accumulator holds after it. -/
theorem runInitFull_val (h1 : IsFirst T1 i) (h2 : IsBefore T0 T1 i) (h3 : ¬IsDiag T0 T1 i) :
    (runInitFull (F := Ideal) c i arg4 harg4 arg5 harg5 arg6 harg6 arg7 harg7 arg8 harg8 arg9 harg9 arg10 harg10 T0 T1 x0 x1 x2 x3 x4 x5 h1 h2 h3).1 = (fun y => fullC x0 x1 x2 x3 x4 x5 (y 0) (y 1) : S2048x128.Idx → EReal) := by
  dsimp only [runInitFull]
  sl_unfold_run_names
  refine (View.read_whole cc0_scratch0 _).symm.trans ?_
  refine four (View.whole cc0_scratch0) _ _ _ _ _ _ _ _ _ _ (fun y => fullC x0 x1 x2 x3 x4 x5 (y 0) (y 1) : S2048x128.Idx → EReal) ?_ ?_ ?_ ?_
  · intro a f
    rw [rd_rows (F := Ideal) arg4.view x0 1536 (by decide), rd_rows (F := Ideal) arg7.view x3 1536 (by decide), rd_rows (F := Ideal) arg8.view x4 1536 (by decide), rd_rows (F := Ideal) arg9.view x5 1536 (by decide),
      rd_tops (F := Ideal) arg5.view x1 2048 (by decide), rd_tops (F := Ideal) arg6.view x2 2048 (by decide), rd_skip scA.view 1024 1536 (by decide), rd_skip scA.view 512 1536 (by decide), rd_skip scA.view 0 1536 (by decide), rd_clear 1536]
    refine (full3 (fun _ => 0) _ _ _ _ _ _ a f).trans ?_
    rw [fullT3, zero_add]
    rfl
  · intro a f
    rw [rd_rows (F := Ideal) arg4.view x0 1024 (by decide), rd_rows (F := Ideal) arg7.view x3 1024 (by decide), rd_rows (F := Ideal) arg8.view x4 1024 (by decide), rd_rows (F := Ideal) arg9.view x5 1024 (by decide),
      rd_tops (F := Ideal) arg5.view x1 2048 (by decide), rd_tops (F := Ideal) arg6.view x2 2048 (by decide), rd_skip scA.view 512 1024 (by decide), rd_skip scA.view 0 1024 (by decide), rd_clear 1024]
    refine (full2 (fun _ => 0) _ _ _ _ _ _ a f).trans ?_
    rw [fullT2, zero_add]
    rfl
  · intro a f
    rw [rd_rows (F := Ideal) arg4.view x0 512 (by decide), rd_rows (F := Ideal) arg7.view x3 512 (by decide), rd_rows (F := Ideal) arg8.view x4 512 (by decide), rd_rows (F := Ideal) arg9.view x5 512 (by decide),
      rd_tops (F := Ideal) arg5.view x1 2048 (by decide), rd_tops (F := Ideal) arg6.view x2 2048 (by decide), rd_skip scA.view 0 512 (by decide), rd_clear 512]
    refine (full1 (fun _ => 0) _ _ _ _ _ _ a f).trans ?_
    rw [fullT1, zero_add]
    rfl
  · intro a f
    rw [rd_rows (F := Ideal) arg4.view x0 0 (by decide), rd_rows (F := Ideal) arg7.view x3 0 (by decide), rd_rows (F := Ideal) arg8.view x4 0 (by decide), rd_rows (F := Ideal) arg9.view x5 0 (by decide),
      rd_tops (F := Ideal) arg5.view x1 2048 (by decide), rd_tops (F := Ideal) arg6.view x2 2048 (by decide), rd_clear 0]
    refine (full0 (fun _ => 0) _ _ _ _ _ _ a f).trans ?_
    rw [fullT0, zero_add]
    rfl

/-- What the accumulator holds after it. -/
theorem runDiag_val (xa : S2048x128.Idx → EReal) (h1 : ¬IsFirst T1 i) (h2 : ¬IsBefore T0 T1 i) (h3 : IsDiag T0 T1 i) :
    (runDiag (F := Ideal) c i arg4 harg4 arg5 harg5 arg6 harg6 arg7 harg7 arg8 harg8 arg9 harg9 arg10 harg10 T0 T1 x0 x1 x2 x3 x4 x5 xa h1 h2 h3).2.1 = (fun y => xa y + diagC x0 x1 x2 x3 x4 x5 (y 0) (y 1) : S2048x128.Idx → EReal) := by
  dsimp only [runDiag]
  sl_unfold_run_names
  refine (View.read_whole cc0_scratch0 _).symm.trans ?_
  refine four (View.whole cc0_scratch0) _ _ _ _ _ _ _ _ _ _ (fun y => xa y + diagC x0 x1 x2 x3 x4 x5 (y 0) (y 1) : S2048x128.Idx → EReal) ?_ ?_ ?_ ?_
  · intro a f
    rw [rd_rows (F := Ideal) arg4.view x0 1536 (by decide), rd_rows (F := Ideal) arg7.view x3 1536 (by decide), rd_rows (F := Ideal) arg8.view x4 1536 (by decide), rd_rows (F := Ideal) arg9.view x5 1536 (by decide),
      rd_tops (F := Ideal) arg5.view x1 2048 (by decide), rd_tops (F := Ideal) arg6.view x2 2048 (by decide), rd_acc (F := Ideal) xa 1536 (by decide)]
    refine (diag3 (rows 1536 (by decide) xa) _ _ _ _ _ _ a f).trans ?_
    rw [diagT3]
    rfl
  · intro a f
    rw [rd_rows (F := Ideal) arg4.view x0 1024 (by decide), rd_rows (F := Ideal) arg7.view x3 1024 (by decide), rd_rows (F := Ideal) arg8.view x4 1024 (by decide), rd_rows (F := Ideal) arg9.view x5 1024 (by decide),
      rd_tops (F := Ideal) arg5.view x1 1536 (by decide), rd_tops (F := Ideal) arg6.view x2 1536 (by decide), rd_acc (F := Ideal) xa 1024 (by decide)]
    refine (diag2 (rows 1024 (by decide) xa) _ _ _ _ _ _ a f).trans ?_
    rw [diagT2]
    rfl
  · intro a f
    rw [rd_rows (F := Ideal) arg4.view x0 512 (by decide), rd_rows (F := Ideal) arg7.view x3 512 (by decide), rd_rows (F := Ideal) arg8.view x4 512 (by decide), rd_rows (F := Ideal) arg9.view x5 512 (by decide),
      rd_tops (F := Ideal) arg5.view x1 1024 (by decide), rd_tops (F := Ideal) arg6.view x2 1024 (by decide), rd_acc (F := Ideal) xa 512 (by decide)]
    refine (diag1 (rows 512 (by decide) xa) _ _ _ _ _ _ a f).trans ?_
    rw [diagT1]
    rfl
  · intro a f
    rw [rd_rows (F := Ideal) arg4.view x0 0 (by decide), rd_rows (F := Ideal) arg7.view x3 0 (by decide), rd_rows (F := Ideal) arg8.view x4 0 (by decide), rd_rows (F := Ideal) arg9.view x5 0 (by decide),
      rd_tops (F := Ideal) arg5.view x1 512 (by decide), rd_tops (F := Ideal) arg6.view x2 512 (by decide), rd_acc (F := Ideal) xa 0 (by decide)]
    refine (diag0 (rows 0 (by decide) xa) _ _ _ _ _ _ a f).trans ?_
    rw [diagT0]
    rfl

/-- What the accumulator holds after it. -/
theorem runInitDiag_val (h1 : IsFirst T1 i) (h2 : ¬IsBefore T0 T1 i) (h3 : IsDiag T0 T1 i) :
    (runInitDiag (F := Ideal) c i arg4 harg4 arg5 harg5 arg6 harg6 arg7 harg7 arg8 harg8 arg9 harg9 arg10 harg10 T0 T1 x0 x1 x2 x3 x4 x5 h1 h2 h3).2.1 = (fun y => diagC x0 x1 x2 x3 x4 x5 (y 0) (y 1) : S2048x128.Idx → EReal) := by
  dsimp only [runInitDiag]
  sl_unfold_run_names
  refine (View.read_whole cc0_scratch0 _).symm.trans ?_
  refine four (View.whole cc0_scratch0) _ _ _ _ _ _ _ _ _ _ (fun y => diagC x0 x1 x2 x3 x4 x5 (y 0) (y 1) : S2048x128.Idx → EReal) ?_ ?_ ?_ ?_
  · intro a f
    rw [rd_rows (F := Ideal) arg4.view x0 1536 (by decide), rd_rows (F := Ideal) arg7.view x3 1536 (by decide), rd_rows (F := Ideal) arg8.view x4 1536 (by decide), rd_rows (F := Ideal) arg9.view x5 1536 (by decide),
      rd_tops (F := Ideal) arg5.view x1 2048 (by decide), rd_tops (F := Ideal) arg6.view x2 2048 (by decide), rd_skip scA.view 1024 1536 (by decide), rd_skip scA.view 512 1536 (by decide), rd_skip scA.view 0 1536 (by decide), rd_clear 1536]
    refine (diag3 (fun _ => 0) _ _ _ _ _ _ a f).trans ?_
    rw [diagT3, zero_add]
    rfl
  · intro a f
    rw [rd_rows (F := Ideal) arg4.view x0 1024 (by decide), rd_rows (F := Ideal) arg7.view x3 1024 (by decide), rd_rows (F := Ideal) arg8.view x4 1024 (by decide), rd_rows (F := Ideal) arg9.view x5 1024 (by decide),
      rd_tops (F := Ideal) arg5.view x1 1536 (by decide), rd_tops (F := Ideal) arg6.view x2 1536 (by decide), rd_skip scA.view 512 1024 (by decide), rd_skip scA.view 0 1024 (by decide), rd_clear 1024]
    refine (diag2 (fun _ => 0) _ _ _ _ _ _ a f).trans ?_
    rw [diagT2, zero_add]
    rfl
  · intro a f
    rw [rd_rows (F := Ideal) arg4.view x0 512 (by decide), rd_rows (F := Ideal) arg7.view x3 512 (by decide), rd_rows (F := Ideal) arg8.view x4 512 (by decide), rd_rows (F := Ideal) arg9.view x5 512 (by decide),
      rd_tops (F := Ideal) arg5.view x1 1024 (by decide), rd_tops (F := Ideal) arg6.view x2 1024 (by decide), rd_skip scA.view 0 512 (by decide), rd_clear 512]
    refine (diag1 (fun _ => 0) _ _ _ _ _ _ a f).trans ?_
    rw [diagT1, zero_add]
    rfl
  · intro a f
    rw [rd_rows (F := Ideal) arg4.view x0 0 (by decide), rd_rows (F := Ideal) arg7.view x3 0 (by decide), rd_rows (F := Ideal) arg8.view x4 0 (by decide), rd_rows (F := Ideal) arg9.view x5 0 (by decide),
      rd_tops (F := Ideal) arg5.view x1 512 (by decide), rd_tops (F := Ideal) arg6.view x2 512 (by decide), rd_clear 0]
    refine (diag0 (fun _ => 0) _ _ _ _ _ _ a f).trans ?_
    rw [diagT0, zero_add]
    rfl

theorem pay4_eq (x : S2048x128.Idx → EReal) : k0_pay4 (F := Ideal) x = x := by
  funext y
  simp only [k0_pay4]
  pointwise

/-- What the result's block holds after it. -/
theorem runDiag_out_val (xa : S2048x128.Idx → EReal) (h1 : ¬IsFirst T1 i) (h2 : ¬IsBefore T0 T1 i) (h3 : IsDiag T0 T1 i) :
    runDiag_out (F := Ideal) c i arg4 harg4 arg5 harg5 arg6 harg6 arg7 harg7 arg8 harg8 arg9 harg9 arg10 harg10 T0 T1 x0 x1 x2 x3 x4 x5 xa h1 h2 h3 = (fun y => xa y + diagC x0 x1 x2 x3 x4 x5 (y 0) (y 1) : S2048x128.Idx → EReal) := by
  have e := runDiag_val c i arg4 harg4 arg5 harg5 arg6 harg6 arg7 harg7 arg8 harg8 arg9 harg9 arg10 harg10 T0 T1 x0 x1 x2 x3 x4 x5 xa h1 h2 h3
  unfold runDiag_out
  dsimp only [runDiag] at e ⊢
  sl_unfold_run_names
  refine (View.read_writes_full (Val := Elt Ideal) VO VO.junk inb_S2048x128_S2048x128_0_0 _ []).trans (Eq.trans ?_ e)
  exact (pay4_eq _).trans (View.readAt_full (Val := Elt Ideal) scA.view _ inb_S2048x128_S2048x128_0_0)

/-- What the result's block holds after it. -/
theorem runInitDiag_out_val (h1 : IsFirst T1 i) (h2 : ¬IsBefore T0 T1 i) (h3 : IsDiag T0 T1 i) :
    runInitDiag_out (F := Ideal) c i arg4 harg4 arg5 harg5 arg6 harg6 arg7 harg7 arg8 harg8 arg9 harg9 arg10 harg10 T0 T1 x0 x1 x2 x3 x4 x5 h1 h2 h3 = (fun y => diagC x0 x1 x2 x3 x4 x5 (y 0) (y 1) : S2048x128.Idx → EReal) := by
  have e := runInitDiag_val c i arg4 harg4 arg5 harg5 arg6 harg6 arg7 harg7 arg8 harg8 arg9 harg9 arg10 harg10 T0 T1 x0 x1 x2 x3 x4 x5 h1 h2 h3
  unfold runInitDiag_out
  dsimp only [runInitDiag] at e ⊢
  sl_unfold_run_names
  refine (View.read_writes_full (Val := Elt Ideal) VO VO.junk inb_S2048x128_S2048x128_0_0 _ []).trans (Eq.trans ?_ e)
  exact (pay4_eq _).trans (View.readAt_full (Val := Elt Ideal) scA.view _ inb_S2048x128_S2048x128_0_0)

end Cert.KernelIdeal.Dq

end
-- ==== Proof.Dq.Index.lean ====
/- Which tiles each grid point of the query-gradient kernel sees, and which of the body's cases it takes. -/
module

public import proofs.«01_k».proof.Proof.Dq.Tables
public import Idealize.ShloMosaic.Lib.Pipeline.ValueKit.Geometry

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The query tile and the key tile of a point, and its head. -/
def ti (t : ℕ) : ℕ := [0, 1, 1, 2, 2, 2, 3, 3, 3, 3].getD (t % 10) 0
def tj (t : ℕ) : ℕ := [0, 0, 1, 0, 1, 2, 0, 1, 2, 3].getD (t % 10) 0
def th (t : ℕ) : ℕ := t / 10

/-- The index a window's block has. -/
abbrev At (a b : ℕ) : Fin 2 → ℕ := ![a, b]

abbrev IndexFacts (t : Fin (cfgA F).N) : Prop :=
  (((cfgA F).win (0 : Fin 7)).index t = At (ti t.val) (th t.val) ∧ ((cfgA F).win (1 : Fin 7)).index t = At (tj t.val) (th t.val)
    ∧ ((cfgA F).win (2 : Fin 7)).index t = At (tj t.val) (th t.val) ∧ ((cfgA F).win (3 : Fin 7)).index t = At (ti t.val) (th t.val)
    ∧ ((cfgA F).win (4 : Fin 7)).index t = At (ti t.val) (th t.val) ∧ ((cfgA F).win (5 : Fin 7)).index t = At (ti t.val) (th t.val)
    ∧ ((cfgA F).win (6 : Fin 7)).index t = At (ti t.val) (th t.val))
  ∧ (First t ↔ tj t.val = 0) ∧ (Before t ↔ tj t.val < ti t.val) ∧ (Diag t ↔ tj t.val = ti t.val)

abbrev IndexFrom (a : ℕ) : Prop := ∀ t : Fin (cfgA F).N, a ≤ t.val → t.val < a + 20 → IndexFacts t

theorem index_0 : IndexFrom (F := F) 0 := of_decide_eq_true (by sl_kernel_rfl)
theorem index_20 : IndexFrom (F := F) 20 := of_decide_eq_true (by sl_kernel_rfl)
theorem index_40 : IndexFrom (F := F) 40 := of_decide_eq_true (by sl_kernel_rfl)
theorem index_60 : IndexFrom (F := F) 60 := of_decide_eq_true (by sl_kernel_rfl)

theorem index_facts (t : Fin (cfgA F).N) : IndexFacts t := by
  have hN : t.val < 80 := t.isLt.trans_eq N_0
  rcases Nat.lt_or_ge t.val 20 with h1 | h1
  · exact index_0 t (Nat.zero_le _) h1
  rcases Nat.lt_or_ge t.val 40 with h2 | h2
  · exact index_20 t h1 h2
  rcases Nat.lt_or_ge t.val 60 with h3 | h3
  · exact index_40 t h2 h3
  · exact index_60 t h3 hN

/-- The result's blocks cover its array. -/
theorem covers6 : ((cfgA F).win (6 : Fin 7)).Covers := of_decide_eq_true (by sl_kernel_rfl)

theorem range_facts' : ∀ t : Fin 80, ti t.val < 4 ∧ tj t.val ≤ ti t.val ∧ th t.val < 8
    ∧ (tj t.val ≠ 0 → 0 < t.val ∧ ti (t.val - 1) = ti t.val ∧ tj (t.val - 1) + 1 = tj t.val ∧ th (t.val - 1) = th t.val) := by decide

theorem range_facts (t : ℕ) (h : t < 80) : ti t < 4 ∧ tj t ≤ ti t ∧ th t < 8
    ∧ (tj t ≠ 0 → 0 < t ∧ ti (t - 1) = ti t ∧ tj (t - 1) + 1 = tj t ∧ th (t - 1) = th t) := range_facts' ⟨t, h⟩

end Cert.KernelIdeal.Dq

end
-- ==== Proof.Dq.Acc.lean ====
/- What the query-gradient kernel leaves in its result's array over the extended reals: at a row, a sum over the columns up to the row. -/
module

public import proofs.«01_k».proof.Proof.Dq.Body
public import proofs.«01_k».proof.Proof.Dq.Step
public import proofs.«01_k».proof.Proof.Dq.Index
public import Idealize.ShloMosaic.Lib.Pipeline.ValueKit.Geometry

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A row of an array, and a lane of a head. -/
def row (n : ℕ) : Fin 8192 := ⟨n % 8192, Nat.mod_lt _ (by decide)⟩
def lane (h e : ℕ) : Fin 1024 := ⟨(128 * h + e) % 1024, Nat.mod_lt _ (by decide)⟩

/-- A tile of an array. -/
def tile (A : S8192x1024.Idx → EReal) (i h : ℕ) : S2048x128.Idx → EReal :=
  fun z => A (ix2 (row (2048 * i + (z 0).val)) (lane h (z 1).val))

/-- What one column adds to a row of a head's result, at a feature. -/
def term (Q K V O L D : S8192x1024.Idx → EReal) (h r : ℕ) (f c : ℕ) : EReal :=
  (Ideal.exp2 ((∑ e : Fin 128, Q (ix2 (row r) (lane h e.val)) * K (ix2 (row c) (lane h e.val))) - L (ix2 (row r) (lane h (c % 128))))
    * ((∑ e : Fin 128, O (ix2 (row r) (lane h e.val)) * V (ix2 (row c) (lane h e.val))) - D (ix2 (row r) (lane h (c % 128)))))
    * K (ix2 (row c) (lane h f))

/-- The columns below a bound, of a tile's. -/
theorem sum_stop_eq (n : ℕ) (hn : n ≤ 2048) (g : ℕ → EReal) : (∑ c : Fin 2048, if c.val < n then g c.val else 0) = ∑ c : Fin n, g c.val := by
  rw [← Finset.sum_range (n := n) g, ← Finset.sum_range (n := 2048) (fun c => if c < n then g c else 0), ← Finset.sum_filter]
  refine Finset.sum_congr (Finset.ext fun c => ?_) fun _ _ => rfl
  rw [Finset.mem_filter, Finset.mem_range, Finset.mem_range]
  omega

variable (Q K V O L D : S8192x1024.Idx → EReal)

theorem term_tile (i j h : ℕ) (r c : Fin 2048) (f : Fin 128) :
    (pT (tile Q i h) (tile L i h) (tile K j h) r c * tT (tile O i h) (tile D i h) (tile V j h) r c) * (tile K j h) (ix2 c f)
      = term Q K V O L D h (2048 * i + r.val) f.val (2048 * j + c.val) := by
  have e : (2048 * j + c.val) % 128 = c.val % 128 := by omega
  unfold pT tT term tile
  rw [e]
  rfl

theorem fullC_tile (i j h : ℕ) (r : Fin 2048) (f : Fin 128) :
    fullC (tile Q i h) (tile K j h) (tile V j h) (tile O i h) (tile L i h) (tile D i h) r f
      = ∑ c ∈ Finset.range 2048, term Q K V O L D h (2048 * i + r.val) f.val (2048 * j + c) := by
  rw [Finset.sum_range]
  exact Finset.sum_congr rfl fun c _ => term_tile Q K V O L D i j h r c f

theorem diagC_tile (i h : ℕ) (r : Fin 2048) (f : Fin 128) :
    diagC (tile Q i h) (tile K i h) (tile V i h) (tile O i h) (tile L i h) (tile D i h) r f
      = ∑ c ∈ Finset.range (r.val + 1), term Q K V O L D h (2048 * i + r.val) f.val (2048 * i + c) := by
  rw [Finset.sum_range]
  refine Eq.trans ?_ (sum_stop_eq (r.val + 1) r.isLt fun c => term Q K V O L D h (2048 * i + r.val) f.val (2048 * i + c))
  refine Finset.sum_congr rfl fun c _ => ?_
  rw [term_tile]
  exact if_congr (by omega) rfl rfl

theorem iblk_0 (W : Dev nD → Valuation τ sig (Elt Ideal)) (c : Dev nD) (t : Fin (cfgA Ideal).N) :
    iblk W c (0 : Fin 7) t = tile (W c (Proc.devRef .tc main_v40)) (ti t.val) (th t.val) := by
  have hx := (index_facts (F := Ideal) t).1.1
  have hr := range_facts t.val (t.isLt.trans_eq N_0)
  funext z
  refine congrArg (W c (Proc.devRef .tc main_v40)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (0 : Fin 7)).index t (0 : Fin 2) * 2048 + 1 * (z (0 : Fin 2)).val = (2048 * ti t.val + (z (0 : Fin 2)).val) % 8192
    rw [hx]
    show ti t.val * 2048 + 1 * (z (0 : Fin 2)).val = _
    omega
  | ⟨1, _⟩ =>
    show ((cfgA Ideal).win (0 : Fin 7)).index t (1 : Fin 2) * 128 + 1 * (z (1 : Fin 2)).val = (128 * th t.val + (z (1 : Fin 2)).val) % 1024
    rw [hx]
    show th t.val * 128 + 1 * (z (1 : Fin 2)).val = _
    omega

theorem iblk_1 (W : Dev nD → Valuation τ sig (Elt Ideal)) (c : Dev nD) (t : Fin (cfgA Ideal).N) :
    iblk W c (1 : Fin 7) t = tile (W c (Proc.devRef .tc main_v44)) (tj t.val) (th t.val) := by
  have hx := (index_facts (F := Ideal) t).1.2.1
  have hr := range_facts t.val (t.isLt.trans_eq N_0)
  funext z
  refine congrArg (W c (Proc.devRef .tc main_v44)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (1 : Fin 7)).index t (0 : Fin 2) * 2048 + 1 * (z (0 : Fin 2)).val = (2048 * tj t.val + (z (0 : Fin 2)).val) % 8192
    rw [hx]
    show tj t.val * 2048 + 1 * (z (0 : Fin 2)).val = _
    omega
  | ⟨1, _⟩ =>
    show ((cfgA Ideal).win (1 : Fin 7)).index t (1 : Fin 2) * 128 + 1 * (z (1 : Fin 2)).val = (128 * th t.val + (z (1 : Fin 2)).val) % 1024
    rw [hx]
    show th t.val * 128 + 1 * (z (1 : Fin 2)).val = _
    omega

theorem iblk_2 (W : Dev nD → Valuation τ sig (Elt Ideal)) (c : Dev nD) (t : Fin (cfgA Ideal).N) :
    iblk W c (2 : Fin 7) t = tile (W c (Proc.devRef .tc main_v49)) (tj t.val) (th t.val) := by
  have hx := (index_facts (F := Ideal) t).1.2.2.1
  have hr := range_facts t.val (t.isLt.trans_eq N_0)
  funext z
  refine congrArg (W c (Proc.devRef .tc main_v49)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (2 : Fin 7)).index t (0 : Fin 2) * 2048 + 1 * (z (0 : Fin 2)).val = (2048 * tj t.val + (z (0 : Fin 2)).val) % 8192
    rw [hx]
    show tj t.val * 2048 + 1 * (z (0 : Fin 2)).val = _
    omega
  | ⟨1, _⟩ =>
    show ((cfgA Ideal).win (2 : Fin 7)).index t (1 : Fin 2) * 128 + 1 * (z (1 : Fin 2)).val = (128 * th t.val + (z (1 : Fin 2)).val) % 1024
    rw [hx]
    show th t.val * 128 + 1 * (z (1 : Fin 2)).val = _
    omega

theorem iblk_3 (W : Dev nD → Valuation τ sig (Elt Ideal)) (c : Dev nD) (t : Fin (cfgA Ideal).N) :
    iblk W c (3 : Fin 7) t = tile (W c (Proc.devRef .tc main_v53)) (ti t.val) (th t.val) := by
  have hx := (index_facts (F := Ideal) t).1.2.2.2.1
  have hr := range_facts t.val (t.isLt.trans_eq N_0)
  funext z
  refine congrArg (W c (Proc.devRef .tc main_v53)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (3 : Fin 7)).index t (0 : Fin 2) * 2048 + 1 * (z (0 : Fin 2)).val = (2048 * ti t.val + (z (0 : Fin 2)).val) % 8192
    rw [hx]
    show ti t.val * 2048 + 1 * (z (0 : Fin 2)).val = _
    omega
  | ⟨1, _⟩ =>
    show ((cfgA Ideal).win (3 : Fin 7)).index t (1 : Fin 2) * 128 + 1 * (z (1 : Fin 2)).val = (128 * th t.val + (z (1 : Fin 2)).val) % 1024
    rw [hx]
    show th t.val * 128 + 1 * (z (1 : Fin 2)).val = _
    omega

theorem iblk_4 (W : Dev nD → Valuation τ sig (Elt Ideal)) (c : Dev nD) (t : Fin (cfgA Ideal).N) :
    iblk W c (4 : Fin 7) t = tile (W c (Proc.devRef .tc main_v58)) (ti t.val) (th t.val) := by
  have hx := (index_facts (F := Ideal) t).1.2.2.2.2.1
  have hr := range_facts t.val (t.isLt.trans_eq N_0)
  funext z
  refine congrArg (W c (Proc.devRef .tc main_v58)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (4 : Fin 7)).index t (0 : Fin 2) * 2048 + 1 * (z (0 : Fin 2)).val = (2048 * ti t.val + (z (0 : Fin 2)).val) % 8192
    rw [hx]
    show ti t.val * 2048 + 1 * (z (0 : Fin 2)).val = _
    omega
  | ⟨1, _⟩ =>
    show ((cfgA Ideal).win (4 : Fin 7)).index t (1 : Fin 2) * 128 + 1 * (z (1 : Fin 2)).val = (128 * th t.val + (z (1 : Fin 2)).val) % 1024
    rw [hx]
    show th t.val * 128 + 1 * (z (1 : Fin 2)).val = _
    omega

theorem iblk_5 (W : Dev nD → Valuation τ sig (Elt Ideal)) (c : Dev nD) (t : Fin (cfgA Ideal).N) :
    iblk W c (5 : Fin 7) t = tile (W c (Proc.devRef .tc main_v61)) (ti t.val) (th t.val) := by
  have hx := (index_facts (F := Ideal) t).1.2.2.2.2.2.1
  have hr := range_facts t.val (t.isLt.trans_eq N_0)
  funext z
  refine congrArg (W c (Proc.devRef .tc main_v61)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (5 : Fin 7)).index t (0 : Fin 2) * 2048 + 1 * (z (0 : Fin 2)).val = (2048 * ti t.val + (z (0 : Fin 2)).val) % 8192
    rw [hx]
    show ti t.val * 2048 + 1 * (z (0 : Fin 2)).val = _
    omega
  | ⟨1, _⟩ =>
    show ((cfgA Ideal).win (5 : Fin 7)).index t (1 : Fin 2) * 128 + 1 * (z (1 : Fin 2)).val = (128 * th t.val + (z (1 : Fin 2)).val) % 1024
    rw [hx]
    show th t.val * 128 + 1 * (z (1 : Fin 2)).val = _
    omega

variable (W : Dev nD → Valuation τ sig (Elt Ideal)) (c : Dev nD)

/-- What one column adds, of the arrays the kernel is handed. -/
abbrev termW (h r f k : ℕ) : EReal :=
  term (W c (Proc.devRef .tc main_v40)) (W c (Proc.devRef .tc main_v44)) (W c (Proc.devRef .tc main_v49)) (W c (Proc.devRef .tc main_v53)) (W c (Proc.devRef .tc main_v58)) (W c (Proc.devRef .tc main_v61)) h r f k

/-- The columns a row has been summed over when a point is done. -/
def upto (t r : ℕ) : ℕ := if tj t < ti t then 2048 * (tj t + 1) else 2048 * ti t + r + 1

/-- The accumulator when a point is done. -/
def accW (t : ℕ) : S2048x128.Idx → EReal :=
  fun y => ∑ k ∈ Finset.range (upto t (y 0).val), termW W c (th t) (2048 * ti t + (y 0).val) (y 1).val k

theorem accStep_eq (t : Fin (cfgA Ideal).N) (prev : S2048x128.Idx → EReal) (hprev : tj t.val ≠ 0 → prev = accW W c (t.val - 1)) :
    accStep W c t prev = accW W c t.val := by
  obtain ⟨-, hF, hB, hD⟩ := index_facts (F := Ideal) t
  obtain ⟨h4, hle, h8, hp⟩ := range_facts t.val (t.isLt.trans_eq N_0)
  by_cases h1 : tj t.val = 0
  · by_cases h2 : tj t.val < ti t.val
    · rw [accStep_InitFull W c t prev (hF.mpr h1) (hB.mpr h2) (fun h => by have := hD.mp h; omega), runInitFull_val,
        iblk_0, iblk_1, iblk_2, iblk_3, iblk_4, iblk_5]
      funext y
      refine (fullC_tile _ _ _ _ _ _ _ _ _ (y 0) (y 1)).trans ?_
      unfold accW upto
      rw [if_pos h2, h1]
      refine Finset.sum_congr rfl fun k _ => ?_
      rw [Nat.mul_zero, Nat.zero_add]
    · have h3 : tj t.val = ti t.val := by omega
      rw [accStep_InitDiag W c t prev (hF.mpr h1) (fun h => h2 (hB.mp h)) (hD.mpr h3), runInitDiag_val,
        iblk_0, iblk_1, iblk_2, iblk_3, iblk_4, iblk_5, h3]
      funext y
      refine (diagC_tile _ _ _ _ _ _ _ _ (y 0) (y 1)).trans ?_
      unfold accW upto
      rw [if_neg h2, ← h3, h1]
      refine Finset.sum_congr (by rw [Nat.mul_zero, Nat.zero_add]) fun k _ => ?_
      rw [Nat.mul_zero, Nat.zero_add, Nat.zero_add]
  · obtain ⟨-, e1, e2, e3⟩ := hp h1
    have h5 : tj (t.val - 1) < ti (t.val - 1) := by omega
    have hq := hprev h1
    by_cases h2 : tj t.val < ti t.val
    · rw [accStep_Full W c t prev (fun h => h1 (hF.mp h)) (hB.mpr h2) (fun h => by have := hD.mp h; omega), runFull_val,
        iblk_0, iblk_1, iblk_2, iblk_3, iblk_4, iblk_5, hq]
      funext y
      refine (congrArg (accW W c (t.val - 1) y + ·) (fullC_tile _ _ _ _ _ _ _ _ _ (y 0) (y 1))).trans ?_
      show accW W c (t.val - 1) y + _ = _
      unfold accW upto
      rw [if_pos h2, if_pos h5, e1, e2, e3, Nat.mul_add, Finset.sum_range_add]
    · have h3 : tj t.val = ti t.val := by omega
      rw [accStep_Diag W c t prev (fun h => h1 (hF.mp h)) (fun h => h2 (hB.mp h)) (hD.mpr h3), runDiag_val,
        iblk_0, iblk_1, iblk_2, iblk_3, iblk_4, iblk_5, h3, hq]
      funext y
      refine (congrArg (accW W c (t.val - 1) y + ·) (diagC_tile _ _ _ _ _ _ _ _ (y 0) (y 1))).trans ?_
      show accW W c (t.val - 1) y + _ = _
      unfold accW upto
      rw [if_neg h2, if_pos h5, e1, e2, e3, h3, Nat.add_assoc]
      exact (Finset.sum_range_add _ _ _).symm

theorem accAt_eq : ∀ (n : ℕ) (h : n < (cfgA Ideal).N), accAt W c (n + 1) = accW W c n
  | 0, h => (accAt_succ W c ⟨0, h⟩).trans (accStep_eq W c ⟨0, h⟩ _ (fun hn => absurd rfl hn))
  | n + 1, h => (accAt_succ W c ⟨n + 1, h⟩).trans (accStep_eq W c ⟨n + 1, h⟩ _ (fun _ => accAt_eq n (Nat.lt_of_succ_lt h)))

theorem outStep_eq (t : Fin (cfgA Ideal).N) (h3 : tj t.val = ti t.val) : outStep W c t (accAt W c t.val) = accW W c t.val := by
  obtain ⟨-, hF, hB, hD⟩ := index_facts (F := Ideal) t
  rw [← accAt_eq W c t.val t.isLt, accAt_succ]
  by_cases h1 : First t
  · rw [accStep_InitDiag W c t _ h1 (fun h => by have := hB.mp h; omega) (hD.mpr h3), outStep_InitDiag W c t _ h1 (fun h => by have := hB.mp h; omega) (hD.mpr h3),
      runInitDiag_val, runInitDiag_out_val]
  · rw [accStep_Diag W c t _ h1 (fun h => by have := hB.mp h; omega) (hD.mpr h3), outStep_Diag W c t _ h1 (fun h => by have := hB.mp h; omega) (hD.mpr h3),
      runDiag_val, runDiag_out_val]

/-- What the kernel leaves in its result's array. -/
def dqW : S8192x1024.Idx → EReal :=
  fun y => ∑ k ∈ Finset.range ((y 0).val + 1), termW W c ((y 1).val / 128) (y 0).val ((y 1).val % 128) k

set_option backward.isDefEq.respectTransparency.types false in
theorem arr_eq : (dats W 0 c).arrAt (6 : Fin 7) (cfgA Ideal).N = dqW W c := by
  refine (dats W 0 c).arrAt_eq_of_covers (6 : Fin 7) (dqW W c) (covers6 (F := Ideal)) fun t hf z => ?_
  have hx := (index_facts (F := Ideal) t).1.2.2.2.2.2.2
  obtain ⟨h4, hle, h8, -⟩ := range_facts t.val (t.isLt.trans_eq N_0)
  have h3 : tj t.val = ti t.val := (index_facts (F := Ideal) t).2.2.2.mp ((facts (F := Ideal) t).2.2.1.mpr hf)
  have z0 : (z (0 : Fin 2)).val < 2048 := (z (0 : Fin 2)).isLt
  have z1 : (z (1 : Fin 2)).val < 128 := (z (1 : Fin 2)).isLt
  rw [after0_6, outStep_eq W c t h3]
  have g0 : ((((cfgA Ideal).win (6 : Fin 7)).blk t).view.emb z (0 : Fin 2)).val = 2048 * ti t.val + (z (0 : Fin 2)).val := by
    show ((cfgA Ideal).win (6 : Fin 7)).index t (0 : Fin 2) * 2048 + 1 * (z (0 : Fin 2)).val = _
    rw [hx]
    show ti t.val * 2048 + 1 * (z (0 : Fin 2)).val = _
    omega
  have g1 : ((((cfgA Ideal).win (6 : Fin 7)).blk t).view.emb z (1 : Fin 2)).val = 128 * th t.val + (z (1 : Fin 2)).val := by
    show ((cfgA Ideal).win (6 : Fin 7)).index t (1 : Fin 2) * 128 + 1 * (z (1 : Fin 2)).val = _
    rw [hx]
    show th t.val * 128 + 1 * (z (1 : Fin 2)).val = _
    omega
  show accW W c t.val z = dqW W c ((((cfgA Ideal).win (6 : Fin 7)).blk t).view.emb z)
  unfold accW dqW upto
  rw [if_neg (by omega), g0, g1, show (128 * th t.val + (z (1 : Fin 2)).val) / 128 = th t.val by omega, show (128 * th t.val + (z (1 : Fin 2)).val) % 128 = (z (1 : Fin 2)).val by omega]

end Cert.KernelIdeal.Dq

end
-- ==== Proof.Attn.Real.lean ====
/-
Causal attention and its gradient over the real numbers, and how the operations on extended reals act on it.
The arrays are one device's: 8192 rows, 8 heads, 96 numbers per query and key, 64 per value.
-/
module

public import Idealize.ShloMosaic.PureOps.Ideal.Laws
public import Idealize.ShloMosaic.Lib.IdealHost
public import Idealize.ShloMosaic.Lib.Pointwise
public import Mathlib.Analysis.SpecialFunctions.Pow.Real

@[expose] public section

noncomputable section

namespace Attn

open Idealize.ShloMosaic

/-! ### Sums and literals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 128 lanes of which those from `n` on hold zero. -/
theorem sum_lanes {M : Type*} [AddCommMonoid M] (n : ℕ) (hn : n ≤ 128) (f : Fin n → M) :
    ∑ e : Fin 128, (if h : e.val < n then f ⟨e.val, h⟩ else 0) = ∑ e : Fin n, f e := by
  obtain ⟨m, hm⟩ : ∃ m, 128 = n + m := ⟨128 - n, by omega⟩
  rw [← Equiv.sum_comp (finCongr hm.symm), Fin.sum_univ_add]
  simp

/-- The scale of the scores, 1/√96 rounded to a float. -/
def scale : ℝ := (Ideal.ofBits .f32 1037108716#32 : EReal).toReal

theorem scale_eq : (Ideal.ofBits .f32 1037108716#32 : EReal) = (scale : EReal) := by
  unfold scale
  have e : (Ideal.ofBits .f32 1037108716#32 : EReal) = ((13698540 * (2 ^ 27)⁻¹ : ℝ) : EReal) := by
    simp [Ideal.ofBits, Ideal.ieee]
  rw [e, EReal.toReal_coe]

theorem two_eq : (Ideal.ofBits .f32 1073741824#32 : EReal) = ((2 : ℝ) : EReal) := by
  have e : (Ideal.ofBits .f32 1073741824#32 : EReal) = ((8388608 * (2 ^ 22)⁻¹ : ℝ) : EReal) := by
    simp [Ideal.ofBits, Ideal.ieee]
  rw [e]; norm_num

theorem ninf_eq : (Ideal.ofBits .f32 4286578688#32 : EReal) = ⊥ := by
  simp [Ideal.ofBits, Ideal.ieee]

theorem log_two : Ideal.log (Ideal.ofBits .f32 1073741824#32) = ((Real.log 2 : ℝ) : EReal) := by
  rw [two_eq, Ideal.log_coe, if_neg (by norm_num)]

theorem div_real (x : ℝ) {y : ℝ} (h : y ≠ 0) : Ideal.div (x : EReal) (y : EReal) = ((x / y : ℝ) : EReal) := by
  rw [Ideal.div_coe h, ← EReal.coe_mul]; congr 1; ring

/-- The mask's comparison of two positions. -/
theorem sel_causal (x r : Fin 8192) (X Y : EReal) :
    (Scalar.select (IntOp.cmpi CmpIPredicate.sle (BitVec.ofNat 32 x.val) (BitVec.ofNat 32 r.val)) X Y : EReal)
      = if x ≤ r then X else Y := by
  have e3 : (BitVec.ofNat 32 x.val).sle (BitVec.ofNat 32 r.val) = decide (x ≤ r) := by
    rw [BitVec.sle, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by rw [Fin.le_def]; exact_mod_cast Iff.rfl)
  by_cases hc : x ≤ r <;> simp [Scalar.select, IntOp.cmpi, e3, hc]

/-! ### The attention -/

variable (q k : Fin 8192 → Fin 8 → Fin 96 → ℝ) (v g : Fin 8192 → Fin 8 → Fin 64 → ℝ)

/-- The score of row `r` at column `c`. -/
def sco (h : Fin 8) (r c : Fin 8192) : ℝ := (∑ d, q r h d * k c h d) * scale
/-- The masked score. -/
def big (h : Fin 8) (r c : Fin 8192) : EReal := if c ≤ r then ((sco q k h r c : ℝ) : EReal) else ⊥
/-- The largest masked score of a row. -/
def top (h : Fin 8) (r : Fin 8192) : ℝ := (Finset.fold max (⊥ : EReal) (fun c => big q k h r c) Finset.univ).toReal
/-- The exponential of a score less the row's largest, zero above the diagonal. -/
def ex (h : Fin 8) (r c : Fin 8192) : ℝ := if c ≤ r then Real.exp (sco q k h r c - top q k h r) else 0
/-- A row's sum of exponentials. -/
def tot (h : Fin 8) (r : Fin 8192) : ℝ := ∑ c, ex q k h r c
/-- The cotangent of a probability. -/
def dpr (h : Fin 8) (r c : Fin 8192) : ℝ := ∑ d, g r h d * v c h d
/-- A row's sum of probabilities times their cotangents. -/
def del (h : Fin 8) (r : Fin 8192) : ℝ := ∑ c, ex q k h r c / tot q k h r * dpr v g h r c
/-- The cotangent of a masked score before its scale. -/
def ds (h : Fin 8) (r c : Fin 8192) : ℝ := ex q k h r c / tot q k h r * (dpr v g h r c - del q k v g h r)
/-- The gradient of the queries. -/
def dq (r : Fin 8192) (h : Fin 8) (f : Fin 96) : ℝ := (∑ c, ds q k v g h r c * k c h f) * scale

theorem top_eq (h : Fin 8) (r : Fin 8192) :
    Finset.fold max (⊥ : EReal) (fun c => big q k h r c) Finset.univ = ((top q k h r : ℝ) : EReal) := by
  refine (EReal.coe_toReal (ne_of_lt ?_) (ne_of_gt ?_)).symm
  · refine Finset.fold_max_lt _ |>.mpr ⟨bot_lt_top, fun c _ => ?_⟩
    unfold big; split
    · exact EReal.coe_lt_top _
    · exact bot_lt_top
  · refine Finset.lt_fold_max _ |>.mpr (.inr ⟨r, Finset.mem_univ _, ?_⟩)
    unfold big; rw [if_pos le_rfl]; exact EReal.bot_lt_coe _

theorem ex_eq (h : Fin 8) (r c : Fin 8192) :
    Ideal.exp (big q k h r c - ((top q k h r : ℝ) : EReal)) = ((ex q k h r c : ℝ) : EReal) := by
  unfold big ex
  split
  · rw [← EReal.coe_sub, Ideal.exp_coe]
  · rw [EReal.bot_sub, Ideal.exp_bot, EReal.coe_zero]

theorem ex_nonneg (h : Fin 8) (r c : Fin 8192) : 0 ≤ ex q k h r c := by
  unfold ex; split
  · exact (Real.exp_pos _).le
  · exact le_rfl

theorem tot_pos (h : Fin 8) (r : Fin 8192) : 0 < tot q k h r := by
  refine Finset.sum_pos' (fun c _ => ex_nonneg q k h r c) ⟨r, Finset.mem_univ _, ?_⟩
  unfold ex; rw [if_pos le_rfl]; exact Real.exp_pos _

theorem log_tot (h : Fin 8) (r : Fin 8192) :
    Ideal.log ((tot q k h r : ℝ) : EReal) = ((Real.log (tot q k h r) : ℝ) : EReal) := by
  rw [Ideal.log_coe, if_neg (not_le.mpr (tot_pos q k h r))]

/-- The probability at a column on or below the diagonal, as the power of two the tiled form takes. -/
theorem prob_eq (h : Fin 8) (r c : Fin 8192) (hc : c ≤ r) :
    Real.rpow 2 (sco q k h r c / Real.log 2 - (top q k h r + Real.log (tot q k h r)) / Real.log 2)
      = ex q k h r c / tot q k h r := by
  have hl : Real.log 2 ≠ 0 := (Real.log_pos (by norm_num)).ne'
  rw [show ∀ x, Real.rpow 2 x = Real.exp (Real.log 2 * x) from fun x => Real.rpow_def_of_pos (by norm_num) x]
  have e : Real.log 2 * (sco q k h r c / Real.log 2 - (top q k h r + Real.log (tot q k h r)) / Real.log 2)
      = (sco q k h r c - top q k h r) - Real.log (tot q k h r) := by field_simp; ring
  rw [e, Real.exp_sub, Real.exp_log (tot_pos q k h r)]
  unfold ex; rw [if_pos hc]

theorem ex_above (h : Fin 8) (r c : Fin 8192) (hc : ¬ c ≤ r) : ex q k h r c = 0 := by
  unfold ex; rw [if_neg hc]

/-- The row's sum by output numbers instead of columns. -/
theorem del_eq (h : Fin 8) (r : Fin 8192) :
    ∑ d, (∑ c, v c h d * (ex q k h r c / tot q k h r)) * g r h d = del q k v g h r := by
  unfold del dpr
  simp only [Finset.sum_mul, Finset.mul_sum]
  rw [Finset.sum_comm]
  exact Finset.sum_congr rfl fun c _ => Finset.sum_congr rfl fun d _ => by ring

/-- The cotangent of a masked score as the division's own derivative writes it. -/
theorem ds_eq (h : Fin 8) (r c : Fin 8192) :
    (dpr v g h r c / tot q k h r + -∑ x, dpr v g h r x * (1 / (tot q k h r * tot q k h r)) * ex q k h r x) * ex q k h r c
      = ds q k v g h r c := by
  have ht := (tot_pos q k h r).ne'
  have e : ∑ x, dpr v g h r x * (1 / (tot q k h r * tot q k h r)) * ex q k h r x = del q k v g h r / tot q k h r := by
    unfold del
    rw [Finset.sum_div]
    exact Finset.sum_congr rfl fun c _ => by field_simp
  rw [e]; unfold ds; field_simp; ring

end Attn

end

end
-- ==== Proof.Dq.Host.lean ====
/- The arrays the host prepares for the launch, at an index, at inputs that are real numbers. -/
module

public import proofs.«01_k».proof.Proof.Dq.Acc
public import proofs.«01_k».proof.Proof.Dq.Launch
public import proofs.«01_k».proof.Proof.Attn.Real
public import Idealize.ShloMosaic.Lib.StableHlo.ReadAt
public import Idealize.ShloMosaic.Lib.Pointwise
public import Idealize.ShloMosaic.Lib.Pipeline.Frame

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Words
variable (V : Valuation τ sig (Elt Ideal))

theorem q_at (r : Fin 8192) (f : Fin 1024) : preV V (Proc.devRef .tc main_v40) (ix2 r f)
    = (if hf : f.val % 128 < 96 then Ideal.div (HMul.hMul (α := EReal) (β := EReal) (γ := EReal) ((V (Proc.devRef .tc main_arg0) (ix3 r (⟨f.val / 128, by omega⟩ : Fin 8) (⟨f.val % 128, hf⟩ : Fin 96)) : EReal)) (Ideal.ofBits .f32 1037108716#32)) (Ideal.log (Ideal.ofBits .f32 1073741824#32)) else 0 : EReal) := by
  unfold preV
  after_reads_at
  after_reads_at

theorem k_at (r : Fin 8192) (f : Fin 1024) : preV V (Proc.devRef .tc main_v44) (ix2 r f) = (if hf : f.val % 128 < 96 then (V (Proc.devRef .tc main_arg1) (ix3 r (⟨f.val / 128, by omega⟩ : Fin 8) (⟨f.val % 128, hf⟩ : Fin 96)) : EReal) else 0 : EReal) := by
  unfold preV
  after_reads_at
  after_reads_at

theorem v_at (r : Fin 8192) (f : Fin 1024) : preV V (Proc.devRef .tc main_v49) (ix2 r f)
    = (if hf : f.val % 128 < 64 then (V (Proc.devRef .tc main_arg2) (ix3 r (⟨f.val / 128, by omega⟩ : Fin 8) (⟨f.val % 128, hf⟩ : Fin 64)) : EReal) else if _h : f.val % 128 - 64 < 1 then 1 else 0 : EReal) := by
  unfold preV
  after_reads_at
  after_reads_at

theorem g_at (r : Fin 8192) (f : Fin 1024) : preV V (Proc.devRef .tc main_v53) (ix2 r f) = (if hf : f.val % 128 < 64 then (V (Proc.devRef .tc main_arg3) (ix3 r (⟨f.val / 128, by omega⟩ : Fin 8) (⟨f.val % 128, hf⟩ : Fin 64)) : EReal) else 0 : EReal) := by
  unfold preV
  after_reads_at
  after_reads_at

theorem preV_split (n : ℕ) : preV V = StableHlo.after (hostOps0_2.drop n) (StableHlo.after (hostOps0_2.take n) (StableHlo.after hostOps0_1 (StableHlo.after hostOps0 V))) := by
  unfold preV
  rw [← StableHlo.after_append (hostOps0_2.take n), List.take_append_drop]

theorem l_tail (r : Fin 8192) (f : Fin 1024) : StableHlo.after (hostOps0_2.drop 14) V (Proc.devRef .tc main_v58) (ix2 r f)
    = Ideal.div (HAdd.hAdd (α := EReal) (β := EReal) (γ := EReal) (V (Proc.devRef .tc main_v16) (ix3 (⟨f.val / 128, by omega⟩ : Fin 8) r (0 : Fin 1))) (V (Proc.devRef .tc main_v26) (ix3 (⟨f.val / 128, by omega⟩ : Fin 8) r (0 : Fin 1))))
        (Ideal.log (Ideal.ofBits .f32 1073741824#32)) := by
  after_reads_at

theorem d_tail (r : Fin 8192) (f : Fin 1024) : StableHlo.after (hostOps0_2.drop 11) V (Proc.devRef .tc main_v61) (ix2 r f)
    = ∑ d : Fin 64, (HMul.hMul (α := EReal) (β := EReal) (γ := EReal) (∑ c : Fin 8192, (HMul.hMul (α := EReal) (β := EReal) (γ := EReal) (V (Proc.devRef .tc main_v2) (ix3 c (⟨f.val / 128, by omega⟩ : Fin 8) d)) (V (Proc.devRef .tc main_v23) (ix3 (⟨f.val / 128, by omega⟩ : Fin 8) r c)))) (V (Proc.devRef .tc main_v3) (ix3 r (⟨f.val / 128, by omega⟩ : Fin 8) d))) := by
  after_reads_at

theorem v2_at (c : Fin 8192) (h : Fin 8) (d : Fin 64) :
    StableHlo.after (hostOps0_2.take 11) (StableHlo.after hostOps0_1 (StableHlo.after hostOps0 V)) (Proc.devRef .tc main_v2) (ix3 c h d)
      = V (Proc.devRef .tc main_arg2) (ix3 c h d) := by
  after_reads_at

theorem v3_at (c : Fin 8192) (h : Fin 8) (d : Fin 64) :
    StableHlo.after (hostOps0_2.take 11) (StableHlo.after hostOps0_1 (StableHlo.after hostOps0 V)) (Proc.devRef .tc main_v3) (ix3 c h d)
      = V (Proc.devRef .tc main_arg3) (ix3 c h d) := by
  after_reads_at

theorem post_at (o : S8192x1024.Idx → EReal) (r : Fin 8192) (h : Fin 8) (f : Fin 96) :
    postF (F := Ideal) o (ix3 r h f) = o (ix2 r (⟨h.val * 128 + f.val, by omega⟩ : Fin 1024)) * Ideal.ofBits .f32 1037108716#32 := by
  pointwise [postF]

end Words

section Reals
variable (V : Valuation τ sig (Elt Ideal))
variable (q k : Fin 8192 → Fin 8 → Fin 96 → ℝ) (v g : Fin 8192 → Fin 8 → Fin 64 → ℝ)
variable (hq : ∀ r h d, V (Proc.devRef .tc main_arg0) (ix3 r h d) = ((q r h d : ℝ) : EReal)) (hk : ∀ r h d, V (Proc.devRef .tc main_arg1) (ix3 r h d) = ((k r h d : ℝ) : EReal))
variable (hv : ∀ r h d, V (Proc.devRef .tc main_arg2) (ix3 r h d) = ((v r h d : ℝ) : EReal)) (hg : ∀ r h d, V (Proc.devRef .tc main_arg3) (ix3 r h d) = ((g r h d : ℝ) : EReal))

include hq hk

omit hq hk in
theorem low_eq : (id (constant (F := Ideal) S_ FTy.f32 4286578688#32) Idealize.ShloMosaic.ix0 : EReal) = ⊥ := Attn.ninf_eq

theorem score_at (r c : Fin 8192) (h : Fin 8) (Y : EReal) (hY : Y = ⊥) :
    (Scalar.select (IntOp.cmpi CmpIPredicate.sle (BitVec.ofNat 32 c.val) (BitVec.ofNat 32 r.val))
      ((∑ x : Fin 96, (HMul.hMul (α := EReal) (β := EReal) (γ := EReal) (V (Proc.devRef .tc main_arg0) (ix3 r h x)) (V (Proc.devRef .tc main_arg1) (ix3 c h x)))) * Ideal.ofBits .f32 1037108716#32) Y : EReal)
      = Attn.big q k h r c := by
  rw [Attn.sel_causal, hY, Attn.scale_eq]
  simp only [hq, hk, ← EReal.coe_mul, ← Attn.coe_sum]
  rfl

theorem max_at (r : Fin 8192) (h : Fin 8) :
    StableHlo.after (hostOps0_2.take 14) (StableHlo.after hostOps0_1 (StableHlo.after hostOps0 V)) (Proc.devRef .tc main_v16) (ix3 h r (0 : Fin 1))
      = ((Attn.top q k h r : ℝ) : EReal) := by
  after_reads_at
  simp only [score_at V q k hq hk r _ h _ low_eq, Attn.ninf_eq, Attn.top_eq]

theorem sum_at (r : Fin 8192) (h : Fin 8) :
    StableHlo.after (hostOps0_2.take 14) (StableHlo.after hostOps0_1 (StableHlo.after hostOps0 V)) (Proc.devRef .tc main_v26) (ix3 h r (0 : Fin 1))
      = ((Real.log (Attn.tot q k h r) : ℝ) : EReal) := by
  after_reads_at
  simp only [score_at V q k hq hk r _ h _ low_eq, Attn.ninf_eq, Attn.top_eq, Attn.ex_eq, ← Attn.coe_sum]
  exact Attn.log_tot q k h r

theorem lse_at (r : Fin 8192) (f : Fin 1024) (h : Fin 8) (hf : f.val / 128 = h.val) : preV V (Proc.devRef .tc main_v58) (ix2 r f)
    = (((Attn.top q k h r + Real.log (Attn.tot q k h r)) / Real.log 2 : ℝ) : EReal) := by
  have e : (⟨f.val / 128, by omega⟩ : Fin 8) = h := Fin.ext hf
  rw [preV_split V 14, l_tail, e, max_at V q k hq hk, sum_at V q k hq hk, Attn.log_two, ← EReal.coe_add,
    Attn.div_real _ (Real.log_pos (by norm_num)).ne']

theorem prob_at (r c : Fin 8192) (h : Fin 8) :
    StableHlo.after (hostOps0_2.take 11) (StableHlo.after hostOps0_1 (StableHlo.after hostOps0 V)) (Proc.devRef .tc main_v23) (ix3 h r c)
      = ((Attn.ex q k h r c / Attn.tot q k h r : ℝ) : EReal) := by
  after_reads_at
  simp only [score_at V q k hq hk r _ h _ low_eq, Attn.ninf_eq, Attn.top_eq, Attn.ex_eq, ← Attn.coe_sum]
  exact Attn.div_real _ (Attn.tot_pos q k h r).ne'

include hv hg

theorem delta_at (r : Fin 8192) (f : Fin 1024) (h : Fin 8) (hf : f.val / 128 = h.val) : preV V (Proc.devRef .tc main_v61) (ix2 r f)
    = ((Attn.del q k v g h r : ℝ) : EReal) := by
  have e : (⟨f.val / 128, by omega⟩ : Fin 8) = h := Fin.ext hf
  rw [preV_split V 11, d_tail, e]
  have e2 := fun c d => (v2_at V c h d).trans (hv c h d)
  have e3 := fun c d => (v3_at V c h d).trans (hg c h d)
  rw [← Attn.del_eq, Attn.coe_sum]
  show @Eq EReal _ _
  refine Finset.sum_congr rfl fun d _ => ?_
  rw [EReal.coe_mul, Attn.coe_sum]
  refine congr (congrArg _ (Finset.sum_congr rfl fun c _ => ?_)) (e3 r d)
  rw [EReal.coe_mul]
  exact congr (congrArg _ (e2 c d)) (prob_at V q k hq hk r c h)

end Reals

end Cert.KernelIdeal.Dq

end
-- ==== Proof.Dq.Value.lean ====
/- The launch's result after the host's scale, at inputs that are real numbers: the gradient of the queries. -/
module

public import proofs.«01_k».proof.Proof.Dq.Host

@[expose] public section

set_option maxRecDepth 16384
set_option Elab.async false

noncomputable section

namespace Cert.KernelIdeal.Dq

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem row_self (r : Fin 8192) : row r.val = r := Fin.ext (Nat.mod_eq_of_lt r.isLt)
theorem lane_val (h : Fin 8) (e : ℕ) (he : e < 128) : (lane h.val e).val = 128 * h.val + e := by
  show (128 * h.val + e) % 1024 = _
  omega
theorem lane_div (h : Fin 8) (e : ℕ) (he : e < 128) : (lane h.val e).val / 128 = h.val := by
  rw [lane_val h e he]; omega
theorem lane_mod (h : Fin 8) (e : ℕ) (he : e < 128) : (lane h.val e).val % 128 = e := by
  rw [lane_val h e he]; omega

/-- A choice by the lane and one by its number within the head. -/
theorem lane_if (n : ℕ) (h : Fin 8) (e : Fin 128) (X : Fin 8 → Fin n → EReal) :
    (if hf : (lane h.val e.val).val % 128 < n then X ⟨(lane h.val e.val).val / 128, by omega⟩ ⟨(lane h.val e.val).val % 128, hf⟩ else 0)
      = if hf : e.val < n then X h ⟨e.val, hf⟩ else 0 := by
  have hd := lane_div h e.val e.isLt
  have hm := lane_mod h e.val e.isLt
  have ed : (⟨(lane h.val e.val).val / 128, by omega⟩ : Fin 8) = h := Fin.ext hd
  by_cases hf : e.val < n
  · rw [dif_pos hf, dif_pos (by omega), ed]
    congr 1
    exact Fin.ext hm
  · rw [dif_neg hf, dif_neg (by omega)]

variable (V : Valuation τ sig (Elt Ideal))
variable (q k : Fin 8192 → Fin 8 → Fin 96 → ℝ) (v g : Fin 8192 → Fin 8 → Fin 64 → ℝ)
variable (hq : ∀ r h d, V (Proc.devRef .tc main_arg0) (ix3 r h d) = ((q r h d : ℝ) : EReal)) (hk : ∀ r h d, V (Proc.devRef .tc main_arg1) (ix3 r h d) = ((k r h d : ℝ) : EReal))
variable (hv : ∀ r h d, V (Proc.devRef .tc main_arg2) (ix3 r h d) = ((v r h d : ℝ) : EReal)) (hg : ∀ r h d, V (Proc.devRef .tc main_arg3) (ix3 r h d) = ((g r h d : ℝ) : EReal))

section
include hq
theorem q_lane (r : Fin 8192) (h : Fin 8) (e : Fin 128) : preV V (Proc.devRef .tc main_v40) (ix2 r (lane h.val e.val))
    = if hf : e.val < 96 then ((q r h ⟨e.val, hf⟩ * Attn.scale / Real.log 2 : ℝ) : EReal) else 0 := by
  rw [q_at]
  refine Eq.trans ?_ (lane_if 96 h e fun h' d => ((q r h' d * Attn.scale / Real.log 2 : ℝ) : EReal))
  refine dite_congr rfl (fun hf => ?_) fun _ => rfl
  rw [hq, Attn.scale_eq, ← EReal.coe_mul, Attn.log_two, Attn.div_real _ (Real.log_pos (by norm_num)).ne']
end

section
include hk
theorem k_lane (r : Fin 8192) (h : Fin 8) (e : Fin 128) : preV V (Proc.devRef .tc main_v44) (ix2 r (lane h.val e.val))
    = if hf : e.val < 96 then ((k r h ⟨e.val, hf⟩ : ℝ) : EReal) else 0 := by
  rw [k_at]
  refine Eq.trans ?_ (lane_if 96 h e fun h' d => ((k r h' d : ℝ) : EReal))
  exact dite_congr rfl (fun hf => hk _ _ _) fun _ => rfl
end

section
include hg
theorem g_lane (r : Fin 8192) (h : Fin 8) (e : Fin 128) : preV V (Proc.devRef .tc main_v53) (ix2 r (lane h.val e.val))
    = if hf : e.val < 64 then ((g r h ⟨e.val, hf⟩ : ℝ) : EReal) else 0 := by
  rw [g_at]
  refine Eq.trans ?_ (lane_if 64 h e fun h' d => ((g r h' d : ℝ) : EReal))
  exact dite_congr rfl (fun hf => hg _ _ _) fun _ => rfl
end

section
include hv
theorem v_lane (r : Fin 8192) (h : Fin 8) (e : Fin 128) (he : e.val < 64) : preV V (Proc.devRef .tc main_v49) (ix2 r (lane h.val e.val))
    = ((v r h ⟨e.val, he⟩ : ℝ) : EReal) := by
  have hm := lane_mod h e.val e.isLt
  have ed : (⟨(lane h.val e.val).val / 128, by omega⟩ : Fin 8) = h := Fin.ext (lane_div h e.val e.isLt)
  rw [v_at, dif_pos (by omega), hv, ed]
  congr 2
  exact Fin.ext hm
end

include hq hk in
/-- The product of a row of the queries and a row of the keys, all 128 lanes. -/
theorem qk_sum (r c : Fin 8192) (h : Fin 8) :
    (∑ e : Fin 128, HMul.hMul (α := EReal) (β := EReal) (γ := EReal) (preV V (Proc.devRef .tc main_v40) (ix2 r (lane h.val e.val))) (preV V (Proc.devRef .tc main_v44) (ix2 c (lane h.val e.val))))
      = ((Attn.sco q k h r c / Real.log 2 : ℝ) : EReal) := by
  have e1 : ∀ e : Fin 128, HMul.hMul (α := EReal) (β := EReal) (γ := EReal) (preV V (Proc.devRef .tc main_v40) (ix2 r (lane h.val e.val))) (preV V (Proc.devRef .tc main_v44) (ix2 c (lane h.val e.val)))
      = if hf : e.val < 96 then (((q r h ⟨e.val, hf⟩ * Attn.scale / Real.log 2) * k c h ⟨e.val, hf⟩ : ℝ) : EReal) else 0 := by
    intro e
    rw [q_lane V q hq, k_lane V k hk]
    by_cases hf : e.val < 96
    · rw [dif_pos hf, dif_pos hf, dif_pos hf, ← EReal.coe_mul]
    · rw [dif_neg hf, dif_neg hf, dif_neg hf, mul_zero]
  rw [Finset.sum_congr rfl fun e _ => e1 e,
    Attn.sum_lanes 96 (by norm_num) fun e => (((q r h e * Attn.scale / Real.log 2) * k c h e : ℝ) : EReal), ← Attn.coe_sum]
  unfold Attn.sco
  rw [Finset.sum_mul, Finset.sum_div]
  congr 1
  exact Finset.sum_congr rfl fun d _ => by ring

include hv hg in
/-- The product of a row of the cotangents and a row of the values. -/
theorem gv_sum (r c : Fin 8192) (h : Fin 8) :
    (∑ e : Fin 128, HMul.hMul (α := EReal) (β := EReal) (γ := EReal) (preV V (Proc.devRef .tc main_v53) (ix2 r (lane h.val e.val))) (preV V (Proc.devRef .tc main_v49) (ix2 c (lane h.val e.val))))
      = ((Attn.dpr v g h r c : ℝ) : EReal) := by
  have e1 : ∀ e : Fin 128, HMul.hMul (α := EReal) (β := EReal) (γ := EReal) (preV V (Proc.devRef .tc main_v53) (ix2 r (lane h.val e.val))) (preV V (Proc.devRef .tc main_v49) (ix2 c (lane h.val e.val)))
      = if hf : e.val < 64 then ((g r h ⟨e.val, hf⟩ * v c h ⟨e.val, hf⟩ : ℝ) : EReal) else 0 := by
    intro e
    rw [g_lane V g hg]
    by_cases hf : e.val < 64
    · rw [dif_pos hf, dif_pos hf, v_lane V v hv c h e hf, ← EReal.coe_mul]
    · rw [dif_neg hf, dif_neg hf, zero_mul]
  rw [Finset.sum_congr rfl fun e _ => e1 e,
    Attn.sum_lanes 64 (by norm_num) fun e => ((g r h e * v c h e : ℝ) : EReal), ← Attn.coe_sum]
  rfl

include hq hk hv hg in
theorem term_real (r c : Fin 8192) (h : Fin 8) (f : Fin 96) (hc : c ≤ r) :
    term (preV V (Proc.devRef .tc main_v40)) (preV V (Proc.devRef .tc main_v44)) (preV V (Proc.devRef .tc main_v49)) (preV V (Proc.devRef .tc main_v53))
      (preV V (Proc.devRef .tc main_v58)) (preV V (Proc.devRef .tc main_v61)) h.val r.val f.val c.val
      = ((Attn.ds q k v g h r c * k c h f : ℝ) : EReal) := by
  have hl := lane_div h (c.val % 128) (Nat.mod_lt _ (by norm_num))
  have ek := k_lane V k hk c h ⟨f.val, by omega⟩
  rw [dif_pos f.isLt] at ek
  unfold term
  rw [row_self r, row_self c, qk_sum V q k hq hk, gv_sum V v g hv hg, lse_at V q k hq hk r _ h hl, delta_at V q k v g hq hk hv hg r _ h hl,
    ← EReal.coe_sub, ← EReal.coe_sub, Ideal.exp2_coe, Attn.prob_eq q k h r c hc, ← EReal.coe_mul]
  refine (congrArg _ ek).trans ?_
  rw [← EReal.coe_mul]
  rfl

include hq hk hv hg in
/-- The result. -/
theorem value_at (o : S8192x1024.Idx → EReal)
    (ho : ∀ y, o y = ∑ x ∈ Finset.range ((y 0).val + 1), term (preV V (Proc.devRef .tc main_v40)) (preV V (Proc.devRef .tc main_v44)) (preV V (Proc.devRef .tc main_v49)) (preV V (Proc.devRef .tc main_v53))
      (preV V (Proc.devRef .tc main_v58)) (preV V (Proc.devRef .tc main_v61)) ((y 1).val / 128) (y 0).val ((y 1).val % 128) x)
    (r : Fin 8192) (h : Fin 8) (f : Fin 96) :
    postF (F := Ideal) o (ix3 r h f) = ((Attn.dq q k v g r h f : ℝ) : EReal) := by
  have e0 : ((ix2 r (⟨h.val * 128 + f.val, by omega⟩ : Fin 1024) : S8192x1024.Idx) 0).val = r.val := rfl
  have e1 : ((ix2 r (⟨h.val * 128 + f.val, by omega⟩ : Fin 1024) : S8192x1024.Idx) 1).val = h.val * 128 + f.val := rfl
  have e2 : (h.val * 128 + f.val) / 128 = h.val := by omega
  have e3 : (h.val * 128 + f.val) % 128 = f.val := by omega
  rw [post_at, ho, e0, e1, e2, e3, Attn.scale_eq]
  have hs : ∀ x ∈ Finset.range (r.val + 1), term (preV V (Proc.devRef .tc main_v40)) (preV V (Proc.devRef .tc main_v44)) (preV V (Proc.devRef .tc main_v49)) (preV V (Proc.devRef .tc main_v53))
      (preV V (Proc.devRef .tc main_v58)) (preV V (Proc.devRef .tc main_v61)) h.val r.val f.val x
      = ((if hx : x < 8192 then Attn.ds q k v g h r ⟨x, hx⟩ * k ⟨x, hx⟩ h f else 0 : ℝ) : EReal) := by
    intro x hx
    have hx' : x < 8192 := by rw [Finset.mem_range] at hx; omega
    rw [dif_pos hx']
    exact term_real V q k v g hq hk hv hg r ⟨x, hx'⟩ h f (by rw [Fin.le_def]; rw [Finset.mem_range] at hx; exact Nat.le_of_lt_succ hx)
  rw [Finset.sum_congr rfl hs, ← Attn.coe_sum, ← EReal.coe_mul]
  congr 2
  have h1 : ∑ c : Fin 8192, Attn.ds q k v g h r c * k c h f
      = ∑ x ∈ Finset.range 8192, (if hx : x < 8192 then Attn.ds q k v g h r ⟨x, hx⟩ * k ⟨x, hx⟩ h f else 0 : ℝ) := by
    rw [Finset.sum_range]
    exact Finset.sum_congr rfl fun c _ => by rw [dif_pos c.isLt]
  rw [h1]
  refine Finset.sum_subset (fun x hx => ?_) fun x hx hn => ?_
  · rw [Finset.mem_range] at hx ⊢; omega
  · rw [Finset.mem_range] at hx hn
    rw [dif_pos hx]
    unfold Attn.ds
    rw [Attn.ex_above q k h r ⟨x, hx⟩ (by rw [Fin.le_def]; show ¬ x ≤ r.val; omega)]
    simp

end Cert.KernelIdeal.Dq

end
-- ==== Proof.Dkv.Tables.lean ====
/- The schedule of the kernel of the key and value gradients: the two prefetched tables list the ten pairs (key tile, query tile) of the
   causal triangle, each head walks them in order, and every fact of the eighty grid points that the launch needs is decided here,
   for any float values. -/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The tables and the accumulators the kernel is handed, whole. -/
abbrev tbJ : Memref sig .tc .smem S10 .i32 := Memref.whole main_c
abbrev tbI : Memref sig .tc .smem S10 .i32 := Memref.whole main_c_0
abbrev scK : Memref sig .tc .vmem S2048x128 .f32 := Memref.whole cc0_scratch0
abbrev scV : Memref sig .tc .vmem S2048x128 .f32 := Memref.whole cc0_scratch1

/-- The key tiles of the ten pairs, and their query tiles. -/
def tabJ : S10.Idx → BitVec 32 := fun x => lit0 (S10.rowMajor x)
def tabI : S10.Idx → BitVec 32 := fun x => lit1 (S10.rowMajor x)

set_option backward.proofsInPublic true in
/-- The tables' contents. -/
def pfN : pre0.Contents (Elt F) := fun | ⟨0, _⟩ => tabJ | ⟨1, _⟩ => tabI | ⟨_ + 2, h⟩ => absurd h (by simp)

/-- Every block of a window whose index is read off the tables lies inside its array. -/
abbrev Inside (f : grid0.Coords → Fin 2 → ℕ) (b A : Shape) (hb : b.rank = 2) (hA : A.rank = 2) : Prop :=
  ∀ i : grid0.Coords, ∀ a : Fin 2, (f i a + 1) * b.size (a.cast hb.symm) ≤ A.size (a.cast hA.symm)

theorem inb0 : Inside (cc0_transform_0 k0_off1_inb numel1_S1 (pfN (F := F))) S2048x128 S8192x1024 rfl rfl := of_decide_eq_true (by sl_kernel_rfl)
theorem inb1 : Inside (cc0_transform_1 k0_off1_inb numel1_S1 (pfN (F := F))) S2048x128 S8192x1024 rfl rfl := of_decide_eq_true (by sl_kernel_rfl)
theorem inb2 : Inside (cc0_transform_2 k0_off1_inb numel1_S1 (pfN (F := F))) S2048x128 S8192x1024 rfl rfl := of_decide_eq_true (by sl_kernel_rfl)
theorem inb3 : Inside (cc0_transform_3 k0_off1_inb numel1_S1 (pfN (F := F))) S2048x128 S8192x1024 rfl rfl := of_decide_eq_true (by sl_kernel_rfl)
theorem inb4 : Inside (cc0_transform_4 k0_off1_inb numel1_S1 (pfN (F := F))) S8x2048 S64x8192 rfl rfl := of_decide_eq_true (by sl_kernel_rfl)
theorem inb5 : Inside (cc0_transform_5 k0_off1_inb numel1_S1 (pfN (F := F))) S8x2048 S1024x8192 rfl rfl := of_decide_eq_true (by sl_kernel_rfl)
theorem inb6 : Inside (cc0_transform_6 k0_off1_inb numel1_S1 (pfN (F := F))) S2048x128 S8192x1024 rfl rfl := of_decide_eq_true (by sl_kernel_rfl)
theorem inb7 : Inside (cc0_transform_7 k0_off1_inb numel1_S1 (pfN (F := F))) S2048x128 S8192x1024 rfl rfl := of_decide_eq_true (by sl_kernel_rfl)

/-- A block of whole rows and lanes starts and ends at whole words. -/
theorem words_bf16 {f : Fin 2 → ℕ} (h : ∀ a, (f a + 1) * S2048x128.size a ≤ S8192x1024.size a) :
    EltTy.bits .bf16 = 32 ∨ (Rect.block (s := S8192x1024) S2048x128.size f h).WholeWords (EltTy.packing .bf16) :=
  .inr (Affine.block_words_dvd (s := S8192x1024) (p := EltTy.packing .bf16) (by decide) (by decide))

/-- The tables are admissible. -/
theorem ok_pfN : ok0 (F := F) pfN :=
  ⟨fun i => ⟨inb0 i, words_bf16 _⟩, fun i => ⟨inb1 i, words_bf16 _⟩, fun i => ⟨inb2 i, words_bf16 _⟩, fun i => ⟨inb3 i, words_bf16 _⟩,
    fun i => ⟨inb4 i, .inl rfl⟩, fun i => ⟨inb5 i, .inl rfl⟩, fun i => ⟨inb6 i, words_bf16 _⟩,
    fun i => ⟨inb7 i, words_bf16 _⟩⟩

variable (F) in
/-- The pipeline at these tables. -/
def adm : (pcfg0 (F := F)).Adm := ⟨pfN, ok_pfN⟩
variable (F) in
abbrev cfgA : Pipeline.Cfg sig Λ₀ := cfg0 (F := F) (adm F)
variable (F) in
abbrev pcs : Fin 1 → Pipeline.Cfg sig Λ₀ := Pipeline.pin (pcfgs (F := F)) fun _ => adm F

/-- Point `t`'s coordinates. -/
abbrev crd (t : Fin (cfgA F).N) : (cfgA F).grid.Coords := (cfgA F).grid.coords t

/-- The words the body loads at a point: the pair's key tile and query tile. -/
abbrev wJ (i : grid0.Coords) : BitVec 32 := View.readAt (Elt F) tbJ.view (Rect.unit (s := S10) (k0_off1 i) S1.size (k0_off1_inb i)).toLoadRect tabJ (Shape.Idx.first (numel1_S1.symm ▸ Nat.one_pos))
abbrev wI (i : grid0.Coords) : BitVec 32 := View.readAt (Elt F) tbI.view (Rect.unit (s := S10) (k0_off1 i) S1.size (k0_off1_inb i)).toLoadRect tabI (Shape.Idx.first (numel1_S1.symm ▸ Nat.one_pos))

/-- The body's three decisions: the diagonal tile, a query tile after the diagonal, the last query tile. -/
abbrev Diag (t : Fin (cfgA F).N) : Prop := Scalar.cmpi .ne (Scalar.extui (Scalar.cmpi .eq (wI (F := F) (crd t)) (wJ (F := F) (crd t)))) 0#32 = 1#1
abbrev After (t : Fin (cfgA F).N) : Prop := Scalar.cmpi .ne (Scalar.extui (Scalar.cmpi .sgt (wI (F := F) (crd t)) (wJ (F := F) (crd t)))) 0#32 = 1#1
abbrev Last (t : Fin (cfgA F).N) : Prop := k0_cond4 (wI (F := F) (crd t)) = 1#1

/-- What the launch needs of a point: a tile is after the diagonal or on it, not both; only at the last query tile are the results
    stored and written back; only the first point of all, which is a diagonal tile, finds the accumulators undetermined. -/
abbrev PointFacts (t : Fin (cfgA F).N) : Prop :=
  ((After t ∧ ¬ Diag t) ∨ (¬ After t ∧ Diag t))
  ∧ (Last t ↔ (cfgA F).idle (6 : Fin 8) ((cfgA F).grid.coords t) = false)
  ∧ (Last t ↔ ((cfgA F).win (6 : Fin 8)).flush t = true)
  ∧ (Last t ↔ (cfgA F).idle (7 : Fin 8) ((cfgA F).grid.coords t) = false)
  ∧ (Last t ↔ ((cfgA F).win (7 : Fin 8)).flush t = true)
  ∧ (t.val = 0 → Diag t)

/-- Some range of points at a time. -/
abbrev FactsFrom (a : ℕ) : Prop := ∀ t : Fin (cfgA F).N, a ≤ t.val → t.val < a + 20 → PointFacts t

theorem facts_0 : FactsFrom (F := F) 0 := of_decide_eq_true (by sl_kernel_rfl)
theorem facts_20 : FactsFrom (F := F) 20 := of_decide_eq_true (by sl_kernel_rfl)
theorem facts_40 : FactsFrom (F := F) 40 := of_decide_eq_true (by sl_kernel_rfl)
theorem facts_60 : FactsFrom (F := F) 60 := of_decide_eq_true (by sl_kernel_rfl)

theorem facts (t : Fin (cfgA F).N) : PointFacts t := by
  have hN : t.val < 80 := t.isLt.trans_eq N_0
  rcases Nat.lt_or_ge t.val 20 with h1 | h1
  · exact facts_0 t (Nat.zero_le _) h1
  rcases Nat.lt_or_ge t.val 40 with h2 | h2
  · exact facts_20 t h1 h2
  rcases Nat.lt_or_ge t.val 60 with h3 | h3
  · exact facts_40 t h2 h3
  · exact facts_60 t h3 hN

end Cert.Kernel2Ideal.Dkv

end
-- ==== Proof.Dkv.Runs.lean ====
/- The body of the kernel of the key and value gradients, run once for each way its decisions can fall, for any float values. A run
   finds what the body leaves in the two accumulators, and in the results' blocks where it stores them. -/
module

public import proofs.«01_k».proof.Proof.Dkv.Tables

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A buffer of each result's block, through which its contents are stated. -/
abbrev VK : View sig .tc .vmem S2048x128 .bf16 := (Memref.whole cc0_stg6_0 : Memref sig .tc .vmem S2048x128 .bf16).view
abbrev VV : View sig .tc .vmem S2048x128 .bf16 := (Memref.whole cc0_stg7_0 : Memref sig .tc .vmem S2048x128 .bf16).view

/-- The words loaded from the tables, and the decisions on them. -/
abbrev ldJ (T0 : S10.Idx → Elt F .i32) (i : grid0.Coords) : BitVec 32 := View.readAt (Elt F) tbJ.view (Rect.unit (s := S10) (k0_off1 i) S1.size (k0_off1_inb i)).toLoadRect T0 (Shape.Idx.first (numel1_S1.symm ▸ Nat.one_pos))
abbrev ldI (T1 : S10.Idx → Elt F .i32) (i : grid0.Coords) : BitVec 32 := View.readAt (Elt F) tbI.view (Rect.unit (s := S10) (k0_off1 i) S1.size (k0_off1_inb i)).toLoadRect T1 (Shape.Idx.first (numel1_S1.symm ▸ Nat.one_pos))
abbrev IsDiag (T0 T1 : S10.Idx → Elt F .i32) (i : grid0.Coords) : Prop := Scalar.cmpi .ne (Scalar.extui (Scalar.cmpi .eq (ldI T1 i) (ldJ T0 i))) 0#32 = 1#1
abbrev IsAfter (T0 T1 : S10.Idx → Elt F .i32) (i : grid0.Coords) : Prop := Scalar.cmpi .ne (Scalar.extui (Scalar.cmpi .sgt (ldI T1 i) (ldJ T0 i))) 0#32 = 1#1
abbrev IsLast (T1 : S10.Idx → Elt F .i32) (i : grid0.Coords) : Prop := k0_cond4 (ldI T1 i) = 1#1

variable (c : Dev nD) (i : grid0.Coords) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S8x2048 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole)
  (T0 T1 : S10.Idx → Elt F .i32) (x0 x1 x2 x3 : S2048x128.Idx → Elt F .bf16) (x4 x5 : S8x2048.Idx → Elt F .f32)

/-- The body at a point, on these buffers. -/
abbrev bodyOn : Prog (TpuEff nD τ sig (Elt F) Λ₀ .tc) PUnit :=
  cc0_mla_flash_dkv i tbJ (Memref.isWhole_whole _) tbI (Memref.isWhole_whole _) arg4 harg4 arg5 harg5 arg6 harg6 arg7 harg7 arg8 harg8 arg9 harg9 arg10 harg10 arg11 harg11 scK (Memref.isWhole_whole _) scV (Memref.isWhole_whole _)

/-- The blocks and the tables the body reads. -/
abbrev reads : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tbJ.view.loc (c : Thread nD τ) ↦{fullShare.right} T0)
    ∗ (tbI.view.loc (c : Thread nD τ) ↦{fullShare.right} T1))

set_option backward.proofsInPublic true in
set_option maxHeartbeats 8000000 in
/-- A diagonal tile with more query tiles to come: the accumulators start at zero and the diagonal tile is added. -/
def runStart (h1 : IsDiag T0 T1 i) (h2 : ¬IsAfter T0 T1 i) (h3 : ¬IsLast T1 i) :
    Σ' (dk : Buf (Elt F) ((c : Thread nD τ).loc cc0_scratch0)), { dv : Buf (Elt F) ((c : Thread nD τ).loc cc0_scratch1) //
      ∀ (y z : S2048x128.Idx → Elt F .bf16) (xk : Buf (Elt F) ((c : Thread nD τ).loc cc0_scratch0)) (xv : Buf (Elt F) ((c : Thread nD τ).loc cc0_scratch1)) (K : PUnit → sProp 𝕄), iprop(reads c arg4 arg5 arg6 arg7 arg8 arg9 T0 T1 x0 x1 x2 x3 x4 x5 ∗ owns (c : Thread nD τ) arg10 fullShare y ∗ owns (c : Thread nD τ) arg11 fullShare z ∗ (scK.view.loc (c : Thread nD τ) ↦{fullShare} xk) ∗ (scV.view.loc (c : Thread nD τ) ↦{fullShare} xv)
            ∗ (iprop(reads c arg4 arg5 arg6 arg7 arg8 arg9 T0 T1 x0 x1 x2 x3 x4 x5 ∗ owns (c : Thread nD τ) arg10 fullShare y ∗ owns (c : Thread nD τ) arg11 fullShare z ∗ (scK.view.loc (c : Thread nD τ) ↦{fullShare} dk) ∗ (scV.view.loc (c : Thread nD τ) ↦{fullShare} dv)) -∗ K ⟨⟩))
          ⊢ wp frame (wpE (defs₀ (F := F)) Variants.none c none) Set.univ (bodyOn i arg4 harg4 arg5 harg5 arg6 harg6 arg7 harg7 arg8 harg8 arg9 harg9 arg10 harg10 arg11 harg11) K } :=
  ⟨_, _, fun y z xk xv K => by
    unfold owns reads bodyOn
    rw [cc0_mla_flash_dkv_eq_skeleton]; unfold cc0_mla_flash_dkv_skel
    iintro ⟨⟨H0, H1, H2, H3, H4, H5, HT0, HT1⟩, ⟨%f6, %hf6, HO⟩, ⟨%f7, %hf7, HP⟩, HS, HW, Hk⟩
    obtain rfl := harg10.eq_unread hf6
    obtain rfl := harg11.eq_unread hf7
    have hS : scK.IsWhole := Memref.isWhole_whole _
    have hW : scV.IsWhole := Memref.isWhole_whole _
    have hT0 : tbJ.IsWhole := Memref.isWhole_whole _
    have hT1 : tbI.IsWhole := Memref.isWhole_whole _
    sl_exec! (disch := first | (guard_target = Scalar.cmpi = _; exact h1) | (guard_target = ¬(Scalar.cmpi = _); exact h2) | (guard_target = ¬(k0_cond4 _ = _); exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; isplitr; · ipureintro; exact harg10.read_unread _
      iexact HO
    isplitl [HP]
    · iexists _; isplitr; · ipureintro; exact harg11.read_unread _
      iexact HP
    isplitl [HS]; · iexact HS
    iexact HW⟩

set_option backward.proofsInPublic true in
set_option maxHeartbeats 8000000 in
/-- The diagonal tile that is also the last: the accumulators start at zero, the diagonal tile is added, the results stored. -/
def runOnly (h1 : IsDiag T0 T1 i) (h2 : ¬IsAfter T0 T1 i) (h3 : IsLast T1 i) :
    Σ' (ok : List (View.Piece (Elt F) S2048x128 .bf16)), Σ' (ov : List (View.Piece (Elt F) S2048x128 .bf16)), Σ' (dk : Buf (Elt F) ((c : Thread nD τ).loc cc0_scratch0)), { dv : Buf (Elt F) ((c : Thread nD τ).loc cc0_scratch1) //
      ∀ (xk : Buf (Elt F) ((c : Thread nD τ).loc cc0_scratch0)) (xv : Buf (Elt F) ((c : Thread nD τ).loc cc0_scratch1)) (K : PUnit → sProp 𝕄), iprop(reads c arg4 arg5 arg6 arg7 arg8 arg9 T0 T1 x0 x1 x2 x3 x4 x5 ∗ (∃ d, owns (c : Thread nD τ) arg10 fullShare d) ∗ (∃ d, owns (c : Thread nD τ) arg11 fullShare d) ∗ (scK.view.loc (c : Thread nD τ) ↦{fullShare} xk) ∗ (scV.view.loc (c : Thread nD τ) ↦{fullShare} xv)
            ∗ (iprop(reads c arg4 arg5 arg6 arg7 arg8 arg9 T0 T1 x0 x1 x2 x3 x4 x5 ∗ (∃ f, arg10.view.loc (c : Thread nD τ) ↦[arg10.view.set]{fullShare} arg10.view.writes (Elt F) f ok) ∗ (∃ f, arg11.view.loc (c : Thread nD τ) ↦[arg11.view.set]{fullShare} arg11.view.writes (Elt F) f ov) ∗ (scK.view.loc (c : Thread nD τ) ↦{fullShare} dk) ∗ (scV.view.loc (c : Thread nD τ) ↦{fullShare} dv)) -∗ K ⟨⟩))
          ⊢ wp frame (wpE (defs₀ (F := F)) Variants.none c none) Set.univ (bodyOn i arg4 harg4 arg5 harg5 arg6 harg6 arg7 harg7 arg8 harg8 arg9 harg9 arg10 harg10 arg11 harg11) K } :=
  ⟨_, _, _, _, fun xk xv K => by
    unfold owns reads bodyOn
    rw [cc0_mla_flash_dkv_eq_skeleton]; unfold cc0_mla_flash_dkv_skel
    iintro ⟨⟨H0, H1, H2, H3, H4, H5, HT0, HT1⟩, ⟨%d6, %f6, -, HO⟩, ⟨%d7, %f7, -, HP⟩, HS, HW, Hk⟩
    have hS : scK.IsWhole := Memref.isWhole_whole _
    have hW : scV.IsWhole := Memref.isWhole_whole _
    have hT0 : tbJ.IsWhole := Memref.isWhole_whole _
    have hT1 : tbI.IsWhole := Memref.isWhole_whole _
    sl_exec! (disch := first | (guard_target = Scalar.cmpi = _; exact h1) | (guard_target = ¬(Scalar.cmpi = _); exact h2) | (guard_target = k0_cond4 _ = _; exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; iexact HO
    isplitl [HP]
    · iexists _; iexact HP
    isplitl [HS]; · iexact HS
    iexact HW⟩

set_option backward.proofsInPublic true in
set_option maxHeartbeats 8000000 in
/-- A tile after the diagonal: the whole tile is added to what the accumulators held. -/
def runMid (xk : Buf (Elt F) ((c : Thread nD τ).loc cc0_scratch0)) (xv : Buf (Elt F) ((c : Thread nD τ).loc cc0_scratch1)) (h1 : ¬IsDiag T0 T1 i) (h2 : IsAfter T0 T1 i) (h3 : ¬IsLast T1 i) :
    Σ' (dk : Buf (Elt F) ((c : Thread nD τ).loc cc0_scratch0)), { dv : Buf (Elt F) ((c : Thread nD τ).loc cc0_scratch1) //
      ∀ (y z : S2048x128.Idx → Elt F .bf16) (K : PUnit → sProp 𝕄), iprop(reads c arg4 arg5 arg6 arg7 arg8 arg9 T0 T1 x0 x1 x2 x3 x4 x5 ∗ owns (c : Thread nD τ) arg10 fullShare y ∗ owns (c : Thread nD τ) arg11 fullShare z ∗ (scK.view.loc (c : Thread nD τ) ↦{fullShare} xk) ∗ (scV.view.loc (c : Thread nD τ) ↦{fullShare} xv)
            ∗ (iprop(reads c arg4 arg5 arg6 arg7 arg8 arg9 T0 T1 x0 x1 x2 x3 x4 x5 ∗ owns (c : Thread nD τ) arg10 fullShare y ∗ owns (c : Thread nD τ) arg11 fullShare z ∗ (scK.view.loc (c : Thread nD τ) ↦{fullShare} dk) ∗ (scV.view.loc (c : Thread nD τ) ↦{fullShare} dv)) -∗ K ⟨⟩))
          ⊢ wp frame (wpE (defs₀ (F := F)) Variants.none c none) Set.univ (bodyOn i arg4 harg4 arg5 harg5 arg6 harg6 arg7 harg7 arg8 harg8 arg9 harg9 arg10 harg10 arg11 harg11) K } :=
  ⟨_, _, fun y z K => by
    unfold owns reads bodyOn
    rw [cc0_mla_flash_dkv_eq_skeleton]; unfold cc0_mla_flash_dkv_skel
    iintro ⟨⟨H0, H1, H2, H3, H4, H5, HT0, HT1⟩, ⟨%f6, %hf6, HO⟩, ⟨%f7, %hf7, HP⟩, HS, HW, Hk⟩
    obtain rfl := harg10.eq_unread hf6
    obtain rfl := harg11.eq_unread hf7
    have hS : scK.IsWhole := Memref.isWhole_whole _
    have hW : scV.IsWhole := Memref.isWhole_whole _
    have hT0 : tbJ.IsWhole := Memref.isWhole_whole _
    have hT1 : tbI.IsWhole := Memref.isWhole_whole _
    sl_exec! (disch := first | (guard_target = ¬(Scalar.cmpi = _); exact h1) | (guard_target = Scalar.cmpi = _; exact h2) | (guard_target = ¬(k0_cond4 _ = _); exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; isplitr; · ipureintro; exact harg10.read_unread _
      iexact HO
    isplitl [HP]
    · iexists _; isplitr; · ipureintro; exact harg11.read_unread _
      iexact HP
    isplitl [HS]; · iexact HS
    iexact HW⟩

set_option backward.proofsInPublic true in
set_option maxHeartbeats 8000000 in
/-- The last query tile, after the diagonal: the whole tile is added to what the accumulators held, the results stored. -/
def runLast (xk : Buf (Elt F) ((c : Thread nD τ).loc cc0_scratch0)) (xv : Buf (Elt F) ((c : Thread nD τ).loc cc0_scratch1)) (h1 : ¬IsDiag T0 T1 i) (h2 : IsAfter T0 T1 i) (h3 : IsLast T1 i) :
    Σ' (ok : List (View.Piece (Elt F) S2048x128 .bf16)), Σ' (ov : List (View.Piece (Elt F) S2048x128 .bf16)), Σ' (dk : Buf (Elt F) ((c : Thread nD τ).loc cc0_scratch0)), { dv : Buf (Elt F) ((c : Thread nD τ).loc cc0_scratch1) //
      ∀ (K : PUnit → sProp 𝕄), iprop(reads c arg4 arg5 arg6 arg7 arg8 arg9 T0 T1 x0 x1 x2 x3 x4 x5 ∗ (∃ d, owns (c : Thread nD τ) arg10 fullShare d) ∗ (∃ d, owns (c : Thread nD τ) arg11 fullShare d) ∗ (scK.view.loc (c : Thread nD τ) ↦{fullShare} xk) ∗ (scV.view.loc (c : Thread nD τ) ↦{fullShare} xv)
            ∗ (iprop(reads c arg4 arg5 arg6 arg7 arg8 arg9 T0 T1 x0 x1 x2 x3 x4 x5 ∗ (∃ f, arg10.view.loc (c : Thread nD τ) ↦[arg10.view.set]{fullShare} arg10.view.writes (Elt F) f ok) ∗ (∃ f, arg11.view.loc (c : Thread nD τ) ↦[arg11.view.set]{fullShare} arg11.view.writes (Elt F) f ov) ∗ (scK.view.loc (c : Thread nD τ) ↦{fullShare} dk) ∗ (scV.view.loc (c : Thread nD τ) ↦{fullShare} dv)) -∗ K ⟨⟩))
          ⊢ wp frame (wpE (defs₀ (F := F)) Variants.none c none) Set.univ (bodyOn i arg4 harg4 arg5 harg5 arg6 harg6 arg7 harg7 arg8 harg8 arg9 harg9 arg10 harg10 arg11 harg11) K } :=
  ⟨_, _, _, _, fun K => by
    unfold owns reads bodyOn
    rw [cc0_mla_flash_dkv_eq_skeleton]; unfold cc0_mla_flash_dkv_skel
    iintro ⟨⟨H0, H1, H2, H3, H4, H5, HT0, HT1⟩, ⟨%d6, %f6, -, HO⟩, ⟨%d7, %f7, -, HP⟩, HS, HW, Hk⟩
    have hS : scK.IsWhole := Memref.isWhole_whole _
    have hW : scV.IsWhole := Memref.isWhole_whole _
    have hT0 : tbJ.IsWhole := Memref.isWhole_whole _
    have hT1 : tbI.IsWhole := Memref.isWhole_whole _
    sl_exec! (disch := first | (guard_target = ¬(Scalar.cmpi = _); exact h1) | (guard_target = Scalar.cmpi = _; exact h2) | (guard_target = k0_cond4 _ = _; exact h3))
    sl_step
    iapply Hk
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HO]
    · iexists _; iexact HO
    isplitl [HP]
    · iexists _; iexact HP
    isplitl [HS]; · iexact HS
    iexact HW⟩

/-- The stored pieces tile the key gradient's block. -/
theorem runOnly_coverK (h1 : IsDiag T0 T1 i) (h2 : ¬IsAfter T0 T1 i) (h3 : IsLast T1 i) (y : S2048x128.Idx) :
    ∃ pc ∈ (runOnly c i arg4 harg4 arg5 harg5 arg6 harg6 arg7 harg7 arg8 harg8 arg9 harg9 arg10 harg10 arg11 harg11 T0 T1 x0 x1 x2 x3 x4 x5 h1 h2 h3).1, y ∈ pc.1.set :=
  View.cover_of_tiledL (runOnly c i arg4 harg4 arg5 harg5 arg6 harg6 arg7 harg7 arg8 harg8 arg9 harg9 arg10 harg10 arg11 harg11 T0 T1 x0 x1 x2 x3 x4 x5 h1 h2 h3).1 S2048x128.size (by sl_kernel_rfl) y

/-- What the key gradient's block then holds. -/
def runOnly_outK (h1 : IsDiag T0 T1 i) (h2 : ¬IsAfter T0 T1 i) (h3 : IsLast T1 i) : S2048x128.Idx → Elt F .bf16 :=
  VK.read (Elt F) (VK.writes (Elt F) VK.junk (runOnly c i arg4 harg4 arg5 harg5 arg6 harg6 arg7 harg7 arg8 harg8 arg9 harg9 arg10 harg10 arg11 harg11 T0 T1 x0 x1 x2 x3 x4 x5 h1 h2 h3).1)

/-- The stored pieces tile the value gradient's block. -/
theorem runOnly_coverV (h1 : IsDiag T0 T1 i) (h2 : ¬IsAfter T0 T1 i) (h3 : IsLast T1 i) (y : S2048x128.Idx) :
    ∃ pc ∈ (runOnly c i arg4 harg4 arg5 harg5 arg6 harg6 arg7 harg7 arg8 harg8 arg9 harg9 arg10 harg10 arg11 harg11 T0 T1 x0 x1 x2 x3 x4 x5 h1 h2 h3).2.1, y ∈ pc.1.set :=
  View.cover_of_tiledL (runOnly c i arg4 harg4 arg5 harg5 arg6 harg6 arg7 harg7 arg8 harg8 arg9 harg9 arg10 harg10 arg11 harg11 T0 T1 x0 x1 x2 x3 x4 x5 h1 h2 h3).2.1 S2048x128.size (by sl_kernel_rfl) y

/-- What the value gradient's block then holds. -/
def runOnly_outV (h1 : IsDiag T0 T1 i) (h2 : ¬IsAfter T0 T1 i) (h3 : IsLast T1 i) : S2048x128.Idx → Elt F .bf16 :=
  VV.read (Elt F) (VV.writes (Elt F) VV.junk (runOnly c i arg4 harg4 arg5 harg5 arg6 harg6 arg7 harg7 arg8 harg8 arg9 harg9 arg10 harg10 arg11 harg11 T0 T1 x0 x1 x2 x3 x4 x5 h1 h2 h3).2.1)

/-- The stored pieces tile the key gradient's block. -/
theorem runLast_coverK (xk : Buf (Elt F) ((c : Thread nD τ).loc cc0_scratch0)) (xv : Buf (Elt F) ((c : Thread nD τ).loc cc0_scratch1)) (h1 : ¬IsDiag T0 T1 i) (h2 : IsAfter T0 T1 i) (h3 : IsLast T1 i) (y : S2048x128.Idx) :
    ∃ pc ∈ (runLast c i arg4 harg4 arg5 harg5 arg6 harg6 arg7 harg7 arg8 harg8 arg9 harg9 arg10 harg10 arg11 harg11 T0 T1 x0 x1 x2 x3 x4 x5 xk xv h1 h2 h3).1, y ∈ pc.1.set :=
  View.cover_of_tiledL (runLast c i arg4 harg4 arg5 harg5 arg6 harg6 arg7 harg7 arg8 harg8 arg9 harg9 arg10 harg10 arg11 harg11 T0 T1 x0 x1 x2 x3 x4 x5 xk xv h1 h2 h3).1 S2048x128.size (by sl_kernel_rfl) y

/-- What the key gradient's block then holds. -/
def runLast_outK (xk : Buf (Elt F) ((c : Thread nD τ).loc cc0_scratch0)) (xv : Buf (Elt F) ((c : Thread nD τ).loc cc0_scratch1)) (h1 : ¬IsDiag T0 T1 i) (h2 : IsAfter T0 T1 i) (h3 : IsLast T1 i) : S2048x128.Idx → Elt F .bf16 :=
  VK.read (Elt F) (VK.writes (Elt F) VK.junk (runLast c i arg4 harg4 arg5 harg5 arg6 harg6 arg7 harg7 arg8 harg8 arg9 harg9 arg10 harg10 arg11 harg11 T0 T1 x0 x1 x2 x3 x4 x5 xk xv h1 h2 h3).1)

/-- The stored pieces tile the value gradient's block. -/
theorem runLast_coverV (xk : Buf (Elt F) ((c : Thread nD τ).loc cc0_scratch0)) (xv : Buf (Elt F) ((c : Thread nD τ).loc cc0_scratch1)) (h1 : ¬IsDiag T0 T1 i) (h2 : IsAfter T0 T1 i) (h3 : IsLast T1 i) (y : S2048x128.Idx) :
    ∃ pc ∈ (runLast c i arg4 harg4 arg5 harg5 arg6 harg6 arg7 harg7 arg8 harg8 arg9 harg9 arg10 harg10 arg11 harg11 T0 T1 x0 x1 x2 x3 x4 x5 xk xv h1 h2 h3).2.1, y ∈ pc.1.set :=
  View.cover_of_tiledL (runLast c i arg4 harg4 arg5 harg5 arg6 harg6 arg7 harg7 arg8 harg8 arg9 harg9 arg10 harg10 arg11 harg11 T0 T1 x0 x1 x2 x3 x4 x5 xk xv h1 h2 h3).2.1 S2048x128.size (by sl_kernel_rfl) y

/-- What the value gradient's block then holds. -/
def runLast_outV (xk : Buf (Elt F) ((c : Thread nD τ).loc cc0_scratch0)) (xv : Buf (Elt F) ((c : Thread nD τ).loc cc0_scratch1)) (h1 : ¬IsDiag T0 T1 i) (h2 : IsAfter T0 T1 i) (h3 : IsLast T1 i) : S2048x128.Idx → Elt F .bf16 :=
  VV.read (Elt F) (VV.writes (Elt F) VV.junk (runLast c i arg4 harg4 arg5 harg5 arg6 harg6 arg7 harg7 arg8 harg8 arg9 harg9 arg10 harg10 arg11 harg11 T0 T1 x0 x1 x2 x3 x4 x5 xk xv h1 h2 h3).2.1)

end Cert.Kernel2Ideal.Dkv

end
-- ==== Proof.Dkv.Body.lean ====
/- What the two accumulators hold along the eighty grid points, and the kernel's body at each of them: the inputs' blocks are found and
   left in place, the accumulators move one tile on, a last tile leaves its key tile's results. -/
module

public import proofs.«01_k».proof.Proof.Dkv.Runs

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Window 0's staging buffer at a point. -/
abbrev ms0_0 (t : Fin (cfgA F).N) : Memref sig .tc .vmem S2048x128 .bf16 := spec0_0.stage ((cfgA F).slots t (0 : Fin 8))
theorem hs0_0 (t : Fin (cfgA F).N) : (ms0_0 t).IsWhole := hstage0_0 (((cfgA F).slots t (0 : Fin 8)).cast nbuf0_0)
/-- Window 1's staging buffer at a point. -/
abbrev ms0_1 (t : Fin (cfgA F).N) : Memref sig .tc .vmem S2048x128 .bf16 := spec0_1.stage ((cfgA F).slots t (1 : Fin 8))
theorem hs0_1 (t : Fin (cfgA F).N) : (ms0_1 t).IsWhole := hstage0_1 (((cfgA F).slots t (1 : Fin 8)).cast nbuf0_1)
/-- Window 2's staging buffer at a point. -/
abbrev ms0_2 (t : Fin (cfgA F).N) : Memref sig .tc .vmem S2048x128 .bf16 := spec0_2.stage ((cfgA F).slots t (2 : Fin 8))
theorem hs0_2 (t : Fin (cfgA F).N) : (ms0_2 t).IsWhole := hstage0_2 (((cfgA F).slots t (2 : Fin 8)).cast nbuf0_2)
/-- Window 3's staging buffer at a point. -/
abbrev ms0_3 (t : Fin (cfgA F).N) : Memref sig .tc .vmem S2048x128 .bf16 := spec0_3.stage ((cfgA F).slots t (3 : Fin 8))
theorem hs0_3 (t : Fin (cfgA F).N) : (ms0_3 t).IsWhole := hstage0_3 (((cfgA F).slots t (3 : Fin 8)).cast nbuf0_3)
/-- Window 4's staging buffer at a point. -/
abbrev ms0_4 (t : Fin (cfgA F).N) : Memref sig .tc .vmem S8x2048 .f32 := spec0_4.stage ((cfgA F).slots t (4 : Fin 8))
theorem hs0_4 (t : Fin (cfgA F).N) : (ms0_4 t).IsWhole := hstage0_4 (((cfgA F).slots t (4 : Fin 8)).cast nbuf0_4)
/-- Window 5's staging buffer at a point. -/
abbrev ms0_5 (t : Fin (cfgA F).N) : Memref sig .tc .vmem S8x2048 .f32 := spec0_5.stage ((cfgA F).slots t (5 : Fin 8))
theorem hs0_5 (t : Fin (cfgA F).N) : (ms0_5 t).IsWhole := hstage0_5 (((cfgA F).slots t (5 : Fin 8)).cast nbuf0_5)
/-- Window 6's staging buffer at a point. -/
abbrev ms0_6 (t : Fin (cfgA F).N) : Memref sig .tc .vmem S2048x128 .bf16 := spec0_6.stage ((cfgA F).slots t (6 : Fin 8))
theorem hs0_6 (t : Fin (cfgA F).N) : (ms0_6 t).IsWhole := hstage0_6 (((cfgA F).slots t (6 : Fin 8)).cast nbuf0_6)
/-- Window 7's staging buffer at a point. -/
abbrev ms0_7 (t : Fin (cfgA F).N) : Memref sig .tc .vmem S2048x128 .bf16 := spec0_7.stage ((cfgA F).slots t (7 : Fin 8))
theorem hs0_7 (t : Fin (cfgA F).N) : (ms0_7 t).IsWhole := hstage0_7 (((cfgA F).slots t (7 : Fin 8)).cast nbuf0_7)

variable (V : Dev nD → Valuation τ sig (Elt F))

/-- The block of window `w`'s array that point `t` sees. -/
def iblk (c : Dev nD) (w : Fin (cfgA F).W) (t : Fin (cfgA F).N) : (((cfgA F).win w).xblock (crd t)).Idx → Elt F ((cfgA F).win w).elt :=
  (((cfgA F).win w).blk t).view.read (Elt F) (V c (Proc.devRef .tc (Pipeline.arrRef (cfgA F).spec w)))

/-- The contents of the two accumulators. -/
abbrev Accs (F : FTy → Type) (c : Dev nD) : Type := Buf (Elt F) ((c : Thread nD τ).loc cc0_scratch0) × Buf (Elt F) ((c : Thread nD τ).loc cc0_scratch1)

/-- The accumulators after point `t`, from those before it. -/
def accStep (c : Dev nD) (t : Fin (cfgA F).N) (prev : Accs F c) : Accs F c :=
  if h1 : Diag t then
    if h2 : ¬After t then
      if h3 : Last t then let R := runOnly c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3; (R.2.2.1, R.2.2.2.1)
      else let R := runStart c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3; (R.1, R.2.1)
    else prev
  else
    if h2 : After t then
      if h3 : Last t then let R := runLast c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3; (R.2.2.1, R.2.2.2.1)
      else let R := runMid c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3; (R.1, R.2.1)
    else prev

/-- What a last tile leaves in the key gradient's block. -/
def outKStep (c : Dev nD) (t : Fin (cfgA F).N) (prev : Accs F c) : S2048x128.Idx → Elt F .bf16 :=
  if h3 : Last t then
    if h1 : Diag t then
      if h2 : ¬After t then runOnly_outK c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3 else VK.read (Elt F) VK.junk
    else
      if h2 : After t then runLast_outK c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3 else VK.read (Elt F) VK.junk
  else VK.read (Elt F) VK.junk

/-- What a last tile leaves in the value gradient's block. -/
def outVStep (c : Dev nD) (t : Fin (cfgA F).N) (prev : Accs F c) : S2048x128.Idx → Elt F .bf16 :=
  if h3 : Last t then
    if h1 : Diag t then
      if h2 : ¬After t then runOnly_outV c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3 else VV.read (Elt F) VV.junk
    else
      if h2 : After t then runLast_outV c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3 else VV.read (Elt F) VV.junk
  else VV.read (Elt F) VV.junk

theorem accStep_Start (c : Dev nD) (t : Fin (cfgA F).N) (prev : Accs F c) (h1 : Diag t) (h2 : ¬After t) (h3 : ¬Last t) :
    accStep V c t prev = ((runStart c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3).1, (runStart c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3).2.1) := by
  unfold accStep
  rw [dif_pos h1, dif_pos h2, dif_neg h3]

theorem accStep_Only (c : Dev nD) (t : Fin (cfgA F).N) (prev : Accs F c) (h1 : Diag t) (h2 : ¬After t) (h3 : Last t) :
    accStep V c t prev = ((runOnly c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3).2.2.1, (runOnly c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3).2.2.2.1) := by
  unfold accStep
  rw [dif_pos h1, dif_pos h2, dif_pos h3]

theorem outKStep_Only (c : Dev nD) (t : Fin (cfgA F).N) (prev : Accs F c) (h1 : Diag t) (h2 : ¬After t) (h3 : Last t) :
    outKStep V c t prev = runOnly_outK c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3 := by
  unfold outKStep
  rw [dif_pos h3, dif_pos h1, dif_pos h2]

theorem outVStep_Only (c : Dev nD) (t : Fin (cfgA F).N) (prev : Accs F c) (h1 : Diag t) (h2 : ¬After t) (h3 : Last t) :
    outVStep V c t prev = runOnly_outV c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3 := by
  unfold outVStep
  rw [dif_pos h3, dif_pos h1, dif_pos h2]

theorem accStep_Mid (c : Dev nD) (t : Fin (cfgA F).N) (prev : Accs F c) (h1 : ¬Diag t) (h2 : After t) (h3 : ¬Last t) :
    accStep V c t prev = ((runMid c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3).1, (runMid c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3).2.1) := by
  unfold accStep
  rw [dif_neg h1, dif_pos h2, dif_neg h3]

theorem accStep_Last (c : Dev nD) (t : Fin (cfgA F).N) (prev : Accs F c) (h1 : ¬Diag t) (h2 : After t) (h3 : Last t) :
    accStep V c t prev = ((runLast c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3).2.2.1, (runLast c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3).2.2.2.1) := by
  unfold accStep
  rw [dif_neg h1, dif_pos h2, dif_pos h3]

theorem outKStep_Last (c : Dev nD) (t : Fin (cfgA F).N) (prev : Accs F c) (h1 : ¬Diag t) (h2 : After t) (h3 : Last t) :
    outKStep V c t prev = runLast_outK c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3 := by
  unfold outKStep
  rw [dif_pos h3, dif_neg h1, dif_pos h2]

theorem outVStep_Last (c : Dev nD) (t : Fin (cfgA F).N) (prev : Accs F c) (h1 : ¬Diag t) (h2 : After t) (h3 : Last t) :
    outVStep V c t prev = runLast_outV c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) prev.1 prev.2 h1 h2 h3 := by
  unfold outVStep
  rw [dif_pos h3, dif_neg h1, dif_pos h2]

/-- The accumulators before point `n`. -/
def accAt (c : Dev nD) : ℕ → Accs F c
  | 0 => (default, default)
  | n + 1 => if h : n < (cfgA F).N then accStep V c ⟨n, h⟩ (accAt c n) else accAt c n

theorem accAt_succ (c : Dev nD) (t : Fin (cfgA F).N) : accAt V c (t.val + 1) = accStep V c t (accAt V c t.val) := by
  rw [accAt]; exact dif_pos t.isLt

/-- Between two points: the accumulators as far as they are determined, the body's halves of the tables, the random-number register. -/
def Phi (c : Dev nD) (t : Fin ((cfgA F).N + 1)) : sProp 𝕄 :=
  iprop((∃ a b, ⌜t.val = 0 ∨ (a, b) = accAt V c t.val⌝ ∗ (scK.view.loc (c : Thread nD τ) ↦{fullShare} a) ∗ (scV.view.loc (c : Thread nD τ) ↦{fullShare} b))
    ∗ (tbJ.view.loc (c : Thread nD τ) ↦{fullShare.right} (tabJ : S10.Idx → Elt F .i32)) ∗ (tbI.view.loc (c : Thread nD τ) ↦{fullShare.right} (tabI : S10.Idx → Elt F .i32))
    ∗ (∃ r, prngReg c r))

/-- The pipeline's data on core `c`. -/
def dats (_ : Fin 1) (c : Dev nD) : Dat τ (Elt F) Unit ℕ (UR sig nD τ) ℕ (cfgA F) c where
  A w := V c (Proc.devRef .tc (Pipeline.arrRef (cfgA F).spec w))
  after w t := match w with
    | ⟨0, _⟩ => iblk V c (0 : Fin 8) t
    | ⟨1, _⟩ => iblk V c (1 : Fin 8) t
    | ⟨2, _⟩ => iblk V c (2 : Fin 8) t
    | ⟨3, _⟩ => iblk V c (3 : Fin 8) t
    | ⟨4, _⟩ => iblk V c (4 : Fin 8) t
    | ⟨5, _⟩ => iblk V c (5 : Fin 8) t
    | ⟨6, _⟩ => outKStep V c t (accAt V c t.val)
    | ⟨7, _⟩ => outVStep V c t (accAt V c t.val)
  Φ t := Phi V c t
  q _ := fullShare
  owed _ := 0

theorem after0_0 (c : Dev nD) (t : Fin (cfgA F).N) : (dats V 0 c).after (0 : Fin 8) t = iblk V c (0 : Fin 8) t := rfl
theorem after0_1 (c : Dev nD) (t : Fin (cfgA F).N) : (dats V 0 c).after (1 : Fin 8) t = iblk V c (1 : Fin 8) t := rfl
theorem after0_2 (c : Dev nD) (t : Fin (cfgA F).N) : (dats V 0 c).after (2 : Fin 8) t = iblk V c (2 : Fin 8) t := rfl
theorem after0_3 (c : Dev nD) (t : Fin (cfgA F).N) : (dats V 0 c).after (3 : Fin 8) t = iblk V c (3 : Fin 8) t := rfl
theorem after0_4 (c : Dev nD) (t : Fin (cfgA F).N) : (dats V 0 c).after (4 : Fin 8) t = iblk V c (4 : Fin 8) t := rfl
theorem after0_5 (c : Dev nD) (t : Fin (cfgA F).N) : (dats V 0 c).after (5 : Fin 8) t = iblk V c (5 : Fin 8) t := rfl
theorem after0_6 (c : Dev nD) (t : Fin (cfgA F).N) : (dats V 0 c).after (6 : Fin 8) t = outKStep V c t (accAt V c t.val) := by dsimp only [dats]
theorem after0_7 (c : Dev nD) (t : Fin (cfgA F).N) : (dats V 0 c).after (7 : Fin 8) t = outVStep V c t (accAt V c t.val) := by dsimp only [dats]

set_option maxHeartbeats 2000000 in
theorem before0_0 (c : Dev nD) (t : Fin (cfgA F).N) (d) : (dats V 0 c).before (0 : Fin 8) t d = iblk V c (0 : Fin 8) t :=
  ((dats V 0 c).before_in_eq_fetched (0 : Fin 8) rfl (fun _ => rfl) (fun _ _ _ => rfl) (fun t => by rw [after0_0]; unfold Dat.blockOf iblk; rfl) t d).trans
    (by unfold Dat.fetched Dat.blockOf iblk; rfl)
set_option maxHeartbeats 2000000 in
theorem before0_1 (c : Dev nD) (t : Fin (cfgA F).N) (d) : (dats V 0 c).before (1 : Fin 8) t d = iblk V c (1 : Fin 8) t :=
  ((dats V 0 c).before_in_eq_fetched (1 : Fin 8) rfl (fun _ => rfl) (fun _ _ _ => rfl) (fun t => by rw [after0_1]; unfold Dat.blockOf iblk; rfl) t d).trans
    (by unfold Dat.fetched Dat.blockOf iblk; rfl)
set_option maxHeartbeats 2000000 in
theorem before0_2 (c : Dev nD) (t : Fin (cfgA F).N) (d) : (dats V 0 c).before (2 : Fin 8) t d = iblk V c (2 : Fin 8) t :=
  ((dats V 0 c).before_in_eq_fetched (2 : Fin 8) rfl (fun _ => rfl) (fun _ _ _ => rfl) (fun t => by rw [after0_2]; unfold Dat.blockOf iblk; rfl) t d).trans
    (by unfold Dat.fetched Dat.blockOf iblk; rfl)
set_option maxHeartbeats 2000000 in
theorem before0_3 (c : Dev nD) (t : Fin (cfgA F).N) (d) : (dats V 0 c).before (3 : Fin 8) t d = iblk V c (3 : Fin 8) t :=
  ((dats V 0 c).before_in_eq_fetched (3 : Fin 8) rfl (fun _ => rfl) (fun _ _ _ => rfl) (fun t => by rw [after0_3]; unfold Dat.blockOf iblk; rfl) t d).trans
    (by unfold Dat.fetched Dat.blockOf iblk; rfl)
set_option maxHeartbeats 2000000 in
theorem before0_4 (c : Dev nD) (t : Fin (cfgA F).N) (d) : (dats V 0 c).before (4 : Fin 8) t d = iblk V c (4 : Fin 8) t :=
  ((dats V 0 c).before_in_eq_fetched (4 : Fin 8) rfl (fun _ => rfl) (fun _ _ _ => rfl) (fun t => by rw [after0_4]; unfold Dat.blockOf iblk; rfl) t d).trans
    (by unfold Dat.fetched Dat.blockOf iblk; rfl)
set_option maxHeartbeats 2000000 in
theorem before0_5 (c : Dev nD) (t : Fin (cfgA F).N) (d) : (dats V 0 c).before (5 : Fin 8) t d = iblk V c (5 : Fin 8) t :=
  ((dats V 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- The body at point `t`. -/
abbrev bodyAt (t : Fin (cfgA F).N) : Prog (TpuEff nD τ sig (Elt F) Λ₀ .tc) PUnit :=
  cc0_mla_flash_dkv (crd t) tbJ (Memref.isWhole_whole _) tbI (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scK (Memref.isWhole_whole _) scV (Memref.isWhole_whole _)

/-- A result's window is idle, and not written back, before its key tile's last query tile. -/
theorem idle_of (t : Fin (cfgA F).N) (h3 : ¬Last t) :
    (cfgA F).idle (6 : Fin 8) ((cfgA F).grid.coords t) = true ∧ ((cfgA F).win (6 : Fin 8)).flush t = false
      ∧ (cfgA F).idle (7 : Fin 8) ((cfgA F).grid.coords t) = true ∧ ((cfgA F).win (7 : Fin 8)).flush t = false := by
  obtain ⟨-, hi, hf, hj, hg, -⟩ := facts t
  exact ⟨Bool.eq_true_of_not_eq_false fun h => h3 (hi.2 h), Bool.eq_false_of_not_eq_true fun h => h3 (hf.2 h),
    Bool.eq_true_of_not_eq_false fun h => h3 (hj.2 h), Bool.eq_false_of_not_eq_true fun h => h3 (hg.2 h)⟩

set_option maxHeartbeats 4000000 in
theorem sound_Start (c : Dev nD) (t : Fin (cfgA F).N) (h1 : Diag t) (h2 : ¬After t) (h3 : ¬Last t) :
    iprop((dats V 0 c).Φ t.castSucc ∗ (dats V 0 c).owesAt () t.castSucc
        ∗ (∃ d, owns (c : Thread nD τ) (ms0_0 t) fullShare ((dats V 0 c).before (0 : Fin 8) t d))
        ∗ (∃ d, owns (c : Thread nD τ) (ms0_1 t) fullShare ((dats V 0 c).before (1 : Fin 8) t d))
        ∗ (∃ d, owns (c : Thread nD τ) (ms0_2 t) fullShare ((dats V 0 c).before (2 : Fin 8) t d))
        ∗ (∃ d, owns (c : Thread nD τ) (ms0_3 t) fullShare ((dats V 0 c).before (3 : Fin 8) t d))
        ∗ (∃ d, owns (c : Thread nD τ) (ms0_4 t) fullShare ((dats V 0 c).before (4 : Fin 8) t d))
        ∗ (∃ d, owns (c : Thread nD τ) (ms0_5 t) fullShare ((dats V 0 c).before (5 : Fin 8) t d))
        ∗ (∃ d, owns (c : Thread nD τ) (ms0_6 t) fullShare ((dats V 0 c).before (6 : Fin 8) t d))
        ∗ (∃ d, owns (c : Thread nD τ) (ms0_7 t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  obtain ⟨i6, f6, -, f7⟩ := idle_of t h3
  rw [bigSep_W0]
  rewrite [i6]
  simp only [before0_0, before0_1, before0_2, before0_3, before0_4, before0_5, after0_0, after0_1, after0_2, after0_3, after0_4, after0_5, after0_6, after0_7, f6, f7]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_Start V c t _ h1 h2 h3]
  iintro ⟨⟨⟨%a0, %b0, %ha0, HS, HW⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runStart c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3).2.2 _ _ a0 b0 _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [H7]; · iexact H7
  isplitl [HS]; · iexact HS
  isplitl [HW]; · iexact HW
  iintro ⟨⟨H0, H1, H2, H3, H4, H5, HT0, HT1⟩, H6, H7, HS, HW⟩
  isplitl [HS HW HT0 HT1 HR]
  · isplitl [HS HW]
    · iexists _, _; isplitr; swap
      · isplitl [HS]; · iexact HS
        iexact HW
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iexists d6; iexact H6
  iexists d7; iexact H7

set_option maxHeartbeats 4000000 in
theorem sound_Only (c : Dev nD) (t : Fin (cfgA F).N) (h1 : Diag t) (h2 : ¬After t) (h3 : Last t) :
    iprop((dats V 0 c).Φ t.castSucc ∗ (dats V 0 c).owesAt () t.castSucc
        ∗ (∃ d, owns (c : Thread nD τ) (ms0_0 t) fullShare ((dats V 0 c).before (0 : Fin 8) t d))
        ∗ (∃ d, owns (c : Thread nD τ) (ms0_1 t) fullShare ((dats V 0 c).before (1 : Fin 8) t d))
        ∗ (∃ d, owns (c : Thread nD τ) (ms0_2 t) fullShare ((dats V 0 c).before (2 : Fin 8) t d))
        ∗ (∃ d, owns (c : Thread nD τ) (ms0_3 t) fullShare ((dats V 0 c).before (3 : Fin 8) t d))
        ∗ (∃ d, owns (c : Thread nD τ) (ms0_4 t) fullShare ((dats V 0 c).before (4 : Fin 8) t d))
        ∗ (∃ d, owns (c : Thread nD τ) (ms0_5 t) fullShare ((dats V 0 c).before (5 : Fin 8) t d))
        ∗ (∃ d, owns (c : Thread nD τ) (ms0_6 t) fullShare ((dats V 0 c).before (6 : Fin 8) t d))
        ∗ (∃ d, owns (c : Thread nD τ) (ms0_7 t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  have i6 := (facts t).2.1.1 h3
  rw [bigSep_W0]
  rewrite [i6]
  simp only [before0_0, before0_1, before0_2, before0_3, before0_4, before0_5, after0_0, after0_1, after0_2, after0_3, after0_4, after0_5, after0_6, after0_7]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_Only V c t _ h1 h2 h3, outKStep_Only V c t _ h1 h2 h3, outVStep_Only V c t _ h1 h2 h3]
  iintro ⟨⟨⟨%a0, %b0, %ha0, HS, HW⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runOnly c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3).2.2.2.2 a0 b0 _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexists _; iexact H6
  isplitl [H7]; · iexists _; iexact H7
  isplitl [HS]; · iexact HS
  isplitl [HW]; · iexact HW
  iintro ⟨⟨H0, H1, H2, H3, H4, H5, HT0, HT1⟩, ⟨%e6, H6⟩, ⟨%e7, H7⟩, HS, HW⟩
  isplitl [HS HW HT0 HT1 HR]
  · isplitl [HS HW]
    · iexists _, _; isplitr; swap
      · isplitl [HS]; · iexact HS
        iexact HW
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · unfold owns; iexists _; isplitr; swap
    · iexact H6
    · ipureintro; exact View.read_writes_of_cover _ _ _ _ _ (runOnly_coverK c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3)
  unfold owns; iexists _; isplitr; swap
  · iexact H7
  · ipureintro; exact View.read_writes_of_cover _ _ _ _ _ (runOnly_coverV c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) h1 h2 h3)

set_option maxHeartbeats 4000000 in
theorem sound_Mid (c : Dev nD) (t : Fin (cfgA F).N) (h1 : ¬Diag t) (h2 : After t) (h3 : ¬Last t) :
    iprop((dats V 0 c).Φ t.castSucc ∗ (dats V 0 c).owesAt () t.castSucc
        ∗ (∃ d, owns (c : Thread nD τ) (ms0_0 t) fullShare ((dats V 0 c).before (0 : Fin 8) t d))
        ∗ (∃ d, owns (c : Thread nD τ) (ms0_1 t) fullShare ((dats V 0 c).before (1 : Fin 8) t d))
        ∗ (∃ d, owns (c : Thread nD τ) (ms0_2 t) fullShare ((dats V 0 c).before (2 : Fin 8) t d))
        ∗ (∃ d, owns (c : Thread nD τ) (ms0_3 t) fullShare ((dats V 0 c).before (3 : Fin 8) t d))
        ∗ (∃ d, owns (c : Thread nD τ) (ms0_4 t) fullShare ((dats V 0 c).before (4 : Fin 8) t d))
        ∗ (∃ d, owns (c : Thread nD τ) (ms0_5 t) fullShare ((dats V 0 c).before (5 : Fin 8) t d))
        ∗ (∃ d, owns (c : Thread nD τ) (ms0_6 t) fullShare ((dats V 0 c).before (6 : Fin 8) t d))
        ∗ (∃ d, owns (c : Thread nD τ) (ms0_7 t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  obtain ⟨i6, f6, -, f7⟩ := idle_of t h3
  have ht : t.val ≠ 0 := fun h => h1 ((facts t).2.2.2.2.2 h)
  rw [bigSep_W0]
  rewrite [i6]
  simp only [before0_0, before0_1, before0_2, before0_3, before0_4, before0_5, after0_0, after0_1, after0_2, after0_3, after0_4, after0_5, after0_6, after0_7, f6, f7]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_Mid V c t _ h1 h2 h3]
  iintro ⟨⟨⟨%a0, %b0, %ha0, HS, HW⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hab := ha0.resolve_left ht
  obtain rfl : a0 = (accAt V c t.val).1 := congrArg Prod.fst hab
  obtain rfl : b0 = (accAt V c t.val).2 := congrArg Prod.snd hab
  iapply ((runMid c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) (accAt V c t.val).1 (accAt V c t.val).2 h1 h2 h3).2.2 _ _ _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [H7]; · iexact H7
  isplitl [HS]; · iexact HS
  isplitl [HW]; · iexact HW
  iintro ⟨⟨H0, H1, H2, H3, H4, H5, HT0, HT1⟩, H6, H7, HS, HW⟩
  isplitl [HS HW HT0 HT1 HR]
  · isplitl [HS HW]
    · iexists _, _; isplitr; swap
      · isplitl [HS]; · iexact HS
        iexact HW
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iexists d6; iexact H6
  iexists d7; iexact H7

set_option maxHeartbeats 4000000 in
theorem sound_Last (c : Dev nD) (t : Fin (cfgA F).N) (h1 : ¬Diag t) (h2 : After t) (h3 : Last t) :
    iprop((dats V 0 c).Φ t.castSucc ∗ (dats V 0 c).owesAt () t.castSucc
        ∗ (∃ d, owns (c : Thread nD τ) (ms0_0 t) fullShare ((dats V 0 c).before (0 : Fin 8) t d))
        ∗ (∃ d, owns (c : Thread nD τ) (ms0_1 t) fullShare ((dats V 0 c).before (1 : Fin 8) t d))
        ∗ (∃ d, owns (c : Thread nD τ) (ms0_2 t) fullShare ((dats V 0 c).before (2 : Fin 8) t d))
        ∗ (∃ d, owns (c : Thread nD τ) (ms0_3 t) fullShare ((dats V 0 c).before (3 : Fin 8) t d))
        ∗ (∃ d, owns (c : Thread nD τ) (ms0_4 t) fullShare ((dats V 0 c).before (4 : Fin 8) t d))
        ∗ (∃ d, owns (c : Thread nD τ) (ms0_5 t) fullShare ((dats V 0 c).before (5 : Fin 8) t d))
        ∗ (∃ d, owns (c : Thread nD τ) (ms0_6 t) fullShare ((dats V 0 c).before (6 : Fin 8) t d))
        ∗ (∃ d, owns (c : Thread nD τ) (ms0_7 t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  have i6 := (facts t).2.1.1 h3
  have ht : t.val ≠ 0 := fun h => h1 ((facts t).2.2.2.2.2 h)
  rw [bigSep_W0]
  rewrite [i6]
  simp only [before0_0, before0_1, before0_2, before0_3, before0_4, before0_5, after0_0, after0_1, after0_2, after0_3, after0_4, after0_5, after0_6, after0_7]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi
  simp only [Fin.val_castSucc, Fin.val_succ, accAt_succ, accStep_Last V c t _ h1 h2 h3, outKStep_Last V c t _ h1 h2 h3, outVStep_Last V c t _ h1 h2 h3]
  iintro ⟨⟨⟨%a0, %b0, %ha0, HS, HW⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hab := ha0.resolve_left ht
  obtain rfl : a0 = (accAt V c t.val).1 := congrArg Prod.fst hab
  obtain rfl : b0 = (accAt V c t.val).2 := congrArg Prod.snd hab
  iapply ((runLast c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) (accAt V c t.val).1 (accAt V c t.val).2 h1 h2 h3).2.2.2.2 _)
  isplitl [H0 H1 H2 H3 H4 H5 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexists _; iexact H6
  isplitl [H7]; · iexists _; iexact H7
  isplitl [HS]; · iexact HS
  isplitl [HW]; · iexact HW
  iintro ⟨⟨H0, H1, H2, H3, H4, H5, HT0, HT1⟩, ⟨%e6, H6⟩, ⟨%e7, H7⟩, HS, HW⟩
  isplitl [HS HW HT0 HT1 HR]
  · isplitl [HS HW]
    · iexists _, _; isplitr; swap
      · isplitl [HS]; · iexact HS
        iexact HW
      · ipureintro; exact Or.inr rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · unfold owns; iexists _; isplitr; swap
    · iexact H6
    · ipureintro; exact View.read_writes_of_cover _ _ _ _ _ (runLast_coverK c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) (accAt V c t.val).1 (accAt V c t.val).2 h1 h2 h3)
  unfold owns; iexists _; isplitr; swap
  · iexact H7
  · ipureintro; exact View.read_writes_of_cover _ _ _ _ _ (runLast_coverV c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tabJ tabI (iblk V c (0 : Fin 8) t) (iblk V c (1 : Fin 8) t) (iblk V c (2 : Fin 8) t) (iblk V c (3 : Fin 8) t) (iblk V c (4 : Fin 8) t) (iblk V c (5 : Fin 8) t) (accAt V c t.val).1 (accAt V c t.val).2 h1 h2 h3)

/-- The body at a point, whatever its tile. -/
theorem sound_body (c : Dev nD) (t : Fin (cfgA F).N) :
    iprop((dats V 0 c).Φ t.castSucc ∗ (dats V 0 c).owesAt () t.castSucc
        ∗ (∃ d, owns (c : Thread nD τ) (ms0_0 t) fullShare ((dats V 0 c).before (0 : Fin 8) t d))
        ∗ (∃ d, owns (c : Thread nD τ) (ms0_1 t) fullShare ((dats V 0 c).before (1 : Fin 8) t d))
        ∗ (∃ d, owns (c : Thread nD τ) (ms0_2 t) fullShare ((dats V 0 c).before (2 : Fin 8) t d))
        ∗ (∃ d, owns (c : Thread nD τ) (ms0_3 t) fullShare ((dats V 0 c).before (3 : Fin 8) t d))
        ∗ (∃ d, owns (c : Thread nD τ) (ms0_4 t) fullShare ((dats V 0 c).before (4 : Fin 8) t d))
        ∗ (∃ d, owns (c : Thread nD τ) (ms0_5 t) fullShare ((dats V 0 c).before (5 : Fin 8) t d))
        ∗ (∃ d, owns (c : Thread nD τ) (ms0_6 t) fullShare ((dats V 0 c).before (6 : Fin 8) t d))
        ∗ (∃ d, owns (c : Thread nD τ) (ms0_7 t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  rcases (facts t).1 with ⟨h2, h1⟩ | ⟨h2, h1⟩
  · by_cases h3 : Last t
    · exact sound_Last V c t h1 h2 h3
    · exact sound_Mid V c t h1 h2 h3
  · by_cases h3 : Last t
    · exact sound_Only V c t h1 h2 h3
    · exact sound_Start V c t h1 h2 h3

end Cert.Kernel2Ideal.Dkv

end
-- ==== Proof.Dkv.Launch.lean ====
/- The whole run of the program of the key and value gradients, for any float values: the host lines that prepare the kernel's operands, the eighty
   points of the kernel, and the host lines that take the results out of their lanes. -/
module

public import proofs.«01_k».proof.Proof.Dkv.Body
public import Idealize.ShloMosaic.Lib.Pipeline.FrameSuffix
public import Idealize.ShloMosaic.Lib.StableHlo.RunRead

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What the buffers hold when the kernel starts, over what they held when the program did. -/
def preV (V : Valuation τ sig (Elt F)) : Valuation τ sig (Elt F) :=
  StableHlo.after hostOps0_2 (StableHlo.after hostOps0_1 (StableHlo.after hostOps0 V))

theorem preV_arg0 (V : Valuation τ sig (Elt F)) : preV V (Proc.devRef .tc main_arg0) = V (Proc.devRef .tc main_arg0) := by
  unfold preV; after_reads_simp
theorem preV_arg1 (V : Valuation τ sig (Elt F)) : preV V (Proc.devRef .tc main_arg1) = V (Proc.devRef .tc main_arg1) := by
  unfold preV; after_reads_simp
theorem preV_arg2 (V : Valuation τ sig (Elt F)) : preV V (Proc.devRef .tc main_arg2) = V (Proc.devRef .tc main_arg2) := by
  unfold preV; after_reads_simp
theorem preV_arg3 (V : Valuation τ sig (Elt F)) : preV V (Proc.devRef .tc main_arg3) = V (Proc.devRef .tc main_arg3) := by
  unfold preV; after_reads_simp
theorem preV_tabJ (V : Valuation τ sig (Elt F)) : preV V (Proc.devRef .tc main_c) = tabJ := by
  unfold preV tabJ; after_reads_simp; rfl
theorem preV_tabI (V : Valuation τ sig (Elt F)) : preV V (Proc.devRef .tc main_c_0) = tabI := by
  unfold preV tabI; after_reads_simp; rfl

/-- What the key gradient is, of what the kernel left: widened and cut to the real features of each head. -/
def postK (o : (⟨S8192x1024, .bf16⟩ : BufTy).Contents (Elt F)) : (⟨S8192x8x96, .f32⟩ : BufTy).Contents (Elt F) :=
  extractStridedSlice S8192x8x96 ![0, 0, 0] (shapeCast S8192x8x128 (((extf .f32 · bitsLt_bf16_f32) : (⟨S8192x1024, .bf16⟩ : BufTy).Contents (Elt F) → (⟨S8192x1024, .f32⟩ : BufTy).Contents (Elt F)) o) shapeCasts_S8192x1024_S8192x8x128) slices_S8192x8x128_S8192x8x96_0_0_0

/-- What the value gradient is, of what the kernel left: widened and cut to the real features of each head. -/
def postV (o : (⟨S8192x1024, .bf16⟩ : BufTy).Contents (Elt F)) : (⟨S8192x8x64, .f32⟩ : BufTy).Contents (Elt F) :=
  extractStridedSlice S8192x8x64 ![0, 0, 0] (shapeCast S8192x8x128 (((extf .f32 · bitsLt_bf16_f32) : (⟨S8192x1024, .bf16⟩ : BufTy).Contents (Elt F) → (⟨S8192x1024, .f32⟩ : BufTy).Contents (Elt F)) o) shapeCasts_S8192x1024_S8192x8x128) slices_S8192x8x128_S8192x8x64_0_0_0

theorem post_key (V : Valuation τ sig (Elt F)) : StableHlo.after hostOps1 V (Proc.devRef .tc main_v67) = postK (V (Proc.devRef .tc main_v64_0)) := by
  unfold postK; after_reads_simp; rfl
theorem post_value (V : Valuation τ sig (Elt F)) : StableHlo.after hostOps1 V (Proc.devRef .tc main_v70) = postV (V (Proc.devRef .tc main_v64_1)) := by
  unfold postV; after_reads_simp; rfl
theorem post_arg0 (V : Valuation τ sig (Elt F)) : StableHlo.after hostOps1 V (Proc.devRef .tc main_arg0) = V (Proc.devRef .tc main_arg0) := by
  after_reads_simp
theorem post_arg1 (V : Valuation τ sig (Elt F)) : StableHlo.after hostOps1 V (Proc.devRef .tc main_arg1) = V (Proc.devRef .tc main_arg1) := by
  after_reads_simp
theorem post_arg2 (V : Valuation τ sig (Elt F)) : StableHlo.after hostOps1 V (Proc.devRef .tc main_arg2) = V (Proc.devRef .tc main_arg2) := by
  after_reads_simp
theorem post_arg3 (V : Valuation τ sig (Elt F)) : StableHlo.after hostOps1 V (Proc.devRef .tc main_arg3) = V (Proc.devRef .tc main_arg3) := by
  after_reads_simp

variable (m : (ℓ : Loc nD τ sig) → Buf (Elt F) ℓ)

/-- The buffers of a device when the kernel starts. -/
def V0 (c : Dev nD) : Valuation τ sig (Elt F) := preV fun b => m (c, b)

theorem body_obligation (V : Dev nD → Valuation τ sig (Elt F)) (c : Dev nD) : BodyObligation (dats V 0 c) (defs₀ (F := F)) Variants.none () Set.univ := fun t => by
  rw [bigSep_W0]
  exact sound_body V c t

theorem share_eq (V : Dev nD → Valuation τ sig (Elt F)) (c : Dev nD) (w : Fin (cfgA F).W) : (dats V 0 c).share w = fullShare := by
  unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_start (V : Dev nD → Valuation τ sig (Elt F)) (c : Dev nD) :
    iprop(Pipeline.ΦA spec0 c ∗ Pipeline.ΦT pre0 (adm F).1 c) ⊢ (dats V 0 c).Φ 0 := by
  unfold Pipeline.ΦA Pipeline.ΦT
  rw [prefHeld_eq, scopedRest0_eq, show (dats V 0 c).Φ 0 = Phi V c 0 from rfl]
  unfold Phi
  iintro ⟨⟨⟨⟨%a, HS⟩, ⟨%b, HW⟩⟩, HR⟩, HT0, HT1⟩
  isplitl [HS HW]
  · iexists a, b; isplitr; swap
    · isplitl [HS]; · iexact HS
      iexact HW
    · ipureintro; exact Or.inl rfl
  isplitl [HT0]
  · iexact HT0
  isplitl [HT1]
  · iexact HT1
  iexact HR

theorem phi_end (V : Dev nD → Valuation τ sig (Elt F)) (c : Dev nD) : (dats V 0 c).Φ (Fin.last (cfgA F).N) ⊢ Pipeline.ΦA spec0 c := by
  unfold Pipeline.ΦA
  rw [scopedRest0_eq, show (dats V 0 c).Φ (Fin.last (cfgA F).N) = Phi V c (Fin.last _) from rfl]
  unfold Phi
  iintro ⟨⟨%a, %b, -, HS, HW⟩, -, -, HR⟩
  isplitl [HS HW]
  · isplitl [HS]
    · iexists a; iexact HS
    iexists b; iexact HW
  iexact HR

theorem tail_sub : ∀ ops ∈ ([hostOps1] : List (List (HloOp τ sig (Elt F)))), ∀ op ∈ ops, op.bufs ⊆ Pipeline.tailRefs (τ := τ) sig pre0 spec0 := by
  intro ops hops op hop
  rw [List.mem_singleton] at hops; subst hops
  refine Pipeline.sub_tailRefs pre0 spec0 op ((List.forall_iff_forall_mem.mp hostOps1_sub) op hop) fun k => ?_
  simp only [List.mem_cons, List.mem_nil_iff, or_false] at hop
  rcases hop with rfl | rfl | rfl | rfl | rfl | rfl <;> fin_cases k <;> exact of_decide_eq_true (by sl_kernel_rfl)

theorem tail_fresh : ∀ ops ∈ ([hostOps1] : List (List (HloOp τ sig (Elt F)))), ∀ op ∈ ops, op.fresh = ∅ := by
  intro ops hops op hop
  rw [List.mem_singleton] at hops; subst hops
  simp only [List.mem_cons, List.mem_nil_iff, or_false] at hop
  rcases hop with rfl | rfl | rfl | rfl | rfl | rfl <;> rfl

theorem tail_keep : ∀ ops ∈ ([hostOps1] : List (List (HloOp τ sig (Elt F)))), ∀ op ∈ ops, ∀ w, Proc.devRef .tc (Pipeline.arrRef spec0 w) ∉ op.writes := by
  intro ops hops op hop
  rw [List.mem_singleton] at hops; subst hops
  simp only [List.mem_cons, List.mem_nil_iff, or_false] at hop
  rcases hop with rfl | rfl | rfl | rfl | rfl | rfl <;> exact of_decide_eq_true (by sl_kernel_rfl)

theorem head_fresh : ([hostOps0, hostOps0_1, hostOps0_2] : List (List (HloOp τ sig (Elt F)))).Forall fun ops => ops.Forall fun op => op.fresh = ∅ := by
  refine ⟨?_, ?_, ?_⟩ <;> repeat' first | exact rfl | constructor

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem V0_eq (c : Dev nD) : StableHlo.after ([hostOps0, hostOps0_1, hostOps0_2] : List (List (HloOp τ sig (Elt F)))).flatten (fun b => m (c, b)) = V0 m c := by
  unfold V0 preV
  rw [List.flatten_cons, List.flatten_cons, List.flatten_cons, List.flatten_nil, List.append_nil, after_app, after_app]

theorem hmain : Pipeline.HMainPK (Ix := Unit) (Name := ℕ) (U := UR sig nD τ) (Lvl := ℕ) (pcfgs (F := F)) 0 defs₀ Variants.none m main
    (fun c b => V0 m c (Proc.devRef .tc b)) (fun _ => Pipeline.chain (([hostOps1] : List (List (HloOp τ sig (Elt F)))).map StableHlo.seq)) := by
  have h := Pipeline.hmainP_around (Ix := Unit) (Name := ℕ) (U := UR sig nD τ) (Lvl := ℕ) (pcfgs (F := F)) 0 defs₀ Variants.none m main
    [hostOps0, hostOps0_1, hostOps0_2] [hostOps1] ⟨hostOps0_sub, hostOps0_1_sub, hostOps0_2_sub⟩ head_fresh main_chain
  simp only [V0_eq] at h
  exact h

/-- What the kernel leaves in its results' arrays. -/
def outK (c : Dev nD) : (⟨S8192x1024, .bf16⟩ : BufTy).Contents (Elt F) := (dats (V0 m) 0 c).arrAt (6 : Fin 8) (cfgA F).N
def outV (c : Dev nD) : (⟨S8192x1024, .bf16⟩ : BufTy).Contents (Elt F) := (dats (V0 m) 0 c).arrAt (7 : Fin 8) (cfgA F).N

set_option backward.isDefEq.respectTransparency.types false in
set_option maxHeartbeats 4000000 in
/-- Every execution ends with each array at what the points left, every other buffer as the host lines leave it, every counter at zero. -/
theorem run_frame (ρ : Dev nD → PrngReg) : θ_run (defs (F := F)) (onTc (τ := τ) (main (F := F))) ⟨m, fun _ => 0, ρ⟩
    (fun r => Pipeline.FramePost (pcs F) (dats (V0 m)) 0 (Pipeline.afterTail (pcfgs (F := F)) (fun _ => adm F) (dats (V0 m)) 0 (V0 m) [hostOps1]) r ∧ r.2.sem = fun _ => 0) :=
  Pipeline.θ_run_frameP_around_track (pcfgs (F := F)) (fun _ => adm F) (dats (V0 m)) 0 launch0 defs₀ Variants.none m ρ main
    (hbody := fun c => (body_obligation (V0 m) c).loose) (hshare := share_eq (V0 m)) (howed := fun _ _ => rfl) (V₀ := V0 m) (opss := [hostOps1])
    (hsub := tail_sub) (hfresh := tail_fresh) (hkeep := tail_keep) (hmain := hmain m)
    (hA := fun c w => by dsimp only [dats])
    (hpf := fun c k => by
      match k with
      | ⟨0, _⟩ => exact preV_tabJ _
      | ⟨1, _⟩ => exact preV_tabI _)
    (hin := phi_start (V0 m)) (hout := phi_end (V0 m))
    (Q' := fun r => Pipeline.FramePost (pcs F) (dats (V0 m)) 0 (Pipeline.afterTail (pcfgs (F := F)) (fun _ => adm F) (dats (V0 m)) 0 (V0 m) [hostOps1]) r ∧ r.2.sem = fun _ => 0)
    (hQ' := fun _ h => h)

/-- The buffers when the host lines after the kernel start. -/
def endV (c : Dev nD) : Valuation τ sig (Elt F) :=
  Pipeline.withArrays (cfgA F).spec c (V0 m c) fun w => (dats (V0 m) 0 c).arrAt w (cfgA F).N

theorem endV_outK (c : Dev nD) : endV m c (Proc.devRef .tc main_v64_0) = outK m c :=
  Pipeline.withArrays_arr (cfgA F).spec (launch0 (F := F)).win.arr_inj c (V0 m c) (fun w => (dats (V0 m) 0 c).arrAt w (cfgA F).N) (6 : Fin 8)

theorem endV_outV (c : Dev nD) : endV m c (Proc.devRef .tc main_v64_1) = outV m c :=
  Pipeline.withArrays_arr (cfgA F).spec (launch0 (F := F)).win.arr_inj c (V0 m c) (fun w => (dats (V0 m) 0 c).arrAt w (cfgA F).N) (7 : Fin 8)

theorem endV_of_ne (c : Dev nD) (b : Ref sig .tc) (hb : ∀ w : Fin 8, Pipeline.arrRef spec0 w ≠ b) : endV m c (Proc.devRef .tc b) = V0 m c (Proc.devRef .tc b) :=
  Pipeline.withArrays_of_ne (cfgA F).spec c (V0 m c) _ _ fun w e => hb w e

theorem afterTail_eq (c : Dev nD) (b : Ref sig .tc) :
    Pipeline.afterTail (pcfgs (F := F)) (fun _ => adm F) (dats (V0 m)) 0 (V0 m) [hostOps1] c b = StableHlo.after hostOps1 (endV m c) (Proc.devRef .tc b) := by
  unfold Pipeline.afterTail
  rw [List.flatten_cons, List.flatten_nil, List.append_nil]
  rfl

/-- Every execution of the program ends, with the results read off the kernel's arrays, the arguments as they were, every counter at zero. -/
theorem run_main (ρ : Dev nD → PrngReg) : θ_run (defs (F := F)) (onTc (τ := τ) (main (F := F))) ⟨m, fun _ => 0, ρ⟩
    (fun r => (∀ c : Dev nD, r.2.mem ((c.tc : Thread nD τ).loc main_v67) = postK (outK m c)
        ∧ r.2.mem ((c.tc : Thread nD τ).loc main_v70) = postV (outV m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) := by
  refine (θ_run defs _ _).mono (fun r h => ⟨fun c => ⟨?_, ?_, ?_, ?_, ?_, ?_⟩, h.2⟩) (run_frame m ρ)
  · refine ((h.1 c).2 main_v67 (show _ ∈ Pipeline.restRefs sig spec0 from by decide)).trans ((afterTail_eq m c main_v67).trans ((post_key _).trans ?_))
    rw [endV_outK]
  · refine ((h.1 c).2 main_v70 (show _ ∈ Pipeline.restRefs sig spec0 from by decide)).trans ((afterTail_eq m c main_v70).trans ((post_value _).trans ?_))
    rw [endV_outV]
  · refine ((h.1 c).2 main_arg0 (show _ ∈ Pipeline.restRefs sig spec0 from by decide)).trans ((afterTail_eq m c main_arg0).trans ((post_arg0 _).trans ?_))
    exact (endV_of_ne m c main_arg0 (by decide)).trans (preV_arg0 _)
  · refine ((h.1 c).2 main_arg1 (show _ ∈ Pipeline.restRefs sig spec0 from by decide)).trans ((afterTail_eq m c main_arg1).trans ((post_arg1 _).trans ?_))
    exact (endV_of_ne m c main_arg1 (by decide)).trans (preV_arg1 _)
  · refine ((h.1 c).2 main_arg2 (show _ ∈ Pipeline.restRefs sig spec0 from by decide)).trans ((afterTail_eq m c main_arg2).trans ((post_arg2 _).trans ?_))
    exact (endV_of_ne m c main_arg2 (by decide)).trans (preV_arg2 _)
  · refine ((h.1 c).2 main_arg3 (show _ ∈ Pipeline.restRefs sig spec0 from by decide)).trans ((afterTail_eq m c main_arg3).trans ((post_arg3 _).trans ?_))
    exact (endV_of_ne m c main_arg3 (by decide)).trans (preV_arg3 _)

end Cert.Kernel2Ideal.Dkv

end
-- ==== Proof.Dkv.Blocks.lean ====
/- The row blocks of the kernel of the key and value gradients over the extended reals: what each of the body's stored values is at a row
   and a lane. -/
module

public import proofs.«01_k».proof.Proof.Gen.Kernel2Ideal
public import proofs.«01_k».proof.Proof.Gen.Kernel2Ideal.Skeleton
public import Idealize.ShloMosaic.Lib.Pointwise
public import Idealize.ShloMosaic.Lib.Pipeline.Value

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Two to the power of a key row's score at a query, less the query's number. -/
def pw {n : ℕ} (K : S512x128.Idx → EReal) (Q : (⟨2, ![n, 128]⟩ : Shape).Idx → EReal) (L : (⟨2, ![1, n]⟩ : Shape).Idx → EReal) (a : Fin 512) (k : Fin n) : EReal :=
  Ideal.exp2 ((∑ e : Fin 128, K (ix2 a e) * Q (ix2 k e)) - L (ix2 0 k))

/-- A value row's product with a query's cotangent, less the query's number. -/
def tw {n : ℕ} (V : S512x128.Idx → EReal) (DO : (⟨2, ![n, 128]⟩ : Shape).Idx → EReal) (D : (⟨2, ![1, n]⟩ : Shape).Idx → EReal) (a : Fin 512) (k : Fin n) : EReal :=
  (∑ e : Fin 128, V (ix2 a e) * DO (ix2 k e)) - D (ix2 0 k)

/-- The mask's comparison of a row's number with a column's. -/
theorem sel_le (y x r : ℕ) (hx : x < 4096) (hy : y < 1024) (hr : r < 4096) (X : EReal) :
    (Scalar.select (IntOp.cmpi CmpIPredicate.sle (IntOp.addi (BitVec.ofNat 32 y) (BitVec.ofNat 32 r)) (IntOp.addi (BitVec.ofNat 32 x) (BitVec.ofNat 32 r))) X 0 : EReal) = if y ≤ x then X else 0 := by
  have e2 : ∀ z, IntOp.addi (BitVec.ofNat 32 z) (BitVec.ofNat 32 r) = BitVec.ofNat 32 (z + r) := fun z => by
    simp only [IntOp.addi, ← BitVec.ofNat_add]
  have e3 : (BitVec.ofNat 32 (y + r)).sle (BitVec.ofNat 32 (x + r)) = decide (y ≤ x) := by
    rw [BitVec.sle, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by omega)
  rw [e2, e2]
  by_cases h : y ≤ x <;> simp [Scalar.select, IntOp.cmpi, e3, h]

theorem fullV0 (A K V : S512x128.Idx → EReal) (Q DO : S2048x128.Idx → EReal) (L D : S1x2048.Idx → EReal) (a : Fin 512) (d : Fin 128) :
    (k0_pay31 (F := Ideal) (k0_pay30 (F := Ideal) K Q L A DO)) (ix2 a d) = A (ix2 a d) + ∑ k : Fin 2048, pw K Q L a k * DO (ix2 k d) := by
  simp only [k0_pay29, k0_pay30, k0_pay31, pw, tw, shapeCast_self]
  pointwise
  rfl

theorem fullK0 (A K V : S512x128.Idx → EReal) (Q DO : S2048x128.Idx → EReal) (L D : S1x2048.Idx → EReal) (a : Fin 512) (d : Fin 128) :
    (k0_pay32 (F := Ideal) (k0_pay26 (F := Ideal) V DO) (k0_pay29 (F := Ideal) K Q L) A D Q) (ix2 a d) = A (ix2 a d) + ∑ k : Fin 2048, (pw K Q L a k * tw V DO D a k) * Q (ix2 k d) := by
  simp only [k0_pay26, k0_pay29, k0_pay32, pw, tw, shapeCast_self]
  pointwise
  rfl

theorem fullV1 (A K V : S512x128.Idx → EReal) (Q DO : S2048x128.Idx → EReal) (L D : S1x2048.Idx → EReal) (a : Fin 512) (d : Fin 128) :
    (k0_pay36 (F := Ideal) (k0_pay35 (F := Ideal) (k0_pay27 (F := Ideal) K Q) L) A DO) (ix2 a d) = A (ix2 a d) + ∑ k : Fin 2048, pw K Q L a k * DO (ix2 k d) := by
  simp only [k0_pay27, k0_pay35, k0_pay36, pw, tw, shapeCast_self]
  pointwise
  rfl

theorem fullK1 (A K V : S512x128.Idx → EReal) (Q DO : S2048x128.Idx → EReal) (L D : S1x2048.Idx → EReal) (a : Fin 512) (d : Fin 128) :
    (k0_pay37 (F := Ideal) (k0_pay28 (F := Ideal) V DO) (k0_pay35 (F := Ideal) (k0_pay27 (F := Ideal) K Q) L) A D Q) (ix2 a d) = A (ix2 a d) + ∑ k : Fin 2048, (pw K Q L a k * tw V DO D a k) * Q (ix2 k d) := by
  simp only [k0_pay27, k0_pay28, k0_pay35, k0_pay37, pw, tw, shapeCast_self]
  pointwise
  rfl

theorem fullV2 (A K V : S512x128.Idx → EReal) (Q DO : S2048x128.Idx → EReal) (L D : S1x2048.Idx → EReal) (a : Fin 512) (d : Fin 128) :
    (k0_pay42 (F := Ideal) (k0_pay33 (F := Ideal) K Q) (k0_pay40 (F := Ideal) L) A DO) (ix2 a d) = A (ix2 a d) + ∑ k : Fin 2048, pw K Q L a k * DO (ix2 k d) := by
  simp only [k0_pay33, k0_pay40, k0_pay41, k0_pay42, pw, tw, shapeCast_self]
  pointwise
  rfl

theorem fullK2 (A K V : S512x128.Idx → EReal) (Q DO : S2048x128.Idx → EReal) (L D : S1x2048.Idx → EReal) (a : Fin 512) (d : Fin 128) :
    (k0_pay43 (F := Ideal) (k0_pay33 (F := Ideal) K Q) (k0_pay34 (F := Ideal) V DO) (k0_pay40 (F := Ideal) L) A D Q) (ix2 a d) = A (ix2 a d) + ∑ k : Fin 2048, (pw K Q L a k * tw V DO D a k) * Q (ix2 k d) := by
  simp only [k0_pay33, k0_pay34, k0_pay40, k0_pay41, k0_pay43, pw, tw, shapeCast_self]
  pointwise
  rfl

theorem fullV3 (A K V : S512x128.Idx → EReal) (Q DO : S2048x128.Idx → EReal) (L D : S1x2048.Idx → EReal) (a : Fin 512) (d : Fin 128) :
    (k0_pay4 (F := Ideal) A (k0_pay45 (F := Ideal) DO) (k0_pay46 (F := Ideal) (k0_pay38 (F := Ideal) K Q) L) (constant (F := Ideal) S512x128 .f32 0x00000000#32)) (ix2 a d) = A (ix2 a d) + ∑ k : Fin 2048, pw K Q L a k * DO (ix2 k d) := by
  simp only [k0_pay38, k0_pay4, k0_pay44, k0_pay45, k0_pay46, pw, tw, shapeCast_self]
  pointwise
  rfl

theorem fullK3 (A K V : S512x128.Idx → EReal) (Q DO : S2048x128.Idx → EReal) (L D : S1x2048.Idx → EReal) (a : Fin 512) (d : Fin 128) :
    (k0_pay5 (F := Ideal) (k0_pay39 (F := Ideal) V DO) (k0_pay44 (F := Ideal) (k0_pay38 (F := Ideal) K Q) L) A D Q) (ix2 a d) = A (ix2 a d) + ∑ k : Fin 2048, (pw K Q L a k * tw V DO D a k) * Q (ix2 k d) := by
  simp only [k0_pay38, k0_pay39, k0_pay44, k0_pay5, pw, tw, shapeCast_self]
  pointwise
  rfl

theorem diagV0 (A K V : S512x128.Idx → EReal) (Q DO : S2048x128.Idx → EReal) (L D : S1x2048.Idx → EReal) (a : Fin 512) (d : Fin 128) :
    (k0_pay12 (F := Ideal) (k0_pay11 (F := Ideal) K Q L) A DO) (ix2 a d) = A (ix2 a d) + ∑ k : Fin 2048, if a.val ≤ k.val then pw K Q L a k * DO (ix2 k d) else 0 := by
  simp only [k0_pay11, k0_pay12, pw, tw, shapeCast_self]
  pointwise
  refine congrArg (A (ix2 a d) + ·) (Finset.sum_congr rfl fun k _ => ?_)
  refine (sel_le a.val k.val 0 (by omega) (by omega) (by decide) _).trans ?_
  rfl

theorem diagK0 (A K V : S512x128.Idx → EReal) (Q DO : S2048x128.Idx → EReal) (L D : S1x2048.Idx → EReal) (a : Fin 512) (d : Fin 128) :
    (k0_pay13 (F := Ideal) (k0_pay8 (F := Ideal) V DO) (k0_pay11 (F := Ideal) K Q L) A D Q) (ix2 a d) = A (ix2 a d) + ∑ k : Fin 2048, if a.val ≤ k.val then (pw K Q L a k * tw V DO D a k) * Q (ix2 k d) else 0 := by
  simp only [k0_pay11, k0_pay13, k0_pay8, pw, tw, shapeCast_self]
  pointwise
  refine congrArg (A (ix2 a d) + ·) (Finset.sum_congr rfl fun k _ => ?_)
  refine (sel_le a.val k.val 0 (by omega) (by omega) (by decide) _).trans ?_
  rfl

theorem diagV1 (A K V : S512x128.Idx → EReal) (Q DO : S1536x128.Idx → EReal) (L D : S1x1536.Idx → EReal) (a : Fin 512) (d : Fin 128) :
    (k0_pay17 (F := Ideal) (k0_pay9 (F := Ideal) K Q) L A DO) (ix2 a d) = A (ix2 a d) + ∑ k : Fin 1536, if a.val ≤ k.val then pw K Q L a k * DO (ix2 k d) else 0 := by
  simp only [k0_pay16, k0_pay17, k0_pay9, pw, tw, shapeCast_self]
  pointwise
  refine congrArg (A (ix2 a d) + ·) (Finset.sum_congr rfl fun k _ => ?_)
  refine (sel_le a.val k.val 512 (by omega) (by omega) (by decide) _).trans ?_
  rfl

theorem diagK1 (A K V : S512x128.Idx → EReal) (Q DO : S1536x128.Idx → EReal) (L D : S1x1536.Idx → EReal) (a : Fin 512) (d : Fin 128) :
    (k0_pay18 (F := Ideal) (k0_pay9 (F := Ideal) K Q) (k0_pay10 (F := Ideal) V DO) L A D Q) (ix2 a d) = A (ix2 a d) + ∑ k : Fin 1536, if a.val ≤ k.val then (pw K Q L a k * tw V DO D a k) * Q (ix2 k d) else 0 := by
  simp only [k0_pay10, k0_pay16, k0_pay18, k0_pay9, pw, tw, shapeCast_self]
  pointwise
  refine congrArg (A (ix2 a d) + ·) (Finset.sum_congr rfl fun k _ => ?_)
  refine (sel_le a.val k.val 512 (by omega) (by omega) (by decide) _).trans ?_
  rfl

theorem diagV2 (A K V : S512x128.Idx → EReal) (Q DO : S1024x128.Idx → EReal) (L D : S1x1024.Idx → EReal) (a : Fin 512) (d : Fin 128) :
    (k0_pay22 (F := Ideal) (k0_pay14 (F := Ideal) K Q) L A DO) (ix2 a d) = A (ix2 a d) + ∑ k : Fin 1024, if a.val ≤ k.val then pw K Q L a k * DO (ix2 k d) else 0 := by
  simp only [k0_pay14, k0_pay21, k0_pay22, pw, tw, shapeCast_self]
  pointwise
  refine congrArg (A (ix2 a d) + ·) (Finset.sum_congr rfl fun k _ => ?_)
  refine (sel_le a.val k.val 1024 (by omega) (by omega) (by decide) _).trans ?_
  rfl

theorem diagK2 (A K V : S512x128.Idx → EReal) (Q DO : S1024x128.Idx → EReal) (L D : S1x1024.Idx → EReal) (a : Fin 512) (d : Fin 128) :
    (k0_pay23 (F := Ideal) (k0_pay15 (F := Ideal) V DO) (k0_pay21 (F := Ideal) (k0_pay14 (F := Ideal) K Q) L) A D Q) (ix2 a d) = A (ix2 a d) + ∑ k : Fin 1024, if a.val ≤ k.val then (pw K Q L a k * tw V DO D a k) * Q (ix2 k d) else 0 := by
  simp only [k0_pay14, k0_pay15, k0_pay21, k0_pay23, pw, tw, shapeCast_self]
  pointwise
  refine congrArg (A (ix2 a d) + ·) (Finset.sum_congr rfl fun k _ => ?_)
  refine (sel_le a.val k.val 1024 (by omega) (by omega) (by decide) _).trans ?_
  rfl

theorem diagV3 (A K V : S512x128.Idx → EReal) (Q DO : S512x128.Idx → EReal) (L D : S1x512.Idx → EReal) (a : Fin 512) (d : Fin 128) :
    (k0_pay25 (F := Ideal) (k0_pay19 (F := Ideal) K Q) L A DO) (ix2 a d) = A (ix2 a d) + ∑ k : Fin 512, if a.val ≤ k.val then pw K Q L a k * DO (ix2 k d) else 0 := by
  simp only [k0_pay19, k0_pay24, k0_pay25, pw, tw, shapeCast_self]
  pointwise
  refine congrArg (A (ix2 a d) + ·) (Finset.sum_congr rfl fun k _ => ?_)
  refine (sel_le a.val k.val 1536 (by omega) (by omega) (by decide) _).trans ?_
  rfl

theorem diagK3 (A K V : S512x128.Idx → EReal) (Q DO : S512x128.Idx → EReal) (L D : S1x512.Idx → EReal) (a : Fin 512) (d : Fin 128) :
    (k0_pay3 (F := Ideal) (k0_pay20 (F := Ideal) V DO) (k0_pay24 (F := Ideal) (k0_pay19 (F := Ideal) K Q) L) A D Q) (ix2 a d) = A (ix2 a d) + ∑ k : Fin 512, if a.val ≤ k.val then (pw K Q L a k * tw V DO D a k) * Q (ix2 k d) else 0 := by
  simp only [k0_pay19, k0_pay20, k0_pay24, k0_pay3, pw, tw, shapeCast_self]
  pointwise
  refine congrArg (A (ix2 a d) + ·) (Finset.sum_congr rfl fun k _ => ?_)
  refine (sel_le a.val k.val 1536 (by omega) (by omega) (by decide) _).trans ?_
  rfl

end Cert.Kernel2Ideal.Dkv

end
-- ==== Proof.Dkv.Step.lean ====
/- The body of the kernel of the key and value gradients over the extended reals: one tile adds to each accumulator, at each row and feature, the sum
   over the tile's queries. -/
module

public import proofs.«01_k».proof.Proof.Dkv.Runs
public import proofs.«01_k».proof.Proof.Dkv.Blocks
public import Idealize.ShloMosaic.Lib.VecWindow
public import Idealize.ShloMosaic.Lib.Writes
public import Idealize.ShloMosaic.Lib.Pipeline.ReadBack

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Some rows of a block, from a row on. -/
abbrev blk {α : Type} (w o : ℕ) (ho : o + w ≤ 2048) (x : S2048x128.Idx → α) : (⟨2, ![w, 128]⟩ : Shape).Idx → α :=
  fun z => x (ix2 ⟨o + (z 0).val, lt_of_lt_of_le (Nat.add_lt_add_left (show (z 0).val < w from (z 0).isLt) o) ho⟩ (z 1))

/-- A block, read whole. -/
abbrev all {α : Type} (x : S2048x128.Idx → α) : S2048x128.Idx → α := fun z => x (ix2 (z 0) (z 1))

/-- A part of the first of a block's eight rows, from a lane on. -/
abbrev seg {α : Type} (w o : ℕ) (ho : o + w ≤ 2048) (x : S8x2048.Idx → α) : (⟨2, ![1, w]⟩ : Shape).Idx → α :=
  fun z => x (ix2 0 ⟨o + (z 1).val, lt_of_lt_of_le (Nat.add_lt_add_left (show (z 1).val < w from (z 1).isLt) o) ho⟩)

/-- The first of a block's eight rows. -/
abbrev top {α : Type} (x : S8x2048.Idx → α) : S1x2048.Idx → α := fun z => x (ix2 0 (z 1))

section
variable {F : FTy → Type} [FloatOps F]

theorem rd_blk {e : EltTy} {sp : Space} (v : View sig .tc sp S2048x128 e) (x : S2048x128.Idx → Elt F e) (w o : ℕ) (ho : o + w ≤ 2048) (inb) :
    v.readAt (Elt F) (Rect.unit (s := S2048x128) ![o, 0] (⟨2, ![w, 128]⟩ : Shape).size inb).toLoadRect (v.rep x) = blk w o ho x := by
  rw [View.readAt_rep_unit v x inb rfl inb]
  funext z
  refine congrArg x (funext fun b => Fin.ext ?_)
  match b with
  | ⟨0, _⟩ => show o + 1 * (z 0).val = o + (z 0).val; rw [Nat.one_mul]
  | ⟨1, _⟩ => show 0 + 1 * (z 1).val = (z 1).val; rw [Nat.one_mul, Nat.zero_add]

theorem rd_all {e : EltTy} {sp : Space} (v : View sig .tc sp S2048x128 e) (x : S2048x128.Idx → Elt F e) (inb) :
    v.readAt (Elt F) (Rect.unit (s := S2048x128) ![0, 0] S2048x128.size inb).toLoadRect (v.rep x) = all x := by
  rw [View.readAt_rep_unit v x inb rfl inb]
  funext z
  refine congrArg x (funext fun b => Fin.ext ?_)
  match b with
  | ⟨0, _⟩ => show 0 + 1 * (z 0).val = (z 0).val; rw [Nat.one_mul, Nat.zero_add]
  | ⟨1, _⟩ => show 0 + 1 * (z 1).val = (z 1).val; rw [Nat.one_mul, Nat.zero_add]

theorem rd_seg {e : EltTy} {sp : Space} (v : View sig .tc sp S8x2048 e) (x : S8x2048.Idx → Elt F e) (w o : ℕ) (ho : o + w ≤ 2048) (inb) :
    v.readAt (Elt F) (Rect.unit (s := S8x2048) ![0, o] (⟨2, ![1, w]⟩ : Shape).size inb).toLoadRect (v.rep x) = seg w o ho x := by
  rw [View.readAt_rep_unit v x inb rfl inb]
  funext z
  refine congrArg x (funext fun b => Fin.ext ?_)
  match b with
  | ⟨0, _⟩ => show 0 + 1 * (z 0).val = 0; have : (z 0).val < 1 := (z 0).isLt; omega
  | ⟨1, _⟩ => show o + 1 * (z 1).val = o + (z 1).val; rw [Nat.one_mul]

theorem rd_top {e : EltTy} {sp : Space} (v : View sig .tc sp S8x2048 e) (x : S8x2048.Idx → Elt F e) (inb) :
    v.readAt (Elt F) (Rect.unit (s := S8x2048) ![0, 0] S1x2048.size inb).toLoadRect (v.rep x) = top x := by
  rw [View.readAt_rep_unit v x inb rfl inb]
  funext z
  refine congrArg x (funext fun b => Fin.ext ?_)
  match b with
  | ⟨0, _⟩ => show 0 + 1 * (z 0).val = 0; have : (z 0).val < 1 := (z 0).isLt; omega
  | ⟨1, _⟩ => show 0 + 1 * (z 1).val = (z 1).val; rw [Nat.one_mul, Nat.zero_add]

theorem rd_accK (xa : S2048x128.Idx → Elt F .f32) (o : ℕ) (ho : o + 512 ≤ 2048) (inb) :
    scK.view.readAt (Elt F) (Rect.unit (s := S2048x128) ![o, 0] S512x128.size inb).toLoadRect xa = blk 512 o ho xa := by
  funext z
  refine congrArg xa (funext fun b => Fin.ext ?_)
  match b with
  | ⟨0, _⟩ => show o + 1 * (z 0).val = o + (z 0).val; rw [Nat.one_mul]
  | ⟨1, _⟩ => show 0 + 1 * (z 1).val = (z 1).val; rw [Nat.one_mul, Nat.zero_add]

theorem rd_accV (xa : S2048x128.Idx → Elt F .f32) (o : ℕ) (ho : o + 512 ≤ 2048) (inb) :
    scV.view.readAt (Elt F) (Rect.unit (s := S2048x128) ![o, 0] S512x128.size inb).toLoadRect xa = blk 512 o ho xa := by
  funext z
  refine congrArg xa (funext fun b => Fin.ext ?_)
  match b with
  | ⟨0, _⟩ => show o + 1 * (z 0).val = o + (z 0).val; rw [Nat.one_mul]
  | ⟨1, _⟩ => show 0 + 1 * (z 1).val = (z 1).val; rw [Nat.one_mul, Nat.zero_add]

end

/-- Two to the power of a key row's score at a query of a tile, less the query's number. -/
def pT (k q : S2048x128.Idx → EReal) (l : S8x2048.Idx → EReal) (r c : Fin 2048) : EReal :=
  Ideal.exp2 ((∑ e : Fin 128, k (ix2 r e) * q (ix2 c e)) - l (ix2 0 c))

/-- A value row's product with the cotangent of a query of a tile, less the query's number. -/
def tT (v o : S2048x128.Idx → EReal) (d : S8x2048.Idx → EReal) (r c : Fin 2048) : EReal :=
  (∑ e : Fin 128, v (ix2 r e) * o (ix2 c e)) - d (ix2 0 c)

/-- What one query adds to the two gradients. -/
def oneK (q k v o : S2048x128.Idx → EReal) (l d : S8x2048.Idx → EReal) (r : Fin 2048) (f : Fin 128) (c : Fin 2048) : EReal := (pT k q l r c * tT v o d r c) * q (ix2 c f)
def oneV (q k _v o : S2048x128.Idx → EReal) (l _d : S8x2048.Idx → EReal) (r : Fin 2048) (f : Fin 128) (c : Fin 2048) : EReal := pT k q l r c * o (ix2 c f)

variable (one : (q k v o : S2048x128.Idx → EReal) → (l d : S8x2048.Idx → EReal) → Fin 2048 → Fin 128 → Fin 2048 → EReal) in
/-- What a tile after the diagonal adds. -/
def fullC (q k v o : S2048x128.Idx → EReal) (l d : S8x2048.Idx → EReal) (r : Fin 2048) (f : Fin 128) : EReal := ∑ c : Fin 2048, one q k v o l d r f c

variable (one : (q k v o : S2048x128.Idx → EReal) → (l d : S8x2048.Idx → EReal) → Fin 2048 → Fin 128 → Fin 2048 → EReal) in
/-- What a diagonal tile adds. -/
def diagC (q k v o : S2048x128.Idx → EReal) (l d : S8x2048.Idx → EReal) (r : Fin 2048) (f : Fin 128) : EReal :=
  ∑ c : Fin 2048, if r.val ≤ c.val then one q k v o l d r f c else 0

/-- A sum over the queries not before a row starts with the queries that can be. -/
theorem sum_start (w o : ℕ) (hw : o + w = 2048) (a : ℕ) (g : Fin 2048 → EReal) :
    (∑ c : Fin w, if a ≤ c.val then g ⟨o + c.val, by have := c.isLt; omega⟩ else 0) = ∑ c : Fin 2048, if o + a ≤ c.val then g c else 0 := by
  rw [← Finset.sum_filter, ← Finset.sum_filter]
  refine Finset.sum_bij (fun c _ => (⟨o + c.val, by have := c.isLt; omega⟩ : Fin 2048)) ?_ ?_ ?_ ?_
  · intro c hc; have h : a ≤ c.val := by simpa using hc
    simpa using h
  · intro c _ c' _ h; exact Fin.ext (by simpa using h)
  · intro c hc; have h : o + a ≤ c.val := by simpa using hc
    have hc := c.isLt
    exact ⟨⟨c.val - o, by omega⟩, by simp; omega, Fin.ext (show o + (c.val - o) = c.val by omega)⟩
  · intro c _; rfl

theorem fullTK0 (q k v o : S2048x128.Idx → EReal) (l d : S8x2048.Idx → EReal) (a : Fin 512) (f : Fin 128) :
    (∑ c : Fin 2048, (pw (blk 512 0 (by decide) k) (all q) (top l) a c * tw (blk 512 0 (by decide) v) (all o) (top d) a c) * (all q) (ix2 c f)) = fullC oneK q k v o l d ⟨0 + a.val, by omega⟩ f := rfl

theorem diagTK0 (q k v o : S2048x128.Idx → EReal) (l d : S8x2048.Idx → EReal) (a : Fin 512) (f : Fin 128) :
    (∑ c : Fin 2048, if a.val ≤ c.val then (pw (blk 512 0 (by decide) k) (blk 2048 0 (by decide) q) (seg 2048 0 (by decide) l) a c * tw (blk 512 0 (by decide) v) (blk 2048 0 (by decide) o) (seg 2048 0 (by decide) d) a c) * (blk 2048 0 (by decide) q) (ix2 c f) else 0)
      = diagC oneK q k v o l d ⟨0 + a.val, by omega⟩ f :=
  sum_start 2048 0 (by decide) a.val fun c => oneK q k v o l d ⟨0 + a.val, by omega⟩ f c

theorem fullTV0 (q k v o : S2048x128.Idx → EReal) (l d : S8x2048.Idx → EReal) (a : Fin 512) (f : Fin 128) :
    (∑ c : Fin 2048, pw (blk 512 0 (by decide) k) (all q) (top l) a c * (all o) (ix2 c f)) = fullC oneV q k v o l d ⟨0 + a.val, by omega⟩ f := rfl

theorem diagTV0 (q k v o : S2048x128.Idx → EReal) (l d : S8x2048.Idx → EReal) (a : Fin 512) (f : Fin 128) :
    (∑ c : Fin 2048, if a.val ≤ c.val then pw (blk 512 0 (by decide) k) (blk 2048 0 (by decide) q) (seg 2048 0 (by decide) l) a c * (blk 2048 0 (by decide) o) (ix2 c f) else 0)
      = diagC oneV q k v o l d ⟨0 + a.val, by omega⟩ f :=
  sum_start 2048 0 (by decide) a.val fun c => oneV q k v o l d ⟨0 + a.val, by omega⟩ f c

theorem fullTK1 (q k v o : S2048x128.Idx → EReal) (l d : S8x2048.Idx → EReal) (a : Fin 512) (f : Fin 128) :
    (∑ c : Fin 2048, (pw (blk 512 512 (by decide) k) (all q) (top l) a c * tw (blk 512 512 (by decide) v) (all o) (top d) a c) * (all q) (ix2 c f)) = fullC oneK q k v o l d ⟨512 + a.val, by omega⟩ f := rfl

theorem diagTK1 (q k v o : S2048x128.Idx → EReal) (l d : S8x2048.Idx → EReal) (a : Fin 512) (f : Fin 128) :
    (∑ c : Fin 1536, if a.val ≤ c.val then (pw (blk 512 512 (by decide) k) (blk 1536 512 (by decide) q) (seg 1536 512 (by decide) l) a c * tw (blk 512 512 (by decide) v) (blk 1536 512 (by decide) o) (seg 1536 512 (by decide) d) a c) * (blk 1536 512 (by decide) q) (ix2 c f) else 0)
      = diagC oneK q k v o l d ⟨512 + a.val, by omega⟩ f :=
  sum_start 1536 512 (by decide) a.val fun c => oneK q k v o l d ⟨512 + a.val, by omega⟩ f c

theorem fullTV1 (q k v o : S2048x128.Idx → EReal) (l d : S8x2048.Idx → EReal) (a : Fin 512) (f : Fin 128) :
    (∑ c : Fin 2048, pw (blk 512 512 (by decide) k) (all q) (top l) a c * (all o) (ix2 c f)) = fullC oneV q k v o l d ⟨512 + a.val, by omega⟩ f := rfl

theorem diagTV1 (q k v o : S2048x128.Idx → EReal) (l d : S8x2048.Idx → EReal) (a : Fin 512) (f : Fin 128) :
    (∑ c : Fin 1536, if a.val ≤ c.val then pw (blk 512 512 (by decide) k) (blk 1536 512 (by decide) q) (seg 1536 512 (by decide) l) a c * (blk 1536 512 (by decide) o) (ix2 c f) else 0)
      = diagC oneV q k v o l d ⟨512 + a.val, by omega⟩ f :=
  sum_start 1536 512 (by decide) a.val fun c => oneV q k v o l d ⟨512 + a.val, by omega⟩ f c

theorem fullTK2 (q k v o : S2048x128.Idx → EReal) (l d : S8x2048.Idx → EReal) (a : Fin 512) (f : Fin 128) :
    (∑ c : Fin 2048, (pw (blk 512 1024 (by decide) k) (all q) (top l) a c * tw (blk 512 1024 (by decide) v) (all o) (top d) a c) * (all q) (ix2 c f)) = fullC oneK q k v o l d ⟨1024 + a.val, by omega⟩ f := rfl

theorem diagTK2 (q k v o : S2048x128.Idx → EReal) (l d : S8x2048.Idx → EReal) (a : Fin 512) (f : Fin 128) :
    (∑ c : Fin 1024, if a.val ≤ c.val then (pw (blk 512 1024 (by decide) k) (blk 1024 1024 (by decide) q) (seg 1024 1024 (by decide) l) a c * tw (blk 512 1024 (by decide) v) (blk 1024 1024 (by decide) o) (seg 1024 1024 (by decide) d) a c) * (blk 1024 1024 (by decide) q) (ix2 c f) else 0)
      = diagC oneK q k v o l d ⟨1024 + a.val, by omega⟩ f :=
  sum_start 1024 1024 (by decide) a.val fun c => oneK q k v o l d ⟨1024 + a.val, by omega⟩ f c

theorem fullTV2 (q k v o : S2048x128.Idx → EReal) (l d : S8x2048.Idx → EReal) (a : Fin 512) (f : Fin 128) :
    (∑ c : Fin 2048, pw (blk 512 1024 (by decide) k) (all q) (top l) a c * (all o) (ix2 c f)) = fullC oneV q k v o l d ⟨1024 + a.val, by omega⟩ f := rfl

theorem diagTV2 (q k v o : S2048x128.Idx → EReal) (l d : S8x2048.Idx → EReal) (a : Fin 512) (f : Fin 128) :
    (∑ c : Fin 1024, if a.val ≤ c.val then pw (blk 512 1024 (by decide) k) (blk 1024 1024 (by decide) q) (seg 1024 1024 (by decide) l) a c * (blk 1024 1024 (by decide) o) (ix2 c f) else 0)
      = diagC oneV q k v o l d ⟨1024 + a.val, by omega⟩ f :=
  sum_start 1024 1024 (by decide) a.val fun c => oneV q k v o l d ⟨1024 + a.val, by omega⟩ f c

theorem fullTK3 (q k v o : S2048x128.Idx → EReal) (l d : S8x2048.Idx → EReal) (a : Fin 512) (f : Fin 128) :
    (∑ c : Fin 2048, (pw (blk 512 1536 (by decide) k) (all q) (top l) a c * tw (blk 512 1536 (by decide) v) (all o) (top d) a c) * (all q) (ix2 c f)) = fullC oneK q k v o l d ⟨1536 + a.val, by omega⟩ f := rfl

theorem diagTK3 (q k v o : S2048x128.Idx → EReal) (l d : S8x2048.Idx → EReal) (a : Fin 512) (f : Fin 128) :
    (∑ c : Fin 512, if a.val ≤ c.val then (pw (blk 512 1536 (by decide) k) (blk 512 1536 (by decide) q) (seg 512 1536 (by decide) l) a c * tw (blk 512 1536 (by decide) v) (blk 512 1536 (by decide) o) (seg 512 1536 (by decide) d) a c) * (blk 512 1536 (by decide) q) (ix2 c f) else 0)
      = diagC oneK q k v o l d ⟨1536 + a.val, by omega⟩ f :=
  sum_start 512 1536 (by decide) a.val fun c => oneK q k v o l d ⟨1536 + a.val, by omega⟩ f c

theorem fullTV3 (q k v o : S2048x128.Idx → EReal) (l d : S8x2048.Idx → EReal) (a : Fin 512) (f : Fin 128) :
    (∑ c : Fin 2048, pw (blk 512 1536 (by decide) k) (all q) (top l) a c * (all o) (ix2 c f)) = fullC oneV q k v o l d ⟨1536 + a.val, by omega⟩ f := rfl

theorem diagTV3 (q k v o : S2048x128.Idx → EReal) (l d : S8x2048.Idx → EReal) (a : Fin 512) (f : Fin 128) :
    (∑ c : Fin 512, if a.val ≤ c.val then pw (blk 512 1536 (by decide) k) (blk 512 1536 (by decide) q) (seg 512 1536 (by decide) l) a c * (blk 512 1536 (by decide) o) (ix2 c f) else 0)
      = diagC oneV q k v o l d ⟨1536 + a.val, by omega⟩ f :=
  sum_start 512 1536 (by decide) a.val fun c => oneV q k v o l d ⟨1536 + a.val, by omega⟩ f c

/-- Four stored blocks of rows make a whole, whatever was stored before them. -/
theorem four {sp : Space} (v : View sig .tc sp S2048x128 .f32) (f0 : v.ty.Contents (Elt Ideal)) (i3 i2 i1 i0) (P3 P2 P1 P0 : S512x128.Idx → EReal)
    (L : List (View.Piece (Elt Ideal) S2048x128 .f32)) (G : S2048x128.Idx → EReal)
    (h3 : ∀ (a : Fin 512) (f : Fin 128), P3 (ix2 a f) = G (ix2 ⟨1536 + a.val, by omega⟩ f))
    (h2 : ∀ (a : Fin 512) (f : Fin 128), P2 (ix2 a f) = G (ix2 ⟨1024 + a.val, by omega⟩ f))
    (h1 : ∀ (a : Fin 512) (f : Fin 128), P1 (ix2 a f) = G (ix2 ⟨512 + a.val, by omega⟩ f))
    (h0 : ∀ (a : Fin 512) (f : Fin 128), P0 (ix2 a f) = G (ix2 ⟨0 + a.val, by omega⟩ f)) :
    v.read (Elt Ideal) (v.writes (Elt Ideal) f0 (⟨Rect.unit (s := S2048x128) ![1536, 0] S512x128.size i3, P3⟩ :: ⟨Rect.unit (s := S2048x128) ![1024, 0] S512x128.size i2, P2⟩
      :: ⟨Rect.unit (s := S2048x128) ![512, 0] S512x128.size i1, P1⟩ :: ⟨Rect.unit (s := S2048x128) ![0, 0] S512x128.size i0, P0⟩ :: L)) = G := by
  funext y
  obtain ⟨r, f, rfl⟩ : ∃ (r : Fin 2048) (f : Fin 128), y = ix2 r f := ⟨y 0, y 1, funext fun b => by
    match b with
    | ⟨0, _⟩ => rfl
    | ⟨1, _⟩ => rfl⟩
  by_cases c3 : 1536 ≤ r.val
  · refine (View.read_writes_cons_rows_of_mem v f0 i3 P3 _ (ix2 r f) (ix2 (n0 := 512) (n1 := 128) ⟨r.val - 1536, by omega⟩ f) rfl (show r.val = 1536 + (r.val - 1536) by omega) rfl).trans ((h3 _ _).trans ?_)
    exact congrArg (fun z => G (ix2 z f)) (Fin.ext (show 1536 + (r.val - 1536) = r.val by omega))
  refine (View.read_writes_cons_rows_of_not_mem (W := 512) v f0 i3 P3 _ (ix2 r f) rfl rfl (Or.inl (show r.val < 1536 by omega))).trans ?_
  by_cases c2 : 1024 ≤ r.val
  · refine (View.read_writes_cons_rows_of_mem v f0 i2 P2 _ (ix2 r f) (ix2 (n0 := 512) (n1 := 128) ⟨r.val - 1024, by omega⟩ f) rfl (show r.val = 1024 + (r.val - 1024) by omega) rfl).trans ((h2 _ _).trans ?_)
    exact congrArg (fun z => G (ix2 z f)) (Fin.ext (show 1024 + (r.val - 1024) = r.val by omega))
  refine (View.read_writes_cons_rows_of_not_mem (W := 512) v f0 i2 P2 _ (ix2 r f) rfl rfl (Or.inl (show r.val < 1024 by omega))).trans ?_
  by_cases c1 : 512 ≤ r.val
  · refine (View.read_writes_cons_rows_of_mem v f0 i1 P1 _ (ix2 r f) (ix2 (n0 := 512) (n1 := 128) ⟨r.val - 512, by omega⟩ f) rfl (show r.val = 512 + (r.val - 512) by omega) rfl).trans ((h1 _ _).trans ?_)
    exact congrArg (fun z => G (ix2 z f)) (Fin.ext (show 512 + (r.val - 512) = r.val by omega))
  refine (View.read_writes_cons_rows_of_not_mem (W := 512) v f0 i1 P1 _ (ix2 r f) rfl rfl (Or.inl (show r.val < 512 by omega))).trans ?_
  refine (View.read_writes_cons_rows_of_mem v f0 i0 P0 _ (ix2 r f) (ix2 (n0 := 512) (n1 := 128) ⟨r.val, by omega⟩ f) rfl (show r.val = 0 + r.val by omega) rfl).trans ((h0 _ _).trans ?_)
  exact congrArg (fun z => G (ix2 z f)) (Fin.ext (show 0 + r.val = r.val by omega))

/-- The rows of an accumulator a run finds there where it has only been cleared. -/
theorem rd_clearK (o : ℕ) (inb) (inb0) :
    scK.view.readCov (Val := Elt Ideal) [⟨Rect.unit (s := S2048x128) ![0, 0] S2048x128.size inb0, k0_pay1 (F := Ideal)⟩] (Rect.unit (s := S2048x128) ![o, 0] S512x128.size inb).toLoadRect = fun _ => (0 : EReal) := by
  funext z
  show scK.view.read (Elt Ideal) (scK.view.writes (Elt Ideal) scK.view.junk _) ((Rect.unit (s := S2048x128) ![o, 0] S512x128.size inb).toLoadRect.idx z) = (0 : EReal)
  refine (congrFun (View.read_writes_full (Val := Elt Ideal) scK.view scK.view.junk inb0 (k0_pay1 (F := Ideal)) []) _).trans ?_
  simp only [k0_pay1]
  pointwise

/-- The rows of an accumulator a run finds there where it has only been cleared. -/
theorem rd_clearV (o : ℕ) (inb) (inb0) :
    scV.view.readCov (Val := Elt Ideal) [⟨Rect.unit (s := S2048x128) ![0, 0] S2048x128.size inb0, k0_pay2 (F := Ideal)⟩] (Rect.unit (s := S2048x128) ![o, 0] S512x128.size inb).toLoadRect = fun _ => (0 : EReal) := by
  funext z
  show scV.view.read (Elt Ideal) (scV.view.writes (Elt Ideal) scV.view.junk _) ((Rect.unit (s := S2048x128) ![o, 0] S512x128.size inb).toLoadRect.idx z) = (0 : EReal)
  refine (congrFun (View.read_writes_full (Val := Elt Ideal) scV.view scV.view.junk inb0 (k0_pay2 (F := Ideal)) []) _).trans ?_
  simp only [k0_pay2]
  pointwise

/-- Rows stored above do not matter to the rows read. -/
theorem skip_at {sp : Space} (v : View sig .tc sp S2048x128 .f32) (f0 : v.ty.Contents (Elt Ideal)) (o' : ℕ) (inb') (P : S512x128.Idx → EReal) (L : List (View.Piece (Elt Ideal) S2048x128 .f32))
    (y : S2048x128.Idx) (h : o' + 512 ≤ (y (0 : Fin 2)).val) :
    v.read (Elt Ideal) (v.writes (Elt Ideal) f0 (⟨Rect.unit (s := S2048x128) ![o', 0] S512x128.size inb', P⟩ :: L)) y = v.read (Elt Ideal) (v.writes (Elt Ideal) f0 L) y :=
  View.read_writes_cons_rows_of_not_mem (W := 512) v f0 inb' P L y rfl rfl (Or.inr h)

theorem rd_skip {sp : Space} (v : View sig .tc sp S2048x128 .f32) (o' o : ℕ) (h : o' + 512 ≤ o) (inb) (inb') (P : S512x128.Idx → EReal) (L : List (View.Piece (Elt Ideal) S2048x128 .f32)) :
    v.readCov (Val := Elt Ideal) (⟨Rect.unit (s := S2048x128) ![o', 0] S512x128.size inb', P⟩ :: L) (Rect.unit (s := S2048x128) ![o, 0] S512x128.size inb).toLoadRect
      = v.readCov (Val := Elt Ideal) L (Rect.unit (s := S2048x128) ![o, 0] S512x128.size inb).toLoadRect := by
  funext z
  have e := skip_at v v.junk o' inb' P L ((Rect.unit (s := S2048x128) ![o, 0] S512x128.size inb).toLoadRect.idx z) (show o' + 512 ≤ o + 1 * (z 0).val by omega)
  exact e

variable (c : Dev nD) (i : grid0.Coords) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S8x2048 .f32) (harg8 : arg8.IsWhole) (arg9 : Memref sig .tc .vmem S8x2048 .f32) (harg9 : arg9.IsWhole) (arg10 : Memref sig .tc .vmem S2048x128 .bf16) (harg10 : arg10.IsWhole) (arg11 : Memref sig .tc .vmem S2048x128 .bf16) (harg11 : arg11.IsWhole)
  (T0 T1 : S10.Idx → Elt Ideal .i32) (x0 x1 x2 x3 : S2048x128.Idx → Elt Ideal .bf16) (x4 x5 : S8x2048.Idx → Elt Ideal .f32)

/-- What the key gradient's accumulator holds after it. -/
theorem runStart_valK (h1 : IsDiag T0 T1 i) (h2 : ¬IsAfter T0 T1 i) (h3 : ¬IsLast T1 i) :
    (runStart (F := Ideal) c i arg4 harg4 arg5 harg5 arg6 harg6 arg7 harg7 arg8 harg8 arg9 harg9 arg10 harg10 arg11 harg11 T0 T1 x0 x1 x2 x3 x4 x5 h1 h2 h3).1 = (fun y => diagC oneK x0 x1 x2 x3 x4 x5 (y 0) (y 1) : S2048x128.Idx → EReal) := by
  dsimp only [runStart]
  sl_unfold_run_names
  refine (View.read_whole cc0_scratch0 _).symm.trans ?_
  refine four (View.whole cc0_scratch0) _ _ _ _ _ _ _ _ _ _ (fun y => diagC oneK x0 x1 x2 x3 x4 x5 (y 0) (y 1) : S2048x128.Idx → EReal) ?_ ?_ ?_ ?_
  · intro a f
    rw [rd_blk (F := Ideal) arg5.view x1 512 1536 (by decide), rd_blk (F := Ideal) arg4.view x0 512 1536 (by decide), rd_blk (F := Ideal) arg7.view x3 512 1536 (by decide), rd_seg (F := Ideal) arg8.view x4 512 1536 (by decide), rd_blk (F := Ideal) arg6.view x2 512 1536 (by decide), rd_seg (F := Ideal) arg9.view x5 512 1536 (by decide), rd_skip scK.view 1024 1536 (by decide), rd_skip scK.view 512 1536 (by decide), rd_skip scK.view 0 1536 (by decide), rd_clearK 1536]
    refine (diagK3 (fun _ => 0) (blk 512 1536 (by decide) x1) (blk 512 1536 (by decide) x2) (blk 512 1536 (by decide) x0) (blk 512 1536 (by decide) x3) (seg 512 1536 (by decide) x4) (seg 512 1536 (by decide) x5) a f).trans ?_
    rw [diagTK3 x0 x1 x2 x3 x4 x5 a f, zero_add]
    rfl
  · intro a f
    rw [rd_blk (F := Ideal) arg5.view x1 512 1024 (by decide), rd_blk (F := Ideal) arg4.view x0 1024 1024 (by decide), rd_blk (F := Ideal) arg7.view x3 1024 1024 (by decide), rd_seg (F := Ideal) arg8.view x4 1024 1024 (by decide), rd_blk (F := Ideal) arg6.view x2 512 1024 (by decide), rd_seg (F := Ideal) arg9.view x5 1024 1024 (by decide), rd_skip scK.view 512 1024 (by decide), rd_skip scK.view 0 1024 (by decide), rd_clearK 1024]
    refine (diagK2 (fun _ => 0) (blk 512 1024 (by decide) x1) (blk 512 1024 (by decide) x2) (blk 1024 1024 (by decide) x0) (blk 1024 1024 (by decide) x3) (seg 1024 1024 (by decide) x4) (seg 1024 1024 (by decide) x5) a f).trans ?_
    rw [diagTK2 x0 x1 x2 x3 x4 x5 a f, zero_add]
    rfl
  · intro a f
    rw [rd_blk (F := Ideal) arg5.view x1 512 512 (by decide), rd_blk (F := Ideal) arg4.view x0 1536 512 (by decide), rd_blk (F := Ideal) arg7.view x3 1536 512 (by decide), rd_seg (F := Ideal) arg8.view x4 1536 512 (by decide), rd_blk (F := Ideal) arg6.view x2 512 512 (by decide), rd_seg (F := Ideal) arg9.view x5 1536 512 (by decide), rd_skip scK.view 0 512 (by decide), rd_clearK 512]
    refine (diagK1 (fun _ => 0) (blk 512 512 (by decide) x1) (blk 512 512 (by decide) x2) (blk 1536 512 (by decide) x0) (blk 1536 512 (by decide) x3) (seg 1536 512 (by decide) x4) (seg 1536 512 (by decide) x5) a f).trans ?_
    rw [diagTK1 x0 x1 x2 x3 x4 x5 a f, zero_add]
    rfl
  · intro a f
    rw [rd_blk (F := Ideal) arg5.view x1 512 0 (by decide), rd_blk (F := Ideal) arg4.view x0 2048 0 (by decide), rd_blk (F := Ideal) arg7.view x3 2048 0 (by decide), rd_seg (F := Ideal) arg8.view x4 2048 0 (by decide), rd_blk (F := Ideal) arg6.view x2 512 0 (by decide), rd_seg (F := Ideal) arg9.view x5 2048 0 (by decide), rd_clearK 0]
    refine (diagK0 (fun _ => 0) (blk 512 0 (by decide) x1) (blk 512 0 (by decide) x2) (blk 2048 0 (by decide) x0) (blk 2048 0 (by decide) x3) (seg 2048 0 (by decide) x4) (seg 2048 0 (by decide) x5) a f).trans ?_
    rw [diagTK0 x0 x1 x2 x3 x4 x5 a f, zero_add]
    rfl

/-- What the value gradient's accumulator holds after it. -/
theorem runStart_valV (h1 : IsDiag T0 T1 i) (h2 : ¬IsAfter T0 T1 i) (h3 : ¬IsLast T1 i) :
    (runStart (F := Ideal) c i arg4 harg4 arg5 harg5 arg6 harg6 arg7 harg7 arg8 harg8 arg9 harg9 arg10 harg10 arg11 harg11 T0 T1 x0 x1 x2 x3 x4 x5 h1 h2 h3).2.1 = (fun y => diagC oneV x0 x1 x2 x3 x4 x5 (y 0) (y 1) : S2048x128.Idx → EReal) := by
  dsimp only [runStart]
  sl_unfold_run_names
  refine (View.read_whole cc0_scratch1 _).symm.trans ?_
  refine four (View.whole cc0_scratch1) _ _ _ _ _ _ _ _ _ _ (fun y => diagC oneV x0 x1 x2 x3 x4 x5 (y 0) (y 1) : S2048x128.Idx → EReal) ?_ ?_ ?_ ?_
  · intro a f
    rw [rd_blk (F := Ideal) arg5.view x1 512 1536 (by decide), rd_blk (F := Ideal) arg4.view x0 512 1536 (by decide), rd_blk (F := Ideal) arg7.view x3 512 1536 (by decide), rd_seg (F := Ideal) arg8.view x4 512 1536 (by decide), rd_skip scV.view 1024 1536 (by decide), rd_skip scV.view 512 1536 (by decide), rd_skip scV.view 0 1536 (by decide), rd_clearV 1536]
    refine (diagV3 (fun _ => 0) (blk 512 1536 (by decide) x1) (blk 512 1536 (by decide) x2) (blk 512 1536 (by decide) x0) (blk 512 1536 (by decide) x3) (seg 512 1536 (by decide) x4) (seg 512 1536 (by decide) x5) a f).trans ?_
    rw [diagTV3 x0 x1 x2 x3 x4 x5 a f, zero_add]
    rfl
  · intro a f
    rw [rd_blk (F := Ideal) arg5.view x1 512 1024 (by decide), rd_blk (F := Ideal) arg4.view x0 1024 1024 (by decide), rd_blk (F := Ideal) arg7.view x3 1024 1024 (by decide), rd_seg (F := Ideal) arg8.view x4 1024 1024 (by decide), rd_skip scV.view 512 1024 (by decide), rd_skip scV.view 0 1024 (by decide), rd_clearV 1024]
    refine (diagV2 (fun _ => 0) (blk 512 1024 (by decide) x1) (blk 512 1024 (by decide) x2) (blk 1024 1024 (by decide) x0) (blk 1024 1024 (by decide) x3) (seg 1024 1024 (by decide) x4) (seg 1024 1024 (by decide) x5) a f).trans ?_
    rw [diagTV2 x0 x1 x2 x3 x4 x5 a f, zero_add]
    rfl
  · intro a f
    rw [rd_blk (F := Ideal) arg5.view x1 512 512 (by decide), rd_blk (F := Ideal) arg4.view x0 1536 512 (by decide), rd_blk (F := Ideal) arg7.view x3 1536 512 (by decide), rd_seg (F := Ideal) arg8.view x4 1536 512 (by decide), rd_skip scV.view 0 512 (by decide), rd_clearV 512]
    refine (diagV1 (fun _ => 0) (blk 512 512 (by decide) x1) (blk 512 512 (by decide) x2) (blk 1536 512 (by decide) x0) (blk 1536 512 (by decide) x3) (seg 1536 512 (by decide) x4) (seg 1536 512 (by decide) x5) a f).trans ?_
    rw [diagTV1 x0 x1 x2 x3 x4 x5 a f, zero_add]
    rfl
  · intro a f
    rw [rd_blk (F := Ideal) arg5.view x1 512 0 (by decide), rd_blk (F := Ideal) arg4.view x0 2048 0 (by decide), rd_blk (F := Ideal) arg7.view x3 2048 0 (by decide), rd_seg (F := Ideal) arg8.view x4 2048 0 (by decide), rd_clearV 0]
    refine (diagV0 (fun _ => 0) (blk 512 0 (by decide) x1) (blk 512 0 (by decide) x2) (blk 2048 0 (by decide) x0) (blk 2048 0 (by decide) x3) (seg 2048 0 (by decide) x4) (seg 2048 0 (by decide) x5) a f).trans ?_
    rw [diagTV0 x0 x1 x2 x3 x4 x5 a f, zero_add]
    rfl

/-- What the key gradient's accumulator holds after it. -/
theorem runOnly_valK (h1 : IsDiag T0 T1 i) (h2 : ¬IsAfter T0 T1 i) (h3 : IsLast T1 i) :
    (runOnly (F := Ideal) c i arg4 harg4 arg5 harg5 arg6 harg6 arg7 harg7 arg8 harg8 arg9 harg9 arg10 harg10 arg11 harg11 T0 T1 x0 x1 x2 x3 x4 x5 h1 h2 h3).2.2.1 = (fun y => diagC oneK x0 x1 x2 x3 x4 x5 (y 0) (y 1) : S2048x128.Idx → EReal) := by
  dsimp only [runOnly]
  sl_unfold_run_names
  refine (View.read_whole cc0_scratch0 _).symm.trans ?_
  refine four (View.whole cc0_scratch0) _ _ _ _ _ _ _ _ _ _ (fun y => diagC oneK x0 x1 x2 x3 x4 x5 (y 0) (y 1) : S2048x128.Idx → EReal) ?_ ?_ ?_ ?_
  · intro a f
    rw [rd_blk (F := Ideal) arg5.view x1 512 1536 (by decide), rd_blk (F := Ideal) arg4.view x0 512 1536 (by decide), rd_blk (F := Ideal) arg7.view x3 512 1536 (by decide), rd_seg (F := Ideal) arg8.view x4 512 1536 (by decide), rd_blk (F := Ideal) arg6.view x2 512 1536 (by decide), rd_seg (F := Ideal) arg9.view x5 512 1536 (by decide), rd_skip scK.view 1024 1536 (by decide), rd_skip scK.view 512 1536 (by decide), rd_skip scK.view 0 1536 (by decide), rd_clearK 1536]
    refine (diagK3 (fun _ => 0) (blk 512 1536 (by decide) x1) (blk 512 1536 (by decide) x2) (blk 512 1536 (by decide) x0) (blk 512 1536 (by decide) x3) (seg 512 1536 (by decide) x4) (seg 512 1536 (by decide) x5) a f).trans ?_
    rw [diagTK3 x0 x1 x2 x3 x4 x5 a f, zero_add]
    rfl
  · intro a f
    rw [rd_blk (F := Ideal) arg5.view x1 512 1024 (by decide), rd_blk (F := Ideal) arg4.view x0 1024 1024 (by decide), rd_blk (F := Ideal) arg7.view x3 1024 1024 (by decide), rd_seg (F := Ideal) arg8.view x4 1024 1024 (by decide), rd_blk (F := Ideal) arg6.view x2 512 1024 (by decide), rd_seg (F := Ideal) arg9.view x5 1024 1024 (by decide), rd_skip scK.view 512 1024 (by decide), rd_skip scK.view 0 1024 (by decide), rd_clearK 1024]
    refine (diagK2 (fun _ => 0) (blk 512 1024 (by decide) x1) (blk 512 1024 (by decide) x2) (blk 1024 1024 (by decide) x0) (blk 1024 1024 (by decide) x3) (seg 1024 1024 (by decide) x4) (seg 1024 1024 (by decide) x5) a f).trans ?_
    rw [diagTK2 x0 x1 x2 x3 x4 x5 a f, zero_add]
    rfl
  · intro a f
    rw [rd_blk (F := Ideal) arg5.view x1 512 512 (by decide), rd_blk (F := Ideal) arg4.view x0 1536 512 (by decide), rd_blk (F := Ideal) arg7.view x3 1536 512 (by decide), rd_seg (F := Ideal) arg8.view x4 1536 512 (by decide), rd_blk (F := Ideal) arg6.view x2 512 512 (by decide), rd_seg (F := Ideal) arg9.view x5 1536 512 (by decide), rd_skip scK.view 0 512 (by decide), rd_clearK 512]
    refine (diagK1 (fun _ => 0) (blk 512 512 (by decide) x1) (blk 512 512 (by decide) x2) (blk 1536 512 (by decide) x0) (blk 1536 512 (by decide) x3) (seg 1536 512 (by decide) x4) (seg 1536 512 (by decide) x5) a f).trans ?_
    rw [diagTK1 x0 x1 x2 x3 x4 x5 a f, zero_add]
    rfl
  · intro a f
    rw [rd_blk (F := Ideal) arg5.view x1 512 0 (by decide), rd_blk (F := Ideal) arg4.view x0 2048 0 (by decide), rd_blk (F := Ideal) arg7.view x3 2048 0 (by decide), rd_seg (F := Ideal) arg8.view x4 2048 0 (by decide), rd_blk (F := Ideal) arg6.view x2 512 0 (by decide), rd_seg (F := Ideal) arg9.view x5 2048 0 (by decide), rd_clearK 0]
    refine (diagK0 (fun _ => 0) (blk 512 0 (by decide) x1) (blk 512 0 (by decide) x2) (blk 2048 0 (by decide) x0) (blk 2048 0 (by decide) x3) (seg 2048 0 (by decide) x4) (seg 2048 0 (by decide) x5) a f).trans ?_
    rw [diagTK0 x0 x1 x2 x3 x4 x5 a f, zero_add]
    rfl

/-- What the value gradient's accumulator holds after it. -/
theorem runOnly_valV (h1 : IsDiag T0 T1 i) (h2 : ¬IsAfter T0 T1 i) (h3 : IsLast T1 i) :
    (runOnly (F := Ideal) c i arg4 harg4 arg5 harg5 arg6 harg6 arg7 harg7 arg8 harg8 arg9 harg9 arg10 harg10 arg11 harg11 T0 T1 x0 x1 x2 x3 x4 x5 h1 h2 h3).2.2.2.1 = (fun y => diagC oneV x0 x1 x2 x3 x4 x5 (y 0) (y 1) : S2048x128.Idx → EReal) := by
  dsimp only [runOnly]
  sl_unfold_run_names
  refine (View.read_whole cc0_scratch1 _).symm.trans ?_
  refine four (View.whole cc0_scratch1) _ _ _ _ _ _ _ _ _ _ (fun y => diagC oneV x0 x1 x2 x3 x4 x5 (y 0) (y 1) : S2048x128.Idx → EReal) ?_ ?_ ?_ ?_
  · intro a f
    rw [rd_blk (F := Ideal) arg5.view x1 512 1536 (by decide), rd_blk (F := Ideal) arg4.view x0 512 1536 (by decide), rd_blk (F := Ideal) arg7.view x3 512 1536 (by decide), rd_seg (F := Ideal) arg8.view x4 512 1536 (by decide), rd_skip scV.view 1024 1536 (by decide), rd_skip scV.view 512 1536 (by decide), rd_skip scV.view 0 1536 (by decide), rd_clearV 1536]
    refine (diagV3 (fun _ => 0) (blk 512 1536 (by decide) x1) (blk 512 1536 (by decide) x2) (blk 512 1536 (by decide) x0) (blk 512 1536 (by decide) x3) (seg 512 1536 (by decide) x4) (seg 512 1536 (by decide) x5) a f).trans ?_
    rw [diagTV3 x0 x1 x2 x3 x4 x5 a f, zero_add]
    rfl
  · intro a f
    rw [rd_blk (F := Ideal) arg5.view x1 512 1024 (by decide), rd_blk (F := Ideal) arg4.view x0 1024 1024 (by decide), rd_blk (F := Ideal) arg7.view x3 1024 1024 (by decide), rd_seg (F := Ideal) arg8.view x4 1024 1024 (by decide), rd_skip scV.view 512 1024 (by decide), rd_skip scV.view 0 1024 (by decide), rd_clearV 1024]
    refine (diagV2 (fun _ => 0) (blk 512 1024 (by decide) x1) (blk 512 1024 (by decide) x2) (blk 1024 1024 (by decide) x0) (blk 1024 1024 (by decide) x3) (seg 1024 1024 (by decide) x4) (seg 1024 1024 (by decide) x5) a f).trans ?_
    rw [diagTV2 x0 x1 x2 x3 x4 x5 a f, zero_add]
    rfl
  · intro a f
    rw [rd_blk (F := Ideal) arg5.view x1 512 512 (by decide), rd_blk (F := Ideal) arg4.view x0 1536 512 (by decide), rd_blk (F := Ideal) arg7.view x3 1536 512 (by decide), rd_seg (F := Ideal) arg8.view x4 1536 512 (by decide), rd_skip scV.view 0 512 (by decide), rd_clearV 512]
    refine (diagV1 (fun _ => 0) (blk 512 512 (by decide) x1) (blk 512 512 (by decide) x2) (blk 1536 512 (by decide) x0) (blk 1536 512 (by decide) x3) (seg 1536 512 (by decide) x4) (seg 1536 512 (by decide) x5) a f).trans ?_
    rw [diagTV1 x0 x1 x2 x3 x4 x5 a f, zero_add]
    rfl
  · intro a f
    rw [rd_blk (F := Ideal) arg5.view x1 512 0 (by decide), rd_blk (F := Ideal) arg4.view x0 2048 0 (by decide), rd_blk (F := Ideal) arg7.view x3 2048 0 (by decide), rd_seg (F := Ideal) arg8.view x4 2048 0 (by decide), rd_clearV 0]
    refine (diagV0 (fun _ => 0) (blk 512 0 (by decide) x1) (blk 512 0 (by decide) x2) (blk 2048 0 (by decide) x0) (blk 2048 0 (by decide) x3) (seg 2048 0 (by decide) x4) (seg 2048 0 (by decide) x5) a f).trans ?_
    rw [diagTV0 x0 x1 x2 x3 x4 x5 a f, zero_add]
    rfl

/-- What the key gradient's accumulator holds after it. -/
theorem runMid_valK (xk xv : S2048x128.Idx → EReal) (h1 : ¬IsDiag T0 T1 i) (h2 : IsAfter T0 T1 i) (h3 : ¬IsLast T1 i) :
    (runMid (F := Ideal) c i arg4 harg4 arg5 harg5 arg6 harg6 arg7 harg7 arg8 harg8 arg9 harg9 arg10 harg10 arg11 harg11 T0 T1 x0 x1 x2 x3 x4 x5 xk xv h1 h2 h3).1 = (fun y => xk y + fullC oneK x0 x1 x2 x3 x4 x5 (y 0) (y 1) : S2048x128.Idx → EReal) := by
  dsimp only [runMid]
  sl_unfold_run_names
  refine (View.read_whole cc0_scratch0 _).symm.trans ?_
  refine four (View.whole cc0_scratch0) _ _ _ _ _ _ _ _ _ _ (fun y => xk y + fullC oneK x0 x1 x2 x3 x4 x5 (y 0) (y 1) : S2048x128.Idx → EReal) ?_ ?_ ?_ ?_
  · intro a f
    rw [rd_blk (F := Ideal) arg5.view x1 512 1536 (by decide), rd_all (F := Ideal) arg4.view x0, rd_all (F := Ideal) arg7.view x3, rd_top (F := Ideal) arg8.view x4, rd_blk (F := Ideal) arg6.view x2 512 1536 (by decide), rd_top (F := Ideal) arg9.view x5, rd_accK (F := Ideal) xk 1536 (by decide)]
    refine (fullK3 (blk 512 1536 (by decide) xk) (blk 512 1536 (by decide) x1) (blk 512 1536 (by decide) x2) (all x0) (all x3) (top x4) (top x5) a f).trans ?_
    rw [fullTK3 x0 x1 x2 x3 x4 x5 a f]
    rfl
  · intro a f
    rw [rd_blk (F := Ideal) arg5.view x1 512 1024 (by decide), rd_all (F := Ideal) arg4.view x0, rd_all (F := Ideal) arg7.view x3, rd_top (F := Ideal) arg8.view x4, rd_blk (F := Ideal) arg6.view x2 512 1024 (by decide), rd_top (F := Ideal) arg9.view x5, rd_accK (F := Ideal) xk 1024 (by decide)]
    refine (fullK2 (blk 512 1024 (by decide) xk) (blk 512 1024 (by decide) x1) (blk 512 1024 (by decide) x2) (all x0) (all x3) (top x4) (top x5) a f).trans ?_
    rw [fullTK2 x0 x1 x2 x3 x4 x5 a f]
    rfl
  · intro a f
    rw [rd_blk (F := Ideal) arg5.view x1 512 512 (by decide), rd_all (F := Ideal) arg4.view x0, rd_all (F := Ideal) arg7.view x3, rd_top (F := Ideal) arg8.view x4, rd_blk (F := Ideal) arg6.view x2 512 512 (by decide), rd_top (F := Ideal) arg9.view x5, rd_accK (F := Ideal) xk 512 (by decide)]
    refine (fullK1 (blk 512 512 (by decide) xk) (blk 512 512 (by decide) x1) (blk 512 512 (by decide) x2) (all x0) (all x3) (top x4) (top x5) a f).trans ?_
    rw [fullTK1 x0 x1 x2 x3 x4 x5 a f]
    rfl
  · intro a f
    rw [rd_blk (F := Ideal) arg5.view x1 512 0 (by decide), rd_all (F := Ideal) arg4.view x0, rd_all (F := Ideal) arg7.view x3, rd_top (F := Ideal) arg8.view x4, rd_blk (F := Ideal) arg6.view x2 512 0 (by decide), rd_top (F := Ideal) arg9.view x5, rd_accK (F := Ideal) xk 0 (by decide)]
    refine (fullK0 (blk 512 0 (by decide) xk) (blk 512 0 (by decide) x1) (blk 512 0 (by decide) x2) (all x0) (all x3) (top x4) (top x5) a f).trans ?_
    rw [fullTK0 x0 x1 x2 x3 x4 x5 a f]
    rfl

/-- What the value gradient's accumulator holds after it. -/
theorem runMid_valV (xk xv : S2048x128.Idx → EReal) (h1 : ¬IsDiag T0 T1 i) (h2 : IsAfter T0 T1 i) (h3 : ¬IsLast T1 i) :
    (runMid (F := Ideal) c i arg4 harg4 arg5 harg5 arg6 harg6 arg7 harg7 arg8 harg8 arg9 harg9 arg10 harg10 arg11 harg11 T0 T1 x0 x1 x2 x3 x4 x5 xk xv h1 h2 h3).2.1 = (fun y => xv y + fullC oneV x0 x1 x2 x3 x4 x5 (y 0) (y 1) : S2048x128.Idx → EReal) := by
  dsimp only [runMid]
  sl_unfold_run_names
  refine (View.read_whole cc0_scratch1 _).symm.trans ?_
  refine four (View.whole cc0_scratch1) _ _ _ _ _ _ _ _ _ _ (fun y => xv y + fullC oneV x0 x1 x2 x3 x4 x5 (y 0) (y 1) : S2048x128.Idx → EReal) ?_ ?_ ?_ ?_
  · intro a f
    rw [rd_blk (F := Ideal) arg5.view x1 512 1536 (by decide), rd_all (F := Ideal) arg4.view x0, rd_all (F := Ideal) arg7.view x3, rd_top (F := Ideal) arg8.view x4, rd_accV (F := Ideal) xv 1536 (by decide)]
    refine (fullV3 (blk 512 1536 (by decide) xv) (blk 512 1536 (by decide) x1) (blk 512 1536 (by decide) x2) (all x0) (all x3) (top x4) (top x5) a f).trans ?_
    rw [fullTV3 x0 x1 x2 x3 x4 x5 a f]
    rfl
  · intro a f
    rw [rd_blk (F := Ideal) arg5.view x1 512 1024 (by decide), rd_all (F := Ideal) arg4.view x0, rd_all (F := Ideal) arg7.view x3, rd_top (F := Ideal) arg8.view x4, rd_accV (F := Ideal) xv 1024 (by decide)]
    refine (fullV2 (blk 512 1024 (by decide) xv) (blk 512 1024 (by decide) x1) (blk 512 1024 (by decide) x2) (all x0) (all x3) (top x4) (top x5) a f).trans ?_
    rw [fullTV2 x0 x1 x2 x3 x4 x5 a f]
    rfl
  · intro a f
    rw [rd_blk (F := Ideal) arg5.view x1 512 512 (by decide), rd_all (F := Ideal) arg4.view x0, rd_all (F := Ideal) arg7.view x3, rd_top (F := Ideal) arg8.view x4, rd_accV (F := Ideal) xv 512 (by decide)]
    refine (fullV1 (blk 512 512 (by decide) xv) (blk 512 512 (by decide) x1) (blk 512 512 (by decide) x2) (all x0) (all x3) (top x4) (top x5) a f).trans ?_
    rw [fullTV1 x0 x1 x2 x3 x4 x5 a f]
    rfl
  · intro a f
    rw [rd_blk (F := Ideal) arg5.view x1 512 0 (by decide), rd_all (F := Ideal) arg4.view x0, rd_all (F := Ideal) arg7.view x3, rd_top (F := Ideal) arg8.view x4, rd_accV (F := Ideal) xv 0 (by decide)]
    refine (fullV0 (blk 512 0 (by decide) xv) (blk 512 0 (by decide) x1) (blk 512 0 (by decide) x2) (all x0) (all x3) (top x4) (top x5) a f).trans ?_
    rw [fullTV0 x0 x1 x2 x3 x4 x5 a f]
    rfl

/-- What the key gradient's accumulator holds after it. -/
theorem runLast_valK (xk xv : S2048x128.Idx → EReal) (h1 : ¬IsDiag T0 T1 i) (h2 : IsAfter T0 T1 i) (h3 : IsLast T1 i) :
    (runLast (F := Ideal) c i arg4 harg4 arg5 harg5 arg6 harg6 arg7 harg7 arg8 harg8 arg9 harg9 arg10 harg10 arg11 harg11 T0 T1 x0 x1 x2 x3 x4 x5 xk xv h1 h2 h3).2.2.1 = (fun y => xk y + fullC oneK x0 x1 x2 x3 x4 x5 (y 0) (y 1) : S2048x128.Idx → EReal) := by
  dsimp only [runLast]
  sl_unfold_run_names
  refine (View.read_whole cc0_scratch0 _).symm.trans ?_
  refine four (View.whole cc0_scratch0) _ _ _ _ _ _ _ _ _ _ (fun y => xk y + fullC oneK x0 x1 x2 x3 x4 x5 (y 0) (y 1) : S2048x128.Idx → EReal) ?_ ?_ ?_ ?_
  · intro a f
    rw [rd_blk (F := Ideal) arg5.view x1 512 1536 (by decide), rd_all (F := Ideal) arg4.view x0, rd_all (F := Ideal) arg7.view x3, rd_top (F := Ideal) arg8.view x4, rd_blk (F := Ideal) arg6.view x2 512 1536 (by decide), rd_top (F := Ideal) arg9.view x5, rd_accK (F := Ideal) xk 1536 (by decide)]
    refine (fullK3 (blk 512 1536 (by decide) xk) (blk 512 1536 (by decide) x1) (blk 512 1536 (by decide) x2) (all x0) (all x3) (top x4) (top x5) a f).trans ?_
    rw [fullTK3 x0 x1 x2 x3 x4 x5 a f]
    rfl
  · intro a f
    rw [rd_blk (F := Ideal) arg5.view x1 512 1024 (by decide), rd_all (F := Ideal) arg4.view x0, rd_all (F := Ideal) arg7.view x3, rd_top (F := Ideal) arg8.view x4, rd_blk (F := Ideal) arg6.view x2 512 1024 (by decide), rd_top (F := Ideal) arg9.view x5, rd_accK (F := Ideal) xk 1024 (by decide)]
    refine (fullK2 (blk 512 1024 (by decide) xk) (blk 512 1024 (by decide) x1) (blk 512 1024 (by decide) x2) (all x0) (all x3) (top x4) (top x5) a f).trans ?_
    rw [fullTK2 x0 x1 x2 x3 x4 x5 a f]
    rfl
  · intro a f
    rw [rd_blk (F := Ideal) arg5.view x1 512 512 (by decide), rd_all (F := Ideal) arg4.view x0, rd_all (F := Ideal) arg7.view x3, rd_top (F := Ideal) arg8.view x4, rd_blk (F := Ideal) arg6.view x2 512 512 (by decide), rd_top (F := Ideal) arg9.view x5, rd_accK (F := Ideal) xk 512 (by decide)]
    refine (fullK1 (blk 512 512 (by decide) xk) (blk 512 512 (by decide) x1) (blk 512 512 (by decide) x2) (all x0) (all x3) (top x4) (top x5) a f).trans ?_
    rw [fullTK1 x0 x1 x2 x3 x4 x5 a f]
    rfl
  · intro a f
    rw [rd_blk (F := Ideal) arg5.view x1 512 0 (by decide), rd_all (F := Ideal) arg4.view x0, rd_all (F := Ideal) arg7.view x3, rd_top (F := Ideal) arg8.view x4, rd_blk (F := Ideal) arg6.view x2 512 0 (by decide), rd_top (F := Ideal) arg9.view x5, rd_accK (F := Ideal) xk 0 (by decide)]
    refine (fullK0 (blk 512 0 (by decide) xk) (blk 512 0 (by decide) x1) (blk 512 0 (by decide) x2) (all x0) (all x3) (top x4) (top x5) a f).trans ?_
    rw [fullTK0 x0 x1 x2 x3 x4 x5 a f]
    rfl

/-- What the value gradient's accumulator holds after it. -/
theorem runLast_valV (xk xv : S2048x128.Idx → EReal) (h1 : ¬IsDiag T0 T1 i) (h2 : IsAfter T0 T1 i) (h3 : IsLast T1 i) :
    (runLast (F := Ideal) c i arg4 harg4 arg5 harg5 arg6 harg6 arg7 harg7 arg8 harg8 arg9 harg9 arg10 harg10 arg11 harg11 T0 T1 x0 x1 x2 x3 x4 x5 xk xv h1 h2 h3).2.2.2.1 = (fun y => xv y + fullC oneV x0 x1 x2 x3 x4 x5 (y 0) (y 1) : S2048x128.Idx → EReal) := by
  dsimp only [runLast]
  sl_unfold_run_names
  refine (View.read_whole cc0_scratch1 _).symm.trans ?_
  refine four (View.whole cc0_scratch1) _ _ _ _ _ _ _ _ _ _ (fun y => xv y + fullC oneV x0 x1 x2 x3 x4 x5 (y 0) (y 1) : S2048x128.Idx → EReal) ?_ ?_ ?_ ?_
  · intro a f
    rw [rd_blk (F := Ideal) arg5.view x1 512 1536 (by decide), rd_all (F := Ideal) arg4.view x0, rd_all (F := Ideal) arg7.view x3, rd_top (F := Ideal) arg8.view x4, rd_accV (F := Ideal) xv 1536 (by decide)]
    refine (fullV3 (blk 512 1536 (by decide) xv) (blk 512 1536 (by decide) x1) (blk 512 1536 (by decide) x2) (all x0) (all x3) (top x4) (top x5) a f).trans ?_
    rw [fullTV3 x0 x1 x2 x3 x4 x5 a f]
    rfl
  · intro a f
    rw [rd_blk (F := Ideal) arg5.view x1 512 1024 (by decide), rd_all (F := Ideal) arg4.view x0, rd_all (F := Ideal) arg7.view x3, rd_top (F := Ideal) arg8.view x4, rd_accV (F := Ideal) xv 1024 (by decide)]
    refine (fullV2 (blk 512 1024 (by decide) xv) (blk 512 1024 (by decide) x1) (blk 512 1024 (by decide) x2) (all x0) (all x3) (top x4) (top x5) a f).trans ?_
    rw [fullTV2 x0 x1 x2 x3 x4 x5 a f]
    rfl
  · intro a f
    rw [rd_blk (F := Ideal) arg5.view x1 512 512 (by decide), rd_all (F := Ideal) arg4.view x0, rd_all (F := Ideal) arg7.view x3, rd_top (F := Ideal) arg8.view x4, rd_accV (F := Ideal) xv 512 (by decide)]
    refine (fullV1 (blk 512 512 (by decide) xv) (blk 512 512 (by decide) x1) (blk 512 512 (by decide) x2) (all x0) (all x3) (top x4) (top x5) a f).trans ?_
    rw [fullTV1 x0 x1 x2 x3 x4 x5 a f]
    rfl
  · intro a f
    rw [rd_blk (F := Ideal) arg5.view x1 512 0 (by decide), rd_all (F := Ideal) arg4.view x0, rd_all (F := Ideal) arg7.view x3, rd_top (F := Ideal) arg8.view x4, rd_accV (F := Ideal) xv 0 (by decide)]
    refine (fullV0 (blk 512 0 (by decide) xv) (blk 512 0 (by decide) x1) (blk 512 0 (by decide) x2) (all x0) (all x3) (top x4) (top x5) a f).trans ?_
    rw [fullTV0 x0 x1 x2 x3 x4 x5 a f]
    rfl

theorem pay6_eq (x : S2048x128.Idx → EReal) : k0_pay6 (F := Ideal) x = fun y => x y * ((Real.log 2 : ℝ) : EReal) := by
  have hn : (Named.named (F := Ideal) κ "ln2" 0x3F317218#32 : Ideal .f32) = ((Real.log 2 : ℝ) : EReal) := IdealRules.named_const.ideal_named_scalar _ _ _ _ rfl
  funext y
  simp only [k0_pay6, hn]
  pointwise

theorem pay7_eq (x : S2048x128.Idx → EReal) : k0_pay7 (F := Ideal) x = x := by
  funext y
  simp only [k0_pay7]
  pointwise

/-- What the key gradient's block holds after it. -/
theorem runOnly_outK_val (h1 : IsDiag T0 T1 i) (h2 : ¬IsAfter T0 T1 i) (h3 : IsLast T1 i) :
    runOnly_outK (F := Ideal) c i arg4 harg4 arg5 harg5 arg6 harg6 arg7 harg7 arg8 harg8 arg9 harg9 arg10 harg10 arg11 harg11 T0 T1 x0 x1 x2 x3 x4 x5 h1 h2 h3 = (fun y => diagC oneK x0 x1 x2 x3 x4 x5 (y 0) (y 1) * ((Real.log 2 : ℝ) : EReal) : S2048x128.Idx → EReal) := by
  have e := runOnly_valK c i arg4 harg4 arg5 harg5 arg6 harg6 arg7 harg7 arg8 harg8 arg9 harg9 arg10 harg10 arg11 harg11 T0 T1 x0 x1 x2 x3 x4 x5 h1 h2 h3
  unfold runOnly_outK
  dsimp only [runOnly] at e ⊢
  sl_unfold_run_names
  refine (View.read_writes_full (Val := Elt Ideal) VK VK.junk inb_S2048x128_S2048x128_0_0 _ []).trans ((pay6_eq _).trans ?_)
  funext y
  exact congrArg (· * ((Real.log 2 : ℝ) : EReal)) ((congrFun (View.readAt_full (Val := Elt Ideal) scK.view _ inb_S2048x128_S2048x128_0_0) y).trans (congrFun e y))

/-- What the value gradient's block holds after it. -/
theorem runOnly_outV_val (h1 : IsDiag T0 T1 i) (h2 : ¬IsAfter T0 T1 i) (h3 : IsLast T1 i) :
    runOnly_outV (F := Ideal) c i arg4 harg4 arg5 harg5 arg6 harg6 arg7 harg7 arg8 harg8 arg9 harg9 arg10 harg10 arg11 harg11 T0 T1 x0 x1 x2 x3 x4 x5 h1 h2 h3 = (fun y => diagC oneV x0 x1 x2 x3 x4 x5 (y 0) (y 1) : S2048x128.Idx → EReal) := by
  have e := runOnly_valV c i arg4 harg4 arg5 harg5 arg6 harg6 arg7 harg7 arg8 harg8 arg9 harg9 arg10 harg10 arg11 harg11 T0 T1 x0 x1 x2 x3 x4 x5 h1 h2 h3
  unfold runOnly_outV
  dsimp only [runOnly] at e ⊢
  sl_unfold_run_names
  refine (View.read_writes_full (Val := Elt Ideal) VV VV.junk inb_S2048x128_S2048x128_0_0 _ []).trans ((pay7_eq _).trans ?_)
  funext y
  exact ((congrFun (View.readAt_full (Val := Elt Ideal) scV.view _ inb_S2048x128_S2048x128_0_0) y).trans (congrFun e y))

/-- What the key gradient's block holds after it. -/
theorem runLast_outK_val (xk xv : S2048x128.Idx → EReal) (h1 : ¬IsDiag T0 T1 i) (h2 : IsAfter T0 T1 i) (h3 : IsLast T1 i) :
    runLast_outK (F := Ideal) c i arg4 harg4 arg5 harg5 arg6 harg6 arg7 harg7 arg8 harg8 arg9 harg9 arg10 harg10 arg11 harg11 T0 T1 x0 x1 x2 x3 x4 x5 xk xv h1 h2 h3 = (fun y => (xk y + fullC oneK x0 x1 x2 x3 x4 x5 (y 0) (y 1)) * ((Real.log 2 : ℝ) : EReal) : S2048x128.Idx → EReal) := by
  have e := runLast_valK c i arg4 harg4 arg5 harg5 arg6 harg6 arg7 harg7 arg8 harg8 arg9 harg9 arg10 harg10 arg11 harg11 T0 T1 x0 x1 x2 x3 x4 x5 xk xv h1 h2 h3
  unfold runLast_outK
  dsimp only [runLast] at e ⊢
  sl_unfold_run_names
  refine (View.read_writes_full (Val := Elt Ideal) VK VK.junk inb_S2048x128_S2048x128_0_0 _ []).trans ((pay6_eq _).trans ?_)
  funext y
  exact congrArg (· * ((Real.log 2 : ℝ) : EReal)) ((congrFun (View.readAt_full (Val := Elt Ideal) scK.view _ inb_S2048x128_S2048x128_0_0) y).trans (congrFun e y))

/-- What the value gradient's block holds after it. -/
theorem runLast_outV_val (xk xv : S2048x128.Idx → EReal) (h1 : ¬IsDiag T0 T1 i) (h2 : IsAfter T0 T1 i) (h3 : IsLast T1 i) :
    runLast_outV (F := Ideal) c i arg4 harg4 arg5 harg5 arg6 harg6 arg7 harg7 arg8 harg8 arg9 harg9 arg10 harg10 arg11 harg11 T0 T1 x0 x1 x2 x3 x4 x5 xk xv h1 h2 h3 = (fun y => (xv y + fullC oneV x0 x1 x2 x3 x4 x5 (y 0) (y 1)) : S2048x128.Idx → EReal) := by
  have e := runLast_valV c i arg4 harg4 arg5 harg5 arg6 harg6 arg7 harg7 arg8 harg8 arg9 harg9 arg10 harg10 arg11 harg11 T0 T1 x0 x1 x2 x3 x4 x5 xk xv h1 h2 h3
  unfold runLast_outV
  dsimp only [runLast] at e ⊢
  sl_unfold_run_names
  refine (View.read_writes_full (Val := Elt Ideal) VV VV.junk inb_S2048x128_S2048x128_0_0 _ []).trans ((pay7_eq _).trans ?_)
  funext y
  exact ((congrFun (View.readAt_full (Val := Elt Ideal) scV.view _ inb_S2048x128_S2048x128_0_0) y).trans (congrFun e y))

end Cert.Kernel2Ideal.Dkv

end
-- ==== Proof.Dkv.Index.lean ====
/- Which tiles each grid point of the kernel of the key and value gradients sees, and which of the body's cases it takes. -/
module

public import proofs.«01_k».proof.Proof.Dkv.Tables
public import Idealize.ShloMosaic.Lib.Pipeline.ValueKit.Geometry

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The query tile and the key tile of a point, and its head. -/
def ti (t : ℕ) : ℕ := [0, 1, 2, 3, 1, 2, 3, 2, 3, 3].getD (t % 10) 0
def tj (t : ℕ) : ℕ := [0, 0, 0, 0, 1, 1, 1, 2, 2, 3].getD (t % 10) 0
def th (t : ℕ) : ℕ := t / 10

/-- The index a window's block has. -/
abbrev At (a b : ℕ) : Fin 2 → ℕ := ![a, b]

abbrev IndexFacts (t : Fin (cfgA F).N) : Prop :=
  (((cfgA F).win (0 : Fin 8)).index t = At (ti t.val) (th t.val) ∧ ((cfgA F).win (1 : Fin 8)).index t = At (tj t.val) (th t.val)
    ∧ ((cfgA F).win (2 : Fin 8)).index t = At (tj t.val) (th t.val) ∧ ((cfgA F).win (3 : Fin 8)).index t = At (ti t.val) (th t.val)
    ∧ ((cfgA F).win (4 : Fin 8)).index t = At (th t.val) (ti t.val) ∧ ((cfgA F).win (5 : Fin 8)).index t = At (16 * th t.val) (ti t.val)
    ∧ ((cfgA F).win (6 : Fin 8)).index t = At (tj t.val) (th t.val) ∧ ((cfgA F).win (7 : Fin 8)).index t = At (tj t.val) (th t.val))
  ∧ (Diag t ↔ ti t.val = tj t.val) ∧ (After t ↔ tj t.val < ti t.val) ∧ (Last t ↔ ti t.val = 3)

abbrev IndexFrom (a : ℕ) : Prop := ∀ t : Fin (cfgA F).N, a ≤ t.val → t.val < a + 20 → IndexFacts t

theorem index_0 : IndexFrom (F := F) 0 := of_decide_eq_true (by sl_kernel_rfl)
theorem index_20 : IndexFrom (F := F) 20 := of_decide_eq_true (by sl_kernel_rfl)
theorem index_40 : IndexFrom (F := F) 40 := of_decide_eq_true (by sl_kernel_rfl)
theorem index_60 : IndexFrom (F := F) 60 := of_decide_eq_true (by sl_kernel_rfl)

theorem index_facts (t : Fin (cfgA F).N) : IndexFacts t := by
  have hN : t.val < 80 := t.isLt.trans_eq N_0
  rcases Nat.lt_or_ge t.val 20 with h1 | h1
  · exact index_0 t (Nat.zero_le _) h1
  rcases Nat.lt_or_ge t.val 40 with h2 | h2
  · exact index_20 t h1 h2
  rcases Nat.lt_or_ge t.val 60 with h3 | h3
  · exact index_40 t h2 h3
  · exact index_60 t h3 hN

/-- The results' blocks cover their arrays. -/
theorem covers6 : ((cfgA F).win (6 : Fin 8)).Covers := of_decide_eq_true (by sl_kernel_rfl)
theorem covers7 : ((cfgA F).win (7 : Fin 8)).Covers := of_decide_eq_true (by sl_kernel_rfl)

theorem range_facts' : ∀ t : Fin 80, ti t.val < 4 ∧ tj t.val ≤ ti t.val ∧ th t.val < 8
    ∧ (ti t.val ≠ tj t.val → 0 < t.val ∧ ti (t.val - 1) + 1 = ti t.val ∧ tj (t.val - 1) = tj t.val ∧ th (t.val - 1) = th t.val) := by decide

theorem range_facts (t : ℕ) (h : t < 80) : ti t < 4 ∧ tj t ≤ ti t ∧ th t < 8
    ∧ (ti t ≠ tj t → 0 < t ∧ ti (t - 1) + 1 = ti t ∧ tj (t - 1) = tj t ∧ th (t - 1) = th t) := range_facts' ⟨t, h⟩

end Cert.Kernel2Ideal.Dkv

end
-- ==== Proof.Dkv.Acc.lean ====
/- What the kernel of the key and value gradients leaves in its results' arrays over the extended reals: at a key row, sums over the queries from that
   row on. -/
module

public import proofs.«01_k».proof.Proof.Dkv.Body
public import proofs.«01_k».proof.Proof.Dkv.Step
public import proofs.«01_k».proof.Proof.Dkv.Index

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A row of an array, and a lane of a head. -/
def row (n : ℕ) : Fin 8192 := ⟨n % 8192, Nat.mod_lt _ (by decide)⟩
def lane (h e : ℕ) : Fin 1024 := ⟨(128 * h + e) % 1024, Nat.mod_lt _ (by decide)⟩

/-- A tile of an array; of the arrays that hold one number per row, laid along the lanes. -/
def tile (A : S8192x1024.Idx → EReal) (i h : ℕ) : S2048x128.Idx → EReal :=
  fun z => A (ix2 (row (2048 * i + (z 0).val)) (lane h (z 1).val))
def tileL (A : S64x8192.Idx → EReal) (h i : ℕ) : S8x2048.Idx → EReal :=
  fun z => A (ix2 ⟨(8 * h + (z 0).val) % 64, Nat.mod_lt _ (by decide)⟩ (row (2048 * i + (z 1).val)))
def tileD (A : S1024x8192.Idx → EReal) (h i : ℕ) : S8x2048.Idx → EReal :=
  fun z => A (ix2 ⟨(128 * h + (z 0).val) % 1024, Nat.mod_lt _ (by decide)⟩ (row (2048 * i + (z 1).val)))

/-- Two to the power of a key row's score at a query, less the query's number. -/
def pterm (Q K : S8192x1024.Idx → EReal) (L : S64x8192.Idx → EReal) (h r c : ℕ) : EReal :=
  Ideal.exp2 ((∑ e : Fin 128, K (ix2 (row r) (lane h e.val)) * Q (ix2 (row c) (lane h e.val))) - L (ix2 ⟨(8 * h) % 64, Nat.mod_lt _ (by decide)⟩ (row c)))

/-- What one query adds to a key row of a head's two gradients, at a feature. -/
def termK (Q K V O : S8192x1024.Idx → EReal) (L : S64x8192.Idx → EReal) (D : S1024x8192.Idx → EReal) (h r f c : ℕ) : EReal :=
  (pterm Q K L h r c * ((∑ e : Fin 128, V (ix2 (row r) (lane h e.val)) * O (ix2 (row c) (lane h e.val))) - D (ix2 ⟨(128 * h) % 1024, Nat.mod_lt _ (by decide)⟩ (row c))))
    * Q (ix2 (row c) (lane h f))
def termV (Q K _V O : S8192x1024.Idx → EReal) (L : S64x8192.Idx → EReal) (_D : S1024x8192.Idx → EReal) (h r f c : ℕ) : EReal :=
  pterm Q K L h r c * O (ix2 (row c) (lane h f))

/-- The queries of a tile not before a row, by their numbers in the array. -/
theorem sum_tail (i a : ℕ) (ha : a ≤ 2048) (g : ℕ → EReal) :
    (∑ c : Fin 2048, if a ≤ c.val then g (2048 * i + c.val) else 0) = ∑ k ∈ Finset.Ico (2048 * i + a) (2048 * (i + 1)), g k := by
  rw [← Finset.sum_range (n := 2048) (fun c => if a ≤ c then g (2048 * i + c) else 0), ← Finset.sum_filter,
    Finset.sum_Ico_eq_sum_range]
  refine (Finset.sum_nbij (fun c => a + c) ?_ ?_ ?_ ?_).symm
  · intro c hc; rw [Finset.mem_range] at hc; rw [Finset.mem_filter, Finset.mem_range]; omega
  · intro c _ c' _ h; exact Nat.add_left_cancel h
  · intro c hc
    have hc' := Finset.mem_filter.mp (Finset.mem_coe.mp hc)
    rw [Finset.mem_range] at hc'
    exact ⟨c - a, by rw [Finset.mem_coe, Finset.mem_range]; omega, by show a + (c - a) = c; omega⟩
  · intro c _; rw [Nat.add_assoc]

variable (Q K V O : S8192x1024.Idx → EReal) (L : S64x8192.Idx → EReal) (D : S1024x8192.Idx → EReal)

theorem oneK_tile (i j h : ℕ) (r c : Fin 2048) (f : Fin 128) :
    oneK (tile Q i h) (tile K j h) (tile V j h) (tile O i h) (tileL L h i) (tileD D h i) r f c
      = termK Q K V O L D h (2048 * j + r.val) f.val (2048 * i + c.val) := rfl

theorem fullCK_tile (i j h : ℕ) (r : Fin 2048) (f : Fin 128) :
    fullC oneK (tile Q i h) (tile K j h) (tile V j h) (tile O i h) (tileL L h i) (tileD D h i) r f
      = ∑ k ∈ Finset.Ico (2048 * i) (2048 * (i + 1)), termK Q K V O L D h (2048 * j + r.val) f.val k := by
  refine Eq.trans ?_ (sum_tail i 0 (by decide) fun k => termK Q K V O L D h (2048 * j + r.val) f.val k)
  exact Finset.sum_congr rfl fun c _ => (oneK_tile Q K V O L D i j h r c f).trans (if_pos (Nat.zero_le _)).symm

theorem diagCK_tile (i h : ℕ) (r : Fin 2048) (f : Fin 128) :
    diagC oneK (tile Q i h) (tile K i h) (tile V i h) (tile O i h) (tileL L h i) (tileD D h i) r f
      = ∑ k ∈ Finset.Ico (2048 * i + r.val) (2048 * (i + 1)), termK Q K V O L D h (2048 * i + r.val) f.val k := by
  refine Eq.trans ?_ (sum_tail i r.val r.isLt.le fun k => termK Q K V O L D h (2048 * i + r.val) f.val k)
  exact Finset.sum_congr rfl fun c _ => by rw [oneK_tile]

theorem oneV_tile (i j h : ℕ) (r c : Fin 2048) (f : Fin 128) :
    oneV (tile Q i h) (tile K j h) (tile V j h) (tile O i h) (tileL L h i) (tileD D h i) r f c
      = termV Q K V O L D h (2048 * j + r.val) f.val (2048 * i + c.val) := rfl

theorem fullCV_tile (i j h : ℕ) (r : Fin 2048) (f : Fin 128) :
    fullC oneV (tile Q i h) (tile K j h) (tile V j h) (tile O i h) (tileL L h i) (tileD D h i) r f
      = ∑ k ∈ Finset.Ico (2048 * i) (2048 * (i + 1)), termV Q K V O L D h (2048 * j + r.val) f.val k := by
  refine Eq.trans ?_ (sum_tail i 0 (by decide) fun k => termV Q K V O L D h (2048 * j + r.val) f.val k)
  exact Finset.sum_congr rfl fun c _ => (oneV_tile Q K V O L D i j h r c f).trans (if_pos (Nat.zero_le _)).symm

theorem diagCV_tile (i h : ℕ) (r : Fin 2048) (f : Fin 128) :
    diagC oneV (tile Q i h) (tile K i h) (tile V i h) (tile O i h) (tileL L h i) (tileD D h i) r f
      = ∑ k ∈ Finset.Ico (2048 * i + r.val) (2048 * (i + 1)), termV Q K V O L D h (2048 * i + r.val) f.val k := by
  refine Eq.trans ?_ (sum_tail i r.val r.isLt.le fun k => termV Q K V O L D h (2048 * i + r.val) f.val k)
  exact Finset.sum_congr rfl fun c _ => by rw [oneV_tile]

theorem iblk_0 (W : Dev nD → Valuation τ sig (Elt Ideal)) (c : Dev nD) (t : Fin (cfgA Ideal).N) :
    iblk W c (0 : Fin 8) t = tile (W c (Proc.devRef .tc main_v40)) (ti t.val) (th t.val) := by
  have hx := (index_facts (F := Ideal) t).1.1
  have hr := range_facts t.val (t.isLt.trans_eq N_0)
  funext z
  refine congrArg (W c (Proc.devRef .tc main_v40)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (0 : Fin 8)).index t (0 : Fin 2) * 2048 + 1 * (z (0 : Fin 2)).val = (2048 * ti t.val + (z (0 : Fin 2)).val) % 8192
    rw [hx]
    show ti t.val * 2048 + 1 * (z (0 : Fin 2)).val = _
    omega
  | ⟨1, _⟩ =>
    show ((cfgA Ideal).win (0 : Fin 8)).index t (1 : Fin 2) * 128 + 1 * (z (1 : Fin 2)).val = (128 * th t.val + (z (1 : Fin 2)).val) % 1024
    rw [hx]
    show th t.val * 128 + 1 * (z (1 : Fin 2)).val = _
    omega

theorem iblk_1 (W : Dev nD → Valuation τ sig (Elt Ideal)) (c : Dev nD) (t : Fin (cfgA Ideal).N) :
    iblk W c (1 : Fin 8) t = tile (W c (Proc.devRef .tc main_v44)) (tj t.val) (th t.val) := by
  have hx := (index_facts (F := Ideal) t).1.2.1
  have hr := range_facts t.val (t.isLt.trans_eq N_0)
  funext z
  refine congrArg (W c (Proc.devRef .tc main_v44)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (1 : Fin 8)).index t (0 : Fin 2) * 2048 + 1 * (z (0 : Fin 2)).val = (2048 * tj t.val + (z (0 : Fin 2)).val) % 8192
    rw [hx]
    show tj t.val * 2048 + 1 * (z (0 : Fin 2)).val = _
    omega
  | ⟨1, _⟩ =>
    show ((cfgA Ideal).win (1 : Fin 8)).index t (1 : Fin 2) * 128 + 1 * (z (1 : Fin 2)).val = (128 * th t.val + (z (1 : Fin 2)).val) % 1024
    rw [hx]
    show th t.val * 128 + 1 * (z (1 : Fin 2)).val = _
    omega

theorem iblk_2 (W : Dev nD → Valuation τ sig (Elt Ideal)) (c : Dev nD) (t : Fin (cfgA Ideal).N) :
    iblk W c (2 : Fin 8) t = tile (W c (Proc.devRef .tc main_v49)) (tj t.val) (th t.val) := by
  have hx := (index_facts (F := Ideal) t).1.2.2.1
  have hr := range_facts t.val (t.isLt.trans_eq N_0)
  funext z
  refine congrArg (W c (Proc.devRef .tc main_v49)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (2 : Fin 8)).index t (0 : Fin 2) * 2048 + 1 * (z (0 : Fin 2)).val = (2048 * tj t.val + (z (0 : Fin 2)).val) % 8192
    rw [hx]
    show tj t.val * 2048 + 1 * (z (0 : Fin 2)).val = _
    omega
  | ⟨1, _⟩ =>
    show ((cfgA Ideal).win (2 : Fin 8)).index t (1 : Fin 2) * 128 + 1 * (z (1 : Fin 2)).val = (128 * th t.val + (z (1 : Fin 2)).val) % 1024
    rw [hx]
    show th t.val * 128 + 1 * (z (1 : Fin 2)).val = _
    omega

theorem iblk_3 (W : Dev nD → Valuation τ sig (Elt Ideal)) (c : Dev nD) (t : Fin (cfgA Ideal).N) :
    iblk W c (3 : Fin 8) t = tile (W c (Proc.devRef .tc main_v53)) (ti t.val) (th t.val) := by
  have hx := (index_facts (F := Ideal) t).1.2.2.2.1
  have hr := range_facts t.val (t.isLt.trans_eq N_0)
  funext z
  refine congrArg (W c (Proc.devRef .tc main_v53)) (funext fun b => Fin.ext ?_)
  have z0 : (z (0 : Fin 2)).val < 2048 := (z (0 : Fin 2)).isLt
  have z1 : (z (1 : Fin 2)).val < 128 := (z (1 : Fin 2)).isLt
  match b with
  | ⟨0, _⟩ =>
    show ((cfgA Ideal).win (3 : Fin 8)).index t (0 : Fin 2) * 2048 + 1 * (z (0 : Fin 2)).val = (2048 * ti t.val + (z (0 : Fin 2)).val) % 8192
    rw [hx]
    show ti t.val * 2048 + 1 * (z (0 : Fin 2)).val = _
    omega
  | ⟨1, _⟩ =>
    show ((cfgA Ideal).win (3 : Fin 8)).index t (1 : Fin 2) * 128 + 1 * (z (1 : Fin 2)).val = (128 * th t.val + (z (1 : Fin 2)).val) % 1024
    rw [hx]
    show th t.val * 128 + 1 * (z (1 : Fin 2)).val = _
    omega

theorem iblk_4 (W : Dev nD → Valuation τ sig (Elt Ideal)) (c : Dev nD) (t : Fin (cfgA Ideal).N) :
    iblk W c (4 : Fin 8) t = tileL (W c (Proc.devRef .tc main_v59)) (th t.val) (ti t.val) := by
  have hx := (index_facts (F := Ideal) t).1.2.2.2.2.1
  have hr := range_facts t.val (t.isLt.trans_eq N_0)
  funext z
  refine congrArg (W c (Proc.devRef .tc main_v59)) (funext fun b => Fin.ext ?_)
  have z0 : (z (0 : Fin 2)).val < 8 := (z (0 : Fin 2)).isLt
  have z1 : (z (1 : Fin 2)).val < 2048 := (z (1 : Fin 2)).isLt
  match b with
  | ⟨0, _⟩ =>
    show ((cfgA Ideal).win (4 : Fin 8)).index t (0 : Fin 2) * 8 + 1 * (z (0 : Fin 2)).val = (8 * th t.val + (z (0 : Fin 2)).val) % 64
    rw [hx]
    show th t.val * 8 + 1 * (z (0 : Fin 2)).val = _
    omega
  | ⟨1, _⟩ =>
    show ((cfgA Ideal).win (4 : Fin 8)).index t (1 : Fin 2) * 2048 + 1 * (z (1 : Fin 2)).val = (2048 * ti t.val + (z (1 : Fin 2)).val) % 8192
    rw [hx]
    show ti t.val * 2048 + 1 * (z (1 : Fin 2)).val = _
    omega

theorem iblk_5 (W : Dev nD → Valuation τ sig (Elt Ideal)) (c : Dev nD) (t : Fin (cfgA Ideal).N) :
    iblk W c (5 : Fin 8) t = tileD (W c (Proc.devRef .tc main_v63)) (th t.val) (ti t.val) := by
  have hx := (index_facts (F := Ideal) t).1.2.2.2.2.2.1
  have hr := range_facts t.val (t.isLt.trans_eq N_0)
  funext z
  refine congrArg (W c (Proc.devRef .tc main_v63)) (funext fun b => Fin.ext ?_)
  have z0 : (z (0 : Fin 2)).val < 8 := (z (0 : Fin 2)).isLt
  have z1 : (z (1 : Fin 2)).val < 2048 := (z (1 : Fin 2)).isLt
  match b with
  | ⟨0, _⟩ =>
    show ((cfgA Ideal).win (5 : Fin 8)).index t (0 : Fin 2) * 8 + 1 * (z (0 : Fin 2)).val = (128 * th t.val + (z (0 : Fin 2)).val) % 1024
    rw [hx]
    show 16 * th t.val * 8 + 1 * (z (0 : Fin 2)).val = _
    omega
  | ⟨1, _⟩ =>
    show ((cfgA Ideal).win (5 : Fin 8)).index t (1 : Fin 2) * 2048 + 1 * (z (1 : Fin 2)).val = (2048 * ti t.val + (z (1 : Fin 2)).val) % 8192
    rw [hx]
    show ti t.val * 2048 + 1 * (z (1 : Fin 2)).val = _
    omega

variable (W : Dev nD → Valuation τ sig (Elt Ideal)) (c : Dev nD)

/-- What one query adds, of the arrays the kernel is handed; and the accumulator when a point is done. -/
abbrev termKW (h r f k : ℕ) : EReal :=
  termK (W c (Proc.devRef .tc main_v40)) (W c (Proc.devRef .tc main_v44)) (W c (Proc.devRef .tc main_v49)) (W c (Proc.devRef .tc main_v53)) (W c (Proc.devRef .tc main_v59)) (W c (Proc.devRef .tc main_v63)) h r f k
def accKW (t : ℕ) : S2048x128.Idx → EReal :=
  fun y => ∑ k ∈ Finset.Ico (2048 * tj t + (y 0).val) (2048 * (ti t + 1)), termKW W c (th t) (2048 * tj t + (y 0).val) (y 1).val k

theorem startK (t : ℕ) (h : ti t = tj t) :
    (fun y => diagC oneK (tile (W c (Proc.devRef .tc main_v40)) (ti t) (th t)) (tile (W c (Proc.devRef .tc main_v44)) (tj t) (th t)) (tile (W c (Proc.devRef .tc main_v49)) (tj t) (th t)) (tile (W c (Proc.devRef .tc main_v53)) (ti t) (th t)) (tileL (W c (Proc.devRef .tc main_v59)) (th t) (ti t)) (tileD (W c (Proc.devRef .tc main_v63)) (th t) (ti t)) (y 0) (y 1) : S2048x128.Idx → EReal) = accKW W c t := by
  unfold accKW
  rw [h]
  funext y
  exact diagCK_tile _ _ _ _ _ _ _ _ (y 0) (y 1)

theorem midK (t : ℕ) (ht : t < 80) (h : ti t ≠ tj t) (xa : S2048x128.Idx → EReal) (hxa : xa = accKW W c (t - 1)) :
    (fun y => xa y + fullC oneK (tile (W c (Proc.devRef .tc main_v40)) (ti t) (th t)) (tile (W c (Proc.devRef .tc main_v44)) (tj t) (th t)) (tile (W c (Proc.devRef .tc main_v49)) (tj t) (th t)) (tile (W c (Proc.devRef .tc main_v53)) (ti t) (th t)) (tileL (W c (Proc.devRef .tc main_v59)) (th t) (ti t)) (tileD (W c (Proc.devRef .tc main_v63)) (th t) (ti t)) (y 0) (y 1) : S2048x128.Idx → EReal) = accKW W c t := by
  obtain ⟨h4, hle, h8, hp⟩ := range_facts t ht
  obtain ⟨-, e1, e2, e3⟩ := hp h
  subst hxa
  funext y
  have y0 : (y (0 : Fin 2)).val < 2048 := (y (0 : Fin 2)).isLt
  refine (congrArg (accKW W c (t - 1) y + ·) (fullCK_tile _ _ _ _ _ _ _ _ _ (y 0) (y 1))).trans ?_
  show accKW W c (t - 1) y + _ = accKW W c t y
  unfold accKW
  rw [e1, e2, e3]
  exact Finset.sum_Ico_consecutive _ (by change 2048 * tj t + (y (0 : Fin 2)).val ≤ _; omega) (by omega)

/-- What one query adds, of the arrays the kernel is handed; and the accumulator when a point is done. -/
abbrev termVW (h r f k : ℕ) : EReal :=
  termV (W c (Proc.devRef .tc main_v40)) (W c (Proc.devRef .tc main_v44)) (W c (Proc.devRef .tc main_v49)) (W c (Proc.devRef .tc main_v53)) (W c (Proc.devRef .tc main_v59)) (W c (Proc.devRef .tc main_v63)) h r f k
def accVW (t : ℕ) : S2048x128.Idx → EReal :=
  fun y => ∑ k ∈ Finset.Ico (2048 * tj t + (y 0).val) (2048 * (ti t + 1)), termVW W c (th t) (2048 * tj t + (y 0).val) (y 1).val k

theorem startV (t : ℕ) (h : ti t = tj t) :
    (fun y => diagC oneV (tile (W c (Proc.devRef .tc main_v40)) (ti t) (th t)) (tile (W c (Proc.devRef .tc main_v44)) (tj t) (th t)) (tile (W c (Proc.devRef .tc main_v49)) (tj t) (th t)) (tile (W c (Proc.devRef .tc main_v53)) (ti t) (th t)) (tileL (W c (Proc.devRef .tc main_v59)) (th t) (ti t)) (tileD (W c (Proc.devRef .tc main_v63)) (th t) (ti t)) (y 0) (y 1) : S2048x128.Idx → EReal) = accVW W c t := by
  unfold accVW
  rw [h]
  funext y
  exact diagCV_tile _ _ _ _ _ _ _ _ (y 0) (y 1)

theorem midV (t : ℕ) (ht : t < 80) (h : ti t ≠ tj t) (xa : S2048x128.Idx → EReal) (hxa : xa = accVW W c (t - 1)) :
    (fun y => xa y + fullC oneV (tile (W c (Proc.devRef .tc main_v40)) (ti t) (th t)) (tile (W c (Proc.devRef .tc main_v44)) (tj t) (th t)) (tile (W c (Proc.devRef .tc main_v49)) (tj t) (th t)) (tile (W c (Proc.devRef .tc main_v53)) (ti t) (th t)) (tileL (W c (Proc.devRef .tc main_v59)) (th t) (ti t)) (tileD (W c (Proc.devRef .tc main_v63)) (th t) (ti t)) (y 0) (y 1) : S2048x128.Idx → EReal) = accVW W c t := by
  obtain ⟨h4, hle, h8, hp⟩ := range_facts t ht
  obtain ⟨-, e1, e2, e3⟩ := hp h
  subst hxa
  funext y
  have y0 : (y (0 : Fin 2)).val < 2048 := (y (0 : Fin 2)).isLt
  refine (congrArg (accVW W c (t - 1) y + ·) (fullCV_tile _ _ _ _ _ _ _ _ _ (y 0) (y 1))).trans ?_
  show accVW W c (t - 1) y + _ = accVW W c t y
  unfold accVW
  rw [e1, e2, e3]
  exact Finset.sum_Ico_consecutive _ (by change 2048 * tj t + (y (0 : Fin 2)).val ≤ _; omega) (by omega)

theorem stepStartK (t : Fin (cfgA Ideal).N) (prev : Accs Ideal c) (h1 : Diag (F := Ideal) t) (h2 : ¬After (F := Ideal) t) (h3 : ¬Last (F := Ideal) t) :
    (accStep W c t prev).1 = accKW W c t.val := by
  rw [accStep_Start W c t prev h1 h2 h3]
  dsimp only
  rw [runStart_valK, iblk_0, iblk_1, iblk_2, iblk_3, iblk_4, iblk_5]
  exact startK W c t.val ((index_facts (F := Ideal) t).2.1.mp h1)

theorem stepStartV (t : Fin (cfgA Ideal).N) (prev : Accs Ideal c) (h1 : Diag (F := Ideal) t) (h2 : ¬After (F := Ideal) t) (h3 : ¬Last (F := Ideal) t) :
    (accStep W c t prev).2 = accVW W c t.val := by
  rw [accStep_Start W c t prev h1 h2 h3]
  dsimp only
  rw [runStart_valV, iblk_0, iblk_1, iblk_2, iblk_3, iblk_4, iblk_5]
  exact startV W c t.val ((index_facts (F := Ideal) t).2.1.mp h1)

theorem stepOnlyK (t : Fin (cfgA Ideal).N) (prev : Accs Ideal c) (h1 : Diag (F := Ideal) t) (h2 : ¬After (F := Ideal) t) (h3 : Last (F := Ideal) t) :
    (accStep W c t prev).1 = accKW W c t.val := by
  rw [accStep_Only W c t prev h1 h2 h3]
  dsimp only
  rw [runOnly_valK, iblk_0, iblk_1, iblk_2, iblk_3, iblk_4, iblk_5]
  exact startK W c t.val ((index_facts (F := Ideal) t).2.1.mp h1)

theorem stepOnlyV (t : Fin (cfgA Ideal).N) (prev : Accs Ideal c) (h1 : Diag (F := Ideal) t) (h2 : ¬After (F := Ideal) t) (h3 : Last (F := Ideal) t) :
    (accStep W c t prev).2 = accVW W c t.val := by
  rw [accStep_Only W c t prev h1 h2 h3]
  dsimp only
  rw [runOnly_valV, iblk_0, iblk_1, iblk_2, iblk_3, iblk_4, iblk_5]
  exact startV W c t.val ((index_facts (F := Ideal) t).2.1.mp h1)

theorem stepMidK (t : Fin (cfgA Ideal).N) (prev : Accs Ideal c) (h1 : ¬Diag (F := Ideal) t) (h2 : After (F := Ideal) t) (h3 : ¬Last (F := Ideal) t) (hp : prev.1 = accKW W c (t.val - 1)) :
    (accStep W c t prev).1 = accKW W c t.val := by
  rw [accStep_Mid W c t prev h1 h2 h3]
  dsimp only
  rw [runMid_valK, iblk_0, iblk_1, iblk_2, iblk_3, iblk_4, iblk_5]
  exact midK W c t.val (t.isLt.trans_eq N_0) (fun h => h1 ((index_facts (F := Ideal) t).2.1.mpr h)) _ hp

theorem stepMidV (t : Fin (cfgA Ideal).N) (prev : Accs Ideal c) (h1 : ¬Diag (F := Ideal) t) (h2 : After (F := Ideal) t) (h3 : ¬Last (F := Ideal) t) (hp : prev.2 = accVW W c (t.val - 1)) :
    (accStep W c t prev).2 = accVW W c t.val := by
  rw [accStep_Mid W c t prev h1 h2 h3]
  dsimp only
  rw [runMid_valV, iblk_0, iblk_1, iblk_2, iblk_3, iblk_4, iblk_5]
  exact midV W c t.val (t.isLt.trans_eq N_0) (fun h => h1 ((index_facts (F := Ideal) t).2.1.mpr h)) _ hp

theorem stepLastK (t : Fin (cfgA Ideal).N) (prev : Accs Ideal c) (h1 : ¬Diag (F := Ideal) t) (h2 : After (F := Ideal) t) (h3 : Last (F := Ideal) t) (hp : prev.1 = accKW W c (t.val - 1)) :
    (accStep W c t prev).1 = accKW W c t.val := by
  rw [accStep_Last W c t prev h1 h2 h3]
  dsimp only
  rw [runLast_valK, iblk_0, iblk_1, iblk_2, iblk_3, iblk_4, iblk_5]
  exact midK W c t.val (t.isLt.trans_eq N_0) (fun h => h1 ((index_facts (F := Ideal) t).2.1.mpr h)) _ hp

theorem stepLastV (t : Fin (cfgA Ideal).N) (prev : Accs Ideal c) (h1 : ¬Diag (F := Ideal) t) (h2 : After (F := Ideal) t) (h3 : Last (F := Ideal) t) (hp : prev.2 = accVW W c (t.val - 1)) :
    (accStep W c t prev).2 = accVW W c t.val := by
  rw [accStep_Last W c t prev h1 h2 h3]
  dsimp only
  rw [runLast_valV, iblk_0, iblk_1, iblk_2, iblk_3, iblk_4, iblk_5]
  exact midV W c t.val (t.isLt.trans_eq N_0) (fun h => h1 ((index_facts (F := Ideal) t).2.1.mpr h)) _ hp

theorem accStep_eq (t : Fin (cfgA Ideal).N) (prev : Accs Ideal c) (hprev : ti t.val ≠ tj t.val → prev.1 = accKW W c (t.val - 1) ∧ prev.2 = accVW W c (t.val - 1)) :
    accStep W c t prev = (accKW W c t.val, accVW W c t.val) := by
  obtain ⟨-, hD, hA, hL⟩ := index_facts (F := Ideal) t
  by_cases h1 : Diag (F := Ideal) t
  · have h2 : ¬After (F := Ideal) t := fun h => by have := hA.mp h; have := hD.mp h1; omega
    by_cases h3 : Last (F := Ideal) t
    · exact Prod.ext_iff.mpr ⟨stepOnlyK W c t prev h1 h2 h3, stepOnlyV W c t prev h1 h2 h3⟩
    · exact Prod.ext_iff.mpr ⟨stepStartK W c t prev h1 h2 h3, stepStartV W c t prev h1 h2 h3⟩
  · have hn : ti t.val ≠ tj t.val := fun h => h1 (hD.mpr h)
    obtain ⟨p1, p2⟩ := hprev hn
    have h2 : After (F := Ideal) t := hA.mpr (by have := (range_facts t.val (t.isLt.trans_eq N_0)).2.1; omega)
    by_cases h3 : Last (F := Ideal) t
    · exact Prod.ext_iff.mpr ⟨stepLastK W c t prev h1 h2 h3 p1, stepLastV W c t prev h1 h2 h3 p2⟩
    · exact Prod.ext_iff.mpr ⟨stepMidK W c t prev h1 h2 h3 p1, stepMidV W c t prev h1 h2 h3 p2⟩

theorem accAt_eq : ∀ (n : ℕ) (h : n < (cfgA Ideal).N), accAt W c (n + 1) = (accKW W c n, accVW W c n)
  | 0, h => (accAt_succ W c ⟨0, h⟩).trans (accStep_eq W c ⟨0, h⟩ _ (fun hn => absurd rfl hn))
  | n + 1, h => (accAt_succ W c ⟨n + 1, h⟩).trans (accStep_eq W c ⟨n + 1, h⟩ _ (fun _ =>
      ⟨congrArg Prod.fst (accAt_eq n (Nat.lt_of_succ_lt h)), congrArg Prod.snd (accAt_eq n (Nat.lt_of_succ_lt h))⟩))

theorem outKStep_eq (t : Fin (cfgA Ideal).N) (h3 : Last (F := Ideal) t) : outKStep W c t (accAt W c t.val) = (fun y => accKW W c t.val y * ((Real.log 2 : ℝ) : EReal) : S2048x128.Idx → EReal) := by
  obtain ⟨-, hD, hA, -⟩ := index_facts (F := Ideal) t
  have e := congrArg Prod.fst ((accAt_succ W c t).symm.trans (accAt_eq W c t.val t.isLt))
  rcases facts (F := Ideal) t with ⟨⟨h2, h1⟩ | ⟨h2, h1⟩, -⟩
  · rw [accStep_Last W c t _ h1 h2 h3] at e
    dsimp only at e
    rw [runLast_valK] at e
    rw [outKStep_Last W c t _ h1 h2 h3, runLast_outK_val]
    exact funext fun y => congrArg (· * ((Real.log 2 : ℝ) : EReal)) (congrFun e y)
  · rw [accStep_Only W c t _ h1 h2 h3] at e
    dsimp only at e
    rw [runOnly_valK] at e
    rw [outKStep_Only W c t _ h1 h2 h3, runOnly_outK_val]
    exact funext fun y => congrArg (· * ((Real.log 2 : ℝ) : EReal)) (congrFun e y)

/-- What the kernel leaves in the key gradient's array. -/
def dKW : S8192x1024.Idx → EReal :=
  fun y => (∑ k ∈ Finset.Ico (y 0).val 8192, termKW W c ((y 1).val / 128) (y 0).val ((y 1).val % 128) k) * ((Real.log 2 : ℝ) : EReal)

set_option backward.isDefEq.respectTransparency.types false in
theorem arrK_eq : (dats W 0 c).arrAt (6 : Fin 8) (cfgA Ideal).N = dKW W c := by
  refine (dats W 0 c).arrAt_eq_of_covers (6 : Fin 8) (dKW W c) (covers6 (F := Ideal)) fun t hf z => ?_
  have hx := (index_facts (F := Ideal) t).1.2.2.2.2.2.2.1
  obtain ⟨h4, hle, h8, -⟩ := range_facts t.val (t.isLt.trans_eq N_0)
  have h3 : Last (F := Ideal) t := (facts (F := Ideal) t).2.2.1.mpr hf
  have hi : ti t.val = 3 := (index_facts (F := Ideal) t).2.2.2.mp h3
  have z0 : (z (0 : Fin 2)).val < 2048 := (z (0 : Fin 2)).isLt
  have z1 : (z (1 : Fin 2)).val < 128 := (z (1 : Fin 2)).isLt
  rw [after0_6, outKStep_eq W c t h3]
  have g0 : ((((cfgA Ideal).win (6 : Fin 8)).blk t).view.emb z (0 : Fin 2)).val = 2048 * tj t.val + (z (0 : Fin 2)).val := by
    show ((cfgA Ideal).win (6 : Fin 8)).index t (0 : Fin 2) * 2048 + 1 * (z (0 : Fin 2)).val = _
    rw [hx]
    show tj t.val * 2048 + 1 * (z (0 : Fin 2)).val = _
    omega
  have g1 : ((((cfgA Ideal).win (6 : Fin 8)).blk t).view.emb z (1 : Fin 2)).val = 128 * th t.val + (z (1 : Fin 2)).val := by
    show ((cfgA Ideal).win (6 : Fin 8)).index t (1 : Fin 2) * 128 + 1 * (z (1 : Fin 2)).val = _
    rw [hx]
    show th t.val * 128 + 1 * (z (1 : Fin 2)).val = _
    omega
  show accKW W c t.val z * ((Real.log 2 : ℝ) : EReal) = dKW W c ((((cfgA Ideal).win (6 : Fin 8)).blk t).view.emb z)
  unfold accKW dKW
  rw [hi, g0, g1, show (128 * th t.val + (z (1 : Fin 2)).val) / 128 = th t.val by omega, show (128 * th t.val + (z (1 : Fin 2)).val) % 128 = (z (1 : Fin 2)).val by omega]

theorem outVStep_eq (t : Fin (cfgA Ideal).N) (h3 : Last (F := Ideal) t) : outVStep W c t (accAt W c t.val) = (accVW W c t.val : S2048x128.Idx → EReal) := by
  obtain ⟨-, hD, hA, -⟩ := index_facts (F := Ideal) t
  have e := congrArg Prod.snd ((accAt_succ W c t).symm.trans (accAt_eq W c t.val t.isLt))
  rcases facts (F := Ideal) t with ⟨⟨h2, h1⟩ | ⟨h2, h1⟩, -⟩
  · rw [accStep_Last W c t _ h1 h2 h3] at e
    dsimp only at e
    rw [runLast_valV] at e
    rw [outVStep_Last W c t _ h1 h2 h3, runLast_outV_val]
    exact e
  · rw [accStep_Only W c t _ h1 h2 h3] at e
    dsimp only at e
    rw [runOnly_valV] at e
    rw [outVStep_Only W c t _ h1 h2 h3, runOnly_outV_val]
    exact e

/-- What the kernel leaves in the value gradient's array. -/
def dVW : S8192x1024.Idx → EReal :=
  fun y => (∑ k ∈ Finset.Ico (y 0).val 8192, termVW W c ((y 1).val / 128) (y 0).val ((y 1).val % 128) k)

set_option backward.isDefEq.respectTransparency.types false in
theorem arrV_eq : (dats W 0 c).arrAt (7 : Fin 8) (cfgA Ideal).N = dVW W c := by
  refine (dats W 0 c).arrAt_eq_of_covers (7 : Fin 8) (dVW W c) (covers7 (F := Ideal)) fun t hf z => ?_
  have hx := (index_facts (F := Ideal) t).1.2.2.2.2.2.2.2
  obtain ⟨h4, hle, h8, -⟩ := range_facts t.val (t.isLt.trans_eq N_0)
  have h3 : Last (F := Ideal) t := (facts (F := Ideal) t).2.2.2.2.1.mpr hf
  have hi : ti t.val = 3 := (index_facts (F := Ideal) t).2.2.2.mp h3
  have z0 : (z (0 : Fin 2)).val < 2048 := (z (0 : Fin 2)).isLt
  have z1 : (z (1 : Fin 2)).val < 128 := (z (1 : Fin 2)).isLt
  rw [after0_7, outVStep_eq W c t h3]
  have g0 : ((((cfgA Ideal).win (7 : Fin 8)).blk t).view.emb z (0 : Fin 2)).val = 2048 * tj t.val + (z (0 : Fin 2)).val := by
    show ((cfgA Ideal).win (7 : Fin 8)).index t (0 : Fin 2) * 2048 + 1 * (z (0 : Fin 2)).val = _
    rw [hx]
    show tj t.val * 2048 + 1 * (z (0 : Fin 2)).val = _
    omega
  have g1 : ((((cfgA Ideal).win (7 : Fin 8)).blk t).view.emb z (1 : Fin 2)).val = 128 * th t.val + (z (1 : Fin 2)).val := by
    show ((cfgA Ideal).win (7 : Fin 8)).index t (1 : Fin 2) * 128 + 1 * (z (1 : Fin 2)).val = _
    rw [hx]
    show th t.val * 128 + 1 * (z (1 : Fin 2)).val = _
    omega
  show accVW W c t.val z = dVW W c ((((cfgA Ideal).win (7 : Fin 8)).blk t).view.emb z)
  unfold accVW dVW
  rw [hi, g0, g1, show (128 * th t.val + (z (1 : Fin 2)).val) / 128 = th t.val by omega, show (128 * th t.val + (z (1 : Fin 2)).val) % 128 = (z (1 : Fin 2)).val by omega]

end Cert.Kernel2Ideal.Dkv

end
-- ==== Proof.Dkv.Host.lean ====
/- The arrays the host prepares for the launch, at an index, at inputs that are real numbers. -/
module

public import proofs.«01_k».proof.Proof.Dkv.Launch
public import proofs.«01_k».proof.Proof.Attn.Real
public import Idealize.ShloMosaic.Lib.StableHlo.ReadAt
public import Idealize.ShloMosaic.Lib.Pointwise
public import Idealize.ShloMosaic.Lib.Pipeline.Frame

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Words
variable (V : Valuation τ sig (Elt Ideal))

theorem q_at (r : Fin 8192) (f : Fin 1024) : preV V (Proc.devRef .tc main_v40) (ix2 r f)
    = (if hf : f.val % 128 < 96 then Ideal.div (HMul.hMul (α := EReal) (β := EReal) (γ := EReal) ((V (Proc.devRef .tc main_arg0) (ix3 r (⟨f.val / 128, by omega⟩ : Fin 8) (⟨f.val % 128, hf⟩ : Fin 96)) : EReal)) (Ideal.ofBits .f32 1037108716#32)) (Ideal.log (Ideal.ofBits .f32 1073741824#32)) else 0 : EReal) := by
  unfold preV
  after_reads_at
  after_reads_at

theorem k_at (r : Fin 8192) (f : Fin 1024) : preV V (Proc.devRef .tc main_v44) (ix2 r f) = (if hf : f.val % 128 < 96 then (V (Proc.devRef .tc main_arg1) (ix3 r (⟨f.val / 128, by omega⟩ : Fin 8) (⟨f.val % 128, hf⟩ : Fin 96)) : EReal) else 0 : EReal) := by
  unfold preV
  after_reads_at
  after_reads_at

theorem v_at (r : Fin 8192) (f : Fin 1024) : preV V (Proc.devRef .tc main_v49) (ix2 r f)
    = (if hf : f.val % 128 < 64 then (V (Proc.devRef .tc main_arg2) (ix3 r (⟨f.val / 128, by omega⟩ : Fin 8) (⟨f.val % 128, hf⟩ : Fin 64)) : EReal) else if _h : f.val % 128 - 64 < 1 then 1 else 0 : EReal) := by
  unfold preV
  after_reads_at
  after_reads_at

theorem g_at (r : Fin 8192) (f : Fin 1024) : preV V (Proc.devRef .tc main_v53) (ix2 r f) = (if hf : f.val % 128 < 64 then (V (Proc.devRef .tc main_arg3) (ix3 r (⟨f.val / 128, by omega⟩ : Fin 8) (⟨f.val % 128, hf⟩ : Fin 64)) : EReal) else 0 : EReal) := by
  unfold preV
  after_reads_at
  after_reads_at

theorem preV_split (n : ℕ) : preV V = StableHlo.after (hostOps0_2.drop n) (StableHlo.after (hostOps0_2.take n) (StableHlo.after hostOps0_1 (StableHlo.after hostOps0 V))) := by
  unfold preV
  rw [← StableHlo.after_append (hostOps0_2.take n), List.take_append_drop]

theorem l_tail (a : Fin 64) (r : Fin 8192) : StableHlo.after (hostOps0_2.drop 14) V (Proc.devRef .tc main_v59) (ix2 a r)
    = Ideal.div (HAdd.hAdd (α := EReal) (β := EReal) (γ := EReal) (V (Proc.devRef .tc main_v16) (ix3 (⟨a.val / 8, by omega⟩ : Fin 8) r (0 : Fin 1))) (V (Proc.devRef .tc main_v26) (ix3 (⟨a.val / 8, by omega⟩ : Fin 8) r (0 : Fin 1))))
        (Ideal.log (Ideal.ofBits .f32 1073741824#32)) := by
  after_reads_at

theorem d_tail (a : Fin 1024) (r : Fin 8192) : StableHlo.after (hostOps0_2.drop 11) V (Proc.devRef .tc main_v63) (ix2 a r)
    = ∑ d : Fin 64, (HMul.hMul (α := EReal) (β := EReal) (γ := EReal) (∑ c : Fin 8192, (HMul.hMul (α := EReal) (β := EReal) (γ := EReal) (V (Proc.devRef .tc main_v2) (ix3 c (⟨a.val / 128, by omega⟩ : Fin 8) d)) (V (Proc.devRef .tc main_v23) (ix3 (⟨a.val / 128, by omega⟩ : Fin 8) r c)))) (V (Proc.devRef .tc main_v3) (ix3 r (⟨a.val / 128, by omega⟩ : Fin 8) d))) := by
  after_reads_at

theorem v2_at (c : Fin 8192) (h : Fin 8) (d : Fin 64) :
    StableHlo.after (hostOps0_2.take 11) (StableHlo.after hostOps0_1 (StableHlo.after hostOps0 V)) (Proc.devRef .tc main_v2) (ix3 c h d)
      = V (Proc.devRef .tc main_arg2) (ix3 c h d) := by
  after_reads_at

theorem v3_at (c : Fin 8192) (h : Fin 8) (d : Fin 64) :
    StableHlo.after (hostOps0_2.take 11) (StableHlo.after hostOps0_1 (StableHlo.after hostOps0 V)) (Proc.devRef .tc main_v3) (ix3 c h d)
      = V (Proc.devRef .tc main_arg3) (ix3 c h d) := by
  after_reads_at

theorem postK_at (o : S8192x1024.Idx → EReal) (r : Fin 8192) (h : Fin 8) (f : Fin 96) :
    postK (F := Ideal) o (ix3 r h f) = o (ix2 r (⟨h.val * 128 + f.val, by omega⟩ : Fin 1024)) := by
  pointwise [postK]

theorem postV_at (o : S8192x1024.Idx → EReal) (r : Fin 8192) (h : Fin 8) (f : Fin 64) :
    postV (F := Ideal) o (ix3 r h f) = o (ix2 r (⟨h.val * 128 + f.val, by omega⟩ : Fin 1024)) := by
  pointwise [postV]

end Words

section Reals
variable (V : Valuation τ sig (Elt Ideal))
variable (q k : Fin 8192 → Fin 8 → Fin 96 → ℝ) (v g : Fin 8192 → Fin 8 → Fin 64 → ℝ)
variable (hq : ∀ r h d, V (Proc.devRef .tc main_arg0) (ix3 r h d) = ((q r h d : ℝ) : EReal)) (hk : ∀ r h d, V (Proc.devRef .tc main_arg1) (ix3 r h d) = ((k r h d : ℝ) : EReal))
variable (hv : ∀ r h d, V (Proc.devRef .tc main_arg2) (ix3 r h d) = ((v r h d : ℝ) : EReal)) (hg : ∀ r h d, V (Proc.devRef .tc main_arg3) (ix3 r h d) = ((g r h d : ℝ) : EReal))

include hq hk

omit hq hk in
theorem low_eq : (id (constant (F := Ideal) S_ FTy.f32 4286578688#32) Idealize.ShloMosaic.ix0 : EReal) = ⊥ := Attn.ninf_eq

theorem score_at (r c : Fin 8192) (h : Fin 8) (Y : EReal) (hY : Y = ⊥) :
    (Scalar.select (IntOp.cmpi CmpIPredicate.sle (BitVec.ofNat 32 c.val) (BitVec.ofNat 32 r.val))
      ((∑ x : Fin 96, (HMul.hMul (α := EReal) (β := EReal) (γ := EReal) (V (Proc.devRef .tc main_arg0) (ix3 r h x)) (V (Proc.devRef .tc main_arg1) (ix3 c h x)))) * Ideal.ofBits .f32 1037108716#32) Y : EReal)
      = Attn.big q k h r c := by
  rw [Attn.sel_causal, hY, Attn.scale_eq]
  simp only [hq, hk, ← EReal.coe_mul, ← Attn.coe_sum]
  rfl

theorem max_at (r : Fin 8192) (h : Fin 8) :
    StableHlo.after (hostOps0_2.take 14) (StableHlo.after hostOps0_1 (StableHlo.after hostOps0 V)) (Proc.devRef .tc main_v16) (ix3 h r (0 : Fin 1))
      = ((Attn.top q k h r : ℝ) : EReal) := by
  after_reads_at
  simp only [score_at V q k hq hk r _ h _ low_eq, Attn.ninf_eq, Attn.top_eq]

theorem sum_at (r : Fin 8192) (h : Fin 8) :
    StableHlo.after (hostOps0_2.take 14) (StableHlo.after hostOps0_1 (StableHlo.after hostOps0 V)) (Proc.devRef .tc main_v26) (ix3 h r (0 : Fin 1))
      = ((Real.log (Attn.tot q k h r) : ℝ) : EReal) := by
  after_reads_at
  simp only [score_at V q k hq hk r _ h _ low_eq, Attn.ninf_eq, Attn.top_eq, Attn.ex_eq, ← Attn.coe_sum]
  exact Attn.log_tot q k h r

theorem lse_at (r : Fin 8192) (a : Fin 64) (h : Fin 8) (ha : a.val / 8 = h.val) : preV V (Proc.devRef .tc main_v59) (ix2 a r)
    = (((Attn.top q k h r + Real.log (Attn.tot q k h r)) / Real.log 2 : ℝ) : EReal) := by
  have e : (⟨a.val / 8, by omega⟩ : Fin 8) = h := Fin.ext ha
  rw [preV_split V 14, l_tail, e, max_at V q k hq hk, sum_at V q k hq hk, Attn.log_two, ← EReal.coe_add,
    Attn.div_real _ (Real.log_pos (by norm_num)).ne']

theorem prob_at (r c : Fin 8192) (h : Fin 8) :
    StableHlo.after (hostOps0_2.take 11) (StableHlo.after hostOps0_1 (StableHlo.after hostOps0 V)) (Proc.devRef .tc main_v23) (ix3 h r c)
      = ((Attn.ex q k h r c / Attn.tot q k h r : ℝ) : EReal) := by
  after_reads_at
  simp only [score_at V q k hq hk r _ h _ low_eq, Attn.ninf_eq, Attn.top_eq, Attn.ex_eq, ← Attn.coe_sum]
  exact Attn.div_real _ (Attn.tot_pos q k h r).ne'

include hv hg

theorem delta_at (r : Fin 8192) (a : Fin 1024) (h : Fin 8) (ha : a.val / 128 = h.val) : preV V (Proc.devRef .tc main_v63) (ix2 a r)
    = ((Attn.del q k v g h r : ℝ) : EReal) := by
  have e : (⟨a.val / 128, by omega⟩ : Fin 8) = h := Fin.ext ha
  rw [preV_split V 11, d_tail, e]
  have e2 := fun c d => (v2_at V c h d).trans (hv c h d)
  have e3 := fun c d => (v3_at V c h d).trans (hg c h d)
  rw [← Attn.del_eq, Attn.coe_sum]
  show @Eq EReal _ _
  refine Finset.sum_congr rfl fun d _ => ?_
  rw [EReal.coe_mul, Attn.coe_sum]
  refine congr (congrArg _ (Finset.sum_congr rfl fun c _ => ?_)) (e3 r d)
  rw [EReal.coe_mul]
  exact congr (congrArg _ (e2 c d)) (prob_at V q k hq hk r c h)

end Reals

end Cert.Kernel2Ideal.Dkv

end
-- ==== Proof.Attn.KeyValue.lean ====
/-
The gradients of causal attention's keys and values over the real numbers.
-/
module

public import proofs.«01_k».proof.Proof.Attn.Real

@[expose] public section

noncomputable section

namespace Attn

variable (q k : Fin 8192 → Fin 8 → Fin 96 → ℝ) (v g : Fin 8192 → Fin 8 → Fin 64 → ℝ)

/-- The gradient of the keys. -/
def dk (c : Fin 8192) (h : Fin 8) (f : Fin 96) : ℝ := (∑ r, ds q k v g h r c * q r h f) * scale
/-- The gradient of the values. -/
def dv (c : Fin 8192) (h : Fin 8) (f : Fin 64) : ℝ := ∑ r, ex q k h r c / tot q k h r * g r h f

/-- A sum over the rows from `c` on is the sum over all of them where the others hold zero. -/
theorem sum_from (c : Fin 8192) (F : Fin 8192 → ℝ) (h0 : ∀ r, ¬ c ≤ r → F r = 0) :
    ∑ x ∈ Finset.Ico c.val 8192, (if hx : x < 8192 then F ⟨x, hx⟩ else 0) = ∑ r, F r := by
  have h1 : ∑ r, F r = ∑ x ∈ Finset.range 8192, (if hx : x < 8192 then F ⟨x, hx⟩ else 0) := by
    rw [Finset.sum_range]
    exact Finset.sum_congr rfl fun r _ => by rw [dif_pos r.isLt]
  rw [h1]
  refine Finset.sum_subset (fun x hx => ?_) fun x hx hn => ?_
  · rw [Finset.mem_Ico] at hx; rw [Finset.mem_range]; exact hx.2
  · rw [Finset.mem_range] at hx
    rw [dif_pos hx]
    refine h0 _ fun hc => hn ?_
    rw [Finset.mem_Ico]
    exact ⟨hc, hx⟩

end Attn

end

end
-- ==== Proof.Dkv.Value.lean ====
/- The second launch's results, at inputs that are real numbers: the gradients of the keys and of the values. -/
module

public import proofs.«01_k».proof.Proof.Dkv.Host
public import proofs.«01_k».proof.Proof.Dkv.Acc
public import proofs.«01_k».proof.Proof.Attn.KeyValue

@[expose] public section

set_option maxRecDepth 16384
set_option Elab.async false

noncomputable section

namespace Cert.Kernel2Ideal.Dkv

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem row_self (r : Fin 8192) : row r.val = r := Fin.ext (Nat.mod_eq_of_lt r.isLt)
theorem lane_val (h : Fin 8) (e : ℕ) (he : e < 128) : (lane h.val e).val = 128 * h.val + e := by
  show (128 * h.val + e) % 1024 = _
  omega
theorem lane_div (h : Fin 8) (e : ℕ) (he : e < 128) : (lane h.val e).val / 128 = h.val := by
  rw [lane_val h e he]; omega
theorem lane_mod (h : Fin 8) (e : ℕ) (he : e < 128) : (lane h.val e).val % 128 = e := by
  rw [lane_val h e he]; omega

/-- A choice by the lane and one by its number within the head. -/
theorem lane_if (n : ℕ) (h : Fin 8) (e : Fin 128) (X : Fin 8 → Fin n → EReal) :
    (if hf : (lane h.val e.val).val % 128 < n then X ⟨(lane h.val e.val).val / 128, by omega⟩ ⟨(lane h.val e.val).val % 128, hf⟩ else 0)
      = if hf : e.val < n then X h ⟨e.val, hf⟩ else 0 := by
  have hd := lane_div h e.val e.isLt
  have hm := lane_mod h e.val e.isLt
  have ed : (⟨(lane h.val e.val).val / 128, by omega⟩ : Fin 8) = h := Fin.ext hd
  by_cases hf : e.val < n
  · rw [dif_pos hf, dif_pos (by omega), ed]
    congr 1
    exact Fin.ext hm
  · rw [dif_neg hf, dif_neg (by omega)]

variable (V : Valuation τ sig (Elt Ideal))
variable (q k : Fin 8192 → Fin 8 → Fin 96 → ℝ) (v g : Fin 8192 → Fin 8 → Fin 64 → ℝ)
variable (hq : ∀ r h d, V (Proc.devRef .tc main_arg0) (ix3 r h d) = ((q r h d : ℝ) : EReal)) (hk : ∀ r h d, V (Proc.devRef .tc main_arg1) (ix3 r h d) = ((k r h d : ℝ) : EReal))
variable (hv : ∀ r h d, V (Proc.devRef .tc main_arg2) (ix3 r h d) = ((v r h d : ℝ) : EReal)) (hg : ∀ r h d, V (Proc.devRef .tc main_arg3) (ix3 r h d) = ((g r h d : ℝ) : EReal))

section
include hq
theorem q_lane (r : Fin 8192) (h : Fin 8) (e : Fin 128) : preV V (Proc.devRef .tc main_v40) (ix2 r (lane h.val e.val))
    = if hf : e.val < 96 then ((q r h ⟨e.val, hf⟩ * Attn.scale / Real.log 2 : ℝ) : EReal) else 0 := by
  rw [q_at]
  refine Eq.trans ?_ (lane_if 96 h e fun h' d => ((q r h' d * Attn.scale / Real.log 2 : ℝ) : EReal))
  refine dite_congr rfl (fun hf => ?_) fun _ => rfl
  rw [hq, Attn.scale_eq, ← EReal.coe_mul, Attn.log_two, Attn.div_real _ (Real.log_pos (by norm_num)).ne']
end

section
include hk
theorem k_lane (r : Fin 8192) (h : Fin 8) (e : Fin 128) : preV V (Proc.devRef .tc main_v44) (ix2 r (lane h.val e.val))
    = if hf : e.val < 96 then ((k r h ⟨e.val, hf⟩ : ℝ) : EReal) else 0 := by
  rw [k_at]
  refine Eq.trans ?_ (lane_if 96 h e fun h' d => ((k r h' d : ℝ) : EReal))
  exact dite_congr rfl (fun hf => hk _ _ _) fun _ => rfl
end

section
include hg
theorem g_lane (r : Fin 8192) (h : Fin 8) (e : Fin 128) : preV V (Proc.devRef .tc main_v53) (ix2 r (lane h.val e.val))
    = if hf : e.val < 64 then ((g r h ⟨e.val, hf⟩ : ℝ) : EReal) else 0 := by
  rw [g_at]
  refine Eq.trans ?_ (lane_if 64 h e fun h' d => ((g r h' d : ℝ) : EReal))
  exact dite_congr rfl (fun hf => hg _ _ _) fun _ => rfl
end

section
include hv
theorem v_lane (r : Fin 8192) (h : Fin 8) (e : Fin 128) (he : e.val < 64) : preV V (Proc.devRef .tc main_v49) (ix2 r (lane h.val e.val))
    = ((v r h ⟨e.val, he⟩ : ℝ) : EReal) := by
  have hm := lane_mod h e.val e.isLt
  have ed : (⟨(lane h.val e.val).val / 128, by omega⟩ : Fin 8) = h := Fin.ext (lane_div h e.val e.isLt)
  rw [v_at, dif_pos (by omega), hv, ed]
  congr 2
  exact Fin.ext hm
end

include hq hk in
/-- The product of a row of the keys and a row of the queries, all 128 lanes. -/
theorem kq_sum (c r : Fin 8192) (h : Fin 8) :
    (∑ e : Fin 128, HMul.hMul (α := EReal) (β := EReal) (γ := EReal) (preV V (Proc.devRef .tc main_v44) (ix2 c (lane h.val e.val))) (preV V (Proc.devRef .tc main_v40) (ix2 r (lane h.val e.val))))
      = ((Attn.sco q k h r c / Real.log 2 : ℝ) : EReal) := by
  have e1 : ∀ e : Fin 128, HMul.hMul (α := EReal) (β := EReal) (γ := EReal) (preV V (Proc.devRef .tc main_v44) (ix2 c (lane h.val e.val))) (preV V (Proc.devRef .tc main_v40) (ix2 r (lane h.val e.val)))
      = if hf : e.val < 96 then (((q r h ⟨e.val, hf⟩ * Attn.scale / Real.log 2) * k c h ⟨e.val, hf⟩ : ℝ) : EReal) else 0 := by
    intro e
    rw [q_lane V q hq, k_lane V k hk]
    by_cases hf : e.val < 96
    · rw [dif_pos hf, dif_pos hf, dif_pos hf, ← EReal.coe_mul, mul_comm]
    · rw [dif_neg hf, dif_neg hf, dif_neg hf, mul_zero]
  rw [Finset.sum_congr rfl fun e _ => e1 e,
    Attn.sum_lanes 96 (by norm_num) fun e => (((q r h e * Attn.scale / Real.log 2) * k c h e : ℝ) : EReal), ← Attn.coe_sum]
  unfold Attn.sco
  rw [Finset.sum_mul, Finset.sum_div]
  congr 1
  exact Finset.sum_congr rfl fun d _ => by ring

include hv hg in
/-- The product of a row of the values and a row of the cotangents. -/
theorem vg_sum (c r : Fin 8192) (h : Fin 8) :
    (∑ e : Fin 128, HMul.hMul (α := EReal) (β := EReal) (γ := EReal) (preV V (Proc.devRef .tc main_v49) (ix2 c (lane h.val e.val))) (preV V (Proc.devRef .tc main_v53) (ix2 r (lane h.val e.val))))
      = ((Attn.dpr v g h r c : ℝ) : EReal) := by
  have e1 : ∀ e : Fin 128, HMul.hMul (α := EReal) (β := EReal) (γ := EReal) (preV V (Proc.devRef .tc main_v49) (ix2 c (lane h.val e.val))) (preV V (Proc.devRef .tc main_v53) (ix2 r (lane h.val e.val)))
      = if hf : e.val < 64 then ((g r h ⟨e.val, hf⟩ * v c h ⟨e.val, hf⟩ : ℝ) : EReal) else 0 := by
    intro e
    rw [g_lane V g hg]
    by_cases hf : e.val < 64
    · rw [dif_pos hf, dif_pos hf, v_lane V v hv c h e hf, ← EReal.coe_mul, mul_comm]
    · rw [dif_neg hf, dif_neg hf, mul_zero]
  rw [Finset.sum_congr rfl fun e _ => e1 e,
    Attn.sum_lanes 64 (by norm_num) fun e => ((g r h e * v c h e : ℝ) : EReal), ← Attn.coe_sum]
  rfl

include hq hk in
theorem pterm_real (c r : Fin 8192) (h : Fin 8) (hc : c ≤ r) :
    pterm (preV V (Proc.devRef .tc main_v40)) (preV V (Proc.devRef .tc main_v44)) (preV V (Proc.devRef .tc main_v59)) h.val c.val r.val = ((Attn.ex q k h r c / Attn.tot q k h r : ℝ) : EReal) := by
  unfold pterm
  rw [row_self r, row_self c, kq_sum V q k hq hk, lse_at V q k hq hk r _ h (show (8 * h.val) % 64 / 8 = h.val by omega),
    ← EReal.coe_sub, Ideal.exp2_coe, Attn.prob_eq q k h r c hc]

include hq hk hv hg in
theorem termK_real (c r : Fin 8192) (h : Fin 8) (f : Fin 96) (hc : c ≤ r) :
    termK (preV V (Proc.devRef .tc main_v40)) (preV V (Proc.devRef .tc main_v44)) (preV V (Proc.devRef .tc main_v49)) (preV V (Proc.devRef .tc main_v53)) (preV V (Proc.devRef .tc main_v59)) (preV V (Proc.devRef .tc main_v63)) h.val c.val f.val r.val
      = ((Attn.ds q k v g h r c * (q r h f * Attn.scale / Real.log 2) : ℝ) : EReal) := by
  have eq := q_lane V q hq r h ⟨f.val, by omega⟩
  rw [dif_pos f.isLt] at eq
  unfold termK
  rw [pterm_real V q k hq hk c r h hc, row_self r, row_self c, vg_sum V v g hv hg, delta_at V q k v g hq hk hv hg r _ h (show (128 * h.val) % 1024 / 128 = h.val by omega),
    ← EReal.coe_sub, ← EReal.coe_mul]
  refine (congrArg _ eq).trans ?_
  rw [← EReal.coe_mul]
  rfl

include hq hk hg in
theorem termV_real (c r : Fin 8192) (h : Fin 8) (f : Fin 64) (hc : c ≤ r) :
    termV (preV V (Proc.devRef .tc main_v40)) (preV V (Proc.devRef .tc main_v44)) (preV V (Proc.devRef .tc main_v49)) (preV V (Proc.devRef .tc main_v53)) (preV V (Proc.devRef .tc main_v59)) (preV V (Proc.devRef .tc main_v63)) h.val c.val f.val r.val
      = ((Attn.ex q k h r c / Attn.tot q k h r * g r h f : ℝ) : EReal) := by
  have eg := g_lane V g hg r h ⟨f.val, by omega⟩
  rw [dif_pos f.isLt] at eg
  unfold termV
  rw [pterm_real V q k hq hk c r h hc, row_self r]
  refine (congrArg _ eg).trans ?_
  rw [← EReal.coe_mul]

include hq hk hv hg in
/-- The gradient of the keys. -/
theorem key_at (o : S8192x1024.Idx → EReal)
    (ho : ∀ y, o y = (∑ x ∈ Finset.Ico (y 0).val 8192, termK (preV V (Proc.devRef .tc main_v40)) (preV V (Proc.devRef .tc main_v44)) (preV V (Proc.devRef .tc main_v49)) (preV V (Proc.devRef .tc main_v53)) (preV V (Proc.devRef .tc main_v59)) (preV V (Proc.devRef .tc main_v63)) ((y 1).val / 128) (y 0).val ((y 1).val % 128) x) * ((Real.log 2 : ℝ) : EReal))
    (c : Fin 8192) (h : Fin 8) (f : Fin 96) :
    postK (F := Ideal) o (ix3 c h f) = ((Attn.dk q k v g c h f : ℝ) : EReal) := by
  have e0 : ((ix2 c (⟨h.val * 128 + f.val, by omega⟩ : Fin 1024) : S8192x1024.Idx) 0).val = c.val := rfl
  have e1 : ((ix2 c (⟨h.val * 128 + f.val, by omega⟩ : Fin 1024) : S8192x1024.Idx) 1).val = h.val * 128 + f.val := rfl
  have e2 : (h.val * 128 + f.val) / 128 = h.val := by omega
  have e3 : (h.val * 128 + f.val) % 128 = f.val := by omega
  rw [postK_at, ho, e0, e1, e2, e3]
  have hs : ∀ x ∈ Finset.Ico c.val 8192, termK (preV V (Proc.devRef .tc main_v40)) (preV V (Proc.devRef .tc main_v44)) (preV V (Proc.devRef .tc main_v49)) (preV V (Proc.devRef .tc main_v53)) (preV V (Proc.devRef .tc main_v59)) (preV V (Proc.devRef .tc main_v63)) h.val c.val f.val x
      = ((if hx : x < 8192 then Attn.ds q k v g h ⟨x, hx⟩ c * (q ⟨x, hx⟩ h f * Attn.scale / Real.log 2) else 0 : ℝ) : EReal) := by
    intro x hx
    rw [Finset.mem_Ico] at hx
    rw [dif_pos hx.2]
    exact termK_real V q k v g hq hk hv hg c ⟨x, hx.2⟩ h f hx.1
  rw [Finset.sum_congr rfl hs, ← Attn.coe_sum, ← EReal.coe_mul,
    Attn.sum_from c (fun r => Attn.ds q k v g h r c * (q r h f * Attn.scale / Real.log 2)) fun r hr => by
      unfold Attn.ds; rw [Attn.ex_above q k h r c hr]; simp]
  have hl : Real.log 2 ≠ 0 := (Real.log_pos (by norm_num)).ne'
  unfold Attn.dk
  congr 1
  rw [Finset.sum_mul, Finset.sum_mul]
  exact Finset.sum_congr rfl fun r _ => by field_simp

include hq hk hg in
/-- The gradient of the values. -/
theorem value_at (o : S8192x1024.Idx → EReal)
    (ho : ∀ y, o y = ∑ x ∈ Finset.Ico (y 0).val 8192, termV (preV V (Proc.devRef .tc main_v40)) (preV V (Proc.devRef .tc main_v44)) (preV V (Proc.devRef .tc main_v49)) (preV V (Proc.devRef .tc main_v53)) (preV V (Proc.devRef .tc main_v59)) (preV V (Proc.devRef .tc main_v63)) ((y 1).val / 128) (y 0).val ((y 1).val % 128) x)
    (c : Fin 8192) (h : Fin 8) (f : Fin 64) :
    postV (F := Ideal) o (ix3 c h f) = ((Attn.dv q k g c h f : ℝ) : EReal) := by
  have e0 : ((ix2 c (⟨h.val * 128 + f.val, by omega⟩ : Fin 1024) : S8192x1024.Idx) 0).val = c.val := rfl
  have e1 : ((ix2 c (⟨h.val * 128 + f.val, by omega⟩ : Fin 1024) : S8192x1024.Idx) 1).val = h.val * 128 + f.val := rfl
  have e2 : (h.val * 128 + f.val) / 128 = h.val := by omega
  have e3 : (h.val * 128 + f.val) % 128 = f.val := by omega
  rw [postV_at, ho, e0, e1, e2, e3]
  have hs : ∀ x ∈ Finset.Ico c.val 8192, termV (preV V (Proc.devRef .tc main_v40)) (preV V (Proc.devRef .tc main_v44)) (preV V (Proc.devRef .tc main_v49)) (preV V (Proc.devRef .tc main_v53)) (preV V (Proc.devRef .tc main_v59)) (preV V (Proc.devRef .tc main_v63)) h.val c.val f.val x
      = ((if hx : x < 8192 then Attn.ex q k h ⟨x, hx⟩ c / Attn.tot q k h ⟨x, hx⟩ * g ⟨x, hx⟩ h f else 0 : ℝ) : EReal) := by
    intro x hx
    rw [Finset.mem_Ico] at hx
    rw [dif_pos hx.2]
    exact termV_real V q k g hq hk hg c ⟨x, hx.2⟩ h f hx.1
  rw [Finset.sum_congr rfl hs, ← Attn.coe_sum,
    Attn.sum_from c (fun r => Attn.ex q k h r c / Attn.tot q k h r * g r h f) fun r hr => by
      rw [Attn.ex_above q k h r c hr]; simp]
  rfl

end Cert.Kernel2Ideal.Dkv

end
-- ==== Proof.Ref.Dq.lean ====
/- The reference's result at an index, at inputs that are real numbers: the gradient of the queries that
Attn.Real defines. The reference's operations are read in groups, each from the group before it. -/
module

public import proofs.«01_k».proof.Proof.Gen.ReferenceIdeal.Read
public import proofs.«01_k».proof.Proof.Attn.Real
public import Idealize.ShloMosaic.Lib.Pointwise

@[expose] public section

set_option maxRecDepth 16384
set_option Elab.async false

noncomputable section

namespace Cert.ReferenceIdeal.Dq

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.ReferenceIdeal.Read

section Groups
variable (x0 x1 : S8192x8x96.Idx → EReal) (x2 x3 : S8192x8x64.Idx → EReal) (h : Fin 8) (r c : Fin 8192)

theorem r14 : val_main_v14_0 (F := Ideal) x0 x1 (ix3 h r c)
    = if c ≤ r then (∑ d : Fin 96, x0 (ix3 r h d) * x1 (ix3 c h d)) * (Ideal.ofBits .f32 1037108716#32 : EReal) else (Ideal.ofBits .f32 4286578688#32 : EReal) := by
  pointwise [val_main_v14_0, val_main_v14_1, val_main_v6, val_main_v5, val_main_v4, val_main_v0, val_main_v1, val_main_v13, val_main_v12, val_main_v11, val_main_v10, val_main_v9, val_main_v8, val_main_v7, val_main_call0_v2, val_main_call0_v0, val_main_cst_0, val_main_cst]
  exact Attn.sel_causal c r _ _

theorem r15 : val_main_v15 (F := Ideal) x0 x1 (ix2 h r)
    = Finset.fold max (Ideal.ofBits .f32 4286578688#32 : EReal) (fun c : Fin 8192 => (val_main_v14_0 (F := Ideal) x0 x1 (ix3 h r c) : EReal)) Finset.univ := by
  unfold val_main_v15
  generalize val_main_v14_0 (F := Ideal) x0 x1 = y
  pointwise [val_main_cst_1]

theorem r22 : val_main_v22 (F := Ideal) x0 x1 (ix2 h r)
    = max (Ideal.ofBits .f32 4286578688#32 : EReal) (val_main_v15 (F := Ideal) x0 x1 (ix2 h r)) := by
  rw [val_main_v22_apply, val_main_v21_apply, val_main_cst_3_apply]
  rfl

theorem r35 : val_main_v35 (F := Ideal) x0 x1 (ix3 h r c)
    = Ideal.exp ((val_main_v14_0 (F := Ideal) x0 x1 (ix3 h r c) : EReal) - val_main_v22 (F := Ideal) x0 x1 (ix2 h r)) := by
  unfold val_main_v35 val_main_v34 val_main_v33 val_main_v32
  generalize val_main_v14_0 (F := Ideal) x0 x1 = y
  generalize val_main_v22 (F := Ideal) x0 x1 = z
  pointwise

theorem r37 : val_main_v37 (F := Ideal) x0 x1 (ix3 h r (0 : Fin 1))
    = ∑ x : Fin 8192, (val_main_v35 (F := Ideal) x0 x1 (ix3 h r x) : EReal) := by
  unfold val_main_v37 val_main_v36
  generalize val_main_v35 (F := Ideal) x0 x1 = y
  pointwise [val_main_cst_9]

theorem r46 : val_main_v46 (F := Ideal) x2 x3 (ix3 h r c) = ∑ d : Fin 64, x3 (ix3 r h d) * x2 (ix3 c h d) := by
  pointwise [val_main_v46, val_main_v45, val_main_v3, val_main_v2]

theorem r50 : val_main_v50 (F := Ideal) x0 x1 x2 x3 (ix2 h r)
    = ∑ x : Fin 8192, (val_main_v46 (F := Ideal) x2 x3 (ix3 h r x) : EReal)
        * Ideal.div 1 ((val_main_v37 (F := Ideal) x0 x1 (ix3 h r (0 : Fin 1)) : EReal) * val_main_v37 (F := Ideal) x0 x1 (ix3 h r (0 : Fin 1)))
        * val_main_v35 (F := Ideal) x0 x1 (ix3 h r x) := by
  unfold val_main_v50 val_main_v49 val_main_v48 val_main_v47 val_main_v42 val_main_v40
  generalize val_main_v35 (F := Ideal) x0 x1 = y
  generalize val_main_v46 (F := Ideal) x2 x3 = z
  generalize val_main_v37 (F := Ideal) x0 x1 = t
  pointwise [val_main_cst_11, val_main_v41, val_main_cst_10]

theorem r58 : val_main_v58 (F := Ideal) x0 x1 x2 x3 (ix3 h r c)
    = (Ideal.div (val_main_v46 (F := Ideal) x2 x3 (ix3 h r c)) (val_main_v37 (F := Ideal) x0 x1 (ix3 h r (0 : Fin 1)))
        + -(val_main_v50 (F := Ideal) x0 x1 x2 x3 (ix2 h r) : EReal)) * val_main_v35 (F := Ideal) x0 x1 (ix3 h r c) := by
  unfold val_main_v58 val_main_v57 val_main_v56 val_main_v55 val_main_v54 val_main_v53 val_main_v52 val_main_v51
  generalize val_main_v35 (F := Ideal) x0 x1 = y
  generalize val_main_v46 (F := Ideal) x2 x3 = z
  generalize val_main_v37 (F := Ideal) x0 x1 = t
  generalize val_main_v50 (F := Ideal) x0 x1 x2 x3 = u
  pointwise [val_main_cst_12]
  simp only [Finset.univ_unique, Finset.sum_singleton]

theorem r63 (f : Fin 96) : val_main_v63 (F := Ideal) x0 x1 x2 x3 (ix3 r h f)
    = ∑ x : Fin 8192, (if x ≤ r then (val_main_v58 (F := Ideal) x0 x1 x2 x3 (ix3 h r x) : EReal) * (Ideal.ofBits .f32 1037108716#32 : EReal) * x1 (ix3 x h f) else 0) := by
  unfold val_main_v63 val_main_v62 val_main_v61 val_main_v59
  generalize val_main_v58 (F := Ideal) x0 x1 x2 x3 = y
  pointwise [val_main_v14_1, val_main_v13, val_main_v12, val_main_v11, val_main_v10, val_main_v9, val_main_v8, val_main_v7, val_main_call1_v0, val_main_call1_cst, val_main_v60, val_main_cst_13, val_main_v1]
  exact Finset.sum_congr rfl fun x _ => Attn.sel_causal x r _ _

end Groups

section Reals
variable (x0 x1 : S8192x8x96.Idx → EReal) (x2 x3 : S8192x8x64.Idx → EReal)
variable (q k : Fin 8192 → Fin 8 → Fin 96 → ℝ) (v g : Fin 8192 → Fin 8 → Fin 64 → ℝ)
variable (hq : ∀ r h d, x0 (ix3 r h d) = ((q r h d : ℝ) : EReal)) (hk : ∀ r h d, x1 (ix3 r h d) = ((k r h d : ℝ) : EReal))
variable (hv : ∀ r h d, x2 (ix3 r h d) = ((v r h d : ℝ) : EReal)) (hg : ∀ r h d, x3 (ix3 r h d) = ((g r h d : ℝ) : EReal))
include hq hk

theorem s14 (h : Fin 8) (r c : Fin 8192) : val_main_v14_0 (F := Ideal) x0 x1 (ix3 h r c) = Attn.big q k h r c := by
  rw [r14, Attn.scale_eq, Attn.ninf_eq]
  simp only [hq, hk, ← EReal.coe_mul, ← Attn.coe_sum]
  rfl

theorem s22 (h : Fin 8) (r : Fin 8192) : val_main_v22 (F := Ideal) x0 x1 (ix2 h r) = ((Attn.top q k h r : ℝ) : EReal) := by
  rw [r22, r15]
  simp only [s14 x0 x1 q k hq hk, Attn.ninf_eq, Attn.top_eq]
  exact max_eq_right bot_le

theorem s35 (h : Fin 8) (r c : Fin 8192) : val_main_v35 (F := Ideal) x0 x1 (ix3 h r c) = ((Attn.ex q k h r c : ℝ) : EReal) := by
  rw [r35, s14 x0 x1 q k hq hk, s22 x0 x1 q k hq hk, Attn.ex_eq]

theorem s37 (h : Fin 8) (r : Fin 8192) : val_main_v37 (F := Ideal) x0 x1 (ix3 h r (0 : Fin 1)) = ((Attn.tot q k h r : ℝ) : EReal) := by
  rw [r37]
  simp only [s35 x0 x1 q k hq hk, ← Attn.coe_sum]
  rfl

omit hq hk in
include hv hg in
theorem s46 (h : Fin 8) (r c : Fin 8192) : val_main_v46 (F := Ideal) x2 x3 (ix3 h r c) = ((Attn.dpr v g h r c : ℝ) : EReal) := by
  rw [r46]
  simp only [hv, hg, ← EReal.coe_mul, ← Attn.coe_sum]
  rfl

include hv hg

theorem s58 (h : Fin 8) (r c : Fin 8192) : val_main_v58 (F := Ideal) x0 x1 x2 x3 (ix3 h r c) = ((Attn.ds q k v g h r c : ℝ) : EReal) := by
  have ht := (Attn.tot_pos q k h r).ne'
  rw [r58, r50]
  simp only [s35 x0 x1 q k hq hk, s37 x0 x1 q k hq hk, s46 x2 x3 v g hv hg]
  rw [← EReal.coe_mul, ← EReal.coe_one, Attn.div_real _ (mul_ne_zero ht ht), Attn.div_real _ ht]
  simp only [← EReal.coe_mul, ← Attn.coe_sum]
  rw [← EReal.coe_neg, ← EReal.coe_add, ← EReal.coe_mul, Attn.ds_eq]

/-- The reference's result. -/
theorem result (r : Fin 8192) (h : Fin 8) (f : Fin 96) :
    val_main_v63 (F := Ideal) x0 x1 x2 x3 (ix3 r h f) = ((Attn.dq q k v g r h f : ℝ) : EReal) := by
  rw [r63, Attn.scale_eq]
  simp only [s58 x0 x1 x2 x3 q k v g hq hk hv hg, hk, ← EReal.coe_mul]
  unfold Attn.dq
  rw [Finset.sum_mul, Attn.coe_sum]
  refine Finset.sum_congr rfl fun c _ => ?_
  split
  · congr 1; ring
  · rename_i hc
    unfold Attn.ds
    rw [Attn.ex_above q k h r c hc]; simp

end Reals

end Cert.ReferenceIdeal.Dq

end
-- ==== Proof.Ref.Dkv.lean ====
/- The second reference's results at an index, at inputs that are real numbers: the gradients of the keys and of the values that
Attn.KeyValue defines. The reference's operations are read in groups, each from the group before it. -/
module

public import proofs.«01_k».proof.Proof.Gen.Reference2Ideal.Read
public import proofs.«01_k».proof.Proof.Attn.KeyValue
public import Idealize.ShloMosaic.Lib.Pointwise

@[expose] public section

set_option maxRecDepth 16384
set_option Elab.async false

noncomputable section

namespace Cert.Reference2Ideal.Dkv

open Cert.Reference2Ideal Cert.Reference2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Reference2Ideal.Read

section Groups
variable (x0 x1 : S8192x8x96.Idx → EReal) (x2 x3 : S8192x8x64.Idx → EReal) (h : Fin 8) (r c : Fin 8192)

theorem r14 : val_main_v14_0 (F := Ideal) x0 x1 (ix3 h r c)
    = if c ≤ r then (∑ d : Fin 96, x0 (ix3 r h d) * x1 (ix3 c h d)) * (Ideal.ofBits .f32 1037108716#32 : EReal) else (Ideal.ofBits .f32 4286578688#32 : EReal) := by
  pointwise [val_main_v14_0, val_main_v14_1, val_main_v6, val_main_v5, val_main_v4, val_main_v0, val_main_v1, val_main_v13, val_main_v12, val_main_v11, val_main_v10, val_main_v9, val_main_v8, val_main_v7, val_main_call0_v2, val_main_call0_v0, val_main_cst_0, val_main_cst]
  exact Attn.sel_causal c r _ _

theorem r15 : val_main_v15 (F := Ideal) x0 x1 (ix2 h r)
    = Finset.fold max (Ideal.ofBits .f32 4286578688#32 : EReal) (fun c : Fin 8192 => (val_main_v14_0 (F := Ideal) x0 x1 (ix3 h r c) : EReal)) Finset.univ := by
  unfold val_main_v15
  generalize val_main_v14_0 (F := Ideal) x0 x1 = y
  pointwise [val_main_cst_1]

theorem r22 : val_main_v22 (F := Ideal) x0 x1 (ix2 h r)
    = max (Ideal.ofBits .f32 4286578688#32 : EReal) (val_main_v15 (F := Ideal) x0 x1 (ix2 h r)) := by
  rw [val_main_v22_apply, val_main_v21_apply, val_main_cst_3_apply]
  rfl

theorem r35 : val_main_v35 (F := Ideal) x0 x1 (ix3 h r c)
    = Ideal.exp ((val_main_v14_0 (F := Ideal) x0 x1 (ix3 h r c) : EReal) - val_main_v22 (F := Ideal) x0 x1 (ix2 h r)) := by
  unfold val_main_v35 val_main_v34 val_main_v33 val_main_v32
  generalize val_main_v14_0 (F := Ideal) x0 x1 = y
  generalize val_main_v22 (F := Ideal) x0 x1 = z
  pointwise

theorem r37 : val_main_v37 (F := Ideal) x0 x1 (ix3 h r (0 : Fin 1))
    = ∑ x : Fin 8192, (val_main_v35 (F := Ideal) x0 x1 (ix3 h r x) : EReal) := by
  unfold val_main_v37 val_main_v36
  generalize val_main_v35 (F := Ideal) x0 x1 = y
  pointwise [val_main_cst_9]

theorem r46 : val_main_v46 (F := Ideal) x2 x3 (ix3 h r c) = ∑ d : Fin 64, x3 (ix3 r h d) * x2 (ix3 c h d) := by
  pointwise [val_main_v46, val_main_v45, val_main_v3, val_main_v2]

theorem r39 : val_main_v39 (F := Ideal) x0 x1 (ix3 h r c)
    = Ideal.div (val_main_v35 (F := Ideal) x0 x1 (ix3 h r c)) (val_main_v37 (F := Ideal) x0 x1 (ix3 h r (0 : Fin 1))) := by
  unfold val_main_v39 val_main_v38
  generalize val_main_v35 (F := Ideal) x0 x1 = y
  generalize val_main_v37 (F := Ideal) x0 x1 = t
  pointwise

theorem r48 (f : Fin 64) : val_main_v48 (F := Ideal) x0 x1 x3 (ix3 c h f)
    = ∑ r : Fin 8192, x3 (ix3 r h f) * (val_main_v39 (F := Ideal) x0 x1 (ix3 h r c) : EReal) := by
  unfold val_main_v48 val_main_v47 val_main_v45
  generalize val_main_v39 (F := Ideal) x0 x1 = y
  pointwise [val_main_v3]

theorem r52 : val_main_v52 (F := Ideal) x0 x1 x2 x3 (ix2 h r)
    = ∑ x : Fin 8192, (val_main_v46 (F := Ideal) x2 x3 (ix3 h r x) : EReal)
        * Ideal.div 1 ((val_main_v37 (F := Ideal) x0 x1 (ix3 h r (0 : Fin 1)) : EReal) * val_main_v37 (F := Ideal) x0 x1 (ix3 h r (0 : Fin 1)))
        * val_main_v35 (F := Ideal) x0 x1 (ix3 h r x) := by
  unfold val_main_v52 val_main_v51 val_main_v50 val_main_v49 val_main_v42 val_main_v40
  generalize val_main_v35 (F := Ideal) x0 x1 = y
  generalize val_main_v46 (F := Ideal) x2 x3 = z
  generalize val_main_v37 (F := Ideal) x0 x1 = t
  pointwise [val_main_cst_11, val_main_v41, val_main_cst_10]

theorem r60 : val_main_v60 (F := Ideal) x0 x1 x2 x3 (ix3 h r c)
    = (Ideal.div (val_main_v46 (F := Ideal) x2 x3 (ix3 h r c)) (val_main_v37 (F := Ideal) x0 x1 (ix3 h r (0 : Fin 1)))
        + -(val_main_v52 (F := Ideal) x0 x1 x2 x3 (ix2 h r) : EReal)) * val_main_v35 (F := Ideal) x0 x1 (ix3 h r c) := by
  unfold val_main_v60 val_main_v59 val_main_v58 val_main_v57 val_main_v56 val_main_v55 val_main_v54 val_main_v53
  generalize val_main_v35 (F := Ideal) x0 x1 = y
  generalize val_main_v46 (F := Ideal) x2 x3 = z
  generalize val_main_v37 (F := Ideal) x0 x1 = t
  generalize val_main_v52 (F := Ideal) x0 x1 x2 x3 = u
  pointwise [val_main_cst_12]
  simp only [Finset.univ_unique, Finset.sum_singleton]

theorem r65 (f : Fin 96) : val_main_v65 (F := Ideal) x0 x1 x2 x3 (ix3 c h f)
    = ∑ r : Fin 8192, (if c ≤ r then (val_main_v60 (F := Ideal) x0 x1 x2 x3 (ix3 h r c) : EReal) * (Ideal.ofBits .f32 1037108716#32 : EReal) * x0 (ix3 r h f) else 0) := by
  unfold val_main_v65 val_main_v64 val_main_v63 val_main_v61
  generalize val_main_v60 (F := Ideal) x0 x1 x2 x3 = y
  pointwise [val_main_v14_1, val_main_v13, val_main_v12, val_main_v11, val_main_v10, val_main_v9, val_main_v8, val_main_v7, val_main_call1_v0, val_main_call1_cst, val_main_v62, val_main_cst_13, val_main_v0]
  exact Finset.sum_congr rfl fun r _ => Attn.sel_causal c r _ _

end Groups

section Reals
variable (x0 x1 : S8192x8x96.Idx → EReal) (x2 x3 : S8192x8x64.Idx → EReal)
variable (q k : Fin 8192 → Fin 8 → Fin 96 → ℝ) (v g : Fin 8192 → Fin 8 → Fin 64 → ℝ)
variable (hq : ∀ r h d, x0 (ix3 r h d) = ((q r h d : ℝ) : EReal)) (hk : ∀ r h d, x1 (ix3 r h d) = ((k r h d : ℝ) : EReal))
variable (hv : ∀ r h d, x2 (ix3 r h d) = ((v r h d : ℝ) : EReal)) (hg : ∀ r h d, x3 (ix3 r h d) = ((g r h d : ℝ) : EReal))
include hq hk

theorem s14 (h : Fin 8) (r c : Fin 8192) : val_main_v14_0 (F := Ideal) x0 x1 (ix3 h r c) = Attn.big q k h r c := by
  rw [r14, Attn.scale_eq, Attn.ninf_eq]
  simp only [hq, hk, ← EReal.coe_mul, ← Attn.coe_sum]
  rfl

theorem s22 (h : Fin 8) (r : Fin 8192) : val_main_v22 (F := Ideal) x0 x1 (ix2 h r) = ((Attn.top q k h r : ℝ) : EReal) := by
  rw [r22, r15]
  simp only [s14 x0 x1 q k hq hk, Attn.ninf_eq, Attn.top_eq]
  exact max_eq_right bot_le

theorem s35 (h : Fin 8) (r c : Fin 8192) : val_main_v35 (F := Ideal) x0 x1 (ix3 h r c) = ((Attn.ex q k h r c : ℝ) : EReal) := by
  rw [r35, s14 x0 x1 q k hq hk, s22 x0 x1 q k hq hk, Attn.ex_eq]

theorem s37 (h : Fin 8) (r : Fin 8192) : val_main_v37 (F := Ideal) x0 x1 (ix3 h r (0 : Fin 1)) = ((Attn.tot q k h r : ℝ) : EReal) := by
  rw [r37]
  simp only [s35 x0 x1 q k hq hk, ← Attn.coe_sum]
  rfl

omit hq hk in
include hv hg in
theorem s46 (h : Fin 8) (r c : Fin 8192) : val_main_v46 (F := Ideal) x2 x3 (ix3 h r c) = ((Attn.dpr v g h r c : ℝ) : EReal) := by
  rw [r46]
  simp only [hv, hg, ← EReal.coe_mul, ← Attn.coe_sum]
  rfl

include hg in
/-- The gradient of the values. -/
theorem result_value (c : Fin 8192) (h : Fin 8) (f : Fin 64) :
    val_main_v48 (F := Ideal) x0 x1 x3 (ix3 c h f) = ((Attn.dv q k g c h f : ℝ) : EReal) := by
  rw [r48]
  unfold Attn.dv
  rw [Attn.coe_sum]
  refine Finset.sum_congr rfl fun r _ => ?_
  rw [r39, s35 x0 x1 q k hq hk, s37 x0 x1 q k hq hk, Attn.div_real _ (Attn.tot_pos q k h r).ne', hg, ← EReal.coe_mul]
  congr 1; ring

include hv hg

theorem s60 (h : Fin 8) (r c : Fin 8192) : val_main_v60 (F := Ideal) x0 x1 x2 x3 (ix3 h r c) = ((Attn.ds q k v g h r c : ℝ) : EReal) := by
  have ht := (Attn.tot_pos q k h r).ne'
  rw [r60, r52]
  simp only [s35 x0 x1 q k hq hk, s37 x0 x1 q k hq hk, s46 x2 x3 v g hv hg]
  rw [← EReal.coe_mul, ← EReal.coe_one, Attn.div_real _ (mul_ne_zero ht ht), Attn.div_real _ ht]
  simp only [← EReal.coe_mul, ← Attn.coe_sum]
  rw [← EReal.coe_neg, ← EReal.coe_add, ← EReal.coe_mul, Attn.ds_eq]

/-- The gradient of the keys. -/
theorem result_key (c : Fin 8192) (h : Fin 8) (f : Fin 96) :
    val_main_v65 (F := Ideal) x0 x1 x2 x3 (ix3 c h f) = ((Attn.dk q k v g c h f : ℝ) : EReal) := by
  rw [r65, Attn.scale_eq]
  simp only [s60 x0 x1 x2 x3 q k v g hq hk hv hg, hq, ← EReal.coe_mul]
  unfold Attn.dk
  rw [Finset.sum_mul, Attn.coe_sum]
  refine Finset.sum_congr rfl fun r _ => ?_
  split
  · congr 1; ring
  · rename_i hc
    unfold Attn.ds
    rw [Attn.ex_above q k h r c hc]; simp

end Reals

end Cert.Reference2Ideal.Dkv

end
-- ==== Proof.Ffn.Sigmoid.lean ====
/- The logistic function: half the hyperbolic tangent of half the argument, plus a half. -/
module

public import Idealize.ShloMosaic.Lib.Pointwise
public import Idealize.ShloMosaic.PureOps.Ideal.Laws

@[expose] public section

noncomputable section

namespace Cert.Sigmoid

open Idealize.ShloMosaic

theorem half : (Ideal.ofBits .f32 0x3F000000#32 : EReal) = ((1 / 2 : ℝ) : EReal) := by
  simp [Ideal.ofBits, Ideal.ieee]
  rw [← EReal.coe_mul]
  norm_num

theorem one : (Ideal.ofBits .f32 0x3F800000#32 : EReal) = 1 := by
  simp [Ideal.ofBits, Ideal.ieee]
  rw [← EReal.coe_mul, ← EReal.coe_one]
  norm_num

/-- Over the real numbers. -/
theorem real_half_tanh (r : ℝ) : 1 / 2 * Real.tanh (1 / 2 * r) + 1 / 2 = (1 + Real.exp (-r))⁻¹ := by
  rw [Real.tanh_eq_sinh_div_cosh, Real.sinh_eq, Real.cosh_eq]
  have hp : Real.exp (1 / 2 * r) ≠ 0 := (Real.exp_pos _).ne'
  have e1 : Real.exp (-(1 / 2 * r)) = (Real.exp (1 / 2 * r))⁻¹ := Real.exp_neg _
  have e2 : Real.exp (-r) = (Real.exp (1 / 2 * r))⁻¹ * (Real.exp (1 / 2 * r))⁻¹ := by
    rw [← e1, ← Real.exp_add]
    congr 1
    ring
  rw [e1, e2]
  have hq : 0 < Real.exp (1 / 2 * r) := Real.exp_pos _
  generalize Real.exp (1 / 2 * r) = a at hp hq
  have : a * a + 1 ≠ 0 := by positivity
  field_simp
  ring

/-- Over the extended reals. -/
theorem half_tanh (x : EReal) :
    Ideal.ofBits .f32 0x3F000000#32 * Ideal.tanh (Ideal.ofBits .f32 0x3F000000#32 * x) + Ideal.ofBits .f32 0x3F000000#32 = Ideal.logistic x := by
  rw [half]
  have h : (0 : ℝ) < 1 / 2 := by norm_num
  induction x with
  | bot =>
    rw [EReal.coe_mul_bot_of_pos h, Ideal.tanh_bot, Ideal.logistic_bot, ← EReal.coe_one, ← EReal.coe_neg, ← EReal.coe_mul, ← EReal.coe_add]
    norm_num
  | top =>
    rw [EReal.coe_mul_top_of_pos h, Ideal.tanh_top, Ideal.logistic_top, ← EReal.coe_one, ← EReal.coe_mul, ← EReal.coe_add]
    norm_num
  | coe r => rw [← EReal.coe_mul, Ideal.tanh_coe, Ideal.logistic_coe, ← EReal.coe_mul, ← EReal.coe_add, real_half_tanh]

/-- The logistic function of a real number is a real number. -/
theorem logistic_real (x : EReal) (h : ∃ r : ℝ, x = (r : EReal)) : ∃ r : ℝ, Ideal.logistic x = (r : EReal) := by
  obtain ⟨r, rfl⟩ := h
  exact ⟨_, Ideal.logistic_coe r⟩

end Cert.Sigmoid

end
-- ==== Proof.Ffn.Gate.lean ====
/- The gate's gradient: what the kernel leaves in its result's array over the extended reals. -/
module

public import proofs.«01_k».proof.Proof.Gen.Kernel3Ideal.Frame
public import proofs.«01_k».proof.Proof.Ffn.Sigmoid
public import Idealize.ShloMosaic.Lib.Pointwise
public import Idealize.ShloMosaic.Lib.VecWindow
public import Idealize.ShloMosaic.Lib.WholeRead
public import Idealize.ShloMosaic.Lib.Pipeline.Value
public import Idealize.ShloMosaic.Lib.Pipeline.ValueKit.Geometry

@[expose] public section

set_option maxRecDepth 16384
set_option Elab.async false

noncomputable section

namespace Cert.Kernel3Ideal.Gate

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The gradient of the activation's first factor's argument, from the gradient of the product. -/
def gate (a g u : EReal) : EReal := a * u * Ideal.logistic g * (1 + g * (1 - Ideal.logistic g))

/-- The gradient of the activation's other factor. -/
def up (a g : EReal) : EReal := a * g * Ideal.logistic g

theorem gate256 (X : S1024x1024.Idx → EReal) (W : S256x1024.Idx → EReal) (g u : S1x1024x256.Idx → EReal) (r : Fin 1024) (q : Fin 256) :
    k0_pay7 (F := Ideal) X W g u (ix3 0 r q) = gate (∑ k : Fin 1024, X (ix2 r k) * W (ix2 q k)) (g (ix3 0 r q)) (u (ix3 0 r q)) := by
  unfold gate
  rw [← Sigmoid.half_tanh, ← Sigmoid.one]
  simp only [k0_pay7, k0_pay4, k0_pay5, k0_pay6]
  pointwise

theorem up256 (X : S1024x1024.Idx → EReal) (W : S256x1024.Idx → EReal) (g : S1x1024x256.Idx → EReal) (r : Fin 1024) (q : Fin 256) :
    k0_pay8 (F := Ideal) X W g (ix3 0 r q) = up (∑ k : Fin 1024, X (ix2 r k) * W (ix2 q k)) (g (ix3 0 r q)) := by
  unfold up
  rw [← Sigmoid.half_tanh]
  simp only [k0_pay8, k0_pay4, k0_pay5, k0_pay6]
  pointwise

theorem gate128 (X : S1024x1024.Idx → EReal) (W : S128x1024.Idx → EReal) (g u : S1x1024x128.Idx → EReal) (r : Fin 1024) (q : Fin 128) :
    k0_pay2 (F := Ideal) (k0_pay30 X W) (k0_pay31 g) (k0_pay32 u) (k0_pay33 g) (ix3 0 r q) = gate (∑ k : Fin 1024, X (ix2 r k) * W (ix2 q k)) (g (ix3 0 r q)) (u (ix3 0 r q)) := by
  unfold gate
  rw [← Sigmoid.half_tanh, ← Sigmoid.one]
  simp only [k0_pay2, k0_pay1, k0_pay30, k0_pay31, k0_pay32, k0_pay33]
  pointwise

theorem up128 (X : S1024x1024.Idx → EReal) (W : S128x1024.Idx → EReal) (g : S1x1024x128.Idx → EReal) (r : Fin 1024) (q : Fin 128) :
    k0_pay3 (F := Ideal) (k0_pay30 X W) (k0_pay31 g) (k0_pay33 g) (ix3 0 r q) = up (∑ k : Fin 1024, X (ix2 r k) * W (ix2 q k)) (g (ix3 0 r q)) := by
  unfold up
  rw [← Sigmoid.half_tanh]
  simp only [k0_pay3, k0_pay1, k0_pay30, k0_pay31, k0_pay33]
  pointwise

/-- A block of the result, from a block of each argument. -/
def blk (x0 : S1024x1024.Idx → EReal) (x1 : S1408x1024.Idx → EReal) (x2 : S2x1024x1408.Idx → EReal) : S2x1024x1408.Idx → EReal := fun y =>
  if (y 0).val = 0 then gate (∑ k : Fin 1024, x0 (ix2 (y 1) k) * x1 (ix2 (y 2) k)) (x2 (ix3 0 (y 1) (y 2))) (x2 (ix3 1 (y 1) (y 2)))
  else up (∑ k : Fin 1024, x0 (ix2 (y 1) k) * x1 (ix2 (y 2) k)) (x2 (ix3 0 (y 1) (y 2)))

section
variable (c : Dev nD) (i : grid0.Coords) (arg2 : Memref sig .tc .vmem S1024x1024 .bf16) (harg2 : arg2.IsWhole) (arg3 : Memref sig .tc .vmem S1408x1024 .bf16) (harg3 : arg3.IsWhole)
  (arg4 : Memref sig .tc .vmem S2x1024x1408 .bf16) (harg4 : arg4.IsWhole) (arg5 : Memref sig .tc .vmem S2x1024x1408 .bf16) (harg5 : arg5.IsWhole)
  (x0 : S1024x1024.Idx → EReal) (x1 : S1408x1024.Idx → EReal) (x2 : S2x1024x1408.Idx → EReal)

theorem read_x (hX) (r k : Fin 1024) :
    View.readAt (Elt Ideal) arg2.view (Rect.unit (s := S1024x1024) ![0, 0] ![1024, 1024] hX).toLoadRect (harg2.unread x0) (ix2 r k) = x0 (ix2 r k) := by
  refine (Memref.IsWhole.readAt_unread (Val := Elt Ideal) harg2 x0 _ _).trans (congrArg x0 (funext fun b => Fin.ext ?_))
  match b with
  | ⟨0, _⟩ => show 0 + 1 * r.val = r.val; omega
  | ⟨1, _⟩ => show 0 + 1 * k.val = k.val; omega

theorem read_w (o n : ℕ) (hW) (q : Fin n) (k : Fin 1024) (h : o + q.val < 1408) :
    View.readAt (Elt Ideal) arg3.view (Rect.unit (s := S1408x1024) ![o, 0] ![n, 1024] hW).toLoadRect (harg3.unread x1) (ix2 q k) = x1 (ix2 ⟨o + q.val, h⟩ k) := by
  refine (Memref.IsWhole.readAt_unread (Val := Elt Ideal) harg3 x1 _ _).trans (congrArg x1 (funext fun b => Fin.ext ?_))
  match b with
  | ⟨0, _⟩ => show o + 1 * q.val = o + q.val; omega
  | ⟨1, _⟩ => show 0 + 1 * k.val = k.val; omega

theorem emb_eq (b o n : ℕ) (hG) (r : Fin 1024) (q : Fin n) (hb : b < 2) (h : o + q.val < 1408) :
    (Rect.unit (s := S2x1024x1408) ![b, 0, o] ![1, 1024, n] hG).emb (ix3 (0 : Fin 1) r q) = ix3 (⟨b, hb⟩ : Fin 2) r (⟨o + q.val, h⟩ : Fin 1408) := by
  funext a
  refine Fin.ext ?_
  match a with
  | ⟨0, _⟩ => show b + 1 * 0 = b; omega
  | ⟨1, _⟩ => show 0 + 1 * r.val = r.val; omega
  | ⟨2, _⟩ => show o + 1 * q.val = o + q.val; omega

theorem read_g (b o n : ℕ) (hG) (r : Fin 1024) (q : Fin n) (hb : b < 2) (h : o + q.val < 1408) :
    View.readAt (Elt Ideal) arg4.view (Rect.unit (s := S2x1024x1408) ![b, 0, o] ![1, 1024, n] hG).toLoadRect (harg4.unread x2) (ix3 (0 : Fin 1) r q)
      = x2 (ix3 (⟨b, hb⟩ : Fin 2) r (⟨o + q.val, h⟩ : Fin 1408)) :=
  (Memref.IsWhole.readAt_unread (Val := Elt Ideal) harg4 x2 _ _).trans (congrArg x2 (emb_eq b o n hG r q hb h))

/-- A piece of the first half, by what a piece of each argument gives it. -/
theorem blk_gate (o n : ℕ) (hX hW hg hu hG) (r : Fin 1024) (q : Fin n) :
    gate (∑ k : Fin 1024, View.readAt (Elt Ideal) arg2.view (Rect.unit (s := S1024x1024) ![0, 0] ![1024, 1024] hX).toLoadRect (harg2.unread x0) (ix2 r k)
        * View.readAt (Elt Ideal) arg3.view (Rect.unit (s := S1408x1024) ![o, 0] ![n, 1024] hW).toLoadRect (harg3.unread x1) (ix2 q k))
      (View.readAt (Elt Ideal) arg4.view (Rect.unit (s := S2x1024x1408) ![0, 0, o] ![1, 1024, n] hg).toLoadRect (harg4.unread x2) (ix3 (0 : Fin 1) r q))
      (View.readAt (Elt Ideal) arg4.view (Rect.unit (s := S2x1024x1408) ![1, 0, o] ![1, 1024, n] hu).toLoadRect (harg4.unread x2) (ix3 (0 : Fin 1) r q))
      = blk x0 x1 x2 ((Rect.unit (s := S2x1024x1408) ![0, 0, o] ![1, 1024, n] hG).emb (ix3 (0 : Fin 1) r q)) := by
  have h : o + q.val < 1408 := lt_of_lt_of_le (Nat.add_lt_add_left q.isLt o) (hW 0)
  rw [emb_eq 0 o n hG r q (by decide) h, read_g arg4 harg4 x2 0 o n hg r q (by decide) h, read_g arg4 harg4 x2 1 o n hu r q (by decide) h]
  simp only [read_x, read_w _ _ _ _ _ _ _ _ h]
  exact (if_pos rfl).symm

/-- A piece of the other half. -/
theorem blk_up (o n : ℕ) (hX hW hg hG) (r : Fin 1024) (q : Fin n) :
    up (∑ k : Fin 1024, View.readAt (Elt Ideal) arg2.view (Rect.unit (s := S1024x1024) ![0, 0] ![1024, 1024] hX).toLoadRect (harg2.unread x0) (ix2 r k)
        * View.readAt (Elt Ideal) arg3.view (Rect.unit (s := S1408x1024) ![o, 0] ![n, 1024] hW).toLoadRect (harg3.unread x1) (ix2 q k))
      (View.readAt (Elt Ideal) arg4.view (Rect.unit (s := S2x1024x1408) ![0, 0, o] ![1, 1024, n] hg).toLoadRect (harg4.unread x2) (ix3 (0 : Fin 1) r q))
      = blk x0 x1 x2 ((Rect.unit (s := S2x1024x1408) ![1, 0, o] ![1, 1024, n] hG).emb (ix3 (0 : Fin 1) r q)) := by
  have h : o + q.val < 1408 := lt_of_lt_of_le (Nat.add_lt_add_left q.isLt o) (hW 0)
  rw [emb_eq 1 o n hG r q (by decide) h, read_g arg4 harg4 x2 0 o n hg r q (by decide) h]
  simp only [read_x, read_w _ _ _ _ _ _ _ _ h]
  exact (if_neg (by decide : ¬(1 : ℕ) = 0)).symm

theorem ix_eq {n : ℕ} (x : (Shape.mk 3 ![1, 1024, n]).Idx) : ∃ (r : Fin 1024) (q : Fin n), x = ix3 (0 : Fin 1) r q :=
  ⟨x 1, x 2, by funext a; match a with | ⟨0, _⟩ => exact Subsingleton.elim (α := Fin 1) _ _ | ⟨1, _⟩ => rfl | ⟨2, _⟩ => rfl⟩

theorem gate_piece256 (o : ℕ) (hX hW hg hu hG) (x : S1x1024x256.Idx) :
    k0_pay7 (F := Ideal) (View.readAt (Elt Ideal) arg2.view (Rect.unit (s := S1024x1024) ![0, 0] S1024x1024.size hX).toLoadRect (harg2.unread x0))
      (View.readAt (Elt Ideal) arg3.view (Rect.unit (s := S1408x1024) ![o, 0] S256x1024.size hW).toLoadRect (harg3.unread x1))
      (View.readAt (Elt Ideal) arg4.view (Rect.unit (s := S2x1024x1408) ![0, 0, o] S1x1024x256.size hg).toLoadRect (harg4.unread x2))
      (View.readAt (Elt Ideal) arg4.view (Rect.unit (s := S2x1024x1408) ![1, 0, o] S1x1024x256.size hu).toLoadRect (harg4.unread x2)) x
      = blk x0 x1 x2 ((Rect.unit (s := S2x1024x1408) ![0, 0, o] ![1, 1024, 256] hG).emb x) := by
  obtain ⟨r, q, rfl⟩ := ix_eq (n := 256) x
  exact (gate256 _ _ _ _ r q).trans (blk_gate arg2 harg2 arg3 harg3 arg4 harg4 x0 x1 x2 o 256 _ _ _ _ _ r q)

theorem up_piece256 (o : ℕ) (hX hW hg hG) (x : S1x1024x256.Idx) :
    k0_pay8 (F := Ideal) (View.readAt (Elt Ideal) arg2.view (Rect.unit (s := S1024x1024) ![0, 0] S1024x1024.size hX).toLoadRect (harg2.unread x0))
      (View.readAt (Elt Ideal) arg3.view (Rect.unit (s := S1408x1024) ![o, 0] S256x1024.size hW).toLoadRect (harg3.unread x1))
      (View.readAt (Elt Ideal) arg4.view (Rect.unit (s := S2x1024x1408) ![0, 0, o] S1x1024x256.size hg).toLoadRect (harg4.unread x2)) x
      = blk x0 x1 x2 ((Rect.unit (s := S2x1024x1408) ![1, 0, o] ![1, 1024, 256] hG).emb x) := by
  obtain ⟨r, q, rfl⟩ := ix_eq (n := 256) x
  exact (up256 _ _ _ r q).trans (blk_up arg2 harg2 arg3 harg3 arg4 harg4 x0 x1 x2 o 256 _ _ _ _ r q)

theorem last_piece_gate (x : S1x1024x128.Idx) :
    k0_pay2 (F := Ideal) (k0_pay30 (View.readAt (Elt Ideal) arg2.view (Rect.unit (s := S1024x1024) ![0, 0] S1024x1024.size inb_S1024x1024_S1024x1024_0_0).toLoadRect (harg2.unread x0))
        (View.readAt (Elt Ideal) arg3.view (Rect.unit (s := S1408x1024) ![1280, 0] S128x1024.size inb_S1408x1024_S128x1024_1280_0).toLoadRect (harg3.unread x1)))
      (k0_pay31 (View.readAt (Elt Ideal) arg4.view (Rect.unit (s := S2x1024x1408) ![0, 0, 1280] S1x1024x128.size inb_S2x1024x1408_S1x1024x128_0_0_1280).toLoadRect (harg4.unread x2)))
      (k0_pay32 (View.readAt (Elt Ideal) arg4.view (Rect.unit (s := S2x1024x1408) ![1, 0, 1280] S1x1024x128.size inb_S2x1024x1408_S1x1024x128_1_0_1280).toLoadRect (harg4.unread x2)))
      (k0_pay33 (View.readAt (Elt Ideal) arg4.view (Rect.unit (s := S2x1024x1408) ![0, 0, 1280] S1x1024x128.size inb_S2x1024x1408_S1x1024x128_0_0_1280).toLoadRect (harg4.unread x2))) x
      = blk x0 x1 x2 ((Rect.unit (s := S2x1024x1408) ![0, 0, 1280] ![1, 1024, 128] inb_S2x1024x1408_S1x1024x128_0_0_1280).emb x) := by
  obtain ⟨r, q, rfl⟩ := ix_eq (n := 128) x
  exact (gate128 _ _ _ _ r q).trans (blk_gate arg2 harg2 arg3 harg3 arg4 harg4 x0 x1 x2 1280 128 _ _ _ _ _ r q)

theorem last_piece_up (x : S1x1024x128.Idx) :
    k0_pay3 (F := Ideal) (k0_pay30 (View.readAt (Elt Ideal) arg2.view (Rect.unit (s := S1024x1024) ![0, 0] S1024x1024.size inb_S1024x1024_S1024x1024_0_0).toLoadRect (harg2.unread x0))
        (View.readAt (Elt Ideal) arg3.view (Rect.unit (s := S1408x1024) ![1280, 0] S128x1024.size inb_S1408x1024_S128x1024_1280_0).toLoadRect (harg3.unread x1)))
      (k0_pay31 (View.readAt (Elt Ideal) arg4.view (Rect.unit (s := S2x1024x1408) ![0, 0, 1280] S1x1024x128.size inb_S2x1024x1408_S1x1024x128_0_0_1280).toLoadRect (harg4.unread x2)))
      (k0_pay33 (View.readAt (Elt Ideal) arg4.view (Rect.unit (s := S2x1024x1408) ![0, 0, 1280] S1x1024x128.size inb_S2x1024x1408_S1x1024x128_0_0_1280).toLoadRect (harg4.unread x2))) x
      = blk x0 x1 x2 ((Rect.unit (s := S2x1024x1408) ![1, 0, 1280] ![1, 1024, 128] inb_S2x1024x1408_S1x1024x128_1_0_1280).emb x) := by
  obtain ⟨r, q, rfl⟩ := ix_eq (n := 128) x
  exact (up128 _ _ _ r q).trans (blk_up arg2 harg2 arg3 harg3 arg4 harg4 x0 x1 x2 1280 128 _ _ _ _ r q)

/-- What the pieces put together are. -/
theorem out_eq : out0_A_3 (F := Ideal) c i arg2 harg2 arg3 harg3 arg4 harg4 arg5 harg5 x0 x1 x2 = blk x0 x1 x2 := by
  funext y
  unfold out0_A_3
  refine View.read_writes_apply_of_pieces (Val := Elt Ideal) VO0_3 VO0_3.junk (blk x0 x1 x2) _ ?_ y (cover0_A_3 _ _ _ _ _ _ _ _ _ _ _ _ _ _)
  dsimp only [kernelRun0_A]
  sl_unfold_run_names
  have g (o : ℕ) (hX hW hg hu hG) := gate_piece256 arg2 harg2 arg3 harg3 arg4 harg4 x0 x1 x2 o hX hW hg hu hG
  have u (o : ℕ) (hX hW hg hG) := up_piece256 arg2 harg2 arg3 harg3 arg4 harg4 x0 x1 x2 o hX hW hg hG
  exact List.forall_mem_cons.2 ⟨last_piece_up arg2 harg2 arg3 harg3 arg4 harg4 x0 x1 x2, List.forall_mem_cons.2 ⟨last_piece_gate arg2 harg2 arg3 harg3 arg4 harg4 x0 x1 x2,
    List.forall_mem_cons.2 ⟨u 1024 inb_S1024x1024_S1024x1024_0_0 inb_S1408x1024_S256x1024_1024_0 inb_S2x1024x1408_S1x1024x256_0_0_1024 inb_S2x1024x1408_S1x1024x256_1_0_1024, List.forall_mem_cons.2 ⟨g 1024 inb_S1024x1024_S1024x1024_0_0 inb_S1408x1024_S256x1024_1024_0 inb_S2x1024x1408_S1x1024x256_0_0_1024 inb_S2x1024x1408_S1x1024x256_1_0_1024 inb_S2x1024x1408_S1x1024x256_0_0_1024,
    List.forall_mem_cons.2 ⟨u 768 inb_S1024x1024_S1024x1024_0_0 inb_S1408x1024_S256x1024_768_0 inb_S2x1024x1408_S1x1024x256_0_0_768 inb_S2x1024x1408_S1x1024x256_1_0_768, List.forall_mem_cons.2 ⟨g 768 inb_S1024x1024_S1024x1024_0_0 inb_S1408x1024_S256x1024_768_0 inb_S2x1024x1408_S1x1024x256_0_0_768 inb_S2x1024x1408_S1x1024x256_1_0_768 inb_S2x1024x1408_S1x1024x256_0_0_768,
    List.forall_mem_cons.2 ⟨u 512 inb_S1024x1024_S1024x1024_0_0 inb_S1408x1024_S256x1024_512_0 inb_S2x1024x1408_S1x1024x256_0_0_512 inb_S2x1024x1408_S1x1024x256_1_0_512, List.forall_mem_cons.2 ⟨g 512 inb_S1024x1024_S1024x1024_0_0 inb_S1408x1024_S256x1024_512_0 inb_S2x1024x1408_S1x1024x256_0_0_512 inb_S2x1024x1408_S1x1024x256_1_0_512 inb_S2x1024x1408_S1x1024x256_0_0_512,
    List.forall_mem_cons.2 ⟨u 256 inb_S1024x1024_S1024x1024_0_0 inb_S1408x1024_S256x1024_256_0 inb_S2x1024x1408_S1x1024x256_0_0_256 inb_S2x1024x1408_S1x1024x256_1_0_256, List.forall_mem_cons.2 ⟨g 256 inb_S1024x1024_S1024x1024_0_0 inb_S1408x1024_S256x1024_256_0 inb_S2x1024x1408_S1x1024x256_0_0_256 inb_S2x1024x1408_S1x1024x256_1_0_256 inb_S2x1024x1408_S1x1024x256_0_0_256,
    List.forall_mem_cons.2 ⟨u 0 inb_S1024x1024_S1024x1024_0_0 inb_S1408x1024_S256x1024_0_0 inb_S2x1024x1408_S1x1024x256_0_0_0 inb_S2x1024x1408_S1x1024x256_1_0_0, List.forall_mem_cons.2 ⟨g 0 inb_S1024x1024_S1024x1024_0_0 inb_S1408x1024_S256x1024_0_0 inb_S2x1024x1408_S1x1024x256_0_0_0 inb_S2x1024x1408_S1x1024x256_1_0_0 inb_S2x1024x1408_S1x1024x256_0_0_0, List.forall_mem_nil _⟩⟩⟩⟩⟩⟩⟩⟩⟩⟩⟩⟩
end

/-- A row or column of an array. -/
def nat (n : ℕ) [NeZero n] (k : ℕ) : Fin n := Fin.ofNat n k

/-- What a place of the result is, from the three arrays. -/
def place (A : S8192x1024.Idx → EReal) (W : S2816x1024.Idx → EReal) (G : S2x8192x2816.Idx → EReal) (b r q : ℕ) : EReal :=
  if b = 0 then gate (∑ k : Fin 1024, A (ix2 (nat 8192 r) k) * W (ix2 (nat 2816 q) k)) (G (ix3 0 (nat 8192 r) (nat 2816 q))) (G (ix3 1 (nat 8192 r) (nat 2816 q)))
  else up (∑ k : Fin 1024, A (ix2 (nat 8192 r) k) * W (ix2 (nat 2816 q) k)) (G (ix3 0 (nat 8192 r) (nat 2816 q)))

theorem covers : (cfg0.win (3 : Fin 4)).Covers := of_decide_eq_true (by sl_kernel_rfl)

def IndexFacts (t : Fin cfg0.N) : Prop :=
  (cfg0.win (0 : Fin 4)).index t = ![t.val / 2, 0] ∧ (cfg0.win (1 : Fin 4)).index t = ![t.val % 2, 0]
    ∧ (cfg0.win (2 : Fin 4)).index t = ![0, t.val / 2, t.val % 2] ∧ (cfg0.win (3 : Fin 4)).index t = ![0, t.val / 2, t.val % 2]

theorem index_facts : ∀ t : Fin cfg0.N, IndexFacts t := (by unfold IndexFacts; decide +kernel)

variable (m : (ℓ : Loc nD τ sig) → Buf (Elt Ideal) ℓ) (c : Dev nD)

theorem blk0 (t : Fin cfg0.N) (r k : Fin 1024) : (iblk m c 0 t : S1024x1024.Idx → EReal) (ix2 r k) = (V m c main_arg0 : S8192x1024.Idx → EReal) (ix2 (nat 8192 (1024 * (t.val / 2) + r.val)) k) := by
  obtain ⟨e, -⟩ := index_facts t
  have ht : t.val < 16 := t.isLt.trans_eq N_0
  refine congrArg (V m c main_arg0) (funext fun b => Fin.ext ?_)
  match b with
  | ⟨0, _⟩ =>
    show (cfg0.win (0 : Fin 4)).index t (0 : Fin 2) * 1024 + 1 * r.val = (1024 * (t.val / 2) + r.val) % 8192
    rw [e]
    show t.val / 2 * 1024 + 1 * r.val = _
    omega
  | ⟨1, _⟩ =>
    show (cfg0.win (0 : Fin 4)).index t (1 : Fin 2) * 1024 + 1 * k.val = k.val
    rw [e]
    show 0 * 1024 + 1 * k.val = _
    omega

theorem blk1 (t : Fin cfg0.N) (q : Fin 1408) (k : Fin 1024) : (iblk m c 1 t : S1408x1024.Idx → EReal) (ix2 q k) = (V m c main_arg1 : S2816x1024.Idx → EReal) (ix2 (nat 2816 (1408 * (t.val % 2) + q.val)) k) := by
  obtain ⟨-, e, -⟩ := index_facts t
  refine congrArg (V m c main_arg1) (funext fun b => Fin.ext ?_)
  match b with
  | ⟨0, _⟩ =>
    show (cfg0.win (1 : Fin 4)).index t (0 : Fin 2) * 1408 + 1 * q.val = (1408 * (t.val % 2) + q.val) % 2816
    rw [e]
    show t.val % 2 * 1408 + 1 * q.val = _
    omega
  | ⟨1, _⟩ =>
    show (cfg0.win (1 : Fin 4)).index t (1 : Fin 2) * 1024 + 1 * k.val = k.val
    rw [e]
    show 0 * 1024 + 1 * k.val = _
    omega

theorem blk2 (t : Fin cfg0.N) (p : Fin 2) (r : Fin 1024) (q : Fin 1408) :
    (iblk m c 2 t : S2x1024x1408.Idx → EReal) (ix3 p r q) = (V m c main_arg2 : S2x8192x2816.Idx → EReal) (ix3 p (nat 8192 (1024 * (t.val / 2) + r.val)) (nat 2816 (1408 * (t.val % 2) + q.val))) := by
  obtain ⟨-, -, e, -⟩ := index_facts t
  have ht : t.val < 16 := t.isLt.trans_eq N_0
  refine congrArg (V m c main_arg2) (funext fun b => Fin.ext ?_)
  match b with
  | ⟨0, _⟩ =>
    show (cfg0.win (2 : Fin 4)).index t (0 : Fin 3) * 2 + 1 * p.val = p.val
    rw [e]
    show 0 * 2 + 1 * p.val = _
    omega
  | ⟨1, _⟩ =>
    show (cfg0.win (2 : Fin 4)).index t (1 : Fin 3) * 1024 + 1 * r.val = (1024 * (t.val / 2) + r.val) % 8192
    rw [e]
    show t.val / 2 * 1024 + 1 * r.val = _
    omega
  | ⟨2, _⟩ =>
    show (cfg0.win (2 : Fin 4)).index t (2 : Fin 3) * 1408 + 1 * q.val = (1408 * (t.val % 2) + q.val) % 2816
    rw [e]
    show t.val % 2 * 1408 + 1 * q.val = _
    omega

theorem blk_place_of (x0 : S1024x1024.Idx → EReal) (x1 : S1408x1024.Idx → EReal) (x2 : S2x1024x1408.Idx → EReal)
    (A : S8192x1024.Idx → EReal) (W : S2816x1024.Idx → EReal) (G : S2x8192x2816.Idx → EReal) (R Q : ℕ) (p : Fin 2) (r : Fin 1024) (q : Fin 1408)
    (h0 : ∀ k : Fin 1024, x0 (ix2 r k) = A (ix2 (nat 8192 R) k)) (h1 : ∀ k : Fin 1024, x1 (ix2 q k) = W (ix2 (nat 2816 Q) k))
    (h2 : ∀ b : Fin 2, x2 (ix3 b r q) = G (ix3 b (nat 8192 R) (nat 2816 Q))) : blk x0 x1 x2 (ix3 p r q) = place A W G p.val R Q := by
  unfold place
  rw [← h2 0, ← h2 1, show (fun k : Fin 1024 => A (ix2 (nat 8192 R) k) * W (ix2 (nat 2816 Q) k)) = fun k => x0 (ix2 r k) * x1 (ix2 q k) from funext fun k => by rw [h0, h1]]
  rfl

theorem blk_place (t : Fin cfg0.N) (p : Fin 2) (r : Fin 1024) (q : Fin 1408) :
    blk (iblk m c 0 t) (iblk m c 1 t) (iblk m c 2 t) (ix3 p r q)
      = place (V m c main_arg0) (V m c main_arg1) (V m c main_arg2) p.val (1024 * (t.val / 2) + r.val) (1408 * (t.val % 2) + q.val) :=
  blk_place_of _ _ _ _ _ _ _ _ p r q (blk0 m c t r) (blk1 m c t q) fun b => blk2 m c t b r q

theorem out_place (t : Fin cfg0.N) : outsAt0 (F := Ideal) m c t = blk (iblk m c 0 t) (iblk m c 1 t) (iblk m c 2 t) := by
  unfold outsAt0
  exact out_eq _ _ _ _ _ _ _ _ _ _ _ _ _

/-- What the kernel leaves in its result's array. -/
def result : S2x8192x2816.Idx → EReal := fun y => place (V m c main_arg0) (V m c main_arg1) (V m c main_arg2) (y 0).val (y 1).val (y 2).val

set_option backward.isDefEq.respectTransparency.types false in
theorem arr_eq : (dats (F := Ideal) m 0 c).arrAt (3 : Fin 4) cfg0.N = result m c := by
  refine (dats (F := Ideal) m 0 c).arrAt_eq_of_covers (3 : Fin 4) (result m c) covers fun t hf z => ?_
  obtain ⟨-, -, -, e⟩ := index_facts t
  have z0 : (z (0 : Fin 3)).val < 2 := (z (0 : Fin 3)).isLt
  have z1 : (z (1 : Fin 3)).val < 1024 := (z (1 : Fin 3)).isLt
  have z2 : (z (2 : Fin 3)).val < 1408 := (z (2 : Fin 3)).isLt
  rw [after0_3, out_place m c t]
  have g0 : (((cfg0.win (3 : Fin 4)).blk t).view.emb z (0 : Fin 3)).val = (z (0 : Fin 3)).val := by
    show (cfg0.win (3 : Fin 4)).index t (0 : Fin 3) * 2 + 1 * (z (0 : Fin 3)).val = _
    rw [e]
    show 0 * 2 + 1 * (z (0 : Fin 3)).val = _
    omega
  have g1 : (((cfg0.win (3 : Fin 4)).blk t).view.emb z (1 : Fin 3)).val = 1024 * (t.val / 2) + (z (1 : Fin 3)).val := by
    show (cfg0.win (3 : Fin 4)).index t (1 : Fin 3) * 1024 + 1 * (z (1 : Fin 3)).val = _
    rw [e]
    show t.val / 2 * 1024 + 1 * (z (1 : Fin 3)).val = _
    omega
  have g2 : (((cfg0.win (3 : Fin 4)).blk t).view.emb z (2 : Fin 3)).val = 1408 * (t.val % 2) + (z (2 : Fin 3)).val := by
    show (cfg0.win (3 : Fin 4)).index t (2 : Fin 3) * 1408 + 1 * (z (2 : Fin 3)).val = _
    rw [e]
    show t.val % 2 * 1408 + 1 * (z (2 : Fin 3)).val = _
    omega
  have ez : (z : S2x1024x1408.Idx) = ix3 (z (0 : Fin 3)) (z (1 : Fin 3)) (z (2 : Fin 3)) := by
    funext a
    match a with
    | ⟨0, _⟩ => rfl
    | ⟨1, _⟩ => rfl
    | ⟨2, _⟩ => rfl
  refine Eq.trans (congrArg (blk (iblk m c 0 t) (iblk m c 1 t) (iblk m c 2 t)) ez) ((blk_place m c t _ _ _).trans ?_)
  show _ = result m c (((cfg0.win (3 : Fin 4)).blk t).view.emb z)
  unfold result
  rw [g0, g1, g2]

end Cert.Kernel3Ideal.Gate

end
-- ==== Proof.Ffn.GateValue.lean ====
/- The gate's gradient: the kernel's result is the reference's. -/
module

public import proofs.«01_k».proof.Proof.Ffn.Gate
public import proofs.«01_k».proof.Proof.Gen.Reference3Ideal.Read
public import Idealize.ShloMosaic.Lib.StableHlo.Run
public import Idealize.ShloMosaic.Lib.StableHlo.ReadAt

@[expose] public section

set_option maxRecDepth 16384
set_option Elab.async false

noncomputable section

namespace Cert.Kernel3Ideal.Gate

open Cert.Kernel3Ideal Cert.Kernel3Ideal.Gen
open Idealize.ShloMosaic
open Idealize.ShloMosaic.TcCoe Idealize.ShloMosaic.Tactic
open Idealize.SL.Sem

variable (m : (ℓ : Loc nD τ sig) → Buf (Elt Ideal) ℓ) (c : Dev nD)

/-- Over the real numbers, the reference's form of the gate's gradient. -/
theorem gate_real (a g u : EReal) (ha : ∃ r : ℝ, a = (r : EReal)) (hg : ∃ r : ℝ, g = (r : EReal)) (hu : ∃ r : ℝ, u = (r : EReal)) :
    a * u * Ideal.logistic g + g * (a * u) * (Ideal.logistic g * (1 - Ideal.logistic g)) = gate a g u := by
  unfold gate
  obtain ⟨s, hs⟩ := Sigmoid.logistic_real g hg
  obtain ⟨a, rfl⟩ := ha
  obtain ⟨g, rfl⟩ := hg
  obtain ⟨u, rfl⟩ := hu
  rw [hs, ← EReal.coe_one]
  simp only [← EReal.coe_mul, ← EReal.coe_sub, ← EReal.coe_add]
  congr 1
  ring

/-- The reference's form of the other factor's gradient. -/
theorem up_eq (a g : EReal) : g * Ideal.logistic g * a = up a g := by
  unfold up
  rw [mul_comm a g, mul_assoc, mul_assoc, mul_comm a]

theorem sum_real {n : ℕ} (f : Fin n → EReal) (h : ∀ k, ∃ r : ℝ, f k = (r : EReal)) : ∃ r : ℝ, ∑ k, f k = (r : EReal) := by
  refine Finset.sum_induction f (fun x => ∃ r : ℝ, x = (r : EReal)) ?_ ⟨0, EReal.coe_zero.symm⟩ fun k _ => h k
  rintro _ _ ⟨a, rfl⟩ ⟨b, rfl⟩
  exact ⟨a + b, (EReal.coe_add a b).symm⟩

section
open Cert.Reference3Ideal.Read

variable (x0 : S8192x1024.Idx → EReal) (x1 : S2816x1024.Idx → EReal) (x2 : S2x8192x2816.Idx → EReal)

theorem g_eq (k : Fin 8192) (q : Fin 2816) : val_main_v4 (F := Ideal) x2 (ix2 k q) = x2 (ix3 0 k q) := by
  have hk := k.isLt
  have hq := q.isLt
  rw [val_main_v4_apply, val_main_v3_apply, val_main_v2_apply]
  refine congrArg x2 (funext fun b => Fin.ext ?_)
  match b with
  | ⟨0, _⟩ => rfl
  | ⟨1, _⟩ => show (k.val * 2816 + q.val) / 2816 % 8192 = k.val; omega
  | ⟨2, _⟩ => show (k.val * 2816 + q.val) % 2816 = q.val; omega

theorem u_eq (k : Fin 8192) (q : Fin 2816) : val_main_v6 (F := Ideal) x2 (ix2 k q) = x2 (ix3 1 k q) := by
  have hk := k.isLt
  have hq := q.isLt
  rw [val_main_v6_apply, val_main_v5_apply, val_main_v2_apply]
  refine congrArg x2 (funext fun b => Fin.ext ?_)
  match b with
  | ⟨0, _⟩ => rfl
  | ⟨1, _⟩ => show (k.val * 2816 + q.val) / 2816 % 8192 = k.val; omega
  | ⟨2, _⟩ => show (k.val * 2816 + q.val) % 2816 = q.val; omega

theorem a_eq (k : Fin 8192) (q : Fin 2816) : val_main_v10 (F := Ideal) x0 x1 (ix2 k q) = ∑ d : Fin 1024, x0 (ix2 k d) * x1 (ix2 q d) := by
  rw [val_main_v10_apply]
  refine Finset.sum_congr rfl fun d _ => congr (congrArg HMul.hMul ?_) ?_
  · refine congrArg x0 (funext fun b => ?_)
    match b with
    | ⟨0, _⟩ => rfl
    | ⟨1, _⟩ => rfl
  · refine congrArg x1 (funext fun b => ?_)
    match b with
    | ⟨0, _⟩ => rfl
    | ⟨1, _⟩ => rfl

theorem s_eq (k : Fin 8192) (q : Fin 2816) : val_main_v7_2 (F := Ideal) x2 (ix2 k q) = Ideal.logistic (x2 (ix3 0 k q)) := by
  rw [val_main_v7_2_apply, val_main_call0_v4_apply, val_main_call0_cst_0_apply, val_main_call0_v3_apply, val_main_call0_v2_apply, val_main_call0_cst_apply,
    val_main_call0_v1_apply, val_main_call0_v0_apply, g_eq]
  show Ideal.div (Ideal.ofBits .f32 0x3F800000#32) (Ideal.ofBits .f32 0x3F800000#32 + Ideal.exp (-x2 (ix3 0 k q))) = _
  rw [Sigmoid.one]
  rfl

/-- The reference's first half. -/
theorem ref_gate (h0 : ∀ j, ∃ r : ℝ, x0 j = (r : EReal)) (h1 : ∀ j, ∃ r : ℝ, x1 j = (r : EReal)) (h2 : ∀ j, ∃ r : ℝ, x2 j = (r : EReal)) (k : Fin 8192) (q : Fin 2816) :
    val_main_v13 (F := Ideal) x0 x1 x2 (ix2 k q) = gate (∑ d : Fin 1024, x0 (ix2 k d) * x1 (ix2 q d)) (x2 (ix3 0 k q)) (x2 (ix3 1 k q)) := by
  rw [val_main_v13_apply, val_main_call1_v1_apply, val_main_call1_v2_apply, val_main_call1_v0_apply, val_main_v12_apply, val_main_v7_1_apply,
    val_main_call0_v7_apply, val_main_call0_v6_apply, val_main_call0_cst_1_apply, s_eq, a_eq, g_eq, u_eq]
  show (∑ d : Fin 1024, x0 (ix2 k d) * x1 (ix2 q d)) * x2 (ix3 1 k q) * Ideal.logistic (x2 (ix3 0 k q)) + x2 (ix3 0 k q) * ((∑ d : Fin 1024, x0 (ix2 k d) * x1 (ix2 q d)) * x2 (ix3 1 k q)) * (Ideal.logistic (x2 (ix3 0 k q)) * (Ideal.ofBits .f32 0x3F800000#32 - Ideal.logistic (x2 (ix3 0 k q)))) = _
  rw [Sigmoid.one]
  refine gate_real _ _ _ (sum_real _ fun d => ?_) (h2 _) (h2 _)
  obtain ⟨a, ha⟩ := h0 (ix2 k d)
  obtain ⟨b, hb⟩ := h1 (ix2 q d)
  exact ⟨a * b, by rw [ha, hb, EReal.coe_mul]⟩

/-- The reference's other half. -/
theorem ref_up (k : Fin 8192) (q : Fin 2816) :
    val_main_v11 (F := Ideal) x0 x1 x2 (ix2 k q) = up (∑ d : Fin 1024, x0 (ix2 k d) * x1 (ix2 q d)) (x2 (ix3 0 k q)) := by
  rw [val_main_v11_apply, val_main_v7_0_apply, s_eq, a_eq, g_eq]
  exact up_eq _ _

/-- The two results agree. -/
theorem result_eq (e0 : m ((c : Thread nD τ).loc main_arg0) = x0) (e1 : m ((c : Thread nD τ).loc main_arg1) = x1) (e2 : m ((c : Thread nD τ).loc main_arg2) = x2)
    (h0 : ∀ j, ∃ r : ℝ, x0 j = (r : EReal)) (h1 : ∀ j, ∃ r : ℝ, x1 j = (r : EReal)) (h2 : ∀ j, ∃ r : ℝ, x2 j = (r : EReal)) :
    val_main_v17 (F := Ideal) x0 x1 x2 = result m c := by
  funext y
  obtain ⟨p, k, q, rfl⟩ : ∃ (p : Fin 2) (k : Fin 8192) (q : Fin 2816), y = ix3 p k q := ⟨y 0, y 1, y 2, by funext a; fin_cases a <;> rfl⟩
  rw [val_main_v17_apply]
  unfold result place val_main_v16
  rw [V_main_arg0, V_main_arg1, V_main_arg2, e0, e1, e2]
  show concatenate (α := EReal) _ _ _ _ _ = if p.val = 0 then gate (∑ d : Fin 1024, x0 (ix2 (nat 8192 k.val) d) * x1 (ix2 (nat 2816 q.val) d)) (x2 (ix3 0 (nat 8192 k.val) (nat 2816 q.val))) (x2 (ix3 1 (nat 8192 k.val) (nat 2816 q.val)))
    else up (∑ d : Fin 1024, x0 (ix2 (nat 8192 k.val) d) * x1 (ix2 (nat 2816 q.val) d)) (x2 (ix3 0 (nat 8192 k.val) (nat 2816 q.val)))
  rw [show nat 8192 k.val = k from Fin.ext (Nat.mod_eq_of_lt k.isLt), show nat 2816 q.val = q from Fin.ext (Nat.mod_eq_of_lt q.isLt)]
  have hp := p.isLt
  by_cases h : p.val = 0
  · rw [if_pos h, ← ref_gate x0 x1 x2 h0 h1 h2 k q]
    refine (concatenate_pair_apply_left (t := Cert.Reference3Ideal.S2x8192x2816) (s₁ := Cert.Reference3Ideal.S1x8192x2816) (s₂ := Cert.Reference3Ideal.S1x8192x2816) 0 _ _ _ (ix3 p k q) rfl (ix3 0 k q) fun b => ?_).trans ?_
    · match b with
      | ⟨0, _⟩ => exact h.symm
      | ⟨1, _⟩ => rfl
      | ⟨2, _⟩ => rfl
    · rw [val_main_v14_apply]
      refine congrArg (val_main_v13 (F := Ideal) x0 x1 x2) (funext fun b => ?_)
      match b with
      | ⟨0, _⟩ => rfl
      | ⟨1, _⟩ => rfl
  · rw [if_neg h, ← ref_up x0 x1 x2 k q]
    refine (concatenate_pair_apply_right (t := Cert.Reference3Ideal.S2x8192x2816) (s₁ := Cert.Reference3Ideal.S1x8192x2816) (s₂ := Cert.Reference3Ideal.S1x8192x2816) 0 _ _ _ (ix3 p k q) rfl rfl (ix3 0 k q) (fun b hb => ?_) ?_).trans ?_
    · match b, hb with
      | ⟨0, _⟩, hb => exact absurd rfl hb
      | ⟨1, _⟩, _ => rfl
      | ⟨2, _⟩, _ => rfl
    · show 0 + 1 = p.val; omega
    · rw [val_main_v15_apply]
      refine congrArg (val_main_v11 (F := Ideal) x0 x1 x2) (funext fun b => ?_)
      match b with
      | ⟨0, _⟩ => rfl
      | ⟨1, _⟩ => rfl
end

end Cert.Kernel3Ideal.Gate

end
-- ==== Proof.Finite.lean ====
/- The precondition: every element of every argument is a real number. -/
module

public import proofs.«01_k».proof.Pre_finite
public import Idealize.ShloMosaic.Lib.ReduceAll
public import Idealize.ShloMosaic.Lib.Pointwise
public import Idealize.ShloMosaic.PureOps.Ideal.Laws

@[expose] public section

noncomputable section

namespace Cert.Pre_finite

open Idealize.ShloMosaic Idealize.ShloMosaic.Tactic

instance facts : Facts where
  bitsLt_bf16_f32 := by decide
  bcast_S_S8192x8x96 := by decide
  reducesTo_S8192x8x96_S_d0_1_2 := by decide
  h_S_ := by decide
  bcast_S_S8192x8x64 := by decide
  reducesTo_S8192x8x64_S_d0_1_2 := by decide

theorem inf_eq : (Ideal.ofBits .f32 0x7F800000#32 : EReal) = ⊤ := by
  simp [Ideal.ofBits, Ideal.ieee]

/-- An extended real whose absolute value is below infinity is a real number. -/
theorem real_of_lt (x : EReal) (h : Ideal.cmp .olt (max x (-x)) (⊤ : EReal) = 1#1) : ∃ r : ℝ, x = (r : EReal) := by
  have h' : max x (-x) < ⊤ := by
    by_contra hn
    simp [Ideal.cmp, hn] at h
  rw [max_lt_iff] at h'
  refine ⟨x.toReal, (EReal.coe_toReal h'.1.ne ?_).symm⟩
  rintro rfl
  simp at h'

theorem and_one (x y : BitVec 1) (h : IntOp.andi x y = 1#1) : x = 1#1 ∧ y = 1#1 := by
  revert x y; decide

instance : Subsingleton S_.Idx := ⟨fun a b => funext fun i => i.elim0⟩

/-- One argument's test. -/
theorem real_of_test {s : Shape} {axes : List (Fin s.rank)} (x : s.Idx → EReal) (hb : S_.BroadcastsInDim s (![] : Fin 0 → Fin s.rank))
    (h : s.ReducesTo axes S_) (hu : 0 < S_.numel) (i : S_.Idx)
    (e : Host.reduce IntOp.andi (cmpf (F := Ideal) (φ := .f32) .olt (Host.absf (F := Ideal) (φ := .f32) x) (broadcastInDim s ![] hb (constant (F := Ideal) S_ .f32 0x7F800000#32))) (constantI S_ 1 1#1) h hu i = 1#1)
    (j : s.Idx) : ∃ r : ℝ, x j = (r : EReal) := by
  have e1 := Host.reduce_andi_all _ _ h hu i e j
  refine real_of_lt (x j) ?_
  rw [← inf_eq]
  exact e1

/-- Every element of every argument is a real number. -/
theorem reals (x0 x1 : S8192x8x96.Idx → EReal) (x2 x3 : S8192x8x64.Idx → EReal)
    (h : fn (F := Ideal) x0 x1 x2 x3 = fun _ => 1#1) :
    (∀ j, ∃ r : ℝ, x0 j = (r : EReal)) ∧ (∀ j, ∃ r : ℝ, x1 j = (r : EReal)) ∧ (∀ j, ∃ r : ℝ, x2 j = (r : EReal)) ∧ ∀ j, ∃ r : ℝ, x3 j = (r : EReal) := by
  have h0 := congrFun h (fun a => a.elim0)
  obtain ⟨h1, e3⟩ := and_one _ _ h0
  obtain ⟨h2, e2⟩ := and_one _ _ h1
  obtain ⟨e0, e1⟩ := and_one _ _ h2
  exact ⟨fun j => real_of_test x0 _ _ _ _ e0 j, fun j => real_of_test x1 _ _ _ _ e1 j, fun j => real_of_test x2 _ _ _ _ e2 j, fun j => real_of_test x3 _ _ _ _ e3 j⟩

end Cert.Pre_finite

end

end
-- ==== Proof.FiniteGate.lean ====
/- The precondition of the gate's gradient: every element of every argument is a real number. -/
module

public import proofs.«01_k».proof.Pre_finite3
public import proofs.«01_k».proof.Proof.Finite

@[expose] public section

noncomputable section

namespace Cert.Pre_finite3

open Idealize.ShloMosaic Idealize.ShloMosaic.Tactic

instance facts : Facts where
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S2x8192x2816 := by decide
  reducesTo_S2x8192x2816_S_d0_1_2 := by decide

/-- Every element of every argument is a real number. -/
theorem reals (x0 : S8192x1024.Idx → EReal) (x1 : S2816x1024.Idx → EReal) (x2 : S2x8192x2816.Idx → EReal)
    (h : fn (F := Ideal) x0 x1 x2 = fun _ => 1#1) :
    (∀ j, ∃ r : ℝ, x0 j = (r : EReal)) ∧ (∀ j, ∃ r : ℝ, x1 j = (r : EReal)) ∧ ∀ j, ∃ r : ℝ, x2 j = (r : EReal) := by
  have h0 := congrFun h (fun a => a.elim0)
  obtain ⟨h1, e2⟩ := Pre_finite.and_one _ _ h0
  obtain ⟨e0, e1⟩ := Pre_finite.and_one _ _ h1
  exact ⟨fun j => Pre_finite.real_of_test x0 _ _ _ _ e0 j, fun j => Pre_finite.real_of_test x1 _ _ _ _ e1 j, fun j => Pre_finite.real_of_test x2 _ _ _ _ e2 j⟩

end Cert.Pre_finite3

end

end
-- ==== Proof.Ffn.Dwgu.lean ====
/- The gradient of the feed-forward block's first weights: what the kernel leaves in its result's array over the extended reals. -/
module

public import proofs.«01_k».proof.Proof.Gen.Kernel4Ideal.Frame
public import Idealize.ShloMosaic.Lib.Pointwise
public import Idealize.ShloMosaic.Lib.VecWindow
public import Idealize.ShloMosaic.Lib.Pipeline.Value
public import Idealize.ShloMosaic.Lib.Pipeline.ValueKit.Geometry

@[expose] public section

set_option maxRecDepth 16384
set_option Elab.async false

noncomputable section

namespace Cert.Kernel4Ideal.Dwgu

open Cert.Kernel4Ideal Cert.Kernel4Ideal.Gen
open Idealize.ShloMosaic
open Idealize.ShloMosaic.TcCoe Idealize.ShloMosaic.Tactic
open Idealize.SL.Sem

/-- What a point's two blocks add to the accumulator. -/
theorem pay1_apply (x0 : S1024x2048.Idx → EReal) (x1 : S1x2048x1408.Idx → EReal) (r : Fin 1024) (q : Fin 1408) :
    (k0_pay1 (F := Ideal) x0 x1) (ix2 r q) = ∑ k : Fin 2048, x0 (ix2 r k) * x1 (ix3 0 k q) := by
  simp only [k0_pay1, shapeCast_self]
  pointwise

theorem pay4_eq (x : S1024x1408.Idx → EReal) : k0_pay4 (F := Ideal) x = x := by
  funext y
  simp only [k0_pay4]
  pointwise

section
variable (c : Dev nD) (i : grid0.Coords) (arg2 : Memref sig .tc .vmem S1024x2048 .bf16) (harg2 : arg2.IsWhole) (arg3 : Memref sig .tc .vmem S1x2048x1408 .bf16) (harg3 : arg3.IsWhole)
  (arg4 : Memref sig .tc .vmem S1024x1408 .bf16) (harg4 : arg4.IsWhole) (arg5 : Memref sig .tc .vmem S1024x1408 .f32) (harg5 : arg5.IsWhole)
  (x0 : S1024x2048.Idx → EReal) (x1 : S1x2048x1408.Idx → EReal) (xa : S1024x1408.Idx → EReal)

theorem first (h0 h1 h2) :
    sout0_A_0 (F := Ideal) c i arg2 harg2 arg3 harg3 arg4 harg4 arg5 harg5 h0 h1 h2 x0 x1 = k0_pay1 (F := Ideal) x0 x1 := by
  unfold sout0_A_0
  dsimp only [kernelRun0_A]
  sl_unfold_run_names
  refine (View.read_writes_full (Val := Elt Ideal) VS0_0 VS0_0.junk inb_S1024x1408_S1024x1408_0_0 _ []).trans ?_
  rw [View.readAt_full (Val := Elt Ideal) arg2.view _ inb_S1024x2048_S1024x2048_0_0, View.readAt_full (Val := Elt Ideal) arg3.view _ inb_S1x2048x1408_S1x2048x1408_0_0_0,
    harg2.read_unread, harg3.read_unread]
  simp only [k0_pay2, shapeCast_self]

theorem next (h0 h1 h2) :
    sout0_B_0 (F := Ideal) c i arg2 harg2 arg3 harg3 arg4 harg4 arg5 harg5 h0 h1 h2 x0 x1 xa = fun y => xa y + k0_pay1 (F := Ideal) x0 x1 y := by
  unfold sout0_B_0
  dsimp only [kernelRun0_B]
  sl_unfold_run_names
  refine (View.read_writes_full (Val := Elt Ideal) VS0_0 VS0_0.junk inb_S1024x1408_S1024x1408_0_0 _ []).trans ?_
  rw [View.readAt_full (Val := Elt Ideal) arg2.view _ inb_S1024x2048_S1024x2048_0_0, View.readAt_full (Val := Elt Ideal) arg3.view _ inb_S1x2048x1408_S1x2048x1408_0_0_0,
    View.readAt_full (Val := Elt Ideal) arg5.view _ inb_S1024x1408_S1024x1408_0_0, harg2.read_unread, harg3.read_unread, harg5.read_unread]
  simp only [k0_pay3, shapeCast_self]
  rfl

theorem last (h0 h1 h2) :
    out0_C_2 (F := Ideal) c i arg2 harg2 arg3 harg3 arg4 harg4 arg5 harg5 h0 h1 h2 x0 x1 xa = fun y => xa y + k0_pay1 (F := Ideal) x0 x1 y := by
  unfold out0_C_2
  dsimp only [kernelRun0_C]
  sl_unfold_run_names
  refine (View.read_writes_full (Val := Elt Ideal) VO0_2 VO0_2.junk inb_S1024x1408_S1024x1408_0_0 _ []).trans ?_
  refine (pay4_eq _).trans ?_
  refine (View.readAt_full (Val := Elt Ideal) arg5.view _ inb_S1024x1408_S1024x1408_0_0).trans ?_
  refine (View.read_writes_full (Val := Elt Ideal) arg5.view arg5.view.junk inb_S1024x1408_S1024x1408_0_0 _ []).trans ?_
  rw [View.readAt_full (Val := Elt Ideal) arg2.view _ inb_S1024x2048_S1024x2048_0_0, View.readAt_full (Val := Elt Ideal) arg3.view _ inb_S1x2048x1408_S1x2048x1408_0_0_0,
    View.readAt_full (Val := Elt Ideal) arg5.view _ inb_S1024x1408_S1024x1408_0_0, harg2.read_unread, harg3.read_unread, harg5.read_unread]
  simp only [k0_pay3, shapeCast_self]
  rfl
end

/-- A row or column of an array. -/
def nat (n : ℕ) [NeZero n] (k : ℕ) : Fin n := Fin.ofNat n k

/-- What one row of the two arrays adds to a place of the result. -/
def term (A : S1024x8192.Idx → EReal) (G : S2x8192x2816.Idx → EReal) (r q k : ℕ) : EReal :=
  A (ix2 (nat 1024 r) (nat 8192 k)) * G (ix3 (nat 2 (q / 2816)) (nat 8192 k) (nat 2816 (q % 2816)))

theorem covers : (cfg0.win (2 : Fin 3)).Covers := of_decide_eq_true (by sl_kernel_rfl)

def IndexFacts (t : Fin cfg0.N) : Prop :=
  (cfg0.win (0 : Fin 3)).index t = ![0, t.val % 4] ∧ (cfg0.win (1 : Fin 3)).index t = ![t.val / 8, t.val % 4, t.val / 4 % 2]
    ∧ (cfg0.win (2 : Fin 3)).index t = ![0, t.val / 4]

theorem index_facts : ∀ t : Fin cfg0.N, IndexFacts t := (by unfold IndexFacts; decide +kernel)

variable (m : (ℓ : Loc nD τ sig) → Buf (Elt Ideal) ℓ) (c : Dev nD)

theorem blk_add (t : Fin cfg0.N) (r : Fin 1024) (q : Fin 1408) :
    k0_pay1 (F := Ideal) (iblk m c 0 t) (iblk m c 1 t) (ix2 r q)
      = ∑ k ∈ Finset.range 2048, term (V m c main_v0) (V m c main_arg1) r.val (1408 * (t.val / 4) + q.val) (2048 * (t.val % 4) + k) := by
  rw [pay1_apply, Finset.sum_range]
  refine Finset.sum_congr rfl fun k _ => ?_
  obtain ⟨e0, e1, -⟩ := index_facts t
  have ht : t.val < 16 := t.isLt.trans_eq N_0
  unfold term
  refine congr (congrArg HMul.hMul ?_) ?_
  · refine congrArg (V m c main_v0) (funext fun b => Fin.ext ?_)
    match b with
    | ⟨0, _⟩ =>
      show (cfg0.win (0 : Fin 3)).index t (0 : Fin 2) * 1024 + 1 * r.val = r.val % 1024
      rw [e0]
      show 0 * 1024 + 1 * r.val = _
      omega
    | ⟨1, _⟩ =>
      show (cfg0.win (0 : Fin 3)).index t (1 : Fin 2) * 2048 + 1 * k.val = (2048 * (t.val % 4) + k.val) % 8192
      rw [e0]
      show t.val % 4 * 2048 + 1 * k.val = _
      omega
  · refine congrArg (V m c main_arg1) (funext fun b => Fin.ext ?_)
    match b with
    | ⟨0, _⟩ =>
      show (cfg0.win (1 : Fin 3)).index t (0 : Fin 3) * 1 + 1 * 0 = ((1408 * (t.val / 4) + q.val) / 2816) % 2
      rw [e1]
      show t.val / 8 * 1 + 1 * 0 = _
      omega
    | ⟨1, _⟩ =>
      show (cfg0.win (1 : Fin 3)).index t (1 : Fin 3) * 2048 + 1 * k.val = (2048 * (t.val % 4) + k.val) % 8192
      rw [e1]
      show t.val % 4 * 2048 + 1 * k.val = _
      omega
    | ⟨2, _⟩ =>
      show (cfg0.win (1 : Fin 3)).index t (2 : Fin 3) * 1408 + 1 * q.val = ((1408 * (t.val / 4) + q.val) % 2816) % 2816
      rw [e1]
      show t.val / 4 % 2 * 1408 + 1 * q.val = _
      omega

/-- The rows summed up to a point, at a place of its block. -/
def upTo (t : ℕ) : S1024x1408.Idx → EReal := fun y =>
  ∑ k ∈ Finset.range (2048 * (t % 4 + 1)), term (V m c main_v0) (V m c main_arg1) (y 0).val (1408 * (t / 4) + (y 1).val) k

theorem upTo_first (t : Fin cfg0.N) (h : t.val % 4 = 0) : k0_pay1 (F := Ideal) (iblk m c 0 t) (iblk m c 1 t) = upTo m c t.val := by
  funext y
  obtain ⟨r, q, rfl⟩ : ∃ (r : Fin 1024) (q : Fin 1408), y = ix2 r q := ⟨y 0, y 1, by funext a; fin_cases a <;> rfl⟩
  rw [blk_add, h]
  unfold upTo
  rw [h, Nat.zero_add, Nat.mul_one]
  refine Finset.sum_congr rfl fun k _ => ?_
  rw [Nat.mul_zero, Nat.zero_add]
  rfl

theorem upTo_next (t : Fin cfg0.N) (h : ¬t.val % 4 = 0) :
    (fun y => upTo m c (t.val - 1) y + k0_pay1 (F := Ideal) (iblk m c 0 t) (iblk m c 1 t) y : S1024x1408.Idx → EReal) = upTo m c t.val := by
  funext y
  obtain ⟨r, q, rfl⟩ : ∃ (r : Fin 1024) (q : Fin 1408), y = ix2 r q := ⟨y 0, y 1, by funext a; fin_cases a <;> rfl⟩
  rw [blk_add]
  unfold upTo
  rw [show (t.val - 1) % 4 + 1 = t.val % 4 by omega, show (t.val - 1) / 4 = t.val / 4 by omega, Nat.mul_add, Nat.mul_one]
  exact (Finset.sum_range_add _ _ _).symm

theorem acc_first (t : Fin cfg0.N) (h : t.val % 4 = 0) : (outsAt0 (F := Ideal) m c t.val t.isLt).2 = upTo m c t.val := by
  rw [outsAt0_A m c t h (by omega) (by omega)]
  dsimp only
  exact (first _ _ _ _ _ _ _ _ _ _ _ _ _ _ _).trans (upTo_first m c t h)

theorem acc_next (t : Fin cfg0.N) (h : ¬t.val % 4 = 0) (h3 : ¬t.val % 4 = 3)
    (e : (outsAt0 (F := Ideal) m c (t.val - 1) (Nat.lt_of_le_of_lt (Nat.sub_le _ _) t.isLt)).2 = upTo m c (t.val - 1)) :
    (outsAt0 (F := Ideal) m c t.val t.isLt).2 = upTo m c t.val := by
  rw [outsAt0_B m c t h (by omega) h3, e]
  dsimp only
  exact (next _ _ _ _ _ _ _ _ _ _ _ _ _ _ _ _).trans (upTo_next m c t h)

theorem out_last (t : Fin cfg0.N) (h3 : t.val % 4 = 3)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_C m c t (by omega) (by omega) h3, e]
  dsimp only
  exact (last _ _ _ _ _ _ _ _ _ _ _ _ _ _ _ _).trans (upTo_next m c t (by omega))

/-- What the accumulator holds after a point that is not its block's last. -/
theorem acc_eq : ∀ (n : ℕ) (hn : n < cfg0.N), ¬n % 4 = 3 → (outsAt0 (F := Ideal) m c n hn).2 = upTo m c n
  | 0, hn, _ => acc_first m c ⟨0, hn⟩ rfl
  | n + 1, hn, h3 =>
    if h0 : (n + 1) % 4 = 0 then acc_first m c ⟨n + 1, hn⟩ h0
    else acc_next m c ⟨n + 1, hn⟩ h0 h3 (acc_eq n (Nat.lt_of_succ_lt hn) (by omega))

/-- What is left in the result's block at the block's last point. -/
theorem out_eq (t : Fin cfg0.N) (h3 : t.val % 4 = 3) : (outsAt0 (F := Ideal) m c t.val t.isLt).1 = upTo m c t.val :=
  out_last m c t h3 (acc_eq m c (t.val - 1) (Nat.lt_of_le_of_lt (Nat.sub_le _ _) t.isLt) (by omega))

/-- What the kernel leaves in its result's array. -/
def result : S1024x5632.Idx → EReal := fun y => ∑ k ∈ Finset.range 8192, term (V m c main_v0) (V m c main_arg1) (y 0).val (y 1).val k

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 4 = 3 := (flush0_2 t).mp hf
  have z0 : (z (0 : Fin 2)).val < 1024 := (z (0 : Fin 2)).isLt
  have z1 : (z (1 : Fin 2)).val < 1408 := (z (1 : Fin 2)).isLt
  rw [after0_2, out_eq m c t h3]
  have g0 : (((cfg0.win (2 : Fin 3)).blk t).view.emb z (0 : Fin 2)).val = (z (0 : Fin 2)).val := by
    show (cfg0.win (2 : Fin 3)).index t (0 : Fin 2) * 1024 + 1 * (z (0 : Fin 2)).val = _
    rw [e]
    show 0 * 1024 + 1 * (z (0 : Fin 2)).val = _
    omega
  have g1 : (((cfg0.win (2 : Fin 3)).blk t).view.emb z (1 : Fin 2)).val = 1408 * (t.val / 4) + (z (1 : Fin 2)).val := by
    show (cfg0.win (2 : Fin 3)).index t (1 : Fin 2) * 1408 + 1 * (z (1 : Fin 2)).val = _
    rw [e]
    show t.val / 4 * 1408 + 1 * (z (1 : Fin 2)).val = _
    omega
  show upTo m c t.val z = result m c (((cfg0.win (2 : Fin 3)).blk t).view.emb z)
  unfold upTo result
  rw [h3, g0, g1]

end Cert.Kernel4Ideal.Dwgu

end
-- ==== Proof.Ffn.DwguValue.lean ====
/- The gradient of the feed-forward block's first weights: the kernel's result is the reference's. -/
module

public import proofs.«01_k».proof.Proof.Ffn.Dwgu
public import proofs.«01_k».proof.Proof.Gen.Reference4Ideal.Read
public import Idealize.ShloMosaic.Lib.StableHlo.Run
public import Idealize.ShloMosaic.Lib.StableHlo.ReadAt

@[expose] public section

set_option maxRecDepth 16384
set_option Elab.async false

noncomputable section

namespace Cert.Kernel4Ideal.Dwgu

open Cert.Kernel4Ideal Cert.Kernel4Ideal.Gen
open Idealize.ShloMosaic
open Idealize.ShloMosaic.TcCoe Idealize.ShloMosaic.Tactic
open Idealize.SL.Sem

variable (m : (ℓ : Loc nD τ sig) → Buf (Elt Ideal) ℓ) (c : Dev nD)

theorem V_ht (a : Fin 1024) (b : Fin 8192) : (V m c main_v0 : S1024x8192.Idx → EReal) (ix2 a b) = (m ((c : Thread nD τ).loc main_arg0) : S8192x1024.Idx → EReal) (ix2 b a) := by
  unfold V hostOps0
  after_reads_at

open Cert.Reference4Ideal.Read in
/-- The two halves of the widened activations' gradient, side by side. -/
theorem halves (x1 : S2x8192x2816.Idx → EReal) (k : Fin 8192) (q : Fin 5632) :
    val_main_v13 (F := Ideal) x1 (ix2 k q) = x1 (ix3 (nat 2 (q.val / 2816)) k (nat 2816 (q.val % 2816))) := by
  unfold val_main_v13
  have hk := k.isLt
  have hq := q.isLt
  by_cases h : q.val < 2816
  · refine (concatenate_pair_apply_left (t := Cert.Reference4Ideal.S8192x5632) (s₁ := Cert.Reference4Ideal.S8192x2816) (s₂ := Cert.Reference4Ideal.S8192x2816) 1 _ _ _ (ix2 k q) rfl (ix2 k ⟨q.val, h⟩) fun b => ?_).trans ?_
    · fin_cases b <;> rfl
    · rw [val_main_v10_apply, val_main_v9_apply, val_main_v1_apply]
      refine congrArg x1 (funext fun b => Fin.ext ?_)
      match b with
      | ⟨0, _⟩ => show 0 = q.val / 2816 % 2; omega
      | ⟨1, _⟩ => show (k.val * 2816 + q.val) / 2816 % 8192 = k.val; omega
      | ⟨2, _⟩ => show (k.val * 2816 + q.val) % 2816 = q.val % 2816 % 2816; omega
  · refine (concatenate_pair_apply_right (t := Cert.Reference4Ideal.S8192x5632) (s₁ := Cert.Reference4Ideal.S8192x2816) (s₂ := Cert.Reference4Ideal.S8192x2816) 1 _ _ _ (ix2 k q) rfl rfl (ix2 k ⟨q.val - 2816, by omega⟩) (fun b hb => ?_) ?_).trans ?_
    · match b, hb with
      | ⟨0, _⟩, _ => rfl
      | ⟨1, _⟩, hb => exact absurd rfl hb
    · show q.val - 2816 + 2816 = q.val; omega
    · rw [val_main_v12_apply, val_main_v11_apply, val_main_v1_apply]
      refine congrArg x1 (funext fun b => Fin.ext ?_)
      match b with
      | ⟨0, _⟩ => show 1 + 0 = q.val / 2816 % 2; omega
      | ⟨1, _⟩ => show (k.val * 2816 + (q.val - 2816)) / 2816 % 8192 = k.val; omega
      | ⟨2, _⟩ => show (k.val * 2816 + (q.val - 2816)) % 2816 = q.val % 2816 % 2816; omega

open Cert.Reference4Ideal.Read in
/-- The two results agree. -/
theorem result_eq (x0 : S8192x1024.Idx → EReal) (x1 : S2x8192x2816.Idx → EReal)
    (e0 : m ((c : Thread nD τ).loc main_arg0) = x0) (e1 : m ((c : Thread nD τ).loc main_arg1) = x1) :
    val_main_v16 (F := Ideal) x0 x1 = result m c := by
  funext y
  obtain ⟨r, q, rfl⟩ : ∃ (r : Fin 1024) (q : Fin 5632), y = ix2 r q := ⟨y 0, y 1, by funext a; fin_cases a <;> rfl⟩
  rw [val_main_v16_apply, val_main_v15_apply, val_main_v14_apply]
  unfold result
  rw [Finset.sum_range]
  refine Finset.sum_congr rfl fun k _ => ?_
  have eh := halves x1 k q
  have ev := V_ht m c r k
  unfold term
  rw [V_main_arg1, e1, show nat 1024 ((ix2 r q : S1024x5632.Idx) 0).val = r from Fin.ext (Nat.mod_eq_of_lt r.isLt), show nat 8192 k.val = k from Fin.ext (Nat.mod_eq_of_lt k.isLt), ev, e0]
  refine (mul_comm _ _).trans (congr (congrArg HMul.hMul ?_) ?_)
  · refine congrArg x0 (funext fun b => Fin.ext ?_)
    match b with
    | ⟨0, _⟩ => rfl
    | ⟨1, _⟩ => rfl
  · refine Eq.trans (congrArg (val_main_v13 (F := Ideal) x1) (funext fun b => Fin.ext ?_)) eh
    match b with
    | ⟨0, _⟩ => rfl
    | ⟨1, _⟩ => rfl

end Cert.Kernel4Ideal.Dwgu

end
-- ==== Proof.Ffn.Dh.lean ====
/- The gradient of the feed-forward block's input: what the kernel leaves in its result's array over the extended reals. -/
module

public import proofs.«01_k».proof.Proof.Gen.Kernel5Ideal.Frame
public import Idealize.ShloMosaic.Lib.Pointwise
public import Idealize.ShloMosaic.Lib.VecWindow
public import Idealize.ShloMosaic.Lib.Pipeline.Value
public import Idealize.ShloMosaic.Lib.Pipeline.ValueKit.Geometry

@[expose] public section

set_option maxRecDepth 16384
set_option Elab.async false

noncomputable section

namespace Cert.Kernel5Ideal.Dh

open Cert.Kernel5Ideal Cert.Kernel5Ideal.Gen
open Idealize.ShloMosaic
open Idealize.ShloMosaic.TcCoe Idealize.ShloMosaic.Tactic
open Idealize.SL.Sem

/-- What a point's two blocks add to the accumulator. -/
theorem pay1_apply (x0 : S1x2048x1408.Idx → EReal) (x1 : S1024x1408.Idx → EReal) (r : Fin 2048) (q : Fin 1024) :
    (k0_pay1 (F := Ideal) x0 x1) (ix2 r q) = ∑ k : Fin 1408, x0 (ix3 0 r k) * x1 (ix2 q k) := by
  simp only [k0_pay1, shapeCast_self]
  pointwise

theorem pay4_eq (x : S2048x1024.Idx → EReal) : k0_pay4 (F := Ideal) x = x := by
  funext y
  simp only [k0_pay4]
  pointwise

section
variable (c : Dev nD) (i : grid0.Coords) (arg2 : Memref sig .tc .vmem S1x2048x1408 .bf16) (harg2 : arg2.IsWhole) (arg3 : Memref sig .tc .vmem S1024x1408 .bf16) (harg3 : arg3.IsWhole)
  (arg4 : Memref sig .tc .vmem S2048x1024 .bf16) (harg4 : arg4.IsWhole) (arg5 : Memref sig .tc .vmem S2048x1024 .f32) (harg5 : arg5.IsWhole)
  (x0 : S1x2048x1408.Idx → EReal) (x1 : S1024x1408.Idx → EReal) (xa : S2048x1024.Idx → EReal)

theorem first (h0 h1 h2) :
    sout0_A_0 (F := Ideal) c i arg2 harg2 arg3 harg3 arg4 harg4 arg5 harg5 h0 h1 h2 x0 x1 = k0_pay1 (F := Ideal) x0 x1 := by
  unfold sout0_A_0
  dsimp only [kernelRun0_A]
  sl_unfold_run_names
  refine (View.read_writes_full (Val := Elt Ideal) VS0_0 VS0_0.junk inb_S2048x1024_S2048x1024_0_0 _ []).trans ?_
  rw [View.readAt_full (Val := Elt Ideal) arg2.view _ inb_S1x2048x1408_S1x2048x1408_0_0_0, View.readAt_full (Val := Elt Ideal) arg3.view _ inb_S1024x1408_S1024x1408_0_0,
    harg2.read_unread, harg3.read_unread]
  simp only [k0_pay2, shapeCast_self]

theorem next (h0 h1 h2) :
    sout0_B_0 (F := Ideal) c i arg2 harg2 arg3 harg3 arg4 harg4 arg5 harg5 h0 h1 h2 x0 x1 xa = fun y => xa y + k0_pay1 (F := Ideal) x0 x1 y := by
  unfold sout0_B_0
  dsimp only [kernelRun0_B]
  sl_unfold_run_names
  refine (View.read_writes_full (Val := Elt Ideal) VS0_0 VS0_0.junk inb_S2048x1024_S2048x1024_0_0 _ []).trans ?_
  rw [View.readAt_full (Val := Elt Ideal) arg2.view _ inb_S1x2048x1408_S1x2048x1408_0_0_0, View.readAt_full (Val := Elt Ideal) arg3.view _ inb_S1024x1408_S1024x1408_0_0,
    View.readAt_full (Val := Elt Ideal) arg5.view _ inb_S2048x1024_S2048x1024_0_0, harg2.read_unread, harg3.read_unread, harg5.read_unread]
  simp only [k0_pay3, shapeCast_self]
  rfl

theorem last (h0 h1 h2) :
    out0_C_2 (F := Ideal) c i arg2 harg2 arg3 harg3 arg4 harg4 arg5 harg5 h0 h1 h2 x0 x1 xa = fun y => xa y + k0_pay1 (F := Ideal) x0 x1 y := by
  unfold out0_C_2
  dsimp only [kernelRun0_C]
  sl_unfold_run_names
  refine (View.read_writes_full (Val := Elt Ideal) VO0_2 VO0_2.junk inb_S2048x1024_S2048x1024_0_0 _ []).trans ?_
  refine (pay4_eq _).trans ?_
  refine (View.readAt_full (Val := Elt Ideal) arg5.view _ inb_S2048x1024_S2048x1024_0_0).trans ?_
  refine (View.read_writes_full (Val := Elt Ideal) arg5.view arg5.view.junk inb_S2048x1024_S2048x1024_0_0 _ []).trans ?_
  rw [View.readAt_full (Val := Elt Ideal) arg2.view _ inb_S1x2048x1408_S1x2048x1408_0_0_0, View.readAt_full (Val := Elt Ideal) arg3.view _ inb_S1024x1408_S1024x1408_0_0,
    View.readAt_full (Val := Elt Ideal) arg5.view _ inb_S2048x1024_S2048x1024_0_0, harg2.read_unread, harg3.read_unread, harg5.read_unread]
  simp only [k0_pay3, shapeCast_self]
  rfl
end

/-- A row or column of an array. -/
def nat (n : ℕ) [NeZero n] (k : ℕ) : Fin n := Fin.ofNat n k

/-- What one column of the two arrays adds to a place of the result. -/
def term (G : S2x8192x2816.Idx → EReal) (W : S1024x5632.Idx → EReal) (r q k : ℕ) : EReal :=
  G (ix3 (nat 2 (k / 2816)) (nat 8192 r) (nat 2816 (k % 2816))) * W (ix2 (nat 1024 q) (nat 5632 k))

theorem covers : (cfg0.win (2 : Fin 3)).Covers := of_decide_eq_true (by sl_kernel_rfl)

def IndexFacts (t : Fin cfg0.N) : Prop :=
  (cfg0.win (0 : Fin 3)).index t = ![t.val % 4 / 2, t.val / 4, t.val % 2] ∧ (cfg0.win (1 : Fin 3)).index t = ![0, t.val % 4]
    ∧ (cfg0.win (2 : Fin 3)).index t = ![t.val / 4, 0]

theorem index_facts : ∀ t : Fin cfg0.N, IndexFacts t := (by unfold IndexFacts; decide +kernel)

variable (m : (ℓ : Loc nD τ sig) → Buf (Elt Ideal) ℓ) (c : Dev nD)

theorem blk_add (t : Fin cfg0.N) (r : Fin 2048) (q : Fin 1024) :
    k0_pay1 (F := Ideal) (iblk m c 0 t) (iblk m c 1 t) (ix2 r q)
      = ∑ k ∈ Finset.range 1408, term (V m c main_arg0) (V m c main_arg1) (2048 * (t.val / 4) + r.val) q.val (1408 * (t.val % 4) + k) := by
  rw [pay1_apply, Finset.sum_range]
  refine Finset.sum_congr rfl fun k _ => ?_
  obtain ⟨e0, e1, -⟩ := index_facts t
  have ht : t.val < 16 := t.isLt.trans_eq N_0
  have hk := k.isLt
  unfold term
  refine congr (congrArg HMul.hMul ?_) ?_
  · refine congrArg (V m c main_arg0) (funext fun b => Fin.ext ?_)
    match b with
    | ⟨0, _⟩ =>
      show (cfg0.win (0 : Fin 3)).index t (0 : Fin 3) * 1 + 1 * 0 = ((1408 * (t.val % 4) + k.val) / 2816) % 2
      rw [e0]
      show t.val % 4 / 2 * 1 + 1 * 0 = _
      omega
    | ⟨1, _⟩ =>
      show (cfg0.win (0 : Fin 3)).index t (1 : Fin 3) * 2048 + 1 * r.val = (2048 * (t.val / 4) + r.val) % 8192
      rw [e0]
      show t.val / 4 * 2048 + 1 * r.val = _
      omega
    | ⟨2, _⟩ =>
      show (cfg0.win (0 : Fin 3)).index t (2 : Fin 3) * 1408 + 1 * k.val = ((1408 * (t.val % 4) + k.val) % 2816) % 2816
      rw [e0]
      show t.val % 2 * 1408 + 1 * k.val = _
      omega
  · refine congrArg (V m c main_arg1) (funext fun b => Fin.ext ?_)
    match b with
    | ⟨0, _⟩ =>
      show (cfg0.win (1 : Fin 3)).index t (0 : Fin 2) * 1024 + 1 * q.val = q.val % 1024
      rw [e1]
      show 0 * 1024 + 1 * q.val = _
      omega
    | ⟨1, _⟩ =>
      show (cfg0.win (1 : Fin 3)).index t (1 : Fin 2) * 1408 + 1 * k.val = (1408 * (t.val % 4) + k.val) % 5632
      rw [e1]
      show t.val % 4 * 1408 + 1 * k.val = _
      omega

/-- The columns summed up to a point, at a place of its block. -/
def upTo (t : ℕ) : S2048x1024.Idx → EReal := fun y =>
  ∑ k ∈ Finset.range (1408 * (t % 4 + 1)), term (V m c main_arg0) (V m c main_arg1) (2048 * (t / 4) + (y 0).val) (y 1).val k

theorem upTo_first (t : Fin cfg0.N) (h : t.val % 4 = 0) : k0_pay1 (F := Ideal) (iblk m c 0 t) (iblk m c 1 t) = upTo m c t.val := by
  funext y
  obtain ⟨r, q, rfl⟩ : ∃ (r : Fin 2048) (q : Fin 1024), y = ix2 r q := ⟨y 0, y 1, by funext a; fin_cases a <;> rfl⟩
  rw [blk_add, h]
  unfold upTo
  rw [h, Nat.zero_add, Nat.mul_one]
  refine Finset.sum_congr rfl fun k _ => ?_
  rw [Nat.mul_zero, Nat.zero_add]
  rfl

theorem upTo_next (t : Fin cfg0.N) (h : ¬t.val % 4 = 0) :
    (fun y => upTo m c (t.val - 1) y + k0_pay1 (F := Ideal) (iblk m c 0 t) (iblk m c 1 t) y : S2048x1024.Idx → EReal) = upTo m c t.val := by
  funext y
  obtain ⟨r, q, rfl⟩ : ∃ (r : Fin 2048) (q : Fin 1024), y = ix2 r q := ⟨y 0, y 1, by funext a; fin_cases a <;> rfl⟩
  rw [blk_add]
  unfold upTo
  rw [show (t.val - 1) % 4 + 1 = t.val % 4 by omega, show (t.val - 1) / 4 = t.val / 4 by omega, Nat.mul_add, Nat.mul_one]
  exact (Finset.sum_range_add _ _ _).symm

theorem acc_first (t : Fin cfg0.N) (h : t.val % 4 = 0) : (outsAt0 (F := Ideal) m c t.val t.isLt).2 = upTo m c t.val := by
  rw [outsAt0_A m c t h (by omega) (by omega)]
  dsimp only
  exact (first _ _ _ _ _ _ _ _ _ _ _ _ _ _ _).trans (upTo_first m c t h)

theorem acc_next (t : Fin cfg0.N) (h : ¬t.val % 4 = 0) (h3 : ¬t.val % 4 = 3)
    (e : (outsAt0 (F := Ideal) m c (t.val - 1) (Nat.lt_of_le_of_lt (Nat.sub_le _ _) t.isLt)).2 = upTo m c (t.val - 1)) :
    (outsAt0 (F := Ideal) m c t.val t.isLt).2 = upTo m c t.val := by
  rw [outsAt0_B m c t h (by omega) h3, e]
  dsimp only
  exact (next _ _ _ _ _ _ _ _ _ _ _ _ _ _ _ _).trans (upTo_next m c t h)

theorem out_last (t : Fin cfg0.N) (h3 : t.val % 4 = 3)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_C m c t (by omega) (by omega) h3, e]
  dsimp only
  exact (last _ _ _ _ _ _ _ _ _ _ _ _ _ _ _ _).trans (upTo_next m c t (by omega))

/-- What the accumulator holds after a point that is not its block's last. -/
theorem acc_eq : ∀ (n : ℕ) (hn : n < cfg0.N), ¬n % 4 = 3 → (outsAt0 (F := Ideal) m c n hn).2 = upTo m c n
  | 0, hn, _ => acc_first m c ⟨0, hn⟩ rfl
  | n + 1, hn, h3 =>
    if h0 : (n + 1) % 4 = 0 then acc_first m c ⟨n + 1, hn⟩ h0
    else acc_next m c ⟨n + 1, hn⟩ h0 h3 (acc_eq n (Nat.lt_of_succ_lt hn) (by omega))

/-- What is left in the result's block at the block's last point. -/
theorem out_eq (t : Fin cfg0.N) (h3 : t.val % 4 = 3) : (outsAt0 (F := Ideal) m c t.val t.isLt).1 = upTo m c t.val :=
  out_last m c t h3 (acc_eq m c (t.val - 1) (Nat.lt_of_le_of_lt (Nat.sub_le _ _) t.isLt) (by omega))

/-- What the kernel leaves in its result's array. -/
def result : S8192x1024.Idx → EReal := fun y => ∑ k ∈ Finset.range 5632, term (V m c main_arg0) (V m c main_arg1) (y 0).val (y 1).val k

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 4 = 3 := (flush0_2 t).mp hf
  rw [after0_2, out_eq m c t h3]
  have g0 : (((cfg0.win (2 : Fin 3)).blk t).view.emb z (0 : Fin 2)).val = 2048 * (t.val / 4) + (z (0 : Fin 2)).val := by
    show (cfg0.win (2 : Fin 3)).index t (0 : Fin 2) * 2048 + 1 * (z (0 : Fin 2)).val = _
    rw [e]
    show t.val / 4 * 2048 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  show upTo m c t.val z = result m c (((cfg0.win (2 : Fin 3)).blk t).view.emb z)
  unfold upTo result
  rw [h3, g0, g1]

end Cert.Kernel5Ideal.Dh

end
-- ==== Proof.Ffn.DhValue.lean ====
/- The gradient of the feed-forward block's input: the kernel's result is the reference's. -/
module

public import proofs.«01_k».proof.Proof.Ffn.Dh
public import proofs.«01_k».proof.Proof.Gen.Reference5Ideal.Read
public import Idealize.ShloMosaic.Lib.StableHlo.Run
public import Idealize.ShloMosaic.Lib.StableHlo.ReadAt

@[expose] public section

set_option maxRecDepth 16384
set_option Elab.async false

noncomputable section

namespace Cert.Kernel5Ideal.Dh

open Cert.Kernel5Ideal Cert.Kernel5Ideal.Gen
open Idealize.ShloMosaic
open Idealize.ShloMosaic.TcCoe Idealize.ShloMosaic.Tactic
open Idealize.SL.Sem

variable (m : (ℓ : Loc nD τ sig) → Buf (Elt Ideal) ℓ) (c : Dev nD)

open Cert.Reference5Ideal.Read in
/-- The two halves of the widened activations' gradient, side by side. -/
theorem halves (x1 : S2x8192x2816.Idx → EReal) (k : Fin 8192) (q : Fin 5632) :
    val_main_v13 (F := Ideal) x1 (ix2 k q) = x1 (ix3 (nat 2 (q.val / 2816)) k (nat 2816 (q.val % 2816))) := by
  unfold val_main_v13
  have hk := k.isLt
  have hq := q.isLt
  by_cases h : q.val < 2816
  · refine (concatenate_pair_apply_left (t := Cert.Reference5Ideal.S8192x5632) (s₁ := Cert.Reference5Ideal.S8192x2816) (s₂ := Cert.Reference5Ideal.S8192x2816) 1 _ _ _ (ix2 k q) rfl (ix2 k ⟨q.val, h⟩) fun b => ?_).trans ?_
    · fin_cases b <;> rfl
    · rw [val_main_v10_apply, val_main_v9_apply, val_main_v0_apply]
      refine congrArg x1 (funext fun b => Fin.ext ?_)
      match b with
      | ⟨0, _⟩ => show 0 = q.val / 2816 % 2; omega
      | ⟨1, _⟩ => show (k.val * 2816 + q.val) / 2816 % 8192 = k.val; omega
      | ⟨2, _⟩ => show (k.val * 2816 + q.val) % 2816 = q.val % 2816 % 2816; omega
  · refine (concatenate_pair_apply_right (t := Cert.Reference5Ideal.S8192x5632) (s₁ := Cert.Reference5Ideal.S8192x2816) (s₂ := Cert.Reference5Ideal.S8192x2816) 1 _ _ _ (ix2 k q) rfl rfl (ix2 k ⟨q.val - 2816, by omega⟩) (fun b hb => ?_) ?_).trans ?_
    · match b, hb with
      | ⟨0, _⟩, _ => rfl
      | ⟨1, _⟩, hb => exact absurd rfl hb
    · show q.val - 2816 + 2816 = q.val; omega
    · rw [val_main_v12_apply, val_main_v11_apply, val_main_v0_apply]
      refine congrArg x1 (funext fun b => Fin.ext ?_)
      match b with
      | ⟨0, _⟩ => show 1 + 0 = q.val / 2816 % 2; omega
      | ⟨1, _⟩ => show (k.val * 2816 + (q.val - 2816)) / 2816 % 8192 = k.val; omega
      | ⟨2, _⟩ => show (k.val * 2816 + (q.val - 2816)) % 2816 = q.val % 2816 % 2816; omega

open Cert.Reference5Ideal.Read in
/-- The two results agree. -/
theorem result_eq (x0 : S2x8192x2816.Idx → EReal) (x1 : S1024x5632.Idx → EReal)
    (e0 : m ((c : Thread nD τ).loc main_arg0) = x0) (e1 : m ((c : Thread nD τ).loc main_arg1) = x1) :
    val_main_v15 (F := Ideal) x0 x1 = result m c := by
  funext y
  obtain ⟨r, q, rfl⟩ : ∃ (r : Fin 8192) (q : Fin 1024), y = ix2 r q := ⟨y 0, y 1, by funext a; fin_cases a <;> rfl⟩
  rw [val_main_v15_apply, val_main_v14_apply]
  unfold result
  rw [Finset.sum_range]
  refine Finset.sum_congr rfl fun k _ => ?_
  have eh := halves x0 r k
  unfold term
  rw [V_main_arg0, V_main_arg1, e0, e1, show nat 8192 ((ix2 r q : S8192x1024.Idx) 0).val = r from Fin.ext (Nat.mod_eq_of_lt r.isLt),
    show nat 1024 ((ix2 r q : S8192x1024.Idx) 1).val = q from Fin.ext (Nat.mod_eq_of_lt q.isLt), show nat 5632 k.val = k from Fin.ext (Nat.mod_eq_of_lt k.isLt)]
  refine congr (congrArg HMul.hMul ?_) ?_
  · refine Eq.trans (congrArg (val_main_v13 (F := Ideal) x0) (funext fun b => Fin.ext ?_)) eh
    match b with
    | ⟨0, _⟩ => rfl
    | ⟨1, _⟩ => rfl
  · refine congrArg x1 (funext fun b => Fin.ext ?_)
    match b with
    | ⟨0, _⟩ => rfl
    | ⟨1, _⟩ => rfl

end Cert.Kernel5Ideal.Dh

end
-- ==== Proof.Ffn.Tiles.lean ====
/- A product computed tile by tile: what the accumulator holds. -/
module

public import Idealize.ShloMosaic.PureOps.Ideal.Laws
public import Idealize.ShloMosaic.Lib.Pointwise

@[expose] public section

noncomputable section

namespace Cert.Tiles

open Idealize.ShloMosaic

/-- A row or column of an array. -/
def nat (n : ℕ) [NeZero n] (k : ℕ) : Fin n := Fin.ofNat n k

theorem nat_val {n : ℕ} [NeZero n] (k : Fin n) : nat n k.val = k := Fin.ext (Nat.mod_eq_of_lt k.isLt)

/-- The terms of the tiles up to tile `j`, a tile having `b` of them. -/
def part (b j : ℕ) (f : ℕ → EReal) : EReal := ∑ k ∈ Finset.range (b * (j + 1)), f k

theorem part_first (b j : ℕ) (f : ℕ → EReal) (h : j = 0) : ∑ k ∈ Finset.range b, f (b * j + k) = part b j f := by
  subst h
  unfold part
  rw [Nat.zero_add, Nat.mul_one]
  exact Finset.sum_congr rfl fun k _ => by rw [Nat.mul_zero, Nat.zero_add]

theorem part_next (b i j : ℕ) (f : ℕ → EReal) (h : j = i + 1) : part b i f + ∑ k ∈ Finset.range b, f (b * j + k) = part b j f := by
  subst h
  unfold part
  rw [Nat.mul_add b (i + 1) 1, Nat.mul_one]
  exact (Finset.sum_range_add _ _ _).symm

/-- What an accumulator holds at the points that are not a block's last, from its first point and one point after another. -/
theorem acc_eq {α : Type} {N : ℕ} (n l : ℕ) (acc : (t : ℕ) → t < N → α) (up : ℕ → α)
    (first : ∀ (t : ℕ) (h : t < N), t % n = 0 → acc t h = up t)
    (next : ∀ (t : ℕ) (h : t + 1 < N), ¬(t + 1) % n = 0 → ¬(t + 1) % n = l → acc t (Nat.lt_of_succ_lt h) = up t → acc (t + 1) h = up (t + 1))
    (step : ∀ t : ℕ, ¬(t + 1) % n = 0 → ¬(t + 1) % n = l → ¬t % n = l) :
    ∀ (t : ℕ) (h : t < N), ¬t % n = l → acc t h = up t
  | 0, h, _ => first 0 h (Nat.zero_mod n)
  | t + 1, h, hl =>
    if h0 : (t + 1) % n = 0 then first (t + 1) h h0
    else next t h h0 hl (acc_eq n l acc up first next step t (Nat.lt_of_succ_lt h) (step t h0 hl))

end Cert.Tiles

end
-- ==== Proof.Ffn.Dwdown.lean ====
/- The gradient of the feed-forward block's second weights: what the kernel leaves in its result's array over the extended reals. -/
module

public import proofs.«01_k».proof.Proof.Gen.Kernel6Ideal.Frame
public import proofs.«01_k».proof.Proof.Ffn.Tiles
public import Idealize.ShloMosaic.Lib.Pointwise
public import Idealize.ShloMosaic.Lib.VecWindow
public import Idealize.ShloMosaic.Lib.Pipeline.Value
public import Idealize.ShloMosaic.Lib.Pipeline.ValueKit.Geometry

@[expose] public section

set_option maxRecDepth 16384
set_option Elab.async false

noncomputable section

namespace Cert.Kernel6Ideal.Dwdown

open Cert.Kernel6Ideal Cert.Kernel6Ideal.Gen
open Idealize.ShloMosaic
open Idealize.ShloMosaic.TcCoe Idealize.ShloMosaic.Tactic
open Idealize.SL.Sem
open Cert.Tiles (nat)

/-- What a point's two blocks add to the accumulator. -/
theorem pay1_apply (x0 : S1408x2048.Idx → EReal) (x1 : S2048x1024.Idx → EReal) (r : Fin 1408) (q : Fin 1024) :
    (k0_pay1 (F := Ideal) x0 x1) (ix2 r q) = ∑ k : Fin 2048, x0 (ix2 r k) * x1 (ix2 k q) := by
  simp only [k0_pay1, shapeCast_self]
  pointwise

theorem pay4_eq (x : S1408x1024.Idx → EReal) : k0_pay4 (F := Ideal) x = x := by
  funext y
  simp only [k0_pay4]
  pointwise

section
variable (c : Dev nD) (i : grid0.Coords) (arg3 : Memref sig .tc .vmem S1408x2048 .bf16) (harg3 : arg3.IsWhole) (arg4 : Memref sig .tc .vmem S2048x1024 .bf16) (harg4 : arg4.IsWhole)
  (arg5 : Memref sig .tc .vmem S1408x1024 .bf16) (harg5 : arg5.IsWhole) (arg6 : Memref sig .tc .vmem S1408x1024 .f32) (harg6 : arg6.IsWhole)
  (x0 : S1408x2048.Idx → EReal) (x1 : S2048x1024.Idx → EReal) (xa : S1408x1024.Idx → EReal)

theorem first (h0 h1 h2) :
    sout0_A_0 (F := Ideal) c i arg3 harg3 arg4 harg4 arg5 harg5 arg6 harg6 h0 h1 h2 x0 x1 = k0_pay1 (F := Ideal) x0 x1 := by
  unfold sout0_A_0
  dsimp only [kernelRun0_A]
  sl_unfold_run_names
  refine (View.read_writes_full (Val := Elt Ideal) VS0_0 VS0_0.junk inb_S1408x1024_S1408x1024_0_0 _ []).trans ?_
  rw [View.readAt_full (Val := Elt Ideal) arg3.view _ inb_S1408x2048_S1408x2048_0_0, View.readAt_full (Val := Elt Ideal) arg4.view _ inb_S2048x1024_S2048x1024_0_0,
    harg3.read_unread, harg4.read_unread]
  simp only [k0_pay2, shapeCast_self]

theorem next (h0 h1 h2) :
    sout0_B_0 (F := Ideal) c i arg3 harg3 arg4 harg4 arg5 harg5 arg6 harg6 h0 h1 h2 x0 x1 xa = fun y => xa y + k0_pay1 (F := Ideal) x0 x1 y := by
  unfold sout0_B_0
  dsimp only [kernelRun0_B]
  sl_unfold_run_names
  refine (View.read_writes_full (Val := Elt Ideal) VS0_0 VS0_0.junk inb_S1408x1024_S1408x1024_0_0 _ []).trans ?_
  rw [View.readAt_full (Val := Elt Ideal) arg3.view _ inb_S1408x2048_S1408x2048_0_0, View.readAt_full (Val := Elt Ideal) arg4.view _ inb_S2048x1024_S2048x1024_0_0,
    View.readAt_full (Val := Elt Ideal) arg6.view _ inb_S1408x1024_S1408x1024_0_0, harg3.read_unread, harg4.read_unread, harg6.read_unread]
  simp only [k0_pay3, shapeCast_self]
  rfl

theorem last (h0 h1 h2) :
    out0_C_2 (F := Ideal) c i arg3 harg3 arg4 harg4 arg5 harg5 arg6 harg6 h0 h1 h2 x0 x1 xa = fun y => xa y + k0_pay1 (F := Ideal) x0 x1 y := by
  unfold out0_C_2
  dsimp only [kernelRun0_C]
  sl_unfold_run_names
  refine (View.read_writes_full (Val := Elt Ideal) VO0_2 VO0_2.junk inb_S1408x1024_S1408x1024_0_0 _ []).trans ?_
  refine (pay4_eq _).trans ?_
  refine (View.readAt_full (Val := Elt Ideal) arg6.view _ inb_S1408x1024_S1408x1024_0_0).trans ?_
  refine (View.read_writes_full (Val := Elt Ideal) arg6.view arg6.view.junk inb_S1408x1024_S1408x1024_0_0 _ []).trans ?_
  rw [View.readAt_full (Val := Elt Ideal) arg3.view _ inb_S1408x2048_S1408x2048_0_0, View.readAt_full (Val := Elt Ideal) arg4.view _ inb_S2048x1024_S2048x1024_0_0,
    View.readAt_full (Val := Elt Ideal) arg6.view _ inb_S1408x1024_S1408x1024_0_0, harg3.read_unread, harg4.read_unread, harg6.read_unread]
  simp only [k0_pay3, shapeCast_self]
  rfl
end

/-- What one index of the sum adds to a place of the result. -/
def term (A : S2816x8192.Idx → EReal) (B : S8192x1024.Idx → EReal) (r q k : ℕ) : EReal :=
  A (ix2 (nat 2816 r) (nat 8192 k)) * B (ix2 (nat 8192 k) (nat 1024 q))

theorem covers : (cfg0.win (2 : Fin 3)).Covers := of_decide_eq_true (by sl_kernel_rfl)

def IndexFacts (t : Fin cfg0.N) : Prop :=
  (cfg0.win (0 : Fin 3)).index t = ![t.val / 4, t.val % 4] ∧ (cfg0.win (1 : Fin 3)).index t = ![t.val % 4, 0]
    ∧ (cfg0.win (2 : Fin 3)).index t = ![t.val / 4, 0]

theorem index_facts : ∀ t : Fin cfg0.N, IndexFacts t := (by unfold IndexFacts; decide +kernel)

variable (m : (ℓ : Loc nD τ sig) → Buf (Elt Ideal) ℓ) (c : Dev nD)

theorem blk0 (t : Fin cfg0.N) (r : Fin 1408) (k : Fin 2048) :
    (iblk m c 0 t : S1408x2048.Idx → EReal) (ix2 r k) = (V m c main_v0 : S2816x8192.Idx → EReal) (ix2 (nat 2816 (1408 * (t.val / 4) + r.val)) (nat 8192 (2048 * (t.val % 4) + k.val))) := by
  obtain ⟨e, -⟩ := index_facts t
  have ht : t.val < 8 := t.isLt.trans_eq N_0
  refine congrArg (V m c main_v0) (funext fun b => Fin.ext ?_)
  match b with
  | ⟨0, _⟩ =>
    show (cfg0.win (0 : Fin 3)).index t (0 : Fin 2) * 1408 + 1 * r.val = (1408 * (t.val / 4) + r.val) % 2816
    rw [e]
    show t.val / 4 * 1408 + 1 * r.val = _
    omega
  | ⟨1, _⟩ =>
    show (cfg0.win (0 : Fin 3)).index t (1 : Fin 2) * 2048 + 1 * k.val = (2048 * (t.val % 4) + k.val) % 8192
    rw [e]
    show t.val % 4 * 2048 + 1 * k.val = _
    omega

theorem blk1 (t : Fin cfg0.N) (k : Fin 2048) (q : Fin 1024) :
    (iblk m c 1 t : S2048x1024.Idx → EReal) (ix2 k q) = (V m c main_arg1 : S8192x1024.Idx → EReal) (ix2 (nat 8192 (2048 * (t.val % 4) + k.val)) (nat 1024 (q.val))) := by
  obtain ⟨-, e, -⟩ := index_facts t
  have ht : t.val < 8 := t.isLt.trans_eq N_0
  refine congrArg (V m c main_arg1) (funext fun b => Fin.ext ?_)
  match b with
  | ⟨0, _⟩ =>
    show (cfg0.win (1 : Fin 3)).index t (0 : Fin 2) * 2048 + 1 * k.val = (2048 * (t.val % 4) + k.val) % 8192
    rw [e]
    show t.val % 4 * 2048 + 1 * k.val = _
    omega
  | ⟨1, _⟩ =>
    show (cfg0.win (1 : Fin 3)).index t (1 : Fin 2) * 1024 + 1 * q.val = (q.val) % 1024
    rw [e]
    show 0 * 1024 + 1 * q.val = _
    omega

theorem blk_add (t : Fin cfg0.N) (r : Fin 1408) (q : Fin 1024) :
    k0_pay1 (F := Ideal) (iblk m c 0 t) (iblk m c 1 t) (ix2 r q)
      = ∑ k ∈ Finset.range 2048, term (V m c main_v0) (V m c main_arg1) (1408 * (t.val / 4) + r.val) (q.val) (2048 * (t.val % 4) + k) := by
  rw [pay1_apply, Finset.sum_range]
  exact Finset.sum_congr rfl fun k _ => congr (congrArg HMul.hMul (blk0 m c t r k)) (blk1 m c t k q)

/-- The terms summed up to a point, at a place of its block. -/
def upTo (t : ℕ) : S1408x1024.Idx → EReal := fun y =>
  Tiles.part 2048 (t % 4) (term (V m c main_v0) (V m c main_arg1) (1408 * (t / 4) + (y 0).val) ((y 1).val))

theorem upTo_first (t : Fin cfg0.N) (h : t.val % 4 = 0) : k0_pay1 (F := Ideal) (iblk m c 0 t) (iblk m c 1 t) = upTo m c t.val := by
  funext y
  obtain ⟨r, q, rfl⟩ : ∃ (r : Fin 1408) (q : Fin 1024), y = ix2 r q := ⟨y 0, y 1, by funext a; fin_cases a <;> rfl⟩
  exact (blk_add m c t r q).trans (Tiles.part_first 2048 (t.val % 4) _ h)

theorem upTo_next (t : Fin cfg0.N) (h : ¬t.val % 4 = 0) :
    (fun y => upTo m c (t.val - 1) y + k0_pay1 (F := Ideal) (iblk m c 0 t) (iblk m c 1 t) y : S1408x1024.Idx → EReal) = upTo m c t.val := by
  funext y
  obtain ⟨r, q, rfl⟩ : ∃ (r : Fin 1408) (q : Fin 1024), y = ix2 r q := ⟨y 0, y 1, by funext a; fin_cases a <;> rfl⟩
  unfold upTo
  rw [blk_add, show (t.val - 1) / 4 = t.val / 4 by omega]
  exact Tiles.part_next 2048 ((t.val - 1) % 4) (t.val % 4) _ (by omega)

theorem acc_first (t : Fin cfg0.N) (h : t.val % 4 = 0) : (outsAt0 (F := Ideal) m c t.val t.isLt).2 = upTo m c t.val := by
  rw [outsAt0_A m c t h (by omega) (by omega)]
  dsimp only
  exact (first _ _ _ _ _ _ _ _ _ _ _ _ _ _ _).trans (upTo_first m c t h)

theorem acc_next (t : Fin cfg0.N) (h : ¬t.val % 4 = 0) (h3 : ¬t.val % 4 = 3)
    (e : (outsAt0 (F := Ideal) m c (t.val - 1) (Nat.lt_of_le_of_lt (Nat.sub_le _ _) t.isLt)).2 = upTo m c (t.val - 1)) :
    (outsAt0 (F := Ideal) m c t.val t.isLt).2 = upTo m c t.val := by
  rw [outsAt0_B m c t h (by omega) h3, e]
  dsimp only
  exact (next _ _ _ _ _ _ _ _ _ _ _ _ _ _ _ _).trans (upTo_next m c t h)

/-- What the accumulator holds after a point that is not its block's last. -/
theorem acc_eq (t : ℕ) (h : t < cfg0.N) (h3 : ¬t % 4 = 3) : (outsAt0 (F := Ideal) m c t h).2 = upTo m c t :=
  Tiles.acc_eq 4 3 (fun t h => (outsAt0 (F := Ideal) m c t h).2) (upTo m c) (fun t h => acc_first m c ⟨t, h⟩) (fun t h => acc_next m c ⟨t + 1, h⟩) (by omega) t h h3

/-- What is left in the result's block at the block's last point. -/
theorem out_last (t : Fin cfg0.N) (h3 : t.val % 4 = 3)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_C m c t (by omega) (by omega) h3, e]
  dsimp only
  exact (last _ _ _ _ _ _ _ _ _ _ _ _ _ _ _ _).trans (upTo_next m c t (by omega))

theorem out_eq (t : Fin cfg0.N) (h3 : t.val % 4 = 3) : (outsAt0 (F := Ideal) m c t.val t.isLt).1 = upTo m c t.val :=
  out_last m c t h3 (acc_eq m c (t.val - 1) (Nat.lt_of_le_of_lt (Nat.sub_le _ _) t.isLt) (by omega))

/-- What the kernel leaves in its result's array. -/
def result : S2816x1024.Idx → EReal := fun y => ∑ k ∈ Finset.range 8192, term (V m c main_v0) (V m c main_arg1) (y 0).val (y 1).val k

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 4 = 3 := (flush0_2 t).mp hf
  rw [after0_2, out_eq m c t h3]
  have g0 : (((cfg0.win (2 : Fin 3)).blk t).view.emb z (0 : Fin 2)).val = 1408 * (t.val / 4) + (z (0 : Fin 2)).val := by
    show (cfg0.win (2 : Fin 3)).index t (0 : Fin 2) * 1408 + 1 * (z (0 : Fin 2)).val = _
    rw [e]
    show t.val / 4 * 1408 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  show upTo m c t.val z = result m c (((cfg0.win (2 : Fin 3)).blk t).view.emb z)
  unfold upTo result Tiles.part
  rw [h3, g0, g1]

end Cert.Kernel6Ideal.Dwdown

end
-- ==== Proof.Ffn.DwdownValue.lean ====
/- The gradient of the feed-forward block's second weights: the kernel's result is the reference's. -/
module

public import proofs.«01_k».proof.Proof.Ffn.Dwdown
public import proofs.«01_k».proof.Proof.Gen.Reference6Ideal.Read
public import Idealize.ShloMosaic.Lib.StableHlo.Run
public import Idealize.ShloMosaic.Lib.StableHlo.ReadAt

@[expose] public section

set_option maxRecDepth 16384
set_option Elab.async false

noncomputable section

namespace Cert.Kernel6Ideal.Dwdown

open Cert.Kernel6Ideal Cert.Kernel6Ideal.Gen
open Idealize.ShloMosaic
open Idealize.ShloMosaic.TcCoe Idealize.ShloMosaic.Tactic
open Idealize.SL.Sem
open Cert.Tiles (nat)

variable (m : (ℓ : Loc nD τ sig) → Buf (Elt Ideal) ℓ) (c : Dev nD)

theorem V_t (a : Fin 2816) (b : Fin 8192) : (V m c main_v0 : S2816x8192.Idx → EReal) (ix2 a b) = (m ((c : Thread nD τ).loc main_arg0) : S8192x2816.Idx → EReal) (ix2 b a) := by
  unfold V hostOps0
  after_reads_at

open Cert.Reference6Ideal.Read in
/-- The two results agree. -/
theorem result_eq (x0 : S8192x2816.Idx → EReal) (x1 : S8192x1024.Idx → EReal)
    (e0 : m ((c : Thread nD τ).loc main_arg0) = x0) (e1 : m ((c : Thread nD τ).loc main_arg1) = x1) :
    val_main_v6 (F := Ideal) x0 x1 = result m c := by
  funext y
  obtain ⟨r, q, rfl⟩ : ∃ (r : Fin 2816) (q : Fin 1024), y = ix2 r q := ⟨y 0, y 1, by funext a; fin_cases a <;> rfl⟩
  rw [val_main_v6_apply, val_main_v5_apply, val_main_v4_apply]
  unfold result
  rw [Finset.sum_range]
  refine Finset.sum_congr rfl fun k _ => ?_
  have ev := V_t m c r k
  unfold term
  rw [V_main_arg1, e1, show nat 2816 ((ix2 r q : S2816x1024.Idx) 0).val = r from Tiles.nat_val r, show nat 1024 ((ix2 r q : S2816x1024.Idx) 1).val = q from Tiles.nat_val q, show nat 8192 k.val = k from Tiles.nat_val k, ev, e0]
  refine (mul_comm _ _).trans (congr (congrArg HMul.hMul (congrArg x0 (funext fun b => Fin.ext ?_))) (congrArg x1 (funext fun b => Fin.ext ?_)))
  all_goals match b with
    | ⟨0, _⟩ => rfl
    | ⟨1, _⟩ => rfl

end Cert.Kernel6Ideal.Dwdown

end
-- ==== Proof.Ffn.Act.lean ====
/- The feed-forward block's first product and its gate: what the kernel leaves in its results' arrays over the extended reals. -/
module

public import proofs.«01_k».proof.Proof.Gen.Kernel7Ideal.Frame
public import proofs.«01_k».proof.Proof.Ffn.Tiles
public import proofs.«01_k».proof.Proof.Ffn.Sigmoid
public import Idealize.ShloMosaic.Lib.Pointwise
public import Idealize.ShloMosaic.Lib.VecWindow
public import Idealize.ShloMosaic.Lib.WholeRead
public import Idealize.ShloMosaic.Lib.Pipeline.Value
public import Idealize.ShloMosaic.Lib.Pipeline.ValueKit.Geometry

@[expose] public section

set_option maxRecDepth 16384
set_option Elab.async false

noncomputable section

namespace Cert.Kernel7Ideal.Act

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Tiles (nat)

/-- The activation: one half of the product through the gate, times the other. -/
def act (g u : EReal) : EReal := g * Ideal.logistic g * u

/-- The product of a row and a column. -/
def prod {n : ℕ} (x : S1024x1024.Idx → EReal) (w : (Shape.mk 2 ![1024, n]).Idx → EReal) (r : Fin 1024) (q : Fin n) : EReal := ∑ k : Fin 1024, x (ix2 r k) * w (ix2 k q)

theorem pair256 (X : S1024x1024.Idx → EReal) (W : S1024x256.Idx → EReal) (r : Fin 1024) (q : Fin 256) : k0_pay3 (F := Ideal) X W (ix3 0 r q) = prod (n := 256) X W r q := by
  unfold prod
  simp only [k0_pay3, k0_pay1]
  pointwise

theorem pair128 (X : S1024x1024.Idx → EReal) (W : S1024x128.Idx → EReal) (r : Fin 1024) (q : Fin 128) : k0_pay39 (F := Ideal) X W (ix3 0 r q) = prod (n := 128) X W r q := by
  unfold prod
  simp only [k0_pay39, k0_pay37]
  pointwise

theorem act256 (X : S1024x1024.Idx → EReal) (W U : S1024x256.Idx → EReal) (r : Fin 1024) (q : Fin 256) : k0_pay6 (F := Ideal) X W U (ix2 r q) = act (prod (n := 256) X W r q) (prod (n := 256) X U r q) := by
  unfold act prod
  rw [← Sigmoid.half_tanh]
  simp only [k0_pay6, k0_pay5, k0_pay1, k0_pay2]
  pointwise

theorem act128 (X : S1024x1024.Idx → EReal) (W U : S1024x128.Idx → EReal) (r : Fin 1024) (q : Fin 128) : k0_pay42 (F := Ideal) X W U (ix2 r q) = act (prod (n := 128) X W r q) (prod (n := 128) X U r q) := by
  unfold act prod
  rw [← Sigmoid.half_tanh]
  simp only [k0_pay42, k0_pay41, k0_pay37, k0_pay38]
  pointwise

theorem actT256 (X : S1024x1024.Idx → EReal) (W U : S1024x256.Idx → EReal) (r : Fin 1024) (q : Fin 256) : k0_pay7 (F := Ideal) X W U (ix2 q r) = act (prod (n := 256) X W r q) (prod (n := 256) X U r q) := by
  unfold act prod
  rw [← Sigmoid.half_tanh]
  simp only [k0_pay7, k0_pay5, k0_pay1, k0_pay2]
  pointwise

theorem actT128 (X : S1024x1024.Idx → EReal) (W U : S1024x128.Idx → EReal) (r : Fin 1024) (q : Fin 128) : k0_pay43 (F := Ideal) X W U (ix2 q r) = act (prod (n := 128) X W r q) (prod (n := 128) X U r q) := by
  unfold act prod
  rw [← Sigmoid.half_tanh]
  simp only [k0_pay43, k0_pay41, k0_pay37, k0_pay38]
  pointwise

/-- A block of the first result, from a block of each argument. -/
def blkPair (x0 : S1024x1024.Idx → EReal) (x1 x2 : S1024x1408.Idx → EReal) : S2x1024x1408.Idx → EReal := fun y =>
  if (y 0).val = 0 then prod (n := 1408) x0 x1 (y 1) (y 2) else prod (n := 1408) x0 x2 (y 1) (y 2)

/-- A block of the second. -/
def blkAct (x0 : S1024x1024.Idx → EReal) (x1 x2 : S1024x1408.Idx → EReal) : S1024x1408.Idx → EReal := fun y =>
  act (prod (n := 1408) x0 x1 (y 0) (y 1)) (prod (n := 1408) x0 x2 (y 0) (y 1))

/-- A block of the third. -/
def blkActT (x0 : S1024x1024.Idx → EReal) (x1 x2 : S1024x1408.Idx → EReal) : S1408x1024.Idx → EReal := fun y =>
  act (prod (n := 1408) x0 x1 (y 1) (y 0)) (prod (n := 1408) x0 x2 (y 1) (y 0))

section
variable (c : Dev nD) (i : grid0.Coords) (arg2 : Memref sig .tc .vmem S1024x1024 .bf16) (harg2 : arg2.IsWhole) (arg3 : Memref sig .tc .vmem S1024x1408 .bf16) (harg3 : arg3.IsWhole)
  (arg4 : Memref sig .tc .vmem S1024x1408 .bf16) (harg4 : arg4.IsWhole) (arg5 : Memref sig .tc .vmem S2x1024x1408 .bf16) (harg5 : arg5.IsWhole)
  (arg6 : Memref sig .tc .vmem S1024x1408 .bf16) (harg6 : arg6.IsWhole) (arg7 : Memref sig .tc .vmem S1408x1024 .bf16) (harg7 : arg7.IsWhole)
  (x0 : S1024x1024.Idx → EReal) (x1 x2 : S1024x1408.Idx → EReal)

theorem read_x (hX) (r k : Fin 1024) :
    View.readAt (Elt Ideal) arg2.view (Rect.unit (s := S1024x1024) ![0, 0] ![1024, 1024] hX).toLoadRect (harg2.unread x0) (ix2 r k) = x0 (ix2 r k) := by
  refine (Memref.IsWhole.readAt_unread (Val := Elt Ideal) harg2 x0 _ _).trans (congrArg x0 (funext fun b => Fin.ext ?_))
  match b with
  | ⟨0, _⟩ => show 0 + 1 * r.val = r.val; omega
  | ⟨1, _⟩ => show 0 + 1 * k.val = k.val; omega

theorem emb2 (o n : ℕ) (hW) (k : Fin 1024) (q : Fin n) (h : o + q.val < 1408) :
    (Rect.unit (s := S1024x1408) ![0, o] ![1024, n] hW).emb (ix2 k q) = ix2 k (⟨o + q.val, h⟩ : Fin 1408) := by
  funext a
  refine Fin.ext ?_
  match a with
  | ⟨0, _⟩ => show 0 + 1 * k.val = k.val; omega
  | ⟨1, _⟩ => show o + 1 * q.val = o + q.val; omega

theorem embT (o n : ℕ) (hW) (r : Fin 1024) (q : Fin n) (h : o + q.val < 1408) :
    (Rect.unit (s := S1408x1024) ![o, 0] ![n, 1024] hW).emb (ix2 q r) = ix2 (⟨o + q.val, h⟩ : Fin 1408) r := by
  funext a
  refine Fin.ext ?_
  match a with
  | ⟨0, _⟩ => show o + 1 * q.val = o + q.val; omega
  | ⟨1, _⟩ => show 0 + 1 * r.val = r.val; omega

theorem emb3 (b o n : ℕ) (hG) (r : Fin 1024) (q : Fin n) (hb : b < 2) (h : o + q.val < 1408) :
    (Rect.unit (s := S2x1024x1408) ![b, 0, o] ![1, 1024, n] hG).emb (ix3 (0 : Fin 1) r q) = ix3 (⟨b, hb⟩ : Fin 2) r (⟨o + q.val, h⟩ : Fin 1408) := by
  funext a
  refine Fin.ext ?_
  match a with
  | ⟨0, _⟩ => show b + 1 * 0 = b; omega
  | ⟨1, _⟩ => show 0 + 1 * r.val = r.val; omega
  | ⟨2, _⟩ => show o + 1 * q.val = o + q.val; omega

/-- A product of pieces is the product of the row and the column they are pieces of. -/
theorem read_prod (w : S1024x1408.Idx → EReal) (o n : ℕ) (hX hW) (r : Fin 1024) (q : Fin n) (h : o + q.val < 1408) :
    prod (n := n) (View.readAt (Elt Ideal) arg2.view (Rect.unit (s := S1024x1024) ![0, 0] ![1024, 1024] hX).toLoadRect (harg2.unread x0))
      (View.readAt (Elt Ideal) arg3.view (Rect.unit (s := S1024x1408) ![0, o] ![1024, n] hW).toLoadRect (harg3.unread w)) r q
      = prod (n := 1408) x0 w r ⟨o + q.val, h⟩ := by
  unfold prod
  refine Finset.sum_congr rfl fun k _ => congr (congrArg HMul.hMul (read_x arg2 harg2 x0 hX r k)) ?_
  exact (Memref.IsWhole.readAt_unread (Val := Elt Ideal) harg3 w _ _).trans (congrArg w (emb2 o n hW k q h))

theorem ix3_eq {n : ℕ} (x : (Shape.mk 3 ![1, 1024, n]).Idx) : ∃ (r : Fin 1024) (q : Fin n), x = ix3 (0 : Fin 1) r q :=
  ⟨x 1, x 2, by funext a; match a with | ⟨0, _⟩ => exact Subsingleton.elim (α := Fin 1) _ _ | ⟨1, _⟩ => rfl | ⟨2, _⟩ => rfl⟩

theorem ix2_eq {m n : ℕ} (x : (Shape.mk 2 ![m, n]).Idx) : ∃ (r : Fin m) (q : Fin n), x = ix2 r q :=
  ⟨x 0, x 1, by funext a; match a with | ⟨0, _⟩ => rfl | ⟨1, _⟩ => rfl⟩

theorem pair0_piece256 (o : ℕ) (hX hW hG) (x : S1x1024x256.Idx) :
    k0_pay3 (F := Ideal) (View.readAt (Elt Ideal) arg2.view (Rect.unit (s := S1024x1024) ![0, 0] S1024x1024.size hX).toLoadRect (harg2.unread x0))
      (View.readAt (Elt Ideal) arg3.view (Rect.unit (s := S1024x1408) ![0, o] S1024x256.size hW).toLoadRect (harg3.unread x1)) x
      = blkPair x0 x1 x2 ((Rect.unit (s := S2x1024x1408) ![0, 0, o] ![1, 1024, 256] hG).emb x) := by
  obtain ⟨r, q, rfl⟩ := ix3_eq (n := 256) x
  have h : o + q.val < 1408 := lt_of_lt_of_le (Nat.add_lt_add_left q.isLt o) (hW 1)
  rw [emb3 0 o 256 hG r q (by decide) h]
  refine (pair256 _ _ r q).trans ((read_prod arg2 harg2 arg3 harg3 x0 x1 o 256 hX hW r q h).trans ?_)
  exact (if_pos rfl).symm

theorem pair1_piece256 (o : ℕ) (hX hW hG) (x : S1x1024x256.Idx) :
    k0_pay3 (F := Ideal) (View.readAt (Elt Ideal) arg2.view (Rect.unit (s := S1024x1024) ![0, 0] S1024x1024.size hX).toLoadRect (harg2.unread x0))
      (View.readAt (Elt Ideal) arg4.view (Rect.unit (s := S1024x1408) ![0, o] S1024x256.size hW).toLoadRect (harg4.unread x2)) x
      = blkPair x0 x1 x2 ((Rect.unit (s := S2x1024x1408) ![1, 0, o] ![1, 1024, 256] hG).emb x) := by
  obtain ⟨r, q, rfl⟩ := ix3_eq (n := 256) x
  have h : o + q.val < 1408 := lt_of_lt_of_le (Nat.add_lt_add_left q.isLt o) (hW 1)
  rw [emb3 1 o 256 hG r q (by decide) h]
  refine (pair256 _ _ r q).trans ((read_prod arg2 harg2 arg4 harg4 x0 x2 o 256 hX hW r q h).trans ?_)
  exact (if_neg (by decide : ¬(1 : ℕ) = 0)).symm

theorem act_piece256 (o : ℕ) (hX hW hG) (x : S1024x256.Idx) :
    k0_pay6 (F := Ideal) (View.readAt (Elt Ideal) arg2.view (Rect.unit (s := S1024x1024) ![0, 0] S1024x1024.size hX).toLoadRect (harg2.unread x0))
      (View.readAt (Elt Ideal) arg3.view (Rect.unit (s := S1024x1408) ![0, o] S1024x256.size hW).toLoadRect (harg3.unread x1))
      (View.readAt (Elt Ideal) arg4.view (Rect.unit (s := S1024x1408) ![0, o] S1024x256.size hW).toLoadRect (harg4.unread x2)) x
      = blkAct x0 x1 x2 ((Rect.unit (s := S1024x1408) ![0, o] ![1024, 256] hG).emb x) := by
  obtain ⟨r, q, rfl⟩ := ix2_eq (m := 1024) (n := 256) x
  have h : o + q.val < 1408 := lt_of_lt_of_le (Nat.add_lt_add_left q.isLt o) (hW 1)
  rw [emb2 o 256 hG r q h]
  exact (act256 _ _ _ r q).trans (congr (congrArg act (read_prod arg2 harg2 arg3 harg3 x0 x1 o 256 hX hW r q h)) (read_prod arg2 harg2 arg4 harg4 x0 x2 o 256 hX hW r q h))

theorem actT_piece256 (o : ℕ) (hX hW hG) (x : S256x1024.Idx) :
    k0_pay7 (F := Ideal) (View.readAt (Elt Ideal) arg2.view (Rect.unit (s := S1024x1024) ![0, 0] S1024x1024.size hX).toLoadRect (harg2.unread x0))
      (View.readAt (Elt Ideal) arg3.view (Rect.unit (s := S1024x1408) ![0, o] S1024x256.size hW).toLoadRect (harg3.unread x1))
      (View.readAt (Elt Ideal) arg4.view (Rect.unit (s := S1024x1408) ![0, o] S1024x256.size hW).toLoadRect (harg4.unread x2)) x
      = blkActT x0 x1 x2 ((Rect.unit (s := S1408x1024) ![o, 0] ![256, 1024] hG).emb x) := by
  obtain ⟨q, r, rfl⟩ := ix2_eq (m := 256) (n := 1024) x
  have h : o + q.val < 1408 := lt_of_lt_of_le (Nat.add_lt_add_left q.isLt o) (hW 1)
  rw [embT o 256 hG r q h]
  exact (actT256 _ _ _ r q).trans (congr (congrArg act (read_prod arg2 harg2 arg3 harg3 x0 x1 o 256 hX hW r q h)) (read_prod arg2 harg2 arg4 harg4 x0 x2 o 256 hX hW r q h))

theorem pair0_piece128 (o : ℕ) (hX hW hG) (x : S1x1024x128.Idx) :
    k0_pay39 (F := Ideal) (View.readAt (Elt Ideal) arg2.view (Rect.unit (s := S1024x1024) ![0, 0] S1024x1024.size hX).toLoadRect (harg2.unread x0))
      (View.readAt (Elt Ideal) arg3.view (Rect.unit (s := S1024x1408) ![0, o] S1024x128.size hW).toLoadRect (harg3.unread x1)) x
      = blkPair x0 x1 x2 ((Rect.unit (s := S2x1024x1408) ![0, 0, o] ![1, 1024, 128] hG).emb x) := by
  obtain ⟨r, q, rfl⟩ := ix3_eq (n := 128) x
  have h : o + q.val < 1408 := lt_of_lt_of_le (Nat.add_lt_add_left q.isLt o) (hW 1)
  rw [emb3 0 o 128 hG r q (by decide) h]
  refine (pair128 _ _ r q).trans ((read_prod arg2 harg2 arg3 harg3 x0 x1 o 128 hX hW r q h).trans ?_)
  exact (if_pos rfl).symm

theorem pair1_piece128 (o : ℕ) (hX hW hG) (x : S1x1024x128.Idx) :
    k0_pay39 (F := Ideal) (View.readAt (Elt Ideal) arg2.view (Rect.unit (s := S1024x1024) ![0, 0] S1024x1024.size hX).toLoadRect (harg2.unread x0))
      (View.readAt (Elt Ideal) arg4.view (Rect.unit (s := S1024x1408) ![0, o] S1024x128.size hW).toLoadRect (harg4.unread x2)) x
      = blkPair x0 x1 x2 ((Rect.unit (s := S2x1024x1408) ![1, 0, o] ![1, 1024, 128] hG).emb x) := by
  obtain ⟨r, q, rfl⟩ := ix3_eq (n := 128) x
  have h : o + q.val < 1408 := lt_of_lt_of_le (Nat.add_lt_add_left q.isLt o) (hW 1)
  rw [emb3 1 o 128 hG r q (by decide) h]
  refine (pair128 _ _ r q).trans ((read_prod arg2 harg2 arg4 harg4 x0 x2 o 128 hX hW r q h).trans ?_)
  exact (if_neg (by decide : ¬(1 : ℕ) = 0)).symm

theorem act_piece128 (o : ℕ) (hX hW hG) (x : S1024x128.Idx) :
    k0_pay42 (F := Ideal) (View.readAt (Elt Ideal) arg2.view (Rect.unit (s := S1024x1024) ![0, 0] S1024x1024.size hX).toLoadRect (harg2.unread x0))
      (View.readAt (Elt Ideal) arg3.view (Rect.unit (s := S1024x1408) ![0, o] S1024x128.size hW).toLoadRect (harg3.unread x1))
      (View.readAt (Elt Ideal) arg4.view (Rect.unit (s := S1024x1408) ![0, o] S1024x128.size hW).toLoadRect (harg4.unread x2)) x
      = blkAct x0 x1 x2 ((Rect.unit (s := S1024x1408) ![0, o] ![1024, 128] hG).emb x) := by
  obtain ⟨r, q, rfl⟩ := ix2_eq (m := 1024) (n := 128) x
  have h : o + q.val < 1408 := lt_of_lt_of_le (Nat.add_lt_add_left q.isLt o) (hW 1)
  rw [emb2 o 128 hG r q h]
  exact (act128 _ _ _ r q).trans (congr (congrArg act (read_prod arg2 harg2 arg3 harg3 x0 x1 o 128 hX hW r q h)) (read_prod arg2 harg2 arg4 harg4 x0 x2 o 128 hX hW r q h))

theorem actT_piece128 (o : ℕ) (hX hW hG) (x : S128x1024.Idx) :
    k0_pay43 (F := Ideal) (View.readAt (Elt Ideal) arg2.view (Rect.unit (s := S1024x1024) ![0, 0] S1024x1024.size hX).toLoadRect (harg2.unread x0))
      (View.readAt (Elt Ideal) arg3.view (Rect.unit (s := S1024x1408) ![0, o] S1024x128.size hW).toLoadRect (harg3.unread x1))
      (View.readAt (Elt Ideal) arg4.view (Rect.unit (s := S1024x1408) ![0, o] S1024x128.size hW).toLoadRect (harg4.unread x2)) x
      = blkActT x0 x1 x2 ((Rect.unit (s := S1408x1024) ![o, 0] ![128, 1024] hG).emb x) := by
  obtain ⟨q, r, rfl⟩ := ix2_eq (m := 128) (n := 1024) x
  have h : o + q.val < 1408 := lt_of_lt_of_le (Nat.add_lt_add_left q.isLt o) (hW 1)
  rw [embT o 128 hG r q h]
  exact (actT128 _ _ _ r q).trans (congr (congrArg act (read_prod arg2 harg2 arg3 harg3 x0 x1 o 128 hX hW r q h)) (read_prod arg2 harg2 arg4 harg4 x0 x2 o 128 hX hW r q h))

/-- What the pieces put together are. -/
theorem pair_out : out0_A_3 (F := Ideal) c i arg2 harg2 arg3 harg3 arg4 harg4 arg5 harg5 arg6 harg6 arg7 harg7 x0 x1 x2 = blkPair x0 x1 x2 := by
  funext y
  unfold out0_A_3
  refine View.read_writes_apply_of_pieces (Val := Elt Ideal) VO0_3 VO0_3.junk (blkPair x0 x1 x2) _ ?_ y (cover0_A_3 _ _ _ _ _ _ _ _ _ _ _ _ _ _ _ _ _ _)
  dsimp only [kernelRun0_A]
  sl_unfold_run_names
  exact List.forall_mem_cons.2 ⟨pair1_piece128 arg2 harg2 arg4 harg4 x0 x1 x2 1280 inb_S1024x1024_S1024x1024_0_0 inb_S1024x1408_S1024x128_0_1280 inb_S2x1024x1408_S1x1024x128_1_0_1280,
    List.forall_mem_cons.2 ⟨pair0_piece128 arg2 harg2 arg3 harg3 x0 x1 x2 1280 inb_S1024x1024_S1024x1024_0_0 inb_S1024x1408_S1024x128_0_1280 inb_S2x1024x1408_S1x1024x128_0_0_1280,
    List.forall_mem_cons.2 ⟨pair1_piece256 arg2 harg2 arg4 harg4 x0 x1 x2 1024 inb_S1024x1024_S1024x1024_0_0 inb_S1024x1408_S1024x256_0_1024 inb_S2x1024x1408_S1x1024x256_1_0_1024,
    List.forall_mem_cons.2 ⟨pair0_piece256 arg2 harg2 arg3 harg3 x0 x1 x2 1024 inb_S1024x1024_S1024x1024_0_0 inb_S1024x1408_S1024x256_0_1024 inb_S2x1024x1408_S1x1024x256_0_0_1024,
    List.forall_mem_cons.2 ⟨pair1_piece256 arg2 harg2 arg4 harg4 x0 x1 x2 768 inb_S1024x1024_S1024x1024_0_0 inb_S1024x1408_S1024x256_0_768 inb_S2x1024x1408_S1x1024x256_1_0_768,
    List.forall_mem_cons.2 ⟨pair0_piece256 arg2 harg2 arg3 harg3 x0 x1 x2 768 inb_S1024x1024_S1024x1024_0_0 inb_S1024x1408_S1024x256_0_768 inb_S2x1024x1408_S1x1024x256_0_0_768,
    List.forall_mem_cons.2 ⟨pair1_piece256 arg2 harg2 arg4 harg4 x0 x1 x2 512 inb_S1024x1024_S1024x1024_0_0 inb_S1024x1408_S1024x256_0_512 inb_S2x1024x1408_S1x1024x256_1_0_512,
    List.forall_mem_cons.2 ⟨pair0_piece256 arg2 harg2 arg3 harg3 x0 x1 x2 512 inb_S1024x1024_S1024x1024_0_0 inb_S1024x1408_S1024x256_0_512 inb_S2x1024x1408_S1x1024x256_0_0_512,
    List.forall_mem_cons.2 ⟨pair1_piece256 arg2 harg2 arg4 harg4 x0 x1 x2 256 inb_S1024x1024_S1024x1024_0_0 inb_S1024x1408_S1024x256_0_256 inb_S2x1024x1408_S1x1024x256_1_0_256,
    List.forall_mem_cons.2 ⟨pair0_piece256 arg2 harg2 arg3 harg3 x0 x1 x2 256 inb_S1024x1024_S1024x1024_0_0 inb_S1024x1408_S1024x256_0_256 inb_S2x1024x1408_S1x1024x256_0_0_256,
    List.forall_mem_cons.2 ⟨pair1_piece256 arg2 harg2 arg4 harg4 x0 x1 x2 0 inb_S1024x1024_S1024x1024_0_0 inb_S1024x1408_S1024x256_0_0 inb_S2x1024x1408_S1x1024x256_1_0_0,
    List.forall_mem_cons.2 ⟨pair0_piece256 arg2 harg2 arg3 harg3 x0 x1 x2 0 inb_S1024x1024_S1024x1024_0_0 inb_S1024x1408_S1024x256_0_0 inb_S2x1024x1408_S1x1024x256_0_0_0, List.forall_mem_nil _⟩⟩⟩⟩⟩⟩⟩⟩⟩⟩⟩⟩

/-- What the pieces put together are. -/
theorem act_out : out0_A_4 (F := Ideal) c i arg2 harg2 arg3 harg3 arg4 harg4 arg5 harg5 arg6 harg6 arg7 harg7 x0 x1 x2 = blkAct x0 x1 x2 := by
  funext y
  unfold out0_A_4
  refine View.read_writes_apply_of_pieces (Val := Elt Ideal) VO0_4 VO0_4.junk (blkAct x0 x1 x2) _ ?_ y (cover0_A_4 _ _ _ _ _ _ _ _ _ _ _ _ _ _ _ _ _ _)
  dsimp only [kernelRun0_A]
  sl_unfold_run_names
  exact List.forall_mem_cons.2 ⟨act_piece128 arg2 harg2 arg3 harg3 arg4 harg4 x0 x1 x2 1280 inb_S1024x1024_S1024x1024_0_0 inb_S1024x1408_S1024x128_0_1280 inb_S1024x1408_S1024x128_0_1280,
    List.forall_mem_cons.2 ⟨act_piece256 arg2 harg2 arg3 harg3 arg4 harg4 x0 x1 x2 1024 inb_S1024x1024_S1024x1024_0_0 inb_S1024x1408_S1024x256_0_1024 inb_S1024x1408_S1024x256_0_1024,
    List.forall_mem_cons.2 ⟨act_piece256 arg2 harg2 arg3 harg3 arg4 harg4 x0 x1 x2 768 inb_S1024x1024_S1024x1024_0_0 inb_S1024x1408_S1024x256_0_768 inb_S1024x1408_S1024x256_0_768,
    List.forall_mem_cons.2 ⟨act_piece256 arg2 harg2 arg3 harg3 arg4 harg4 x0 x1 x2 512 inb_S1024x1024_S1024x1024_0_0 inb_S1024x1408_S1024x256_0_512 inb_S1024x1408_S1024x256_0_512,
    List.forall_mem_cons.2 ⟨act_piece256 arg2 harg2 arg3 harg3 arg4 harg4 x0 x1 x2 256 inb_S1024x1024_S1024x1024_0_0 inb_S1024x1408_S1024x256_0_256 inb_S1024x1408_S1024x256_0_256,
    List.forall_mem_cons.2 ⟨act_piece256 arg2 harg2 arg3 harg3 arg4 harg4 x0 x1 x2 0 inb_S1024x1024_S1024x1024_0_0 inb_S1024x1408_S1024x256_0_0 inb_S1024x1408_S1024x256_0_0, List.forall_mem_nil _⟩⟩⟩⟩⟩⟩

/-- What the pieces put together are. -/
theorem actT_out : out0_A_5 (F := Ideal) c i arg2 harg2 arg3 harg3 arg4 harg4 arg5 harg5 arg6 harg6 arg7 harg7 x0 x1 x2 = blkActT x0 x1 x2 := by
  funext y
  unfold out0_A_5
  refine View.read_writes_apply_of_pieces (Val := Elt Ideal) VO0_5 VO0_5.junk (blkActT x0 x1 x2) _ ?_ y (cover0_A_5 _ _ _ _ _ _ _ _ _ _ _ _ _ _ _ _ _ _)
  dsimp only [kernelRun0_A]
  sl_unfold_run_names
  exact List.forall_mem_cons.2 ⟨actT_piece128 arg2 harg2 arg3 harg3 arg4 harg4 x0 x1 x2 1280 inb_S1024x1024_S1024x1024_0_0 inb_S1024x1408_S1024x128_0_1280 inb_S1408x1024_S128x1024_1280_0,
    List.forall_mem_cons.2 ⟨actT_piece256 arg2 harg2 arg3 harg3 arg4 harg4 x0 x1 x2 1024 inb_S1024x1024_S1024x1024_0_0 inb_S1024x1408_S1024x256_0_1024 inb_S1408x1024_S256x1024_1024_0,
    List.forall_mem_cons.2 ⟨actT_piece256 arg2 harg2 arg3 harg3 arg4 harg4 x0 x1 x2 768 inb_S1024x1024_S1024x1024_0_0 inb_S1024x1408_S1024x256_0_768 inb_S1408x1024_S256x1024_768_0,
    List.forall_mem_cons.2 ⟨actT_piece256 arg2 harg2 arg3 harg3 arg4 harg4 x0 x1 x2 512 inb_S1024x1024_S1024x1024_0_0 inb_S1024x1408_S1024x256_0_512 inb_S1408x1024_S256x1024_512_0,
    List.forall_mem_cons.2 ⟨actT_piece256 arg2 harg2 arg3 harg3 arg4 harg4 x0 x1 x2 256 inb_S1024x1024_S1024x1024_0_0 inb_S1024x1408_S1024x256_0_256 inb_S1408x1024_S256x1024_256_0,
    List.forall_mem_cons.2 ⟨actT_piece256 arg2 harg2 arg3 harg3 arg4 harg4 x0 x1 x2 0 inb_S1024x1024_S1024x1024_0_0 inb_S1024x1408_S1024x256_0_0 inb_S1408x1024_S256x1024_0_0, List.forall_mem_nil _⟩⟩⟩⟩⟩⟩
end

/-- The product of a row of the argument and a column of the matrix. -/
def place (A : S8192x1024.Idx → EReal) (W : S1024x5632.Idx → EReal) (r q : ℕ) : EReal := ∑ k : Fin 1024, A (ix2 (nat 8192 r) k) * W (ix2 k (nat 5632 q))

theorem covers3 : (cfg0.win (3 : Fin 6)).Covers := of_decide_eq_true (by sl_kernel_rfl)
theorem covers4 : (cfg0.win (4 : Fin 6)).Covers := of_decide_eq_true (by sl_kernel_rfl)
theorem covers5 : (cfg0.win (5 : Fin 6)).Covers := of_decide_eq_true (by sl_kernel_rfl)

def IndexFacts (t : Fin cfg0.N) : Prop :=
  (cfg0.win (0 : Fin 6)).index t = ![t.val / 2, 0] ∧ (cfg0.win (1 : Fin 6)).index t = ![0, t.val % 2]
    ∧ (cfg0.win (2 : Fin 6)).index t = ![0, t.val % 2 + 2] ∧ (cfg0.win (3 : Fin 6)).index t = ![0, t.val / 2, t.val % 2]
    ∧ (cfg0.win (4 : Fin 6)).index t = ![t.val / 2, t.val % 2] ∧ (cfg0.win (5 : Fin 6)).index t = ![t.val % 2, t.val / 2]

theorem index_facts : ∀ t : Fin cfg0.N, IndexFacts t := (by unfold IndexFacts; decide +kernel)

variable (m : (ℓ : Loc nD τ sig) → Buf (Elt Ideal) ℓ) (c : Dev nD)

theorem blk0 (t : Fin cfg0.N) (r k : Fin 1024) :
    (iblk m c 0 t : S1024x1024.Idx → EReal) (ix2 r k) = (V m c main_arg0 : S8192x1024.Idx → EReal) (ix2 (nat 8192 (1024 * (t.val / 2) + r.val)) k) := by
  obtain ⟨e, -⟩ := index_facts t
  have ht : t.val < 16 := t.isLt.trans_eq N_0
  refine congrArg (V m c main_arg0) (funext fun b => Fin.ext ?_)
  match b with
  | ⟨0, _⟩ =>
    show (cfg0.win (0 : Fin 6)).index t (0 : Fin 2) * 1024 + 1 * r.val = (1024 * (t.val / 2) + r.val) % 8192
    rw [e]
    show t.val / 2 * 1024 + 1 * r.val = _
    omega
  | ⟨1, _⟩ =>
    show (cfg0.win (0 : Fin 6)).index t (1 : Fin 2) * 1024 + 1 * k.val = k.val
    rw [e]
    show 0 * 1024 + 1 * k.val = _
    omega

theorem blk1 (t : Fin cfg0.N) (k : Fin 1024) (q : Fin 1408) :
    (iblk m c 1 t : S1024x1408.Idx → EReal) (ix2 k q) = (V m c main_arg1 : S1024x5632.Idx → EReal) (ix2 k (nat 5632 (1408 * (t.val % 2) + q.val))) := by
  obtain ⟨-, e, -⟩ := index_facts t
  have ht : t.val < 16 := t.isLt.trans_eq N_0
  refine congrArg (V m c main_arg1) (funext fun b => Fin.ext ?_)
  match b with
  | ⟨0, _⟩ =>
    show (cfg0.win (1 : Fin 6)).index t (0 : Fin 2) * 1024 + 1 * k.val = k.val
    rw [e]
    show 0 * 1024 + 1 * k.val = _
    omega
  | ⟨1, _⟩ =>
    show (cfg0.win (1 : Fin 6)).index t (1 : Fin 2) * 1408 + 1 * q.val = (1408 * (t.val % 2) + q.val) % 5632
    rw [e]
    show t.val % 2 * 1408 + 1 * q.val = _
    omega

theorem blk2 (t : Fin cfg0.N) (k : Fin 1024) (q : Fin 1408) :
    (iblk m c 2 t : S1024x1408.Idx → EReal) (ix2 k q) = (V m c main_arg1 : S1024x5632.Idx → EReal) (ix2 k (nat 5632 (2816 + (1408 * (t.val % 2) + q.val)))) := by
  obtain ⟨-, -, e, -⟩ := index_facts t
  have ht : t.val < 16 := t.isLt.trans_eq N_0
  refine congrArg (V m c main_arg1) (funext fun b => Fin.ext ?_)
  match b with
  | ⟨0, _⟩ =>
    show (cfg0.win (2 : Fin 6)).index t (0 : Fin 2) * 1024 + 1 * k.val = k.val
    rw [e]
    show 0 * 1024 + 1 * k.val = _
    omega
  | ⟨1, _⟩ =>
    show (cfg0.win (2 : Fin 6)).index t (1 : Fin 2) * 1408 + 1 * q.val = (2816 + (1408 * (t.val % 2) + q.val)) % 5632
    rw [e]
    show (t.val % 2 + 2) * 1408 + 1 * q.val = _
    omega

theorem prod_place_of (x0 : S1024x1024.Idx → EReal) (w : S1024x1408.Idx → EReal) (A : S8192x1024.Idx → EReal) (W : S1024x5632.Idx → EReal) (R Q : ℕ) (r : Fin 1024) (q : Fin 1408)
    (h0 : ∀ k : Fin 1024, x0 (ix2 r k) = A (ix2 (nat 8192 R) k)) (h1 : ∀ k : Fin 1024, w (ix2 k q) = W (ix2 k (nat 5632 Q))) : prod (n := 1408) x0 w r q = place A W R Q :=
  Finset.sum_congr rfl fun k _ => congr (congrArg HMul.hMul (h0 k)) (h1 k)

theorem gate_place (t : Fin cfg0.N) (r : Fin 1024) (q : Fin 1408) :
    prod (n := 1408) (iblk m c 0 t) (iblk m c 1 t) r q = place (V m c main_arg0) (V m c main_arg1) (1024 * (t.val / 2) + r.val) (1408 * (t.val % 2) + q.val) :=
  prod_place_of _ _ _ _ _ _ r q (blk0 m c t r) fun k => blk1 m c t k q

theorem up_place (t : Fin cfg0.N) (r : Fin 1024) (q : Fin 1408) :
    prod (n := 1408) (iblk m c 0 t) (iblk m c 2 t) r q = place (V m c main_arg0) (V m c main_arg1) (1024 * (t.val / 2) + r.val) (2816 + (1408 * (t.val % 2) + q.val)) :=
  prod_place_of _ _ _ _ _ _ r q (blk0 m c t r) fun k => blk2 m c t k q

/-- A place of the activation. -/
def actAt (A : S8192x1024.Idx → EReal) (W : S1024x5632.Idx → EReal) (r q : ℕ) : EReal := act (place A W r q) (place A W r (2816 + q))

theorem act_place (t : Fin cfg0.N) (r : Fin 1024) (q : Fin 1408) :
    act (prod (n := 1408) (iblk m c 0 t) (iblk m c 1 t) r q) (prod (n := 1408) (iblk m c 0 t) (iblk m c 2 t) r q) = actAt (V m c main_arg0) (V m c main_arg1) (1024 * (t.val / 2) + r.val) (1408 * (t.val % 2) + q.val) :=
  congr (congrArg act (gate_place m c t r q)) (up_place m c t r q)

/-- What the kernel leaves in its three results' arrays: the two halves of the product, -/
def pair : S2x8192x2816.Idx → EReal := fun y =>
  if (y 0).val = 0 then place (V m c main_arg0) (V m c main_arg1) (y 1).val (y 2).val else place (V m c main_arg0) (V m c main_arg1) (y 1).val (2816 + (y 2).val)

/-- the activation, -/
def activation : S8192x2816.Idx → EReal := fun y => actAt (V m c main_arg0) (V m c main_arg1) (y 0).val (y 1).val

/-- and its transpose. -/
def transposed : S2816x8192.Idx → EReal := fun y => actAt (V m c main_arg0) (V m c main_arg1) (y 1).val (y 0).val

theorem out3 (t : Fin cfg0.N) : (outsAt0 (F := Ideal) m c t).1 = blkPair (iblk m c 0 t) (iblk m c 1 t) (iblk m c 2 t) := by
  unfold outsAt0
  dsimp only
  exact pair_out _ _ _ _ _ _ _ _ _ _ _ _ _ _ _ _ _

set_option backward.isDefEq.respectTransparency.types false in
theorem arr_pair : (dats (F := Ideal) m 0 c).arrAt (3 : Fin 6) cfg0.N = pair m c := by
  refine (dats (F := Ideal) m 0 c).arrAt_eq_of_covers (3 : Fin 6) (pair m c) covers3 fun t hf z => ?_
  obtain ⟨-, -, -, e, -⟩ := index_facts t
  rw [after0_3, out3]
  have g0 : (((cfg0.win (3 : Fin 6)).blk t).view.emb z (0 : Fin 3)).val = (z (0 : Fin 3)).val := by
    show (cfg0.win (3 : Fin 6)).index t (0 : Fin 3) * 2 + 1 * (z (0 : Fin 3)).val = _
    rw [e]
    show 0 * 2 + 1 * (z (0 : Fin 3)).val = _
    omega
  have g1 : (((cfg0.win (3 : Fin 6)).blk t).view.emb z (1 : Fin 3)).val = 1024 * (t.val / 2) + (z (1 : Fin 3)).val := by
    show (cfg0.win (3 : Fin 6)).index t (1 : Fin 3) * 1024 + 1 * (z (1 : Fin 3)).val = _
    rw [e]
    show t.val / 2 * 1024 + 1 * (z (1 : Fin 3)).val = _
    omega
  have g2 : (((cfg0.win (3 : Fin 6)).blk t).view.emb z (2 : Fin 3)).val = 1408 * (t.val % 2) + (z (2 : Fin 3)).val := by
    show (cfg0.win (3 : Fin 6)).index t (2 : Fin 3) * 1408 + 1 * (z (2 : Fin 3)).val = _
    rw [e]
    show t.val % 2 * 1408 + 1 * (z (2 : Fin 3)).val = _
    omega
  show blkPair (iblk m c 0 t) (iblk m c 1 t) (iblk m c 2 t) z = pair m c (((cfg0.win (3 : Fin 6)).blk t).view.emb z)
  unfold blkPair pair
  rw [g0, g1, g2]
  exact if_congr Iff.rfl (gate_place m c t (z (1 : Fin 3)) (z (2 : Fin 3))) (up_place m c t (z (1 : Fin 3)) (z (2 : Fin 3)))

theorem out4 (t : Fin cfg0.N) : (outsAt0 (F := Ideal) m c t).2.1 = blkAct (iblk m c 0 t) (iblk m c 1 t) (iblk m c 2 t) := by
  unfold outsAt0
  dsimp only
  exact act_out _ _ _ _ _ _ _ _ _ _ _ _ _ _ _ _ _

set_option backward.isDefEq.respectTransparency.types false in
theorem arr_act : (dats (F := Ideal) m 0 c).arrAt (4 : Fin 6) cfg0.N = activation m c := by
  refine (dats (F := Ideal) m 0 c).arrAt_eq_of_covers (4 : Fin 6) (activation m c) covers4 fun t hf z => ?_
  obtain ⟨-, -, -, -, e, -⟩ := index_facts t
  rw [after0_4, out4]
  have g0 : (((cfg0.win (4 : Fin 6)).blk t).view.emb z (0 : Fin 2)).val = 1024 * (t.val / 2) + (z (0 : Fin 2)).val := by
    show (cfg0.win (4 : Fin 6)).index t (0 : Fin 2) * 1024 + 1 * (z (0 : Fin 2)).val = _
    rw [e]
    show t.val / 2 * 1024 + 1 * (z (0 : Fin 2)).val = _
    omega
  have g1 : (((cfg0.win (4 : Fin 6)).blk t).view.emb z (1 : Fin 2)).val = 1408 * (t.val % 2) + (z (1 : Fin 2)).val := by
    show (cfg0.win (4 : Fin 6)).index t (1 : Fin 2) * 1408 + 1 * (z (1 : Fin 2)).val = _
    rw [e]
    show t.val % 2 * 1408 + 1 * (z (1 : Fin 2)).val = _
    omega
  show blkAct (iblk m c 0 t) (iblk m c 1 t) (iblk m c 2 t) z = activation m c (((cfg0.win (4 : Fin 6)).blk t).view.emb z)
  unfold blkAct activation
  rw [g0, g1]
  exact act_place m c t (z (0 : Fin 2)) (z (1 : Fin 2))

theorem out5 (t : Fin cfg0.N) : (outsAt0 (F := Ideal) m c t).2.2 = blkActT (iblk m c 0 t) (iblk m c 1 t) (iblk m c 2 t) := by
  unfold outsAt0
  dsimp only
  exact actT_out _ _ _ _ _ _ _ _ _ _ _ _ _ _ _ _ _

set_option backward.isDefEq.respectTransparency.types false in
theorem arr_transposed : (dats (F := Ideal) m 0 c).arrAt (5 : Fin 6) cfg0.N = transposed m c := by
  refine (dats (F := Ideal) m 0 c).arrAt_eq_of_covers (5 : Fin 6) (transposed m c) covers5 fun t hf z => ?_
  obtain ⟨-, -, -, -, -, e⟩ := index_facts t
  rw [after0_5, out5]
  have g0 : (((cfg0.win (5 : Fin 6)).blk t).view.emb z (0 : Fin 2)).val = 1408 * (t.val % 2) + (z (0 : Fin 2)).val := by
    show (cfg0.win (5 : Fin 6)).index t (0 : Fin 2) * 1408 + 1 * (z (0 : Fin 2)).val = _
    rw [e]
    show t.val % 2 * 1408 + 1 * (z (0 : Fin 2)).val = _
    omega
  have g1 : (((cfg0.win (5 : Fin 6)).blk t).view.emb z (1 : Fin 2)).val = 1024 * (t.val / 2) + (z (1 : Fin 2)).val := by
    show (cfg0.win (5 : Fin 6)).index t (1 : Fin 2) * 1024 + 1 * (z (1 : Fin 2)).val = _
    rw [e]
    show t.val / 2 * 1024 + 1 * (z (1 : Fin 2)).val = _
    omega
  show blkActT (iblk m c 0 t) (iblk m c 1 t) (iblk m c 2 t) z = transposed m c (((cfg0.win (5 : Fin 6)).blk t).view.emb z)
  unfold blkActT transposed
  rw [g0, g1]
  exact act_place m c t (z (1 : Fin 2)) (z (0 : Fin 2))

end Cert.Kernel7Ideal.Act

end
-- ==== Proof.Ffn.ActValue.lean ====
/- The feed-forward block's first product and its gate: the kernel's results are the reference's. -/
module

public import proofs.«01_k».proof.Proof.Ffn.Act
public import proofs.«01_k».proof.Proof.Gen.Reference7Ideal.Read
public import Idealize.ShloMosaic.Lib.StableHlo.Run
public import Idealize.ShloMosaic.Lib.StableHlo.ReadAt

@[expose] public section

set_option maxRecDepth 16384
set_option Elab.async false

noncomputable section

namespace Cert.Kernel7Ideal.Act

open Cert.Kernel7Ideal Cert.Kernel7Ideal.Gen
open Idealize.ShloMosaic
open Idealize.ShloMosaic.TcCoe Idealize.ShloMosaic.Tactic
open Idealize.SL.Sem
open Cert.Tiles (nat)

variable (m : (ℓ : Loc nD τ sig) → Buf (Elt Ideal) ℓ) (c : Dev nD)

/-- The first of two stacked arrays, -/
theorem stack_first (a b : Cert.Reference7Ideal.S1x8192x2816.Idx → EReal) (h) (p : Fin 2) (k : Fin 8192) (q : Fin 2816) (hp : p.val = 0) :
    concatenate (α := EReal) Cert.Reference7Ideal.S2x8192x2816 0 [⟨Cert.Reference7Ideal.S1x8192x2816, a⟩, ⟨Cert.Reference7Ideal.S1x8192x2816, b⟩] h (ix3 p k q) = a (ix3 0 k q) := by
  refine concatenate_pair_apply_left (t := Cert.Reference7Ideal.S2x8192x2816) (s₁ := Cert.Reference7Ideal.S1x8192x2816) (s₂ := Cert.Reference7Ideal.S1x8192x2816) 0 _ _ _ (ix3 p k q) rfl (ix3 0 k q) fun d => ?_
  match d with
  | ⟨0, _⟩ => exact hp.symm
  | ⟨1, _⟩ => rfl
  | ⟨2, _⟩ => rfl

/-- and the other. -/
theorem stack_other (a b : Cert.Reference7Ideal.S1x8192x2816.Idx → EReal) (h) (p : Fin 2) (k : Fin 8192) (q : Fin 2816) (hp : ¬p.val = 0) :
    concatenate (α := EReal) Cert.Reference7Ideal.S2x8192x2816 0 [⟨Cert.Reference7Ideal.S1x8192x2816, a⟩, ⟨Cert.Reference7Ideal.S1x8192x2816, b⟩] h (ix3 p k q) = b (ix3 0 k q) := by
  have h2 := p.isLt
  refine concatenate_pair_apply_right (t := Cert.Reference7Ideal.S2x8192x2816) (s₁ := Cert.Reference7Ideal.S1x8192x2816) (s₂ := Cert.Reference7Ideal.S1x8192x2816) 0 _ _ _ (ix3 p k q) rfl rfl (ix3 0 k q) (fun d hd => ?_) ?_
  · match d, hd with
    | ⟨0, _⟩, hd => exact absurd rfl hd
    | ⟨1, _⟩, _ => rfl
    | ⟨2, _⟩, _ => rfl
  · show 0 + 1 = p.val; omega

section
open Cert.Reference7Ideal.Read

variable (x0 : S8192x1024.Idx → EReal) (x1 : S1024x5632.Idx → EReal)

/-- The reference's product. -/
theorem dot_eq (k : Fin 8192) (q : Fin 5632) : val_main_v2 (F := Ideal) x0 x1 (ix2 k q) = place x0 x1 k.val q.val := by
  rw [val_main_v2_apply]
  unfold place
  rw [Tiles.nat_val, Tiles.nat_val]
  refine Finset.sum_congr rfl fun d _ => congr (congrArg HMul.hMul (congrArg x0 (funext fun b => ?_))) (congrArg x1 (funext fun b => ?_))
  all_goals match b with
    | ⟨0, _⟩ => rfl
    | ⟨1, _⟩ => rfl

theorem gate_eq (k : Fin 8192) (q : Fin 2816) : val_main_v9 (F := Ideal) x0 x1 (ix2 k q) = place x0 x1 k.val q.val := by
  have hk := k.isLt
  have hq := q.isLt
  rw [val_main_v9_apply, val_main_v8_apply]
  refine (congrArg (val_main_v7 (F := Ideal) x0 x1) (funext fun b => Fin.ext ?_ : _ = ix3 (0 : Fin 2) k q)).trans ((?_ : val_main_v7 (F := Ideal) x0 x1 (ix3 (0 : Fin 2) k q) = val_main_v5 (F := Ideal) x0 x1 (ix3 0 k q)).trans ?_)
  · match b with
    | ⟨0, _⟩ => rfl
    | ⟨1, _⟩ => show (k.val * 2816 + q.val) / 2816 % 8192 = k.val; omega
    | ⟨2, _⟩ => show (k.val * 2816 + q.val) % 2816 = q.val; omega
  · unfold val_main_v7
    exact stack_first _ _ _ _ k q (by decide)
  · rw [val_main_v5_apply, val_main_v3_apply]
    refine Eq.trans (congrArg (val_main_v2 (F := Ideal) x0 x1) (funext fun b => ?_)) (dot_eq x0 x1 k ⟨q.val, by omega⟩)
    match b with
    | ⟨0, _⟩ => rfl
    | ⟨1, _⟩ => rfl

theorem up_eq (k : Fin 8192) (q : Fin 2816) : val_main_v11 (F := Ideal) x0 x1 (ix2 k q) = place x0 x1 k.val (2816 + q.val) := by
  have hk := k.isLt
  have hq := q.isLt
  rw [val_main_v11_apply, val_main_v10_apply]
  refine (congrArg (val_main_v7 (F := Ideal) x0 x1) (funext fun b => Fin.ext ?_ : _ = ix3 (1 : Fin 2) k q)).trans ((?_ : val_main_v7 (F := Ideal) x0 x1 (ix3 (1 : Fin 2) k q) = val_main_v6 (F := Ideal) x0 x1 (ix3 0 k q)).trans ?_)
  · match b with
    | ⟨0, _⟩ => rfl
    | ⟨1, _⟩ => show (k.val * 2816 + q.val) / 2816 % 8192 = k.val; omega
    | ⟨2, _⟩ => show (k.val * 2816 + q.val) % 2816 = q.val; omega
  · unfold val_main_v7
    exact stack_other _ _ _ _ k q (by decide)
  · rw [val_main_v6_apply, val_main_v4_apply]
    refine Eq.trans (congrArg (val_main_v2 (F := Ideal) x0 x1) (funext fun b => ?_)) (dot_eq x0 x1 k ⟨(2816 + q.val), by omega⟩)
    match b with
    | ⟨0, _⟩ => rfl
    | ⟨1, _⟩ => rfl

theorem logistic_eq (k : Fin 8192) (q : Fin 2816) : val_main_call0_v5 (F := Ideal) x0 x1 (ix2 k q) = Ideal.logistic (place x0 x1 k.val q.val) := by
  rw [val_main_call0_v5_apply, val_main_call0_v4_apply, val_main_call0_cst_0_apply, val_main_call0_v3_apply, val_main_call0_v2_apply, val_main_call0_cst_apply,
    val_main_call0_v1_apply, val_main_call0_v0_apply, gate_eq]
  show Ideal.div (Ideal.ofBits .f32 0x3F800000#32) (Ideal.ofBits .f32 0x3F800000#32 + Ideal.exp (-place x0 x1 k.val q.val)) = _
  rw [Sigmoid.one]
  rfl

theorem act_eq (k : Fin 8192) (q : Fin 2816) : val_main_v13 (F := Ideal) x0 x1 (ix2 k q) = actAt x0 x1 k.val q.val := by
  rw [val_main_v13_apply, val_main_v12_apply, logistic_eq, gate_eq, up_eq]
  rfl

variable (e0 : m ((c : Thread nD τ).loc main_arg0) = x0) (e1 : m ((c : Thread nD τ).loc main_arg1) = x1)
include e0 e1

/-- The first results agree, -/
theorem pair_eq : val_main_v17 (F := Ideal) x0 x1 = pair m c := by
  funext y
  obtain ⟨p, k, q, rfl⟩ : ∃ (p : Fin 2) (k : Fin 8192) (q : Fin 2816), y = ix3 p k q := ⟨y 0, y 1, y 2, by funext a; fin_cases a <;> rfl⟩
  rw [val_main_v17_apply]
  unfold pair val_main_v16
  rw [V_main_arg0, V_main_arg1, e0, e1]
  show concatenate (α := EReal) _ _ _ _ _ = if p.val = 0 then place x0 x1 k.val q.val else place x0 x1 k.val (2816 + q.val)
  by_cases h : p.val = 0
  · rw [if_pos h, ← gate_eq x0 x1 k q]
    refine (stack_first _ _ _ p k q h).trans ?_
    rw [val_main_v14_apply]
    refine congrArg (val_main_v9 (F := Ideal) x0 x1) (funext fun b => ?_)
    match b with
    | ⟨0, _⟩ => rfl
    | ⟨1, _⟩ => rfl
  · rw [if_neg h, ← up_eq x0 x1 k q]
    refine (stack_other _ _ _ p k q h).trans ?_
    rw [val_main_v15_apply]
    refine congrArg (val_main_v11 (F := Ideal) x0 x1) (funext fun b => ?_)
    match b with
    | ⟨0, _⟩ => rfl
    | ⟨1, _⟩ => rfl

/-- the second, -/
theorem activation_eq : val_main_v18 (F := Ideal) x0 x1 = activation m c := by
  funext y
  obtain ⟨k, q, rfl⟩ : ∃ (k : Fin 8192) (q : Fin 2816), y = ix2 k q := ⟨y 0, y 1, by funext a; fin_cases a <;> rfl⟩
  rw [val_main_v18_apply]
  unfold activation
  rw [V_main_arg0, V_main_arg1, e0, e1]
  exact act_eq x0 x1 k q

/-- and the third. -/
theorem transposed_eq : val_main_v20 (F := Ideal) x0 x1 = transposed m c := by
  funext y
  obtain ⟨q, k, rfl⟩ : ∃ (q : Fin 2816) (k : Fin 8192), y = ix2 q k := ⟨y 0, y 1, by funext a; fin_cases a <;> rfl⟩
  rw [val_main_v20_apply, val_main_v19_apply]
  unfold transposed
  rw [V_main_arg0, V_main_arg1, e0, e1]
  refine Eq.trans (congrArg (val_main_v13 (F := Ideal) x0 x1) (funext fun b => ?_)) (act_eq x0 x1 k q)
  match b with
  | ⟨0, _⟩ => rfl
  | ⟨1, _⟩ => rfl
end

end Cert.Kernel7Ideal.Act

end
-- ==== Proof.Proj.Product.lean ====
/- A product of two arrays, place by place, and its sum over a tile. -/
module

public import proofs.«01_k».proof.Proof.Ffn.Tiles

@[expose] public section

noncomputable section

namespace Cert.Tiles

open Idealize.ShloMosaic

variable {M K N : ℕ} [NeZero M] [NeZero K] [NeZero N]

/-- What one index of the sum adds to a place of the product. -/
def mul (A : Fin M → Fin K → EReal) (B : Fin K → Fin N → EReal) (r q k : ℕ) : EReal :=
  A (nat M r) (nat K k) * B (nat K k) (nat N q)

/-- A place of the product. -/
def dot (A : Fin M → Fin K → EReal) (B : Fin K → Fin N → EReal) (r q : ℕ) : EReal := ∑ k ∈ Finset.range K, mul A B r q k

theorem dot_eq (A : Fin M → Fin K → EReal) (B : Fin K → Fin N → EReal) (r : Fin M) (q : Fin N) :
    dot A B r.val q.val = ∑ k : Fin K, A r k * B k q := by
  unfold dot mul
  rw [Finset.sum_range]
  exact Finset.sum_congr rfl fun k _ => by rw [nat_val, nat_val, nat_val]

/-- The sum over a tile of the summed axis, from the places of the tile's two blocks. -/
theorem sum_mul {b : ℕ} (A : Fin M → Fin K → EReal) (B : Fin K → Fin N → EReal) (a d : Fin b → EReal) (r q j : ℕ)
    (ha : ∀ k : Fin b, a k = A (nat M r) (nat K (j + k.val))) (hd : ∀ k : Fin b, d k = B (nat K (j + k.val)) (nat N q)) :
    ∑ k : Fin b, a k * d k = ∑ k ∈ Finset.range b, mul A B r q (j + k) := by
  rw [Finset.sum_range]
  exact Finset.sum_congr rfl fun k _ => by rw [ha, hd, mul]

/-- The same where one tile holds the whole summed axis. -/
theorem dot_of_whole (A : Fin M → Fin K → EReal) (B : Fin K → Fin N → EReal) (a d : Fin K → EReal) (r q : ℕ)
    (ha : ∀ k : Fin K, a k = A (nat M r) k) (hd : ∀ k : Fin K, d k = B k (nat N q)) :
    ∑ k : Fin K, a k * d k = dot A B r q := by
  unfold dot mul
  rw [Finset.sum_range]
  exact Finset.sum_congr rfl fun k _ => by rw [ha, hd, nat_val]

end Cert.Tiles

end
-- ==== Proof.Ffn.Down.lean ====
/- The feed-forward block's last product: what the kernel leaves in its result's array over the extended reals, and that it is the reference's result. -/
module

public import proofs.«01_k».proof.Proof.Gen.Kernel8Ideal.Frame
public import proofs.«01_k».proof.Proof.Gen.Reference8Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel8Ideal.Down

open Cert.Kernel8Ideal Cert.Kernel8Ideal.Gen
open Idealize.ShloMosaic
open Idealize.ShloMosaic.TcCoe Idealize.ShloMosaic.Tactic
open Idealize.SL.Sem
open Cert.Tiles (nat)

/-- The product of two blocks. -/
theorem pay1_apply (x0 : S1024x2816.Idx → EReal) (x1 : S2816x1024.Idx → EReal) (r : Fin 1024) (q : Fin 1024) :
    (k0_pay1 (F := Ideal) x0 x1) (ix2 r q) = ∑ k : Fin 2816, x0 (ix2 r k) * x1 (ix2 k q) := by
  simp only [k0_pay1]
  pointwise

theorem zero2 : (![0, 0] : Fin 2 → ℕ) = fun _ => 0 := funext fun a => by fin_cases a <;> rfl

/-- A point writes its block whole. -/
theorem out_eq (x0 : S1024x2816.Idx → EReal) (x1 : S2816x1024.Idx → EReal) : out0_2 (F := Ideal) x0 x1 = k0_pay1 (F := Ideal) x0 x1 := by
  unfold out0_2
  refine (View.canon_cons_unit_zero (Val := Elt Ideal) zero2 _ _ []).trans ?_
  rw [View.ld_unit_zero (Val := Elt Ideal) zero2, View.ld_unit_zero (Val := Elt Ideal) zero2]

theorem covers : (cfg0.win (2 : Fin 3)).Covers := of_decide_eq_true (by sl_kernel_rfl)

def IndexFacts (t : Fin cfg0.N) : Prop :=
  (cfg0.win (0 : Fin 3)).index t = ![t.val, 0] ∧ (cfg0.win (1 : Fin 3)).index t = ![0, 0] ∧ (cfg0.win (2 : Fin 3)).index t = ![t.val, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 8192) (k : Fin 2816) : EReal := (V m c main_arg0 : S8192x2816.Idx → EReal) (ix2 r k)
def right (k : Fin 2816) (q : Fin 1024) : EReal := (V m c main_arg1 : S2816x1024.Idx → EReal) (ix2 k q)

theorem blk0 (t : Fin cfg0.N) (r : Fin 1024) (k : Fin 2816) :
    (iblk m c 0 t : S1024x2816.Idx → EReal) (ix2 r k) = left m c (nat 8192 (1024 * t.val + r.val)) k := by
  obtain ⟨e, -⟩ := index_facts t
  have ht : t.val < 8 := t.isLt.trans_eq N_0
  refine congrArg (V m c main_arg0) (funext fun b => Fin.ext ?_)
  match b with
  | ⟨0, _⟩ =>
    show (cfg0.win (0 : Fin 3)).index t (0 : Fin 2) * 1024 + 1 * r.val = (1024 * t.val + r.val) % 8192
    rw [e]
    show t.val * 1024 + 1 * r.val = _
    omega
  | ⟨1, _⟩ =>
    show (cfg0.win (0 : Fin 3)).index t (1 : Fin 2) * 2816 + 1 * k.val = k.val
    rw [e]
    show 0 * 2816 + 1 * k.val = _
    omega

theorem blk1 (t : Fin cfg0.N) (k : Fin 2816) (q : Fin 1024) :
    (iblk m c 1 t : S2816x1024.Idx → EReal) (ix2 k q) = right m c k (nat 1024 q.val) := by
  obtain ⟨-, e, -⟩ := index_facts t
  rw [Tiles.nat_val]
  refine congrArg (V m c main_arg1) (funext fun b => Fin.ext ?_)
  match b with
  | ⟨0, _⟩ =>
    show (cfg0.win (1 : Fin 3)).index t (0 : Fin 2) * 2816 + 1 * k.val = k.val
    rw [e]
    show 0 * 2816 + 1 * k.val = _
    omega
  | ⟨1, _⟩ =>
    show (cfg0.win (1 : Fin 3)).index t (1 : Fin 2) * 1024 + 1 * q.val = q.val
    rw [e]
    show 0 * 1024 + 1 * q.val = _
    omega

/-- What the kernel leaves in its result's array. -/
def result : S8192x1024.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  rw [after0_2, out_eq]
  have g0 : (((cfg0.win (2 : Fin 3)).blk t).view.emb z (0 : Fin 2)).val = 1024 * t.val + (z (0 : Fin 2)).val := by
    show (cfg0.win (2 : Fin 3)).index t (0 : Fin 2) * 1024 + 1 * (z (0 : Fin 2)).val = _
    rw [e]
    show t.val * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  have ez : (z : S1024x1024.Idx) = ix2 (z (0 : Fin 2)) (z (1 : Fin 2)) := by
    funext a
    match a with
    | ⟨0, _⟩ => rfl
    | ⟨1, _⟩ => rfl
  refine Eq.trans (congrArg (k0_pay1 (F := Ideal) (iblk m c 0 t) (iblk m c 1 t)) ez) ((pay1_apply _ _ _ _).trans ?_)
  refine (Tiles.dot_of_whole (left m c) (right m c) _ _ _ _ (fun k => blk0 m c t _ k) (fun k => blk1 m c t k _)).trans ?_
  show _ = result m c (((cfg0.win (2 : Fin 3)).blk t).view.emb z)
  unfold result
  rw [g0, g1]

open Cert.Reference8Ideal.Read in
/-- The two results agree. -/
theorem result_eq (x0 : S8192x2816.Idx → EReal) (x1 : S2816x1024.Idx → EReal)
    (e0 : m ((c : Thread nD τ).loc main_arg0) = x0) (e1 : m ((c : Thread nD τ).loc main_arg1) = x1) :
    val_main_v3 (F := Ideal) x0 x1 = result m c := by
  funext y
  obtain ⟨r, q, rfl⟩ : ∃ (r : Fin 8192) (q : Fin 1024), y = ix2 r q := ⟨y 0, y 1, by funext a; fin_cases a <;> rfl⟩
  rw [val_main_v3_apply, val_main_v2_apply]
  refine Eq.trans (Finset.sum_congr rfl fun k _ => ?_) (Tiles.dot_eq (left m c) (right m c) r q).symm
  unfold left right
  rw [V_main_arg0, V_main_arg1, e0, e1]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel8Ideal.Down

end
-- ==== Proof.Ffn.DwIn.lean ====
/- The gradient of the input projection's weights: what the kernel leaves in its result's array over the extended reals. -/
module

public import proofs.«01_k».proof.Proof.Gen.Kernel9Ideal.Frame
public import proofs.«01_k».proof.Proof.Ffn.Tiles
public import Idealize.ShloMosaic.Lib.Pointwise
public import Idealize.ShloMosaic.Lib.VecWindow
public import Idealize.ShloMosaic.Lib.Pipeline.Value
public import Idealize.ShloMosaic.Lib.Pipeline.ValueKit.Geometry

@[expose] public section

set_option maxRecDepth 16384
set_option Elab.async false

noncomputable section

namespace Cert.Kernel9Ideal.DwIn

open Cert.Kernel9Ideal Cert.Kernel9Ideal.Gen
open Idealize.ShloMosaic
open Idealize.ShloMosaic.TcCoe Idealize.ShloMosaic.Tactic
open Idealize.SL.Sem
open Cert.Tiles (nat)

/-- What a point's two blocks add to the accumulator. -/
theorem pay1_apply (x0 : S1024x2048.Idx → EReal) (x1 : S2048x1792.Idx → EReal) (r : Fin 1024) (q : Fin 1792) :
    (k0_pay1 (F := Ideal) x0 x1) (ix2 r q) = ∑ k : Fin 2048, x0 (ix2 r k) * x1 (ix2 k q) := by
  simp only [k0_pay1, shapeCast_self]
  pointwise

theorem pay4_eq (x : S1024x1792.Idx → EReal) : k0_pay4 (F := Ideal) x = x := by
  funext y
  simp only [k0_pay4]
  pointwise

section
variable (c : Dev nD) (i : grid0.Coords) (arg3 : Memref sig .tc .vmem S1024x2048 .bf16) (harg3 : arg3.IsWhole) (arg4 : Memref sig .tc .vmem S2048x1792 .bf16) (harg4 : arg4.IsWhole)
  (arg5 : Memref sig .tc .vmem S1024x1792 .bf16) (harg5 : arg5.IsWhole) (arg6 : Memref sig .tc .vmem S1024x1792 .f32) (harg6 : arg6.IsWhole)
  (x0 : S1024x2048.Idx → EReal) (x1 : S2048x1792.Idx → EReal) (xa : S1024x1792.Idx → EReal)

theorem first (h0 h1 h2) :
    sout0_A_0 (F := Ideal) c i arg3 harg3 arg4 harg4 arg5 harg5 arg6 harg6 h0 h1 h2 x0 x1 = k0_pay1 (F := Ideal) x0 x1 := by
  unfold sout0_A_0
  dsimp only [kernelRun0_A]
  sl_unfold_run_names
  refine (View.read_writes_full (Val := Elt Ideal) VS0_0 VS0_0.junk inb_S1024x1792_S1024x1792_0_0 _ []).trans ?_
  rw [View.readAt_full (Val := Elt Ideal) arg3.view _ inb_S1024x2048_S1024x2048_0_0, View.readAt_full (Val := Elt Ideal) arg4.view _ inb_S2048x1792_S2048x1792_0_0,
    harg3.read_unread, harg4.read_unread]
  simp only [k0_pay2, shapeCast_self]

theorem next (h0 h1 h2) :
    sout0_B_0 (F := Ideal) c i arg3 harg3 arg4 harg4 arg5 harg5 arg6 harg6 h0 h1 h2 x0 x1 xa = fun y => xa y + k0_pay1 (F := Ideal) x0 x1 y := by
  unfold sout0_B_0
  dsimp only [kernelRun0_B]
  sl_unfold_run_names
  refine (View.read_writes_full (Val := Elt Ideal) VS0_0 VS0_0.junk inb_S1024x1792_S1024x1792_0_0 _ []).trans ?_
  rw [View.readAt_full (Val := Elt Ideal) arg3.view _ inb_S1024x2048_S1024x2048_0_0, View.readAt_full (Val := Elt Ideal) arg4.view _ inb_S2048x1792_S2048x1792_0_0,
    View.readAt_full (Val := Elt Ideal) arg6.view _ inb_S1024x1792_S1024x1792_0_0, harg3.read_unread, harg4.read_unread, harg6.read_unread]
  simp only [k0_pay3, shapeCast_self]
  rfl

theorem last (h0 h1 h2) :
    out0_C_2 (F := Ideal) c i arg3 harg3 arg4 harg4 arg5 harg5 arg6 harg6 h0 h1 h2 x0 x1 xa = fun y => xa y + k0_pay1 (F := Ideal) x0 x1 y := by
  unfold out0_C_2
  dsimp only [kernelRun0_C]
  sl_unfold_run_names
  refine (View.read_writes_full (Val := Elt Ideal) VO0_2 VO0_2.junk inb_S1024x1792_S1024x1792_0_0 _ []).trans ?_
  refine (pay4_eq _).trans ?_
  refine (View.readAt_full (Val := Elt Ideal) arg6.view _ inb_S1024x1792_S1024x1792_0_0).trans ?_
  refine (View.read_writes_full (Val := Elt Ideal) arg6.view arg6.view.junk inb_S1024x1792_S1024x1792_0_0 _ []).trans ?_
  rw [View.readAt_full (Val := Elt Ideal) arg3.view _ inb_S1024x2048_S1024x2048_0_0, View.readAt_full (Val := Elt Ideal) arg4.view _ inb_S2048x1792_S2048x1792_0_0,
    View.readAt_full (Val := Elt Ideal) arg6.view _ inb_S1024x1792_S1024x1792_0_0, harg3.read_unread, harg4.read_unread, harg6.read_unread]
  simp only [k0_pay3, shapeCast_self]
  rfl
end

/-- What one index of the sum adds to a place of the result. -/
def term (A : S1024x8192.Idx → EReal) (B : S8192x5376.Idx → EReal) (r q k : ℕ) : EReal :=
  A (ix2 (nat 1024 r) (nat 8192 k)) * B (ix2 (nat 8192 k) (nat 5376 q))

theorem covers : (cfg0.win (2 : Fin 3)).Covers := of_decide_eq_true (by sl_kernel_rfl)

def IndexFacts (t : Fin cfg0.N) : Prop :=
  (cfg0.win (0 : Fin 3)).index t = ![0, t.val % 4] ∧ (cfg0.win (1 : Fin 3)).index t = ![t.val % 4, t.val / 4]
    ∧ (cfg0.win (2 : Fin 3)).index t = ![0, t.val / 4]

theorem index_facts : ∀ t : Fin cfg0.N, IndexFacts t := (by unfold IndexFacts; decide +kernel)

variable (m : (ℓ : Loc nD τ sig) → Buf (Elt Ideal) ℓ) (c : Dev nD)

theorem blk0 (t : Fin cfg0.N) (r : Fin 1024) (k : Fin 2048) :
    (iblk m c 0 t : S1024x2048.Idx → EReal) (ix2 r k) = (V m c main_v0 : S1024x8192.Idx → EReal) (ix2 (nat 1024 (r.val)) (nat 8192 (2048 * (t.val % 4) + k.val))) := by
  obtain ⟨e, -⟩ := index_facts t
  have ht : t.val < 12 := t.isLt.trans_eq N_0
  refine congrArg (V m c main_v0) (funext fun b => Fin.ext ?_)
  match b with
  | ⟨0, _⟩ =>
    show (cfg0.win (0 : Fin 3)).index t (0 : Fin 2) * 1024 + 1 * r.val = (r.val) % 1024
    rw [e]
    show 0 * 1024 + 1 * r.val = _
    omega
  | ⟨1, _⟩ =>
    show (cfg0.win (0 : Fin 3)).index t (1 : Fin 2) * 2048 + 1 * k.val = (2048 * (t.val % 4) + k.val) % 8192
    rw [e]
    show t.val % 4 * 2048 + 1 * k.val = _
    omega

theorem blk1 (t : Fin cfg0.N) (k : Fin 2048) (q : Fin 1792) :
    (iblk m c 1 t : S2048x1792.Idx → EReal) (ix2 k q) = (V m c main_arg1 : S8192x5376.Idx → EReal) (ix2 (nat 8192 (2048 * (t.val % 4) + k.val)) (nat 5376 (1792 * (t.val / 4) + q.val))) := by
  obtain ⟨-, e, -⟩ := index_facts t
  have ht : t.val < 12 := t.isLt.trans_eq N_0
  refine congrArg (V m c main_arg1) (funext fun b => Fin.ext ?_)
  match b with
  | ⟨0, _⟩ =>
    show (cfg0.win (1 : Fin 3)).index t (0 : Fin 2) * 2048 + 1 * k.val = (2048 * (t.val % 4) + k.val) % 8192
    rw [e]
    show t.val % 4 * 2048 + 1 * k.val = _
    omega
  | ⟨1, _⟩ =>
    show (cfg0.win (1 : Fin 3)).index t (1 : Fin 2) * 1792 + 1 * q.val = (1792 * (t.val / 4) + q.val) % 5376
    rw [e]
    show t.val / 4 * 1792 + 1 * q.val = _
    omega

theorem blk_add (t : Fin cfg0.N) (r : Fin 1024) (q : Fin 1792) :
    k0_pay1 (F := Ideal) (iblk m c 0 t) (iblk m c 1 t) (ix2 r q)
      = ∑ k ∈ Finset.range 2048, term (V m c main_v0) (V m c main_arg1) (r.val) (1792 * (t.val / 4) + q.val) (2048 * (t.val % 4) + k) := by
  rw [pay1_apply, Finset.sum_range]
  exact Finset.sum_congr rfl fun k _ => congr (congrArg HMul.hMul (blk0 m c t r k)) (blk1 m c t k q)

/-- The terms summed up to a point, at a place of its block. -/
def upTo (t : ℕ) : S1024x1792.Idx → EReal := fun y =>
  Tiles.part 2048 (t % 4) (term (V m c main_v0) (V m c main_arg1) ((y 0).val) (1792 * (t / 4) + (y 1).val))

theorem upTo_first (t : Fin cfg0.N) (h : t.val % 4 = 0) : k0_pay1 (F := Ideal) (iblk m c 0 t) (iblk m c 1 t) = upTo m c t.val := by
  funext y
  obtain ⟨r, q, rfl⟩ : ∃ (r : Fin 1024) (q : Fin 1792), y = ix2 r q := ⟨y 0, y 1, by funext a; fin_cases a <;> rfl⟩
  exact (blk_add m c t r q).trans (Tiles.part_first 2048 (t.val % 4) _ h)

theorem upTo_next (t : Fin cfg0.N) (h : ¬t.val % 4 = 0) :
    (fun y => upTo m c (t.val - 1) y + k0_pay1 (F := Ideal) (iblk m c 0 t) (iblk m c 1 t) y : S1024x1792.Idx → EReal) = upTo m c t.val := by
  funext y
  obtain ⟨r, q, rfl⟩ : ∃ (r : Fin 1024) (q : Fin 1792), y = ix2 r q := ⟨y 0, y 1, by funext a; fin_cases a <;> rfl⟩
  unfold upTo
  rw [blk_add, show (t.val - 1) / 4 = t.val / 4 by omega]
  exact Tiles.part_next 2048 ((t.val - 1) % 4) (t.val % 4) _ (by omega)

theorem acc_first (t : Fin cfg0.N) (h : t.val % 4 = 0) : (outsAt0 (F := Ideal) m c t.val t.isLt).2 = upTo m c t.val := by
  rw [outsAt0_A m c t h (by omega) (by omega)]
  dsimp only
  exact (first _ _ _ _ _ _ _ _ _ _ _ _ _ _ _).trans (upTo_first m c t h)

theorem acc_next (t : Fin cfg0.N) (h : ¬t.val % 4 = 0) (h3 : ¬t.val % 4 = 3)
    (e : (outsAt0 (F := Ideal) m c (t.val - 1) (Nat.lt_of_le_of_lt (Nat.sub_le _ _) t.isLt)).2 = upTo m c (t.val - 1)) :
    (outsAt0 (F := Ideal) m c t.val t.isLt).2 = upTo m c t.val := by
  rw [outsAt0_B m c t h (by omega) h3, e]
  dsimp only
  exact (next _ _ _ _ _ _ _ _ _ _ _ _ _ _ _ _).trans (upTo_next m c t h)

/-- What the accumulator holds after a point that is not its block's last. -/
theorem acc_eq (t : ℕ) (h : t < cfg0.N) (h3 : ¬t % 4 = 3) : (outsAt0 (F := Ideal) m c t h).2 = upTo m c t :=
  Tiles.acc_eq 4 3 (fun t h => (outsAt0 (F := Ideal) m c t h).2) (upTo m c) (fun t h => acc_first m c ⟨t, h⟩) (fun t h => acc_next m c ⟨t + 1, h⟩) (by omega) t h h3

/-- What is left in the result's block at the block's last point. -/
theorem out_last (t : Fin cfg0.N) (h3 : t.val % 4 = 3)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_C m c t (by omega) (by omega) h3, e]
  dsimp only
  exact (last _ _ _ _ _ _ _ _ _ _ _ _ _ _ _ _).trans (upTo_next m c t (by omega))

theorem out_eq (t : Fin cfg0.N) (h3 : t.val % 4 = 3) : (outsAt0 (F := Ideal) m c t.val t.isLt).1 = upTo m c t.val :=
  out_last m c t h3 (acc_eq m c (t.val - 1) (Nat.lt_of_le_of_lt (Nat.sub_le _ _) t.isLt) (by omega))

/-- What the kernel leaves in its result's array. -/
def result : S1024x5376.Idx → EReal := fun y => ∑ k ∈ Finset.range 8192, term (V m c main_v0) (V m c main_arg1) (y 0).val (y 1).val k

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 4 = 3 := (flush0_2 t).mp hf
  rw [after0_2, out_eq m c t h3]
  have g0 : (((cfg0.win (2 : Fin 3)).blk t).view.emb z (0 : Fin 2)).val = (z (0 : Fin 2)).val := by
    show (cfg0.win (2 : Fin 3)).index t (0 : Fin 2) * 1024 + 1 * (z (0 : Fin 2)).val = _
    rw [e]
    show 0 * 1024 + 1 * (z (0 : Fin 2)).val = _
    omega
  have g1 : (((cfg0.win (2 : Fin 3)).blk t).view.emb z (1 : Fin 2)).val = 1792 * (t.val / 4) + (z (1 : Fin 2)).val := by
    show (cfg0.win (2 : Fin 3)).index t (1 : Fin 2) * 1792 + 1 * (z (1 : Fin 2)).val = _
    rw [e]
    show t.val / 4 * 1792 + 1 * (z (1 : Fin 2)).val = _
    omega
  show upTo m c t.val z = result m c (((cfg0.win (2 : Fin 3)).blk t).view.emb z)
  unfold upTo result Tiles.part
  rw [h3, g0, g1]

end Cert.Kernel9Ideal.DwIn

end
-- ==== Proof.Ffn.DwInValue.lean ====
/- The gradient of the input projection's weights: the kernel's result is the reference's. -/
module

public import proofs.«01_k».proof.Proof.Ffn.DwIn
public import proofs.«01_k».proof.Proof.Gen.Reference9Ideal.Read
public import Idealize.ShloMosaic.Lib.StableHlo.Run
public import Idealize.ShloMosaic.Lib.StableHlo.ReadAt

@[expose] public section

set_option maxRecDepth 16384
set_option Elab.async false

noncomputable section

namespace Cert.Kernel9Ideal.DwIn

open Cert.Kernel9Ideal Cert.Kernel9Ideal.Gen
open Idealize.ShloMosaic
open Idealize.ShloMosaic.TcCoe Idealize.ShloMosaic.Tactic
open Idealize.SL.Sem
open Cert.Tiles (nat)

variable (m : (ℓ : Loc nD τ sig) → Buf (Elt Ideal) ℓ) (c : Dev nD)

theorem V_t (a : Fin 1024) (b : Fin 8192) : (V m c main_v0 : S1024x8192.Idx → EReal) (ix2 a b) = (m ((c : Thread nD τ).loc main_arg0) : S8192x1024.Idx → EReal) (ix2 b a) := by
  unfold V hostOps0
  after_reads_at

open Cert.Reference9Ideal.Read in
/-- The two results agree. -/
theorem result_eq (x0 : S8192x1024.Idx → EReal) (x1 : S8192x5376.Idx → EReal)
    (e0 : m ((c : Thread nD τ).loc main_arg0) = x0) (e1 : m ((c : Thread nD τ).loc main_arg1) = x1) :
    val_main_v6 (F := Ideal) x0 x1 = result m c := by
  funext y
  obtain ⟨r, q, rfl⟩ : ∃ (r : Fin 1024) (q : Fin 5376), y = ix2 r q := ⟨y 0, y 1, by funext a; fin_cases a <;> rfl⟩
  rw [val_main_v6_apply, val_main_v5_apply, val_main_v4_apply]
  unfold result
  rw [Finset.sum_range]
  refine Finset.sum_congr rfl fun k _ => ?_
  have ev := V_t m c r k
  unfold term
  rw [V_main_arg1, e1, show nat 1024 ((ix2 r q : S1024x5376.Idx) 0).val = r from Tiles.nat_val r, show nat 5376 ((ix2 r q : S1024x5376.Idx) 1).val = q from Tiles.nat_val q, show nat 8192 k.val = k from Tiles.nat_val k, ev, e0]
  refine (mul_comm _ _).trans (congr (congrArg HMul.hMul (congrArg x0 (funext fun b => Fin.ext ?_))) (congrArg x1 (funext fun b => Fin.ext ?_)))
  all_goals match b with
    | ⟨0, _⟩ => rfl
    | ⟨1, _⟩ => rfl

end Cert.Kernel9Ideal.DwIn

end
-- ==== Proof.Ffn.DxIn.lean ====
/- The gradient of the input projection's argument: what the kernel leaves in its result's array over the extended reals. -/
module

public import proofs.«01_k».proof.Proof.Gen.Kernel10Ideal.Frame
public import proofs.«01_k».proof.Proof.Ffn.Tiles
public import Idealize.ShloMosaic.Lib.Pointwise
public import Idealize.ShloMosaic.Lib.VecWindow
public import Idealize.ShloMosaic.Lib.Pipeline.Value
public import Idealize.ShloMosaic.Lib.Pipeline.ValueKit.Geometry

@[expose] public section

set_option maxRecDepth 16384
set_option Elab.async false

noncomputable section

namespace Cert.Kernel10Ideal.DxIn

open Cert.Kernel10Ideal Cert.Kernel10Ideal.Gen
open Idealize.ShloMosaic
open Idealize.ShloMosaic.TcCoe Idealize.ShloMosaic.Tactic
open Idealize.SL.Sem
open Cert.Tiles (nat)

/-- What a point's two blocks add to the accumulator. -/
theorem pay1_apply (x0 : S1024x2688.Idx → EReal) (x1 : S1024x2688.Idx → EReal) (r : Fin 1024) (q : Fin 1024) :
    (k0_pay1 (F := Ideal) x0 x1) (ix2 r q) = ∑ k : Fin 2688, x0 (ix2 r k) * x1 (ix2 q k) := by
  simp only [k0_pay1]
  pointwise

theorem pay4_eq (x : S1024x1024.Idx → EReal) : k0_pay4 (F := Ideal) x = x := by
  funext y
  simp only [k0_pay4]
  pointwise

section
variable (c : Dev nD) (i : grid0.Coords) (arg3 : Memref sig .tc .vmem S1024x2688 .bf16) (harg3 : arg3.IsWhole) (arg4 : Memref sig .tc .vmem S1024x2688 .bf16) (harg4 : arg4.IsWhole)
  (arg5 : Memref sig .tc .vmem S1024x1024 .bf16) (harg5 : arg5.IsWhole) (arg6 : Memref sig .tc .vmem S1024x1024 .f32) (harg6 : arg6.IsWhole)
  (x0 : S1024x2688.Idx → EReal) (x1 : S1024x2688.Idx → EReal) (xa : S1024x1024.Idx → EReal)

theorem first (h0 h1 h2) :
    sout0_A_0 (F := Ideal) c i arg3 harg3 arg4 harg4 arg5 harg5 arg6 harg6 h0 h1 h2 x0 x1 = k0_pay1 (F := Ideal) x0 x1 := by
  unfold sout0_A_0
  dsimp only [kernelRun0_A]
  sl_unfold_run_names
  refine (View.read_writes_full (Val := Elt Ideal) VS0_0 VS0_0.junk inb_S1024x1024_S1024x1024_0_0 _ []).trans ?_
  rw [View.readAt_full (Val := Elt Ideal) arg3.view _ inb_S1024x2688_S1024x2688_0_0, View.readAt_full (Val := Elt Ideal) arg4.view _ inb_S1024x2688_S1024x2688_0_0,
    harg3.read_unread, harg4.read_unread]
  simp only [k0_pay2, shapeCast_self]

theorem last (h0 h1 h2) :
    out0_B_2 (F := Ideal) c i arg3 harg3 arg4 harg4 arg5 harg5 arg6 harg6 h0 h1 h2 x0 x1 xa = fun y => xa y + k0_pay1 (F := Ideal) x0 x1 y := by
  unfold out0_B_2
  dsimp only [kernelRun0_B]
  sl_unfold_run_names
  refine (View.read_writes_full (Val := Elt Ideal) VO0_2 VO0_2.junk inb_S1024x1024_S1024x1024_0_0 _ []).trans ?_
  refine (pay4_eq _).trans ?_
  refine (View.readAt_full (Val := Elt Ideal) arg6.view _ inb_S1024x1024_S1024x1024_0_0).trans ?_
  refine (View.read_writes_full (Val := Elt Ideal) arg6.view arg6.view.junk inb_S1024x1024_S1024x1024_0_0 _ []).trans ?_
  rw [View.readAt_full (Val := Elt Ideal) arg3.view _ inb_S1024x2688_S1024x2688_0_0, View.readAt_full (Val := Elt Ideal) arg4.view _ inb_S1024x2688_S1024x2688_0_0,
    View.readAt_full (Val := Elt Ideal) arg6.view _ inb_S1024x1024_S1024x1024_0_0, harg3.read_unread, harg4.read_unread, harg6.read_unread]
  simp only [k0_pay3, shapeCast_self]
  rfl
end

/-- What one index of the sum adds to a place of the result. -/
def term (A : S8192x5376.Idx → EReal) (B : S1024x5376.Idx → EReal) (r q k : ℕ) : EReal :=
  A (ix2 (nat 8192 r) (nat 5376 k)) * B (ix2 (nat 1024 q) (nat 5376 k))

theorem covers : (cfg0.win (2 : Fin 3)).Covers := of_decide_eq_true (by sl_kernel_rfl)

def IndexFacts (t : Fin cfg0.N) : Prop :=
  (cfg0.win (0 : Fin 3)).index t = ![t.val / 2, t.val % 2] ∧ (cfg0.win (1 : Fin 3)).index t = ![0, t.val % 2]
    ∧ (cfg0.win (2 : Fin 3)).index t = ![t.val / 2, 0]

theorem index_facts : ∀ t : Fin cfg0.N, IndexFacts t := (by unfold IndexFacts; decide +kernel)

variable (m : (ℓ : Loc nD τ sig) → Buf (Elt Ideal) ℓ) (c : Dev nD)

theorem blk0 (t : Fin cfg0.N) (r : Fin 1024) (k : Fin 2688) :
    (iblk m c 0 t : S1024x2688.Idx → EReal) (ix2 r k) = (V m c main_arg0 : S8192x5376.Idx → EReal) (ix2 (nat 8192 (1024 * (t.val / 2) + r.val)) (nat 5376 (2688 * (t.val % 2) + k.val))) := by
  obtain ⟨e, -⟩ := index_facts t
  have ht : t.val < 16 := t.isLt.trans_eq N_0
  refine congrArg (V m c main_arg0) (funext fun b => Fin.ext ?_)
  match b with
  | ⟨0, _⟩ =>
    show (cfg0.win (0 : Fin 3)).index t (0 : Fin 2) * 1024 + 1 * r.val = (1024 * (t.val / 2) + r.val) % 8192
    rw [e]
    show t.val / 2 * 1024 + 1 * r.val = _
    omega
  | ⟨1, _⟩ =>
    show (cfg0.win (0 : Fin 3)).index t (1 : Fin 2) * 2688 + 1 * k.val = (2688 * (t.val % 2) + k.val) % 5376
    rw [e]
    show t.val % 2 * 2688 + 1 * k.val = _
    omega

theorem blk1 (t : Fin cfg0.N) (k : Fin 2688) (q : Fin 1024) :
    (iblk m c 1 t : S1024x2688.Idx → EReal) (ix2 q k) = (V m c main_arg1 : S1024x5376.Idx → EReal) (ix2 (nat 1024 (q.val)) (nat 5376 (2688 * (t.val % 2) + k.val))) := by
  obtain ⟨-, e, -⟩ := index_facts t
  have ht : t.val < 16 := t.isLt.trans_eq N_0
  refine congrArg (V m c main_arg1) (funext fun b => Fin.ext ?_)
  match b with
  | ⟨0, _⟩ =>
    show (cfg0.win (1 : Fin 3)).index t (0 : Fin 2) * 1024 + 1 * q.val = (q.val) % 1024
    rw [e]
    show 0 * 1024 + 1 * q.val = _
    omega
  | ⟨1, _⟩ =>
    show (cfg0.win (1 : Fin 3)).index t (1 : Fin 2) * 2688 + 1 * k.val = (2688 * (t.val % 2) + k.val) % 5376
    rw [e]
    show t.val % 2 * 2688 + 1 * k.val = _
    omega

theorem blk_add (t : Fin cfg0.N) (r : Fin 1024) (q : Fin 1024) :
    k0_pay1 (F := Ideal) (iblk m c 0 t) (iblk m c 1 t) (ix2 r q)
      = ∑ k ∈ Finset.range 2688, term (V m c main_arg0) (V m c main_arg1) (1024 * (t.val / 2) + r.val) (q.val) (2688 * (t.val % 2) + k) := by
  rw [pay1_apply, Finset.sum_range]
  exact Finset.sum_congr rfl fun k _ => congr (congrArg HMul.hMul (blk0 m c t r k)) (blk1 m c t k q)

/-- The terms summed up to a point, at a place of its block. -/
def upTo (t : ℕ) : S1024x1024.Idx → EReal := fun y =>
  Tiles.part 2688 (t % 2) (term (V m c main_arg0) (V m c main_arg1) (1024 * (t / 2) + (y 0).val) ((y 1).val))

theorem upTo_first (t : Fin cfg0.N) (h : t.val % 2 = 0) : k0_pay1 (F := Ideal) (iblk m c 0 t) (iblk m c 1 t) = upTo m c t.val := by
  funext y
  obtain ⟨r, q, rfl⟩ : ∃ (r : Fin 1024) (q : Fin 1024), y = ix2 r q := ⟨y 0, y 1, by funext a; fin_cases a <;> rfl⟩
  exact (blk_add m c t r q).trans (Tiles.part_first 2688 (t.val % 2) _ h)

theorem upTo_next (t : Fin cfg0.N) (h : ¬t.val % 2 = 0) :
    (fun y => upTo m c (t.val - 1) y + k0_pay1 (F := Ideal) (iblk m c 0 t) (iblk m c 1 t) y : S1024x1024.Idx → EReal) = upTo m c t.val := by
  funext y
  obtain ⟨r, q, rfl⟩ : ∃ (r : Fin 1024) (q : Fin 1024), y = ix2 r q := ⟨y 0, y 1, by funext a; fin_cases a <;> rfl⟩
  unfold upTo
  rw [blk_add, show (t.val - 1) / 2 = t.val / 2 by omega]
  exact Tiles.part_next 2688 ((t.val - 1) % 2) (t.val % 2) _ (by omega)

theorem acc_first (t : Fin cfg0.N) (h : t.val % 2 = 0) : (outsAt0 (F := Ideal) m c t.val t.isLt).2 = upTo m c t.val := by
  rw [outsAt0_A m c t h (by omega) (by omega)]
  dsimp only
  exact (first _ _ _ _ _ _ _ _ _ _ _ _ _ _ _).trans (upTo_first m c t h)

/-- What is left in the result's block at the block's last point. -/
theorem out_last (t : Fin cfg0.N) (h3 : t.val % 2 = 1)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_B m c t (by omega) (by omega) h3, e]
  dsimp only
  exact (last _ _ _ _ _ _ _ _ _ _ _ _ _ _ _ _).trans (upTo_next m c t (by omega))

theorem out_eq (t : Fin cfg0.N) (h3 : t.val % 2 = 1) : (outsAt0 (F := Ideal) m c t.val t.isLt).1 = upTo m c t.val :=
  out_last m c t h3 (acc_first m c ⟨t.val - 1, Nat.lt_of_le_of_lt (Nat.sub_le _ _) t.isLt⟩ (by show (t.val - 1) % 2 = 0; omega))

/-- What the kernel leaves in its result's array. -/
def result : S8192x1024.Idx → EReal := fun y => ∑ k ∈ Finset.range 5376, term (V m c main_arg0) (V m c main_arg1) (y 0).val (y 1).val k

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 2 = 1 := (flush0_2 t).mp hf
  rw [after0_2, out_eq m c t h3]
  have g0 : (((cfg0.win (2 : Fin 3)).blk t).view.emb z (0 : Fin 2)).val = 1024 * (t.val / 2) + (z (0 : Fin 2)).val := by
    show (cfg0.win (2 : Fin 3)).index t (0 : Fin 2) * 1024 + 1 * (z (0 : Fin 2)).val = _
    rw [e]
    show t.val / 2 * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  show upTo m c t.val z = result m c (((cfg0.win (2 : Fin 3)).blk t).view.emb z)
  unfold upTo result Tiles.part
  rw [h3, g0, g1]

end Cert.Kernel10Ideal.DxIn

end
-- ==== Proof.Ffn.DxInValue.lean ====
/- The gradient of the input projection's argument: the kernel's result is the reference's. -/
module

public import proofs.«01_k».proof.Proof.Ffn.DxIn
public import proofs.«01_k».proof.Proof.Gen.Reference10Ideal.Read
public import Idealize.ShloMosaic.Lib.StableHlo.Run
public import Idealize.ShloMosaic.Lib.StableHlo.ReadAt

@[expose] public section

set_option maxRecDepth 16384
set_option Elab.async false

noncomputable section

namespace Cert.Kernel10Ideal.DxIn

open Cert.Kernel10Ideal Cert.Kernel10Ideal.Gen
open Idealize.ShloMosaic
open Idealize.ShloMosaic.TcCoe Idealize.ShloMosaic.Tactic
open Idealize.SL.Sem
open Cert.Tiles (nat)

variable (m : (ℓ : Loc nD τ sig) → Buf (Elt Ideal) ℓ) (c : Dev nD)

open Cert.Reference10Ideal.Read in
/-- The two results agree. -/
theorem result_eq (x0 : S8192x5376.Idx → EReal) (x1 : S1024x5376.Idx → EReal)
    (e0 : m ((c : Thread nD τ).loc main_arg0) = x0) (e1 : m ((c : Thread nD τ).loc main_arg1) = x1) :
    val_main_v5 (F := Ideal) x0 x1 = result m c := by
  funext y
  obtain ⟨r, q, rfl⟩ : ∃ (r : Fin 8192) (q : Fin 1024), y = ix2 r q := ⟨y 0, y 1, by funext a; fin_cases a <;> rfl⟩
  rw [val_main_v5_apply, val_main_v4_apply]
  unfold result
  rw [Finset.sum_range]
  refine Finset.sum_congr rfl fun k _ => ?_
  unfold term
  rw [V_main_arg0, V_main_arg1, e0, e1, show nat 8192 ((ix2 r q : S8192x1024.Idx) 0).val = r from Tiles.nat_val r, show nat 1024 ((ix2 r q : S8192x1024.Idx) 1).val = q from Tiles.nat_val q, show nat 5376 k.val = k from Tiles.nat_val k]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel10Ideal.DxIn

end
-- ==== Proof.Ffn.ZIn.lean ====
/- The input projection: what the kernel leaves in its result's array over the extended reals. -/
module

public import proofs.«01_k».proof.Proof.Gen.Kernel11Ideal.Frame
public import proofs.«01_k».proof.Proof.Ffn.Tiles
public import Idealize.ShloMosaic.Lib.Pointwise
public import Idealize.ShloMosaic.Lib.VecWindow
public import Idealize.ShloMosaic.Lib.Pipeline.Value
public import Idealize.ShloMosaic.Lib.Pipeline.ValueKit.Geometry

@[expose] public section

set_option maxRecDepth 16384
set_option Elab.async false

noncomputable section

namespace Cert.Kernel11Ideal.ZIn

open Cert.Kernel11Ideal Cert.Kernel11Ideal.Gen
open Idealize.ShloMosaic
open Idealize.ShloMosaic.TcCoe Idealize.ShloMosaic.Tactic
open Idealize.SL.Sem
open Cert.Tiles (nat)

/-- The product of two blocks. -/
theorem pay1_apply (x0 : S1024x1024.Idx → EReal) (x1 : S1024x1792.Idx → EReal) (r : Fin 1024) (q : Fin 1792) :
    (k0_pay1 (F := Ideal) x0 x1) (ix2 r q) = ∑ k : Fin 1024, x0 (ix2 r k) * x1 (ix2 k q) := by
  simp only [k0_pay1]
  pointwise

theorem zero2 : (![0, 0] : Fin 2 → ℕ) = fun _ => 0 := funext fun a => by fin_cases a <;> rfl

/-- A point writes its block whole. -/
theorem out_eq (x0 : S1024x1024.Idx → EReal) (x1 : S1024x1792.Idx → EReal) : out0_2 (F := Ideal) x0 x1 = k0_pay1 (F := Ideal) x0 x1 := by
  unfold out0_2
  refine (View.canon_cons_unit_zero (Val := Elt Ideal) zero2 _ _ []).trans ?_
  rw [View.ld_unit_zero (Val := Elt Ideal) zero2, View.ld_unit_zero (Val := Elt Ideal) zero2]

/-- What one index of the sum adds to a place of the result. -/
def term (A : S8192x1024.Idx → EReal) (B : S1024x5376.Idx → EReal) (r q k : ℕ) : EReal :=
  A (ix2 (nat 8192 r) (nat 1024 k)) * B (ix2 (nat 1024 k) (nat 5376 q))

theorem covers : (cfg0.win (2 : Fin 3)).Covers := of_decide_eq_true (by sl_kernel_rfl)

def IndexFacts (t : Fin cfg0.N) : Prop :=
  (cfg0.win (0 : Fin 3)).index t = ![t.val / 3, 0] ∧ (cfg0.win (1 : Fin 3)).index t = ![0, t.val % 3]
    ∧ (cfg0.win (2 : Fin 3)).index t = ![t.val / 3, t.val % 3]

theorem index_facts : ∀ t : Fin cfg0.N, IndexFacts t := (by unfold IndexFacts; decide +kernel)

variable (m : (ℓ : Loc nD τ sig) → Buf (Elt Ideal) ℓ) (c : Dev nD)

theorem blk0 (t : Fin cfg0.N) (r : Fin 1024) (k : Fin 1024) :
    (iblk m c 0 t : S1024x1024.Idx → EReal) (ix2 r k) = (V m c main_arg0 : S8192x1024.Idx → EReal) (ix2 (nat 8192 (1024 * (t.val / 3) + r.val)) (nat 1024 k.val)) := by
  obtain ⟨e, -⟩ := index_facts t
  have ht : t.val < 24 := t.isLt.trans_eq N_0
  refine congrArg (V m c main_arg0) (funext fun b => Fin.ext ?_)
  match b with
  | ⟨0, _⟩ =>
    show (cfg0.win (0 : Fin 3)).index t (0 : Fin 2) * 1024 + 1 * r.val = (1024 * (t.val / 3) + r.val) % 8192
    rw [e]
    show t.val / 3 * 1024 + 1 * r.val = _
    omega
  | ⟨1, _⟩ =>
    show (cfg0.win (0 : Fin 3)).index t (1 : Fin 2) * 1024 + 1 * k.val = k.val % 1024
    rw [e]
    show 0 * 1024 + 1 * k.val = _
    omega

theorem blk1 (t : Fin cfg0.N) (k : Fin 1024) (q : Fin 1792) :
    (iblk m c 1 t : S1024x1792.Idx → EReal) (ix2 k q) = (V m c main_arg1 : S1024x5376.Idx → EReal) (ix2 (nat 1024 k.val) (nat 5376 (1792 * (t.val % 3) + q.val))) := by
  obtain ⟨-, e, -⟩ := index_facts t
  have ht : t.val < 24 := t.isLt.trans_eq N_0
  refine congrArg (V m c main_arg1) (funext fun b => Fin.ext ?_)
  match b with
  | ⟨0, _⟩ =>
    show (cfg0.win (1 : Fin 3)).index t (0 : Fin 2) * 1024 + 1 * k.val = k.val % 1024
    rw [e]
    show 0 * 1024 + 1 * k.val = _
    omega
  | ⟨1, _⟩ =>
    show (cfg0.win (1 : Fin 3)).index t (1 : Fin 2) * 1792 + 1 * q.val = (1792 * (t.val % 3) + q.val) % 5376
    rw [e]
    show t.val % 3 * 1792 + 1 * q.val = _
    omega

theorem blk_place (t : Fin cfg0.N) (r : Fin 1024) (q : Fin 1792) :
    k0_pay1 (F := Ideal) (iblk m c 0 t) (iblk m c 1 t) (ix2 r q) = ∑ k ∈ Finset.range 1024, term (V m c main_arg0) (V m c main_arg1) (1024 * (t.val / 3) + r.val) (1792 * (t.val % 3) + q.val) k := by
  rw [pay1_apply, Finset.sum_range]
  exact Finset.sum_congr rfl fun k _ => congr (congrArg HMul.hMul (blk0 m c t r k)) (blk1 m c t k q)

/-- What the kernel leaves in its result's array. -/
def result : S8192x5376.Idx → EReal := fun y => ∑ k ∈ Finset.range 1024, term (V m c main_arg0) (V m c main_arg1) (y 0).val (y 1).val k

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  rw [after0_2, out_eq]
  have g0 : (((cfg0.win (2 : Fin 3)).blk t).view.emb z (0 : Fin 2)).val = 1024 * (t.val / 3) + (z (0 : Fin 2)).val := by
    show (cfg0.win (2 : Fin 3)).index t (0 : Fin 2) * 1024 + 1 * (z (0 : Fin 2)).val = _
    rw [e]
    show t.val / 3 * 1024 + 1 * (z (0 : Fin 2)).val = _
    omega
  have g1 : (((cfg0.win (2 : Fin 3)).blk t).view.emb z (1 : Fin 2)).val = 1792 * (t.val % 3) + (z (1 : Fin 2)).val := by
    show (cfg0.win (2 : Fin 3)).index t (1 : Fin 2) * 1792 + 1 * (z (1 : Fin 2)).val = _
    rw [e]
    show t.val % 3 * 1792 + 1 * (z (1 : Fin 2)).val = _
    omega
  have ez : (z : S1024x1792.Idx) = ix2 (z (0 : Fin 2)) (z (1 : Fin 2)) := by
    funext a
    match a with
    | ⟨0, _⟩ => rfl
    | ⟨1, _⟩ => rfl
  refine Eq.trans (congrArg (k0_pay1 (F := Ideal) (iblk m c 0 t) (iblk m c 1 t)) ez) ((blk_place m c t _ _).trans ?_)
  show _ = result m c (((cfg0.win (2 : Fin 3)).blk t).view.emb z)
  unfold result
  rw [g0, g1]

end Cert.Kernel11Ideal.ZIn

end
-- ==== Proof.Ffn.ZInValue.lean ====
/- The input projection: the kernel's result is the reference's. -/
module

public import proofs.«01_k».proof.Proof.Ffn.ZIn
public import proofs.«01_k».proof.Proof.Gen.Reference11Ideal.Read
public import Idealize.ShloMosaic.Lib.StableHlo.Run
public import Idealize.ShloMosaic.Lib.StableHlo.ReadAt

@[expose] public section

set_option maxRecDepth 16384
set_option Elab.async false

noncomputable section

namespace Cert.Kernel11Ideal.ZIn

open Cert.Kernel11Ideal Cert.Kernel11Ideal.Gen
open Idealize.ShloMosaic
open Idealize.ShloMosaic.TcCoe Idealize.ShloMosaic.Tactic
open Idealize.SL.Sem
open Cert.Tiles (nat)

variable (m : (ℓ : Loc nD τ sig) → Buf (Elt Ideal) ℓ) (c : Dev nD)

open Cert.Reference11Ideal.Read in
/-- The two results agree. -/
theorem result_eq (x0 : S8192x1024.Idx → EReal) (x1 : S1024x5376.Idx → EReal)
    (e0 : m ((c : Thread nD τ).loc main_arg0) = x0) (e1 : m ((c : Thread nD τ).loc main_arg1) = x1) :
    val_main_v3 (F := Ideal) x0 x1 = result m c := by
  funext y
  obtain ⟨r, q, rfl⟩ : ∃ (r : Fin 8192) (q : Fin 5376), y = ix2 r q := ⟨y 0, y 1, by funext a; fin_cases a <;> rfl⟩
  rw [val_main_v3_apply, val_main_v2_apply]
  unfold result
  rw [Finset.sum_range]
  refine Finset.sum_congr rfl fun k _ => ?_
  unfold term
  rw [V_main_arg0, V_main_arg1, e0, e1, show nat 8192 ((ix2 r q : S8192x5376.Idx) 0).val = r from Tiles.nat_val r, show nat 5376 ((ix2 r q : S8192x5376.Idx) 1).val = q from Tiles.nat_val q, show nat 1024 k.val = k from Tiles.nat_val k]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel11Ideal.ZIn

end
-- ==== Proof.Proj.WOut.lean ====
/- The product with the output matrix: what the kernel leaves in its result's array over the extended reals, and that it is the reference's result. -/
module

public import proofs.«01_k».proof.Proof.Gen.Kernel12Ideal.Frame
public import proofs.«01_k».proof.Proof.Gen.Reference12Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel12Ideal.WOut

open Cert.Kernel12Ideal Cert.Kernel12Ideal.Gen
open Idealize.ShloMosaic
open Idealize.ShloMosaic.TcCoe Idealize.ShloMosaic.Tactic
open Idealize.SL.Sem
open Cert.Tiles (nat)

/-- The product of two blocks. -/
theorem pay1_apply (x0 : S1024x1024.Idx → EReal) (x1 : S1024x1024.Idx → EReal) (r : Fin 1024) (q : Fin 1024) :
    (k0_pay1 (F := Ideal) x0 x1) (ix2 r q) = ∑ k : Fin 1024, x0 (ix2 r k) * x1 (ix2 k q) := by
  simp only [k0_pay1]
  pointwise

theorem zero2 : (![0, 0] : Fin 2 → ℕ) = fun _ => 0 := funext fun a => by fin_cases a <;> rfl

/-- A point writes its block whole. -/
theorem out_eq (x0 : S1024x1024.Idx → EReal) (x1 : S1024x1024.Idx → EReal) : out0_2 (F := Ideal) x0 x1 = k0_pay1 (F := Ideal) x0 x1 := by
  unfold out0_2
  refine (View.canon_cons_unit_zero (Val := Elt Ideal) zero2 _ _ []).trans ?_
  rw [View.ld_unit_zero (Val := Elt Ideal) zero2, View.ld_unit_zero (Val := Elt Ideal) zero2]

theorem covers : (cfg0.win (2 : Fin 3)).Covers := of_decide_eq_true (by sl_kernel_rfl)

def IndexFacts (t : Fin cfg0.N) : Prop :=
  (cfg0.win (0 : Fin 3)).index t = ![t.val, 0] ∧ (cfg0.win (1 : Fin 3)).index t = ![0, 0] ∧ (cfg0.win (2 : Fin 3)).index t = ![t.val, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 8192) (k : Fin 1024) : EReal := (V m c main_arg0 : S8192x1024.Idx → EReal) (ix2 r k)
def right (k : Fin 1024) (q : Fin 1024) : EReal := (V m c main_arg1 : S1024x1024.Idx → EReal) (ix2 k q)

theorem blk0 (t : Fin cfg0.N) (r : Fin 1024) (k : Fin 1024) :
    (iblk m c 0 t : S1024x1024.Idx → EReal) (ix2 r k) = left m c (nat 8192 (1024 * t.val + r.val)) k := by
  obtain ⟨e, -⟩ := index_facts t
  have ht : t.val < 8 := t.isLt.trans_eq N_0
  refine congrArg (V m c main_arg0) (funext fun b => Fin.ext ?_)
  match b with
  | ⟨0, _⟩ =>
    show (cfg0.win (0 : Fin 3)).index t (0 : Fin 2) * 1024 + 1 * r.val = (1024 * t.val + r.val) % 8192
    rw [e]
    show t.val * 1024 + 1 * r.val = _
    omega
  | ⟨1, _⟩ =>
    show (cfg0.win (0 : Fin 3)).index t (1 : Fin 2) * 1024 + 1 * k.val = k.val
    rw [e]
    show 0 * 1024 + 1 * k.val = _
    omega

theorem blk1 (t : Fin cfg0.N) (k : Fin 1024) (q : Fin 1024) :
    (iblk m c 1 t : S1024x1024.Idx → EReal) (ix2 k q) = right m c k (nat 1024 q.val) := by
  obtain ⟨-, e, -⟩ := index_facts t
  rw [Tiles.nat_val]
  refine congrArg (V m c main_arg1) (funext fun b => Fin.ext ?_)
  match b with
  | ⟨0, _⟩ =>
    show (cfg0.win (1 : Fin 3)).index t (0 : Fin 2) * 1024 + 1 * k.val = k.val
    rw [e]
    show 0 * 1024 + 1 * k.val = _
    omega
  | ⟨1, _⟩ =>
    show (cfg0.win (1 : Fin 3)).index t (1 : Fin 2) * 1024 + 1 * q.val = q.val
    rw [e]
    show 0 * 1024 + 1 * q.val = _
    omega

/-- What the kernel leaves in its result's array. -/
def result : S8192x1024.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  rw [after0_2, out_eq]
  have g0 : (((cfg0.win (2 : Fin 3)).blk t).view.emb z (0 : Fin 2)).val = 1024 * t.val + (z (0 : Fin 2)).val := by
    show (cfg0.win (2 : Fin 3)).index t (0 : Fin 2) * 1024 + 1 * (z (0 : Fin 2)).val = _
    rw [e]
    show t.val * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  have ez : (z : S1024x1024.Idx) = ix2 (z (0 : Fin 2)) (z (1 : Fin 2)) := by
    funext a
    match a with
    | ⟨0, _⟩ => rfl
    | ⟨1, _⟩ => rfl
  refine Eq.trans (congrArg (k0_pay1 (F := Ideal) (iblk m c 0 t) (iblk m c 1 t)) ez) ((pay1_apply _ _ _ _).trans ?_)
  refine (Tiles.dot_of_whole (left m c) (right m c) _ _ _ _ (fun k => blk0 m c t _ k) (fun k => blk1 m c t k _)).trans ?_
  show _ = result m c (((cfg0.win (2 : Fin 3)).blk t).view.emb z)
  unfold result
  rw [g0, g1]

open Cert.Reference12Ideal.Read in
/-- The two results agree. -/
theorem result_eq (x0 : S8192x1024.Idx → EReal) (x1 : S1024x1024.Idx → EReal)
    (e0 : m ((c : Thread nD τ).loc main_arg0) = x0) (e1 : m ((c : Thread nD τ).loc main_arg1) = x1) :
    val_main_v3 (F := Ideal) x0 x1 = result m c := by
  funext y
  obtain ⟨r, q, rfl⟩ : ∃ (r : Fin 8192) (q : Fin 1024), y = ix2 r q := ⟨y 0, y 1, by funext a; fin_cases a <;> rfl⟩
  rw [val_main_v3_apply, val_main_v2_apply]
  refine Eq.trans (Finset.sum_congr rfl fun k _ => ?_) (Tiles.dot_eq (left m c) (right m c) r q).symm
  unfold left right
  rw [V_main_arg0, V_main_arg1, e0, e1]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel12Ideal.WOut

end
-- ==== Proof.Proj.WOutDx.lean ====
/- The gradient of that product's argument: what the kernel leaves in its result's array over the extended reals, and that it is the reference's result. -/
module

public import proofs.«01_k».proof.Proof.Gen.Kernel13Ideal.Frame
public import proofs.«01_k».proof.Proof.Gen.Reference13Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel13Ideal.WOutDx

open Cert.Kernel13Ideal Cert.Kernel13Ideal.Gen
open Idealize.ShloMosaic
open Idealize.ShloMosaic.TcCoe Idealize.ShloMosaic.Tactic
open Idealize.SL.Sem
open Cert.Tiles (nat)

/-- The product of two blocks. -/
theorem pay1_apply (x0 : S1024x1024.Idx → EReal) (x1 : S1024x1024.Idx → EReal) (r : Fin 1024) (q : Fin 1024) :
    (k0_pay1 (F := Ideal) x0 x1) (ix2 r q) = ∑ k : Fin 1024, x0 (ix2 r k) * x1 (ix2 q k) := by
  simp only [k0_pay1]
  pointwise

theorem zero2 : (![0, 0] : Fin 2 → ℕ) = fun _ => 0 := funext fun a => by fin_cases a <;> rfl

/-- A point writes its block whole. -/
theorem out_eq (x0 : S1024x1024.Idx → EReal) (x1 : S1024x1024.Idx → EReal) : out0_2 (F := Ideal) x0 x1 = k0_pay1 (F := Ideal) x0 x1 := by
  unfold out0_2
  refine (View.canon_cons_unit_zero (Val := Elt Ideal) zero2 _ _ []).trans ?_
  rw [View.ld_unit_zero (Val := Elt Ideal) zero2, View.ld_unit_zero (Val := Elt Ideal) zero2]

theorem covers : (cfg0.win (2 : Fin 3)).Covers := of_decide_eq_true (by sl_kernel_rfl)

def IndexFacts (t : Fin cfg0.N) : Prop :=
  (cfg0.win (0 : Fin 3)).index t = ![t.val, 0] ∧ (cfg0.win (1 : Fin 3)).index t = ![0, 0] ∧ (cfg0.win (2 : Fin 3)).index t = ![t.val, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 8192) (k : Fin 1024) : EReal := (V m c main_arg0 : S8192x1024.Idx → EReal) (ix2 r k)
def right (k : Fin 1024) (q : Fin 1024) : EReal := (V m c main_arg1 : S1024x1024.Idx → EReal) (ix2 q k)

theorem blk0 (t : Fin cfg0.N) (r : Fin 1024) (k : Fin 1024) :
    (iblk m c 0 t : S1024x1024.Idx → EReal) (ix2 r k) = left m c (nat 8192 (1024 * t.val + r.val)) k := by
  obtain ⟨e, -⟩ := index_facts t
  have ht : t.val < 8 := t.isLt.trans_eq N_0
  refine congrArg (V m c main_arg0) (funext fun b => Fin.ext ?_)
  match b with
  | ⟨0, _⟩ =>
    show (cfg0.win (0 : Fin 3)).index t (0 : Fin 2) * 1024 + 1 * r.val = (1024 * t.val + r.val) % 8192
    rw [e]
    show t.val * 1024 + 1 * r.val = _
    omega
  | ⟨1, _⟩ =>
    show (cfg0.win (0 : Fin 3)).index t (1 : Fin 2) * 1024 + 1 * k.val = k.val
    rw [e]
    show 0 * 1024 + 1 * k.val = _
    omega

theorem blk1 (t : Fin cfg0.N) (k : Fin 1024) (q : Fin 1024) :
    (iblk m c 1 t : S1024x1024.Idx → EReal) (ix2 q k) = right m c k (nat 1024 q.val) := by
  obtain ⟨-, e, -⟩ := index_facts t
  rw [Tiles.nat_val]
  refine congrArg (V m c main_arg1) (funext fun b => Fin.ext ?_)
  match b with
  | ⟨0, _⟩ =>
    show (cfg0.win (1 : Fin 3)).index t (0 : Fin 2) * 1024 + 1 * q.val = q.val
    rw [e]
    show 0 * 1024 + 1 * q.val = _
    omega
  | ⟨1, _⟩ =>
    show (cfg0.win (1 : Fin 3)).index t (1 : Fin 2) * 1024 + 1 * k.val = k.val
    rw [e]
    show 0 * 1024 + 1 * k.val = _
    omega

/-- What the kernel leaves in its result's array. -/
def result : S8192x1024.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  rw [after0_2, out_eq]
  have g0 : (((cfg0.win (2 : Fin 3)).blk t).view.emb z (0 : Fin 2)).val = 1024 * t.val + (z (0 : Fin 2)).val := by
    show (cfg0.win (2 : Fin 3)).index t (0 : Fin 2) * 1024 + 1 * (z (0 : Fin 2)).val = _
    rw [e]
    show t.val * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  have ez : (z : S1024x1024.Idx) = ix2 (z (0 : Fin 2)) (z (1 : Fin 2)) := by
    funext a
    match a with
    | ⟨0, _⟩ => rfl
    | ⟨1, _⟩ => rfl
  refine Eq.trans (congrArg (k0_pay1 (F := Ideal) (iblk m c 0 t) (iblk m c 1 t)) ez) ((pay1_apply _ _ _ _).trans ?_)
  refine (Tiles.dot_of_whole (left m c) (right m c) _ _ _ _ (fun k => blk0 m c t _ k) (fun k => blk1 m c t k _)).trans ?_
  show _ = result m c (((cfg0.win (2 : Fin 3)).blk t).view.emb z)
  unfold result
  rw [g0, g1]

open Cert.Reference13Ideal.Read in
/-- The two results agree. -/
theorem result_eq (x0 : S8192x1024.Idx → EReal) (x1 : S1024x1024.Idx → EReal)
    (e0 : m ((c : Thread nD τ).loc main_arg0) = x0) (e1 : m ((c : Thread nD τ).loc main_arg1) = x1) :
    val_main_v5 (F := Ideal) x0 x1 = result m c := by
  funext y
  obtain ⟨r, q, rfl⟩ : ∃ (r : Fin 8192) (q : Fin 1024), y = ix2 r q := ⟨y 0, y 1, by funext a; fin_cases a <;> rfl⟩
  rw [val_main_v5_apply, val_main_v4_apply]
  refine Eq.trans (Finset.sum_congr rfl fun k _ => ?_) (Tiles.dot_eq (left m c) (right m c) r q).symm
  unfold left right
  rw [V_main_arg0, V_main_arg1, e0, e1]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel13Ideal.WOutDx

end
-- ==== Proof.Proj.WOutDw.lean ====
/- The gradient of the output matrix: what the kernel leaves in its result's array over the extended reals, and that it is the reference's result. -/
module

public import proofs.«01_k».proof.Proof.Gen.Kernel14Ideal.Frame
public import proofs.«01_k».proof.Proof.Gen.Reference14Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel14Ideal.WOutDw

open Cert.Kernel14Ideal Cert.Kernel14Ideal.Gen
open Idealize.ShloMosaic
open Idealize.ShloMosaic.TcCoe Idealize.ShloMosaic.Tactic
open Idealize.SL.Sem
open Cert.Tiles (nat)

/-- What a point's two blocks add to the accumulator. -/
theorem pay1_apply (x0 : S1024x1024.Idx → EReal) (x1 : S1024x1024.Idx → EReal) (r : Fin 1024) (q : Fin 1024) :
    (k0_pay1 (F := Ideal) x0 x1) (ix2 r q) = ∑ k : Fin 1024, x0 (ix2 r k) * x1 (ix2 k q) := by
  simp only [k0_pay1, shapeCast_self]
  pointwise

theorem pay4_eq (x : S1024x1024.Idx → EReal) : k0_pay4 (F := Ideal) x = x := by
  funext y
  simp only [k0_pay4]
  pointwise

section
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : S1024x1024.Idx → EReal) (x1 : S1024x1024.Idx → EReal) (xa : S1024x1024.Idx → EReal)

theorem first (h0 h1 h2) :
    sout0_A_0 (F := Ideal) c i arg3 harg3 arg4 harg4 arg5 harg5 arg6 harg6 h0 h1 h2 x0 x1 = k0_pay1 (F := Ideal) x0 x1 := by
  unfold sout0_A_0
  dsimp only [kernelRun0_A]
  sl_unfold_run_names
  refine (View.read_writes_full (Val := Elt Ideal) VS0_0 VS0_0.junk inb_S1024x1024_S1024x1024_0_0 _ []).trans ?_
  rw [View.readAt_full (Val := Elt Ideal) arg3.view _ inb_S1024x1024_S1024x1024_0_0, View.readAt_full (Val := Elt Ideal) arg4.view _ inb_S1024x1024_S1024x1024_0_0,
    harg3.read_unread, harg4.read_unread]
  simp only [k0_pay2, shapeCast_self]

theorem next (h0 h1 h2) :
    sout0_B_0 (F := Ideal) c i arg3 harg3 arg4 harg4 arg5 harg5 arg6 harg6 h0 h1 h2 x0 x1 xa = fun y => xa y + k0_pay1 (F := Ideal) x0 x1 y := by
  unfold sout0_B_0
  dsimp only [kernelRun0_B]
  sl_unfold_run_names
  refine (View.read_writes_full (Val := Elt Ideal) VS0_0 VS0_0.junk inb_S1024x1024_S1024x1024_0_0 _ []).trans ?_
  rw [View.readAt_full (Val := Elt Ideal) arg3.view _ inb_S1024x1024_S1024x1024_0_0, View.readAt_full (Val := Elt Ideal) arg4.view _ inb_S1024x1024_S1024x1024_0_0,
    View.readAt_full (Val := Elt Ideal) arg6.view _ inb_S1024x1024_S1024x1024_0_0, harg3.read_unread, harg4.read_unread, harg6.read_unread]
  simp only [k0_pay3, shapeCast_self]
  rfl

theorem last (h0 h1 h2) :
    out0_C_2 (F := Ideal) c i arg3 harg3 arg4 harg4 arg5 harg5 arg6 harg6 h0 h1 h2 x0 x1 xa = fun y => xa y + k0_pay1 (F := Ideal) x0 x1 y := by
  unfold out0_C_2
  dsimp only [kernelRun0_C]
  sl_unfold_run_names
  refine (View.read_writes_full (Val := Elt Ideal) VO0_2 VO0_2.junk inb_S1024x1024_S1024x1024_0_0 _ []).trans ?_
  refine (pay4_eq _).trans ?_
  refine (View.readAt_full (Val := Elt Ideal) arg6.view _ inb_S1024x1024_S1024x1024_0_0).trans ?_
  refine (View.read_writes_full (Val := Elt Ideal) arg6.view arg6.view.junk inb_S1024x1024_S1024x1024_0_0 _ []).trans ?_
  rw [View.readAt_full (Val := Elt Ideal) arg3.view _ inb_S1024x1024_S1024x1024_0_0, View.readAt_full (Val := Elt Ideal) arg4.view _ inb_S1024x1024_S1024x1024_0_0,
    View.readAt_full (Val := Elt Ideal) arg6.view _ inb_S1024x1024_S1024x1024_0_0, harg3.read_unread, harg4.read_unread, harg6.read_unread]
  simp only [k0_pay3, shapeCast_self]
  rfl
end

theorem covers : (cfg0.win (2 : Fin 3)).Covers := of_decide_eq_true (by sl_kernel_rfl)

def IndexFacts (t : Fin cfg0.N) : Prop :=
  (cfg0.win (0 : Fin 3)).index t = ![0, t.val % 8] ∧ (cfg0.win (1 : Fin 3)).index t = ![t.val % 8, 0]
    ∧ (cfg0.win (2 : Fin 3)).index t = ![0, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 1024) (k : Fin 8192) : EReal := (V m c main_v0 : S1024x8192.Idx → EReal) (ix2 r k)
def right (k : Fin 8192) (q : Fin 1024) : EReal := (V m c main_arg1 : S8192x1024.Idx → EReal) (ix2 k q)

theorem blk0 (t : Fin cfg0.N) (r : Fin 1024) (k : Fin 1024) :
    (iblk m c 0 t : S1024x1024.Idx → EReal) (ix2 r k) = left m c (nat 1024 r.val) (nat 8192 (1024 * (t.val % 8) + k.val)) := by
  obtain ⟨e, -⟩ := index_facts t
  have ht : t.val < 8 := t.isLt.trans_eq N_0
  refine congrArg (V m c main_v0) (funext fun b => Fin.ext ?_)
  match b with
  | ⟨0, _⟩ =>
    show (cfg0.win (0 : Fin 3)).index t (0 : Fin 2) * 1024 + 1 * r.val = r.val % 1024
    rw [e]
    show 0 * 1024 + 1 * r.val = _
    omega
  | ⟨1, _⟩ =>
    show (cfg0.win (0 : Fin 3)).index t (1 : Fin 2) * 1024 + 1 * k.val = (1024 * (t.val % 8) + k.val) % 8192
    rw [e]
    show t.val % 8 * 1024 + 1 * k.val = _
    omega

theorem blk1 (t : Fin cfg0.N) (k : Fin 1024) (q : Fin 1024) :
    (iblk m c 1 t : S1024x1024.Idx → EReal) (ix2 k q) = right m c (nat 8192 (1024 * (t.val % 8) + k.val)) (nat 1024 q.val) := by
  obtain ⟨-, e, -⟩ := index_facts t
  have ht : t.val < 8 := t.isLt.trans_eq N_0
  refine congrArg (V m c main_arg1) (funext fun b => Fin.ext ?_)
  match b with
  | ⟨0, _⟩ =>
    show (cfg0.win (1 : Fin 3)).index t (0 : Fin 2) * 1024 + 1 * k.val = (1024 * (t.val % 8) + k.val) % 8192
    rw [e]
    show t.val % 8 * 1024 + 1 * k.val = _
    omega
  | ⟨1, _⟩ =>
    show (cfg0.win (1 : Fin 3)).index t (1 : Fin 2) * 1024 + 1 * q.val = q.val % 1024
    rw [e]
    show 0 * 1024 + 1 * q.val = _
    omega

theorem blk_add (t : Fin cfg0.N) (r : Fin 1024) (q : Fin 1024) :
    k0_pay1 (F := Ideal) (iblk m c 0 t) (iblk m c 1 t) (ix2 r q)
      = ∑ k ∈ Finset.range 1024, Tiles.mul (left m c) (right m c) r.val q.val (1024 * (t.val % 8) + k) :=
  (pay1_apply _ _ r q).trans (Tiles.sum_mul (left m c) (right m c) _ _ _ _ _ (fun k => blk0 m c t r k) (fun k => blk1 m c t k q))

/-- The terms summed up to a point, at a place of its block. -/
def upTo (t : ℕ) : S1024x1024.Idx → EReal := fun y =>
  Tiles.part 1024 (t % 8) (Tiles.mul (left m c) (right m c) ((y 0).val) ((y 1).val))

theorem upTo_first (t : Fin cfg0.N) (h : t.val % 8 = 0) : k0_pay1 (F := Ideal) (iblk m c 0 t) (iblk m c 1 t) = upTo m c t.val := by
  funext y
  obtain ⟨r, q, rfl⟩ : ∃ (r : Fin 1024) (q : Fin 1024), y = ix2 r q := ⟨y 0, y 1, by funext a; fin_cases a <;> rfl⟩
  exact (blk_add m c t r q).trans (Tiles.part_first 1024 (t.val % 8) _ h)

theorem upTo_next (t : Fin cfg0.N) (h : ¬t.val % 8 = 0) :
    (fun y => upTo m c (t.val - 1) y + k0_pay1 (F := Ideal) (iblk m c 0 t) (iblk m c 1 t) y : S1024x1024.Idx → EReal) = upTo m c t.val := by
  funext y
  obtain ⟨r, q, rfl⟩ : ∃ (r : Fin 1024) (q : Fin 1024), y = ix2 r q := ⟨y 0, y 1, by funext a; fin_cases a <;> rfl⟩
  unfold upTo
  rw [blk_add]
  exact Tiles.part_next 1024 ((t.val - 1) % 8) (t.val % 8) _ (by omega)

theorem acc_first (t : Fin cfg0.N) (h : t.val % 8 = 0) : (outsAt0 (F := Ideal) m c t.val t.isLt).2 = upTo m c t.val := by
  have ht : t.val < 8 := t.isLt.trans_eq N_0
  rw [outsAt0_A m c t h (by omega) (by omega)]
  dsimp only
  exact (first _ _ _ _ _ _ _ _ _ _ _ _ _ _ _).trans (upTo_first m c t h)

theorem acc_next (t : Fin cfg0.N) (h : ¬t.val % 8 = 0) (h3 : ¬t.val % 8 = 7)
    (e : (outsAt0 (F := Ideal) m c (t.val - 1) (Nat.lt_of_le_of_lt (Nat.sub_le _ _) t.isLt)).2 = upTo m c (t.val - 1)) :
    (outsAt0 (F := Ideal) m c t.val t.isLt).2 = upTo m c t.val := by
  rw [outsAt0_B m c t h (by omega) h3, e]
  dsimp only
  exact (next _ _ _ _ _ _ _ _ _ _ _ _ _ _ _ _).trans (upTo_next m c t h)

/-- What the accumulator holds after a point that is not its block's last. -/
theorem acc_eq (t : ℕ) (h : t < cfg0.N) (h3 : ¬t % 8 = 7) : (outsAt0 (F := Ideal) m c t h).2 = upTo m c t :=
  Tiles.acc_eq 8 7 (fun t h => (outsAt0 (F := Ideal) m c t h).2) (upTo m c) (fun t h => acc_first m c ⟨t, h⟩) (fun t h => acc_next m c ⟨t + 1, h⟩) (by omega) t h h3

/-- What is left in the result's block at the block's last point. -/
theorem out_last (t : Fin cfg0.N) (h3 : t.val % 8 = 7)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_C m c t (by omega) (by omega) h3, e]
  dsimp only
  exact (last _ _ _ _ _ _ _ _ _ _ _ _ _ _ _ _).trans (upTo_next m c t (by omega))

theorem out_eq (t : Fin cfg0.N) (h3 : t.val % 8 = 7) : (outsAt0 (F := Ideal) m c t.val t.isLt).1 = upTo m c t.val :=
  out_last m c t h3 (acc_eq m c (t.val - 1) (Nat.lt_of_le_of_lt (Nat.sub_le _ _) t.isLt) (by omega))

/-- What the kernel leaves in its result's array. -/
def result : S1024x1024.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 8 = 7 := (flush0_2 t).mp hf
  rw [after0_2, out_eq m c t h3]
  have g0 : (((cfg0.win (2 : Fin 3)).blk t).view.emb z (0 : Fin 2)).val = (z (0 : Fin 2)).val := by
    show (cfg0.win (2 : Fin 3)).index t (0 : Fin 2) * 1024 + 1 * (z (0 : Fin 2)).val = _
    rw [e]
    show 0 * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  show upTo m c t.val z = result m c (((cfg0.win (2 : Fin 3)).blk t).view.emb z)
  unfold upTo result Tiles.part Tiles.dot
  rw [h3, g0, g1]

theorem V_t (a : Fin 1024) (b : Fin 8192) : (V m c main_v0 : S1024x8192.Idx → EReal) (ix2 a b) = (m ((c : Thread nD τ).loc main_arg0) : S8192x1024.Idx → EReal) (ix2 b a) := by
  unfold V hostOps0
  after_reads_at

open Cert.Reference14Ideal.Read in
/-- The two results agree. -/
theorem result_eq (x0 : S8192x1024.Idx → EReal) (x1 : S8192x1024.Idx → EReal)
    (e0 : m ((c : Thread nD τ).loc main_arg0) = x0) (e1 : m ((c : Thread nD τ).loc main_arg1) = x1) :
    val_main_v6 (F := Ideal) x0 x1 = result m c := by
  funext y
  obtain ⟨r, q, rfl⟩ : ∃ (r : Fin 1024) (q : Fin 1024), y = ix2 r q := ⟨y 0, y 1, by funext a; fin_cases a <;> rfl⟩
  rw [val_main_v6_apply, val_main_v5_apply, val_main_v4_apply]
  refine Eq.trans (Finset.sum_congr rfl fun k _ => ?_) (Tiles.dot_eq (left m c) (right m c) r q).symm
  unfold left right
  rw [V_main_arg1, e1, V_t m c r k, e0]
  refine (mul_comm _ _).trans (congr (congrArg HMul.hMul (congrArg x0 (funext fun b => Fin.ext ?_))) (congrArg x1 (funext fun b => Fin.ext ?_)))
  all_goals match b with
    | ⟨0, _⟩ => rfl
    | ⟨1, _⟩ => rfl

end Cert.Kernel14Ideal.WOutDw

end
-- ==== Proof.Proj.Branch.lean ====
/- A branch's product with its matrix: what the kernel leaves in its result's array over the extended reals, and that it is the reference's result. -/
module

public import proofs.«01_k».proof.Proof.Gen.Kernel15Ideal.Frame
public import proofs.«01_k».proof.Proof.Gen.Reference15Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel15Ideal.Branch

open Cert.Kernel15Ideal Cert.Kernel15Ideal.Gen
open Idealize.ShloMosaic
open Idealize.ShloMosaic.TcCoe Idealize.ShloMosaic.Tactic
open Idealize.SL.Sem
open Cert.Tiles (nat)

/-- The product of two blocks. -/
theorem pay1_apply (x0 : S1024x512.Idx → EReal) (x1 : S512x1024.Idx → EReal) (r : Fin 1024) (q : Fin 1024) :
    (k0_pay1 (F := Ideal) x0 x1) (ix2 r q) = ∑ k : Fin 512, x0 (ix2 r k) * x1 (ix2 k q) := by
  simp only [k0_pay1]
  pointwise

theorem zero2 : (![0, 0] : Fin 2 → ℕ) = fun _ => 0 := funext fun a => by fin_cases a <;> rfl

/-- A point writes its block whole. -/
theorem out_eq (x0 : S1024x512.Idx → EReal) (x1 : S512x1024.Idx → EReal) : out0_2 (F := Ideal) x0 x1 = k0_pay1 (F := Ideal) x0 x1 := by
  unfold out0_2
  refine (View.canon_cons_unit_zero (Val := Elt Ideal) zero2 _ _ []).trans ?_
  rw [View.ld_unit_zero (Val := Elt Ideal) zero2, View.ld_unit_zero (Val := Elt Ideal) zero2]

theorem covers : (cfg0.win (2 : Fin 3)).Covers := of_decide_eq_true (by sl_kernel_rfl)

def IndexFacts (t : Fin cfg0.N) : Prop :=
  (cfg0.win (0 : Fin 3)).index t = ![t.val, 0] ∧ (cfg0.win (1 : Fin 3)).index t = ![0, 0] ∧ (cfg0.win (2 : Fin 3)).index t = ![t.val, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 8192) (k : Fin 512) : EReal := (V m c main_arg0 : S8192x512.Idx → EReal) (ix2 r k)
def right (k : Fin 512) (q : Fin 1024) : EReal := (V m c main_arg1 : S512x1024.Idx → EReal) (ix2 k q)

theorem blk0 (t : Fin cfg0.N) (r : Fin 1024) (k : Fin 512) :
    (iblk m c 0 t : S1024x512.Idx → EReal) (ix2 r k) = left m c (nat 8192 (1024 * t.val + r.val)) k := by
  obtain ⟨e, -⟩ := index_facts t
  have ht : t.val < 8 := t.isLt.trans_eq N_0
  refine congrArg (V m c main_arg0) (funext fun b => Fin.ext ?_)
  match b with
  | ⟨0, _⟩ =>
    show (cfg0.win (0 : Fin 3)).index t (0 : Fin 2) * 1024 + 1 * r.val = (1024 * t.val + r.val) % 8192
    rw [e]
    show t.val * 1024 + 1 * r.val = _
    omega
  | ⟨1, _⟩ =>
    show (cfg0.win (0 : Fin 3)).index t (1 : Fin 2) * 512 + 1 * k.val = k.val
    rw [e]
    show 0 * 512 + 1 * k.val = _
    omega

theorem blk1 (t : Fin cfg0.N) (k : Fin 512) (q : Fin 1024) :
    (iblk m c 1 t : S512x1024.Idx → EReal) (ix2 k q) = right m c k (nat 1024 q.val) := by
  obtain ⟨-, e, -⟩ := index_facts t
  rw [Tiles.nat_val]
  refine congrArg (V m c main_arg1) (funext fun b => Fin.ext ?_)
  match b with
  | ⟨0, _⟩ =>
    show (cfg0.win (1 : Fin 3)).index t (0 : Fin 2) * 512 + 1 * k.val = k.val
    rw [e]
    show 0 * 512 + 1 * k.val = _
    omega
  | ⟨1, _⟩ =>
    show (cfg0.win (1 : Fin 3)).index t (1 : Fin 2) * 1024 + 1 * q.val = q.val
    rw [e]
    show 0 * 1024 + 1 * q.val = _
    omega

/-- What the kernel leaves in its result's array. -/
def result : S8192x1024.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  rw [after0_2, out_eq]
  have g0 : (((cfg0.win (2 : Fin 3)).blk t).view.emb z (0 : Fin 2)).val = 1024 * t.val + (z (0 : Fin 2)).val := by
    show (cfg0.win (2 : Fin 3)).index t (0 : Fin 2) * 1024 + 1 * (z (0 : Fin 2)).val = _
    rw [e]
    show t.val * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  have ez : (z : S1024x1024.Idx) = ix2 (z (0 : Fin 2)) (z (1 : Fin 2)) := by
    funext a
    match a with
    | ⟨0, _⟩ => rfl
    | ⟨1, _⟩ => rfl
  refine Eq.trans (congrArg (k0_pay1 (F := Ideal) (iblk m c 0 t) (iblk m c 1 t)) ez) ((pay1_apply _ _ _ _).trans ?_)
  refine (Tiles.dot_of_whole (left m c) (right m c) _ _ _ _ (fun k => blk0 m c t _ k) (fun k => blk1 m c t k _)).trans ?_
  show _ = result m c (((cfg0.win (2 : Fin 3)).blk t).view.emb z)
  unfold result
  rw [g0, g1]

open Cert.Reference15Ideal.Read in
/-- The two results agree. -/
theorem result_eq (x0 : S8192x512.Idx → EReal) (x1 : S512x1024.Idx → EReal)
    (e0 : m ((c : Thread nD τ).loc main_arg0) = x0) (e1 : m ((c : Thread nD τ).loc main_arg1) = x1) :
    val_main_v3 (F := Ideal) x0 x1 = result m c := by
  funext y
  obtain ⟨r, q, rfl⟩ : ∃ (r : Fin 8192) (q : Fin 1024), y = ix2 r q := ⟨y 0, y 1, by funext a; fin_cases a <;> rfl⟩
  rw [val_main_v3_apply, val_main_v2_apply]
  refine Eq.trans (Finset.sum_congr rfl fun k _ => ?_) (Tiles.dot_eq (left m c) (right m c) r q).symm
  unfold left right
  rw [V_main_arg0, V_main_arg1, e0, e1]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel15Ideal.Branch

end
-- ==== Proof.Proj.BranchDx.lean ====
/- The gradient of a branch's product's argument: what the kernel leaves in its result's array over the extended reals, and that it is the reference's result. -/
module

public import proofs.«01_k».proof.Proof.Gen.Kernel16Ideal.Frame
public import proofs.«01_k».proof.Proof.Gen.Reference16Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel16Ideal.BranchDx

open Cert.Kernel16Ideal Cert.Kernel16Ideal.Gen
open Idealize.ShloMosaic
open Idealize.ShloMosaic.TcCoe Idealize.ShloMosaic.Tactic
open Idealize.SL.Sem
open Cert.Tiles (nat)

/-- The product of two blocks. -/
theorem pay1_apply (x0 : S1024x1024.Idx → EReal) (x1 : S512x1024.Idx → EReal) (r : Fin 1024) (q : Fin 512) :
    (k0_pay1 (F := Ideal) x0 x1) (ix2 r q) = ∑ k : Fin 1024, x0 (ix2 r k) * x1 (ix2 q k) := by
  simp only [k0_pay1]
  pointwise

theorem zero2 : (![0, 0] : Fin 2 → ℕ) = fun _ => 0 := funext fun a => by fin_cases a <;> rfl

/-- A point writes its block whole. -/
theorem out_eq (x0 : S1024x1024.Idx → EReal) (x1 : S512x1024.Idx → EReal) : out0_2 (F := Ideal) x0 x1 = k0_pay1 (F := Ideal) x0 x1 := by
  unfold out0_2
  refine (View.canon_cons_unit_zero (Val := Elt Ideal) zero2 _ _ []).trans ?_
  rw [View.ld_unit_zero (Val := Elt Ideal) zero2, View.ld_unit_zero (Val := Elt Ideal) zero2]

theorem covers : (cfg0.win (2 : Fin 3)).Covers := of_decide_eq_true (by sl_kernel_rfl)

def IndexFacts (t : Fin cfg0.N) : Prop :=
  (cfg0.win (0 : Fin 3)).index t = ![t.val, 0] ∧ (cfg0.win (1 : Fin 3)).index t = ![0, 0] ∧ (cfg0.win (2 : Fin 3)).index t = ![t.val, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 8192) (k : Fin 1024) : EReal := (V m c main_arg0 : S8192x1024.Idx → EReal) (ix2 r k)
def right (k : Fin 1024) (q : Fin 512) : EReal := (V m c main_arg1 : S512x1024.Idx → EReal) (ix2 q k)

theorem blk0 (t : Fin cfg0.N) (r : Fin 1024) (k : Fin 1024) :
    (iblk m c 0 t : S1024x1024.Idx → EReal) (ix2 r k) = left m c (nat 8192 (1024 * t.val + r.val)) k := by
  obtain ⟨e, -⟩ := index_facts t
  have ht : t.val < 8 := t.isLt.trans_eq N_0
  refine congrArg (V m c main_arg0) (funext fun b => Fin.ext ?_)
  match b with
  | ⟨0, _⟩ =>
    show (cfg0.win (0 : Fin 3)).index t (0 : Fin 2) * 1024 + 1 * r.val = (1024 * t.val + r.val) % 8192
    rw [e]
    show t.val * 1024 + 1 * r.val = _
    omega
  | ⟨1, _⟩ =>
    show (cfg0.win (0 : Fin 3)).index t (1 : Fin 2) * 1024 + 1 * k.val = k.val
    rw [e]
    show 0 * 1024 + 1 * k.val = _
    omega

theorem blk1 (t : Fin cfg0.N) (k : Fin 1024) (q : Fin 512) :
    (iblk m c 1 t : S512x1024.Idx → EReal) (ix2 q k) = right m c k (nat 512 q.val) := by
  obtain ⟨-, e, -⟩ := index_facts t
  rw [Tiles.nat_val]
  refine congrArg (V m c main_arg1) (funext fun b => Fin.ext ?_)
  match b with
  | ⟨0, _⟩ =>
    show (cfg0.win (1 : Fin 3)).index t (0 : Fin 2) * 512 + 1 * q.val = q.val
    rw [e]
    show 0 * 512 + 1 * q.val = _
    omega
  | ⟨1, _⟩ =>
    show (cfg0.win (1 : Fin 3)).index t (1 : Fin 2) * 1024 + 1 * k.val = k.val
    rw [e]
    show 0 * 1024 + 1 * k.val = _
    omega

/-- What the kernel leaves in its result's array. -/
def result : S8192x512.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  rw [after0_2, out_eq]
  have g0 : (((cfg0.win (2 : Fin 3)).blk t).view.emb z (0 : Fin 2)).val = 1024 * t.val + (z (0 : Fin 2)).val := by
    show (cfg0.win (2 : Fin 3)).index t (0 : Fin 2) * 1024 + 1 * (z (0 : Fin 2)).val = _
    rw [e]
    show t.val * 1024 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 512 + 1 * (z (1 : Fin 2)).val = _
    rw [e]
    show 0 * 512 + 1 * (z (1 : Fin 2)).val = _
    omega
  have ez : (z : S1024x512.Idx) = ix2 (z (0 : Fin 2)) (z (1 : Fin 2)) := by
    funext a
    match a with
    | ⟨0, _⟩ => rfl
    | ⟨1, _⟩ => rfl
  refine Eq.trans (congrArg (k0_pay1 (F := Ideal) (iblk m c 0 t) (iblk m c 1 t)) ez) ((pay1_apply _ _ _ _).trans ?_)
  refine (Tiles.dot_of_whole (left m c) (right m c) _ _ _ _ (fun k => blk0 m c t _ k) (fun k => blk1 m c t k _)).trans ?_
  show _ = result m c (((cfg0.win (2 : Fin 3)).blk t).view.emb z)
  unfold result
  rw [g0, g1]

open Cert.Reference16Ideal.Read in
/-- The two results agree. -/
theorem result_eq (x0 : S8192x1024.Idx → EReal) (x1 : S512x1024.Idx → EReal)
    (e0 : m ((c : Thread nD τ).loc main_arg0) = x0) (e1 : m ((c : Thread nD τ).loc main_arg1) = x1) :
    val_main_v5 (F := Ideal) x0 x1 = result m c := by
  funext y
  obtain ⟨r, q, rfl⟩ : ∃ (r : Fin 8192) (q : Fin 512), y = ix2 r q := ⟨y 0, y 1, by funext a; fin_cases a <;> rfl⟩
  rw [val_main_v5_apply, val_main_v4_apply]
  refine Eq.trans (Finset.sum_congr rfl fun k _ => ?_) (Tiles.dot_eq (left m c) (right m c) r q).symm
  unfold left right
  rw [V_main_arg0, V_main_arg1, e0, e1]
  refine congr (congrArg HMul.hMul (congrArg x0 (funext fun b => Fin.ext ?_))) (congrArg x1 (funext fun b => Fin.ext ?_))
  all_goals match b with
    | ⟨0, _⟩ => rfl
    | ⟨1, _⟩ => rfl

end Cert.Kernel16Ideal.BranchDx

end
-- ==== Proof.Proj.BranchDw.lean ====
/- The gradient of a branch's matrix: what the kernel leaves in its result's array over the extended reals, and that it is the reference's result. -/
module

public import proofs.«01_k».proof.Proof.Gen.Kernel17Ideal.Frame
public import proofs.«01_k».proof.Proof.Gen.Reference17Ideal.Read
public import proofs.«01_k».proof.Proof.Proj.Product
public import Idealize.ShloMosaic.Lib.Pointwise
public import Idealize.ShloMosaic.Lib.VecWindow
public import Idealize.ShloMosaic.Lib.Pipeline.Value
public import Idealize.ShloMosaic.Lib.Pipeline.ValueKit.Geometry
public import Idealize.ShloMosaic.Lib.StableHlo.Run
public import Idealize.ShloMosaic.Lib.StableHlo.ReadAt

@[expose] public section

set_option maxRecDepth 16384
set_option Elab.async false

noncomputable section

namespace Cert.Kernel17Ideal.BranchDw

open Cert.Kernel17Ideal Cert.Kernel17Ideal.Gen
open Idealize.ShloMosaic
open Idealize.ShloMosaic.TcCoe Idealize.ShloMosaic.Tactic
open Idealize.SL.Sem
open Cert.Tiles (nat)

/-- What a point's two blocks add to the accumulator. -/
theorem pay1_apply (x0 : S512x1024.Idx → EReal) (x1 : S1024x1024.Idx → EReal) (r : Fin 512) (q : Fin 1024) :
    (k0_pay1 (F := Ideal) x0 x1) (ix2 r q) = ∑ k : Fin 1024, x0 (ix2 r k) * x1 (ix2 k q) := by
  simp only [k0_pay1, shapeCast_self]
  pointwise

theorem pay4_eq (x : S512x1024.Idx → EReal) : k0_pay4 (F := Ideal) x = x := by
  funext y
  simp only [k0_pay4]
  pointwise

section
variable (c : Dev nD) (i : grid0.Coords) (arg3 : Memref sig .tc .vmem S512x1024 .bf16) (harg3 : arg3.IsWhole) (arg4 : Memref sig .tc .vmem S1024x1024 .bf16) (harg4 : arg4.IsWhole)
  (arg5 : Memref sig .tc .vmem S512x1024 .bf16) (harg5 : arg5.IsWhole) (arg6 : Memref sig .tc .vmem S512x1024 .f32) (harg6 : arg6.IsWhole)
  (x0 : S512x1024.Idx → EReal) (x1 : S1024x1024.Idx → EReal) (xa : S512x1024.Idx → EReal)

theorem first (h0 h1 h2) :
    sout0_A_0 (F := Ideal) c i arg3 harg3 arg4 harg4 arg5 harg5 arg6 harg6 h0 h1 h2 x0 x1 = k0_pay1 (F := Ideal) x0 x1 := by
  unfold sout0_A_0
  dsimp only [kernelRun0_A]
  sl_unfold_run_names
  refine (View.read_writes_full (Val := Elt Ideal) VS0_0 VS0_0.junk inb_S512x1024_S512x1024_0_0 _ []).trans ?_
  rw [View.readAt_full (Val := Elt Ideal) arg3.view _ inb_S512x1024_S512x1024_0_0, View.readAt_full (Val := Elt Ideal) arg4.view _ inb_S1024x1024_S1024x1024_0_0,
    harg3.read_unread, harg4.read_unread]
  simp only [k0_pay2, shapeCast_self]

theorem next (h0 h1 h2) :
    sout0_B_0 (F := Ideal) c i arg3 harg3 arg4 harg4 arg5 harg5 arg6 harg6 h0 h1 h2 x0 x1 xa = fun y => xa y + k0_pay1 (F := Ideal) x0 x1 y := by
  unfold sout0_B_0
  dsimp only [kernelRun0_B]
  sl_unfold_run_names
  refine (View.read_writes_full (Val := Elt Ideal) VS0_0 VS0_0.junk inb_S512x1024_S512x1024_0_0 _ []).trans ?_
  rw [View.readAt_full (Val := Elt Ideal) arg3.view _ inb_S512x1024_S512x1024_0_0, View.readAt_full (Val := Elt Ideal) arg4.view _ inb_S1024x1024_S1024x1024_0_0,
    View.readAt_full (Val := Elt Ideal) arg6.view _ inb_S512x1024_S512x1024_0_0, harg3.read_unread, harg4.read_unread, harg6.read_unread]
  simp only [k0_pay3, shapeCast_self]
  rfl

theorem last (h0 h1 h2) :
    out0_C_2 (F := Ideal) c i arg3 harg3 arg4 harg4 arg5 harg5 arg6 harg6 h0 h1 h2 x0 x1 xa = fun y => xa y + k0_pay1 (F := Ideal) x0 x1 y := by
  unfold out0_C_2
  dsimp only [kernelRun0_C]
  sl_unfold_run_names
  refine (View.read_writes_full (Val := Elt Ideal) VO0_2 VO0_2.junk inb_S512x1024_S512x1024_0_0 _ []).trans ?_
  refine (pay4_eq _).trans ?_
  refine (View.readAt_full (Val := Elt Ideal) arg6.view _ inb_S512x1024_S512x1024_0_0).trans ?_
  refine (View.read_writes_full (Val := Elt Ideal) arg6.view arg6.view.junk inb_S512x1024_S512x1024_0_0 _ []).trans ?_
  rw [View.readAt_full (Val := Elt Ideal) arg3.view _ inb_S512x1024_S512x1024_0_0, View.readAt_full (Val := Elt Ideal) arg4.view _ inb_S1024x1024_S1024x1024_0_0,
    View.readAt_full (Val := Elt Ideal) arg6.view _ inb_S512x1024_S512x1024_0_0, harg3.read_unread, harg4.read_unread, harg6.read_unread]
  simp only [k0_pay3, shapeCast_self]
  rfl
end

theorem covers : (cfg0.win (2 : Fin 3)).Covers := of_decide_eq_true (by sl_kernel_rfl)

def IndexFacts (t : Fin cfg0.N) : Prop :=
  (cfg0.win (0 : Fin 3)).index t = ![0, t.val % 8] ∧ (cfg0.win (1 : Fin 3)).index t = ![t.val % 8, 0]
    ∧ (cfg0.win (2 : Fin 3)).index t = ![0, 0]

theorem index_facts : ∀ t : Fin cfg0.N, IndexFacts t := (by unfold IndexFacts; decide +kernel)

variable (m : (ℓ : Loc nD τ sig) → Buf (Elt Ideal) ℓ) (c : Dev nD)

/-- The two arrays, by row and column. -/
def left (r : Fin 512) (k : Fin 8192) : EReal := (V m c main_v0 : S512x8192.Idx → EReal) (ix2 r k)
def right (k : Fin 8192) (q : Fin 1024) : EReal := (V m c main_arg1 : S8192x1024.Idx → EReal) (ix2 k q)

theorem blk0 (t : Fin cfg0.N) (r : Fin 512) (k : Fin 1024) :
    (iblk m c 0 t : S512x1024.Idx → EReal) (ix2 r k) = left m c (nat 512 r.val) (nat 8192 (1024 * (t.val % 8) + k.val)) := by
  obtain ⟨e, -⟩ := index_facts t
  have ht : t.val < 8 := t.isLt.trans_eq N_0
  refine congrArg (V m c main_v0) (funext fun b => Fin.ext ?_)
  match b with
  | ⟨0, _⟩ =>
    show (cfg0.win (0 : Fin 3)).index t (0 : Fin 2) * 512 + 1 * r.val = r.val % 512
    rw [e]
    show 0 * 512 + 1 * r.val = _
    omega
  | ⟨1, _⟩ =>
    show (cfg0.win (0 : Fin 3)).index t (1 : Fin 2) * 1024 + 1 * k.val = (1024 * (t.val % 8) + k.val) % 8192
    rw [e]
    show t.val % 8 * 1024 + 1 * k.val = _
    omega

theorem blk1 (t : Fin cfg0.N) (k : Fin 1024) (q : Fin 1024) :
    (iblk m c 1 t : S1024x1024.Idx → EReal) (ix2 k q) = right m c (nat 8192 (1024 * (t.val % 8) + k.val)) (nat 1024 q.val) := by
  obtain ⟨-, e, -⟩ := index_facts t
  have ht : t.val < 8 := t.isLt.trans_eq N_0
  refine congrArg (V m c main_arg1) (funext fun b => Fin.ext ?_)
  match b with
  | ⟨0, _⟩ =>
    show (cfg0.win (1 : Fin 3)).index t (0 : Fin 2) * 1024 + 1 * k.val = (1024 * (t.val % 8) + k.val) % 8192
    rw [e]
    show t.val % 8 * 1024 + 1 * k.val = _
    omega
  | ⟨1, _⟩ =>
    show (cfg0.win (1 : Fin 3)).index t (1 : Fin 2) * 1024 + 1 * q.val = q.val % 1024
    rw [e]
    show 0 * 1024 + 1 * q.val = _
    omega

theorem blk_add (t : Fin cfg0.N) (r : Fin 512) (q : Fin 1024) :
    k0_pay1 (F := Ideal) (iblk m c 0 t) (iblk m c 1 t) (ix2 r q)
      = ∑ k ∈ Finset.range 1024, Tiles.mul (left m c) (right m c) r.val q.val (1024 * (t.val % 8) + k) :=
  (pay1_apply _ _ r q).trans (Tiles.sum_mul (left m c) (right m c) _ _ _ _ _ (fun k => blk0 m c t r k) (fun k => blk1 m c t k q))

/-- The terms summed up to a point, at a place of its block. -/
def upTo (t : ℕ) : S512x1024.Idx → EReal := fun y =>
  Tiles.part 1024 (t % 8) (Tiles.mul (left m c) (right m c) ((y 0).val) ((y 1).val))

theorem upTo_first (t : Fin cfg0.N) (h : t.val % 8 = 0) : k0_pay1 (F := Ideal) (iblk m c 0 t) (iblk m c 1 t) = upTo m c t.val := by
  funext y
  obtain ⟨r, q, rfl⟩ : ∃ (r : Fin 512) (q : Fin 1024), y = ix2 r q := ⟨y 0, y 1, by funext a; fin_cases a <;> rfl⟩
  exact (blk_add m c t r q).trans (Tiles.part_first 1024 (t.val % 8) _ h)

theorem upTo_next (t : Fin cfg0.N) (h : ¬t.val % 8 = 0) :
    (fun y => upTo m c (t.val - 1) y + k0_pay1 (F := Ideal) (iblk m c 0 t) (iblk m c 1 t) y : S512x1024.Idx → EReal) = upTo m c t.val := by
  funext y
  obtain ⟨r, q, rfl⟩ : ∃ (r : Fin 512) (q : Fin 1024), y = ix2 r q := ⟨y 0, y 1, by funext a; fin_cases a <;> rfl⟩
  unfold upTo
  rw [blk_add]
  exact Tiles.part_next 1024 ((t.val - 1) % 8) (t.val % 8) _ (by omega)

theorem acc_first (t : Fin cfg0.N) (h : t.val % 8 = 0) : (outsAt0 (F := Ideal) m c t.val t.isLt).2 = upTo m c t.val := by
  have ht : t.val < 8 := t.isLt.trans_eq N_0
  rw [outsAt0_A m c t h (by omega) (by omega)]
  dsimp only
  exact (first _ _ _ _ _ _ _ _ _ _ _ _ _ _ _).trans (upTo_first m c t h)

theorem acc_next (t : Fin cfg0.N) (h : ¬t.val % 8 = 0) (h3 : ¬t.val % 8 = 7)
    (e : (outsAt0 (F := Ideal) m c (t.val - 1) (Nat.lt_of_le_of_lt (Nat.sub_le _ _) t.isLt)).2 = upTo m c (t.val - 1)) :
    (outsAt0 (F := Ideal) m c t.val t.isLt).2 = upTo m c t.val := by
  rw [outsAt0_B m c t h (by omega) h3, e]
  dsimp only
  exact (next _ _ _ _ _ _ _ _ _ _ _ _ _ _ _ _).trans (upTo_next m c t h)

/-- What the accumulator holds after a point that is not its block's last. -/
theorem acc_eq (t : ℕ) (h : t < cfg0.N) (h3 : ¬t % 8 = 7) : (outsAt0 (F := Ideal) m c t h).2 = upTo m c t :=
  Tiles.acc_eq 8 7 (fun t h => (outsAt0 (F := Ideal) m c t h).2) (upTo m c) (fun t h => acc_first m c ⟨t, h⟩) (fun t h => acc_next m c ⟨t + 1, h⟩) (by omega) t h h3

/-- What is left in the result's block at the block's last point. -/
theorem out_last (t : Fin cfg0.N) (h3 : t.val % 8 = 7)
    (e : (outsAt0 (F := Ideal) m c (t.val - 1) (Nat.lt_of_le_of_lt (Nat.sub_le _ _) t.isLt)).2 = upTo m c (t.val - 1)) :
    (outsAt0 (F := Ideal) m c t.val t.isLt).1 = upTo m c t.val := by
  rw [outsAt0_C m c t (by omega) (by omega) h3, e]
  dsimp only
  exact (last _ _ _ _ _ _ _ _ _ _ _ _ _ _ _ _).trans (upTo_next m c t (by omega))

theorem out_eq (t : Fin cfg0.N) (h3 : t.val % 8 = 7) : (outsAt0 (F := Ideal) m c t.val t.isLt).1 = upTo m c t.val :=
  out_last m c t h3 (acc_eq m c (t.val - 1) (Nat.lt_of_le_of_lt (Nat.sub_le _ _) t.isLt) (by omega))

/-- What the kernel leaves in its result's array. -/
def result : S512x1024.Idx → EReal := fun y => Tiles.dot (left m c) (right m c) (y 0).val (y 1).val

set_option backward.isDefEq.respectTransparency.types false in
theorem arr_eq : (dats (F := Ideal) m 0 c).arrAt (2 : Fin 3) cfg0.N = result m c := by
  refine (dats (F := Ideal) m 0 c).arrAt_eq_of_covers (2 : Fin 3) (result m c) covers fun t hf z => ?_
  obtain ⟨-, -, e⟩ := index_facts t
  have h3 : t.val % 8 = 7 := (flush0_2 t).mp hf
  rw [after0_2, out_eq m c t h3]
  have g0 : (((cfg0.win (2 : Fin 3)).blk t).view.emb z (0 : Fin 2)).val = (z (0 : Fin 2)).val := by
    show (cfg0.win (2 : Fin 3)).index t (0 : Fin 2) * 512 + 1 * (z (0 : Fin 2)).val = _
    rw [e]
    show 0 * 512 + 1 * (z (0 : Fin 2)).val = _
    omega
  have g1 : (((cfg0.win (2 : Fin 3)).blk t).view.emb z (1 : Fin 2)).val = (z (1 : Fin 2)).val := by
    show (cfg0.win (2 : Fin 3)).index t (1 : Fin 2) * 1024 + 1 * (z (1 : Fin 2)).val = _
    rw [e]
    show 0 * 1024 + 1 * (z (1 : Fin 2)).val = _
    omega
  show upTo m c t.val z = result m c (((cfg0.win (2 : Fin 3)).blk t).view.emb z)
  unfold upTo result Tiles.part Tiles.dot
  rw [h3, g0, g1]

theorem V_t (a : Fin 512) (b : Fin 8192) : (V m c main_v0 : S512x8192.Idx → EReal) (ix2 a b) = (m ((c : Thread nD τ).loc main_arg0) : S8192x512.Idx → EReal) (ix2 b a) := by
  unfold V hostOps0
  after_reads_at

open Cert.Reference17Ideal.Read in
/-- The two results agree. -/
theorem result_eq (x0 : S8192x512.Idx → EReal) (x1 : S8192x1024.Idx → EReal)
    (e0 : m ((c : Thread nD τ).loc main_arg0) = x0) (e1 : m ((c : Thread nD τ).loc main_arg1) = x1) :
    val_main_v6 (F := Ideal) x0 x1 = result m c := by
  funext y
  obtain ⟨r, q, rfl⟩ : ∃ (r : Fin 512) (q : Fin 1024), y = ix2 r q := ⟨y 0, y 1, by funext a; fin_cases a <;> rfl⟩
  rw [val_main_v6_apply, val_main_v5_apply, val_main_v4_apply]
  refine Eq.trans (Finset.sum_congr rfl fun k _ => ?_) (Tiles.dot_eq (left m c) (right m c) r q).symm
  unfold left right
  rw [V_main_arg1, e1, V_t m c r k, e0]
  refine (mul_comm _ _).trans (congr (congrArg HMul.hMul (congrArg x0 (funext fun b => Fin.ext ?_))) (congrArg x1 (funext fun b => Fin.ext ?_)))
  all_goals match b with
    | ⟨0, _⟩ => rfl
    | ⟨1, _⟩ => rfl

end Cert.Kernel17Ideal.BranchDw

end
-- ==== Proof.lean ====
/- The claims about the gradients of the causal attention, of the queries, and of the keys and the values, and about the
   feed-forward block and the projections. -/
module

public import proofs.«01_k».proof.Defs
public import proofs.«01_k».proof.Proof.Gen.Kernel
public import proofs.«01_k».proof.Proof.Gen.ReferenceIdeal.Run
public import proofs.«01_k».proof.Proof.Gen.ReferenceIdeal.Read
public import proofs.«01_k».proof.Proof.Dq.Launch
public import proofs.«01_k».proof.Proof.Dq.Acc
public import proofs.«01_k».proof.Proof.Dq.Value
public import proofs.«01_k».proof.Proof.Gen.Kernel2
public import proofs.«01_k».proof.Proof.Gen.Reference2Ideal.Run
public import proofs.«01_k».proof.Proof.Gen.Reference2Ideal.Read
public import proofs.«01_k».proof.Proof.Dkv.Launch
public import proofs.«01_k».proof.Proof.Dkv.Acc
public import proofs.«01_k».proof.Proof.Dkv.Value
public import proofs.«01_k».proof.Proof.Ref.Dq
public import proofs.«01_k».proof.Proof.Ref.Dkv
public import proofs.«01_k».proof.Proof.Gen.Kernel3.Frame
public import proofs.«01_k».proof.Proof.Gen.Reference3Ideal.Run
public import proofs.«01_k».proof.Proof.Ffn.GateValue
public import proofs.«01_k».proof.Proof.FiniteGate
public import proofs.«01_k».proof.Proof.Gen.Kernel4.Frame
public import proofs.«01_k».proof.Proof.Gen.Reference4Ideal.Run
public import proofs.«01_k».proof.Proof.Ffn.DwguValue
public import proofs.«01_k».proof.Proof.Gen.Kernel5.Frame
public import proofs.«01_k».proof.Proof.Gen.Reference5Ideal.Run
public import proofs.«01_k».proof.Proof.Ffn.DhValue
public import proofs.«01_k».proof.Proof.Gen.Kernel6.Frame
public import proofs.«01_k».proof.Proof.Gen.Reference6Ideal.Run
public import proofs.«01_k».proof.Proof.Ffn.DwdownValue
public import proofs.«01_k».proof.Proof.Gen.Kernel7.Frame
public import proofs.«01_k».proof.Proof.Gen.Reference7Ideal.Run
public import proofs.«01_k».proof.Proof.Ffn.ActValue
public import proofs.«01_k».proof.Proof.Gen.Kernel8.Frame
public import proofs.«01_k».proof.Proof.Gen.Reference8Ideal.Run
public import proofs.«01_k».proof.Proof.Ffn.Down
public import proofs.«01_k».proof.Proof.Gen.Kernel9.Frame
public import proofs.«01_k».proof.Proof.Gen.Reference9Ideal.Run
public import proofs.«01_k».proof.Proof.Ffn.DwInValue
public import proofs.«01_k».proof.Proof.Gen.Kernel10.Frame
public import proofs.«01_k».proof.Proof.Gen.Reference10Ideal.Run
public import proofs.«01_k».proof.Proof.Ffn.DxInValue
public import proofs.«01_k».proof.Proof.Gen.Kernel11.Frame
public import proofs.«01_k».proof.Proof.Gen.Reference11Ideal.Run
public import proofs.«01_k».proof.Proof.Ffn.ZInValue
public import proofs.«01_k».proof.Proof.Gen.Kernel12.Frame
public import proofs.«01_k».proof.Proof.Gen.Reference12Ideal.Run
public import proofs.«01_k».proof.Proof.Proj.WOut
public import proofs.«01_k».proof.Proof.Gen.Kernel13.Frame
public import proofs.«01_k».proof.Proof.Gen.Reference13Ideal.Run
public import proofs.«01_k».proof.Proof.Proj.WOutDx
public import proofs.«01_k».proof.Proof.Gen.Kernel14.Frame
public import proofs.«01_k».proof.Proof.Gen.Reference14Ideal.Run
public import proofs.«01_k».proof.Proof.Proj.WOutDw
public import proofs.«01_k».proof.Proof.Gen.Kernel15.Frame
public import proofs.«01_k».proof.Proof.Gen.Reference15Ideal.Run
public import proofs.«01_k».proof.Proof.Proj.Branch
public import proofs.«01_k».proof.Proof.Gen.Kernel16.Frame
public import proofs.«01_k».proof.Proof.Gen.Reference16Ideal.Run
public import proofs.«01_k».proof.Proof.Proj.BranchDx
public import proofs.«01_k».proof.Proof.Gen.Kernel17.Frame
public import proofs.«01_k».proof.Proof.Gen.Reference17Ideal.Run
public import proofs.«01_k».proof.Proof.Proj.BranchDw
public import proofs.«01_k».proof.Proof.Finite
public import Idealize.ShloMosaic.Lib.Quiescent

@[expose] public section

noncomputable section

namespace Cert.Proof

open Idealize.ShloMosaic Idealize.ShloMosaic.TcCoe Idealize.SL.Sem Idealize.ShloMosaic.Tactic

/-- The program runs, leaves its arguments and every counter as they were. -/
def Quiet (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem quiet (F : FTy → Type) [FloatOps F] : Quiet F := fun m ρ _ =>
  (θ_run Cert.KernelIdeal.defs _ _).mono (fun _ h => ⟨fun c => (h.1 c).2, h.2⟩) (Cert.KernelIdeal.Dq.run_main (F := F) m ρ)

/-- The program at the machine's float words is the first program. -/
theorem kernel_eq : Cert.quiescent_Kernel (hKernel := Cert.Kernel.Gen.facts) = Quiet Bits := by sl_kernel_rfl

theorem frame_kernel : Cert.quiescent_Kernel (hKernel := Cert.Kernel.Gen.facts) := kernel_eq.mpr (quiet Bits)

theorem frame_kernelIdeal : Cert.quiescent_KernelIdeal (hKernelIdeal := Cert.KernelIdeal.Gen.facts) := quiet Ideal
theorem frame_kernelIdeal_finite : Cert.quiescent_KernelIdeal_pre_finite (hKernelIdeal := Cert.KernelIdeal.Gen.facts) (hPre_finite := Cert.Pre_finite.facts) :=
  fun m ρ _ => quiet Ideal m ρ trivial

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite (hReferenceIdeal := Cert.ReferenceIdeal.Gen.facts) (hPre_finite := Cert.Pre_finite.facts) :=
  fun m ρ _ => frame_reference m ρ trivial

/-- The two results agree on arguments that are real numbers. -/
theorem result_eq (m : (ℓ : Loc Cert.KernelIdeal.nD Cert.KernelIdeal.τ Cert.KernelIdeal.sig) → Buf (Elt Ideal) ℓ) (c : Dev Cert.KernelIdeal.nD)
    (x0 x1 : Cert.Pre_finite.S8192x8x96.Idx → EReal) (x2 x3 : Cert.Pre_finite.S8192x8x64.Idx → EReal)
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (h0 : ∀ j, ∃ r : ℝ, x0 j = (r : EReal)) (h1 : ∀ j, ∃ r : ℝ, x1 j = (r : EReal))
    (h2 : ∀ j, ∃ r : ℝ, x2 j = (r : EReal)) (h3 : ∀ j, ∃ r : ℝ, x3 j = (r : EReal)) :
    Cert.ReferenceIdeal.Read.val_main_v63 (F := Ideal) x0 x1 x2 x3
      = Cert.KernelIdeal.Dq.postF (F := Ideal) (Cert.KernelIdeal.Dq.outArr (F := Ideal) m c) := by
  choose a0 a0e using h0
  choose a1 a1e using h1
  choose a2 a2e using h2
  choose a3 a3e using h3
  funext j
  obtain ⟨r, h, f, rfl⟩ : ∃ (r : Fin 8192) (h : Fin 8) (f : Fin 96), j = ix3 r h f :=
    ⟨j 0, j 1, j 2, by funext a; fin_cases a <;> rfl⟩
  refine (Cert.ReferenceIdeal.Dq.result x0 x1 x2 x3 (fun r h d => a0 (ix3 r h d)) (fun r h d => a1 (ix3 r h d))
    (fun r h d => a2 (ix3 r h d)) (fun r h d => a3 (ix3 r h d)) (fun _ _ _ => a0e _) (fun _ _ _ => a1e _)
    (fun _ _ _ => a2e _) (fun _ _ _ => a3e _) r h f).trans ?_
  refine (Cert.KernelIdeal.Dq.value_at (fun b => m (c, b)) (fun r h d => a0 (ix3 r h d)) (fun r h d => a1 (ix3 r h d))
    (fun r h d => a2 (ix3 r h d)) (fun r h d => a3 (ix3 r h d))
    (fun _ _ _ => (congrFun e0 _).trans (a0e _)) (fun _ _ _ => (congrFun e1 _).trans (a1e _))
    (fun _ _ _ => (congrFun e2 _).trans (a2e _)) (fun _ _ _ => (congrFun e3 _).trans (a3e _)) _ (fun y => ?_) r h f).symm
  exact congrFun (Cert.KernelIdeal.Dq.arr_eq (Cert.KernelIdeal.Dq.V0 m) c) y

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hm
  refine ⟨fun c => Cert.KernelIdeal.Dq.postF (F := Ideal) (Cert.KernelIdeal.Dq.outArr (F := Ideal) m c), ?_, ?_⟩
  · exact (θ_run Cert.KernelIdeal.defs _ _).mono (fun _ h c => h.1 c) (Cert.KernelIdeal.Dq.run_main (F := Ideal) m g)
  · refine (θ_run Cert.ReferenceIdeal.defs _ _).mono (fun r h c => ⟨(h c).1.trans ?_, (h c).2⟩) (Cert.ReferenceIdeal.Value.run (F := Ideal) m' g')
    obtain ⟨h0, h1, h2, h3⟩ := Cert.Pre_finite.reals _ _ _ _ (hp c)
    obtain ⟨e0, e1, e2, e3⟩ := hm c
    rw [Cert.ReferenceIdeal.Read.val_main_v63_eq]
    exact result_eq m c _ _ _ _ e0.symm e1.symm e2.symm e3.symm (by rw [e0]; exact h0) (by rw [e1]; exact h1) (by rw [e2]; exact h2) (by rw [e3]; exact h3)

/-- At the machine's float words a named constant is its word. -/
instance namedBits : Named Bits := ⟨fun _ _ {φ} b => Scalar.ofBits (F := Bits) φ b⟩

/-- The program runs, leaves its arguments and every counter as they were. -/
def Quiet2 (F : FTy → Type) [FloatOps F] [Named F] : Prop :=
  ∀ (m : (ℓ : Loc Cert.Kernel2Ideal.nD Cert.Kernel2Ideal.τ Cert.Kernel2Ideal.sig) → Buf (Elt F) ℓ) (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

theorem quiet2 (F : FTy → Type) [FloatOps F] [Named F] : Quiet2 F := fun m ρ _ =>
  (θ_run Cert.Kernel2Ideal.defs _ _).mono (fun _ h => ⟨fun c => (h.1 c).2.2, h.2⟩) (Cert.Kernel2Ideal.Dkv.run_main (F := F) m ρ)

/-- The second program at the machine's float words, the constant's word in its place, is the program as printed. -/
theorem kernel2_eq : Cert.quiescent_Kernel2 (hKernel2 := Cert.Kernel2.Gen.facts) = Quiet2 Bits := by sl_kernel_rfl

theorem frame_kernel2 : Cert.quiescent_Kernel2 (hKernel2 := Cert.Kernel2.Gen.facts) := kernel2_eq.mpr (quiet2 Bits)

theorem frame_kernel2Ideal : Cert.quiescent_Kernel2Ideal (hKernel2Ideal := Cert.Kernel2Ideal.Gen.facts) := quiet2 Ideal
theorem frame_kernel2Ideal_finite : Cert.quiescent_Kernel2Ideal_pre_finite (hKernel2Ideal := Cert.Kernel2Ideal.Gen.facts) (hPre_finite := Cert.Pre_finite.facts) :=
  fun m ρ _ => quiet2 Ideal m ρ trivial

theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_reference2_finite : Cert.quiescent_Reference2Ideal_pre_finite (hReference2Ideal := Cert.Reference2Ideal.Gen.facts) (hPre_finite := Cert.Pre_finite.facts) :=
  fun m ρ _ => frame_reference2 m ρ trivial

/-- The name in the second program stands for the logarithm of two. -/
theorem preserves2 : Cert.preserves_Kernel2_Kernel2Ideal :=
  IdealRules.named_const.statement Cert.Kernel2Ideal.κ "ln2" .f32 0x3F317218#32 ((Real.log 2 : ℝ) : EReal) rfl

/-- The keys' gradients agree on arguments that are real numbers. -/
theorem key_eq (m : (ℓ : Loc Cert.Kernel2Ideal.nD Cert.Kernel2Ideal.τ Cert.Kernel2Ideal.sig) → Buf (Elt Ideal) ℓ) (c : Dev Cert.Kernel2Ideal.nD)
    (x0 x1 : Cert.Pre_finite.S8192x8x96.Idx → EReal) (x2 x3 : Cert.Pre_finite.S8192x8x64.Idx → EReal)
    (e0 : m ((c.tc : Thread Cert.Kernel2Ideal.nD Cert.Kernel2Ideal.τ).loc Cert.Kernel2Ideal.main_arg0) = x0)
    (e1 : m ((c.tc : Thread Cert.Kernel2Ideal.nD Cert.Kernel2Ideal.τ).loc Cert.Kernel2Ideal.main_arg1) = x1)
    (e2 : m ((c.tc : Thread Cert.Kernel2Ideal.nD Cert.Kernel2Ideal.τ).loc Cert.Kernel2Ideal.main_arg2) = x2)
    (e3 : m ((c.tc : Thread Cert.Kernel2Ideal.nD Cert.Kernel2Ideal.τ).loc Cert.Kernel2Ideal.main_arg3) = x3)
    (h0 : ∀ j, ∃ r : ℝ, x0 j = (r : EReal)) (h1 : ∀ j, ∃ r : ℝ, x1 j = (r : EReal)) (h2 : ∀ j, ∃ r : ℝ, x2 j = (r : EReal)) (h3 : ∀ j, ∃ r : ℝ, x3 j = (r : EReal)) :
    Cert.Reference2Ideal.Read.val_main_v65 (F := Ideal) x0 x1 x2 x3
      = Cert.Kernel2Ideal.Dkv.postK (F := Ideal) (Cert.Kernel2Ideal.Dkv.outK (F := Ideal) m c) := by
  choose a0 a0e using h0
  choose a1 a1e using h1
  choose a2 a2e using h2
  choose a3 a3e using h3
  funext j
  obtain ⟨r, h, f, rfl⟩ : ∃ (r : Fin 8192) (h : Fin 8) (f : Fin 96), j = ix3 r h f :=
    ⟨j 0, j 1, j 2, by funext a; fin_cases a <;> rfl⟩
  refine (Cert.Reference2Ideal.Dkv.result_key x0 x1 x2 x3 (fun r h d => a0 (ix3 r h d)) (fun r h d => a1 (ix3 r h d)) (fun r h d => a2 (ix3 r h d)) (fun r h d => a3 (ix3 r h d))
    (fun _ _ _ => a0e _) (fun _ _ _ => a1e _) (fun _ _ _ => a2e _) (fun _ _ _ => a3e _) r h f).trans ?_
  refine (Cert.Kernel2Ideal.Dkv.key_at (fun b => m (c, b)) (fun r h d => a0 (ix3 r h d)) (fun r h d => a1 (ix3 r h d)) (fun r h d => a2 (ix3 r h d)) (fun r h d => a3 (ix3 r h d))
    (fun _ _ _ => (congrFun e0 _).trans (a0e _)) (fun _ _ _ => (congrFun e1 _).trans (a1e _)) (fun _ _ _ => (congrFun e2 _).trans (a2e _)) (fun _ _ _ => (congrFun e3 _).trans (a3e _)) _ (fun y => ?_) r h f).symm
  exact congrFun (Cert.Kernel2Ideal.Dkv.arrK_eq (Cert.Kernel2Ideal.Dkv.V0 m) c) y

/-- The values' gradients agree on arguments that are real numbers. -/
theorem value_eq (m : (ℓ : Loc Cert.Kernel2Ideal.nD Cert.Kernel2Ideal.τ Cert.Kernel2Ideal.sig) → Buf (Elt Ideal) ℓ) (c : Dev Cert.Kernel2Ideal.nD)
    (x0 x1 : Cert.Pre_finite.S8192x8x96.Idx → EReal) (x3 : Cert.Pre_finite.S8192x8x64.Idx → EReal)
    (e0 : m ((c.tc : Thread Cert.Kernel2Ideal.nD Cert.Kernel2Ideal.τ).loc Cert.Kernel2Ideal.main_arg0) = x0)
    (e1 : m ((c.tc : Thread Cert.Kernel2Ideal.nD Cert.Kernel2Ideal.τ).loc Cert.Kernel2Ideal.main_arg1) = x1)
    (e3 : m ((c.tc : Thread Cert.Kernel2Ideal.nD Cert.Kernel2Ideal.τ).loc Cert.Kernel2Ideal.main_arg3) = x3)
    (h0 : ∀ j, ∃ r : ℝ, x0 j = (r : EReal)) (h1 : ∀ j, ∃ r : ℝ, x1 j = (r : EReal)) (h3 : ∀ j, ∃ r : ℝ, x3 j = (r : EReal)) :
    Cert.Reference2Ideal.Read.val_main_v48 (F := Ideal) x0 x1 x3
      = Cert.Kernel2Ideal.Dkv.postV (F := Ideal) (Cert.Kernel2Ideal.Dkv.outV (F := Ideal) m c) := by
  choose a0 a0e using h0
  choose a1 a1e using h1
  choose a3 a3e using h3
  funext j
  obtain ⟨r, h, f, rfl⟩ : ∃ (r : Fin 8192) (h : Fin 8) (f : Fin 64), j = ix3 r h f :=
    ⟨j 0, j 1, j 2, by funext a; fin_cases a <;> rfl⟩
  refine (Cert.Reference2Ideal.Dkv.result_value x0 x1 x3 (fun r h d => a0 (ix3 r h d)) (fun r h d => a1 (ix3 r h d)) (fun r h d => a3 (ix3 r h d))
    (fun _ _ _ => a0e _) (fun _ _ _ => a1e _) (fun _ _ _ => a3e _) r h f).trans ?_
  refine (Cert.Kernel2Ideal.Dkv.value_at (fun b => m (c, b)) (fun r h d => a0 (ix3 r h d)) (fun r h d => a1 (ix3 r h d)) (fun r h d => a3 (ix3 r h d))
    (fun _ _ _ => (congrFun e0 _).trans (a0e _)) (fun _ _ _ => (congrFun e1 _).trans (a1e _)) (fun _ _ _ => (congrFun e3 _).trans (a3e _)) _ (fun y => ?_) r h f).symm
  exact congrFun (Cert.Kernel2Ideal.Dkv.arrV_eq (Cert.Kernel2Ideal.Dkv.V0 m) c) y

theorem algebraic2 : Cert.algebraic_Kernel2Ideal_Reference2Ideal_pre_finite (hKernel2Ideal := Cert.Kernel2Ideal.Gen.facts)
    (hReference2Ideal := Cert.Reference2Ideal.Gen.facts) (hPre_finite := Cert.Pre_finite.facts) := by
  intro m g m' g' hp hm
  refine ⟨fun c => Cert.Kernel2Ideal.Dkv.postK (F := Ideal) (Cert.Kernel2Ideal.Dkv.outK (F := Ideal) m c),
    fun c => Cert.Kernel2Ideal.Dkv.postV (F := Ideal) (Cert.Kernel2Ideal.Dkv.outV (F := Ideal) m c), ?_, ?_⟩
  · exact (θ_run Cert.Kernel2Ideal.defs _ _).mono (fun _ h c => h.1 c) (Cert.Kernel2Ideal.Dkv.run_main (F := Ideal) m g)
  · refine (θ_run Cert.Reference2Ideal.defs _ _).mono (fun r h c => ⟨(h c).1.trans ?_, (h c).2.1.trans ?_, (h c).2.2⟩)
      (Cert.Reference2Ideal.Value.run (F := Ideal) m' g')
    · obtain ⟨h0, h1, h2, h3⟩ := Cert.Pre_finite.reals _ _ _ _ (hp c)
      obtain ⟨e0, e1, e2, e3⟩ := hm c
      rw [Cert.Reference2Ideal.Read.val_main_v65_eq]
      exact key_eq m c _ _ _ _ e0.symm e1.symm e2.symm e3.symm (by rw [e0]; exact h0) (by rw [e1]; exact h1) (by rw [e2]; exact h2) (by rw [e3]; exact h3)
    · obtain ⟨h0, h1, h2, h3⟩ := Cert.Pre_finite.reals _ _ _ _ (hp c)
      obtain ⟨e0, e1, e2, e3⟩ := hm c
      rw [Cert.Reference2Ideal.Read.val_main_v48_eq]
      exact value_eq m c _ _ _ e0.symm e1.symm e3.symm (by rw [e0]; exact h0) (by rw [e1]; exact h1) (by rw [e3]; exact h3)

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The gradient of the gate: the launch leaves what the reference computes. -/
theorem algebraic3 : Cert.algebraic_Kernel3Ideal_Reference3Ideal_pre_finite3 (hKernel3Ideal := Cert.Kernel3Ideal.Gen.facts)
    (hReference3Ideal := Cert.Reference3Ideal.Gen.facts) (hPre_finite3 := Cert.Pre_finite3.facts) := by
  intro m g m' g' hp hm
  refine ⟨fun c => Cert.Kernel3Ideal.Gate.result m c, ?_, ?_⟩
  · exact (θ_run Cert.Kernel3Ideal.defs _ _).mono (fun r h c => ⟨((h.1 c).1 3).trans (Cert.Kernel3Ideal.Gate.arr_eq m c), h.2 c⟩)
      (θ_run_and (Cert.Kernel3Ideal.Gen.run_main m g) (Cert.Kernel3Ideal.Gen.unchanged m g))
  · refine (θ_run Cert.Reference3Ideal.defs _ _).mono (fun r h c => ⟨(h c).1.trans ?_, (h c).2⟩) (Cert.Reference3Ideal.Value.run (F := Ideal) m' g')
    obtain ⟨h0, h1, h2⟩ := Cert.Pre_finite3.reals _ _ _ (hp c)
    obtain ⟨e0, e1, e2⟩ := hm c
    rw [Cert.Reference3Ideal.Read.val_main_v17_eq]
    exact Cert.Kernel3Ideal.Gate.result_eq m c _ _ _ e0.symm e1.symm e2.symm (by rw [e0]; exact h0) (by rw [e1]; exact h1) (by rw [e2]; exact h2)

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient of the first product's matrix: the launch leaves what the reference computes. -/
theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨fun c => Cert.Kernel4Ideal.Dwgu.result m c, ?_, ?_⟩
  · exact (θ_run Cert.Kernel4Ideal.defs _ _).mono (fun r h c => ⟨((h.1 c).1 2).trans (Cert.Kernel4Ideal.Dwgu.arr_eq m c), h.2 c⟩)
      (θ_run_and (Cert.Kernel4Ideal.Gen.run_main m g) (Cert.Kernel4Ideal.Gen.unchanged m g))
  · refine (θ_run Cert.Reference4Ideal.defs _ _).mono (fun r h c => ⟨(h c).1.trans ?_, (h c).2⟩) (Cert.Reference4Ideal.Value.run (F := Ideal) m' g')
    obtain ⟨e0, e1⟩ := hm c
    rw [Cert.Reference4Ideal.Read.val_main_v16_eq]
    exact Cert.Kernel4Ideal.Dwgu.result_eq m c _ _ e0.symm e1.symm

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient of the first product's input: the launch leaves what the reference computes. -/
theorem algebraic5 : Cert.algebraic_Kernel5Ideal_Reference5Ideal (hKernel5Ideal := Cert.Kernel5Ideal.Gen.facts)
    (hReference5Ideal := Cert.Reference5Ideal.Gen.facts) := by
  intro m g m' g' _ hm
  refine ⟨fun c => Cert.Kernel5Ideal.Dh.result m c, ?_, ?_⟩
  · exact (θ_run Cert.Kernel5Ideal.defs _ _).mono (fun r h c => ⟨((h.1 c).1 2).trans (Cert.Kernel5Ideal.Dh.arr_eq m c), h.2 c⟩)
      (θ_run_and (Cert.Kernel5Ideal.Gen.run_main m g) (Cert.Kernel5Ideal.Gen.unchanged m g))
  · refine (θ_run Cert.Reference5Ideal.defs _ _).mono (fun r h c => ⟨(h c).1.trans ?_, (h c).2⟩) (Cert.Reference5Ideal.Value.run (F := Ideal) m' g')
    obtain ⟨e0, e1⟩ := hm c
    rw [Cert.Reference5Ideal.Read.val_main_v15_eq]
    exact Cert.Kernel5Ideal.Dh.result_eq m c _ _ e0.symm e1.symm

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient of the last product's matrix: the launch leaves what the reference computes. -/
theorem algebraic6 : Cert.algebraic_Kernel6Ideal_Reference6Ideal (hKernel6Ideal := Cert.Kernel6Ideal.Gen.facts)
    (hReference6Ideal := Cert.Reference6Ideal.Gen.facts) := by
  intro m g m' g' _ hm
  refine ⟨fun c => Cert.Kernel6Ideal.Dwdown.result m c, ?_, ?_⟩
  · exact (θ_run Cert.Kernel6Ideal.defs _ _).mono (fun r h c => ⟨((h.1 c).1 2).trans (Cert.Kernel6Ideal.Dwdown.arr_eq m c), h.2 c⟩)
      (θ_run_and (Cert.Kernel6Ideal.Gen.run_main m g) (Cert.Kernel6Ideal.Gen.unchanged m g))
  · refine (θ_run Cert.Reference6Ideal.defs _ _).mono (fun r h c => ⟨(h c).1.trans ?_, (h c).2⟩) (Cert.Reference6Ideal.Value.run (F := Ideal) m' g')
    obtain ⟨e0, e1⟩ := hm c
    rw [Cert.Reference6Ideal.Read.val_main_v6_eq]
    exact Cert.Kernel6Ideal.Dwdown.result_eq m c _ _ e0.symm e1.symm

theorem frame_reference7 : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The first product and its gate: the launch leaves what the reference computes. -/
theorem algebraic7 : Cert.algebraic_Kernel7Ideal_Reference7Ideal (hKernel7Ideal := Cert.Kernel7Ideal.Gen.facts)
    (hReference7Ideal := Cert.Reference7Ideal.Gen.facts) := by
  intro m g m' g' _ hm
  refine ⟨fun c => Cert.Kernel7Ideal.Act.pair m c, fun c => Cert.Kernel7Ideal.Act.activation m c, fun c => Cert.Kernel7Ideal.Act.transposed m c, ?_, ?_⟩
  · exact (θ_run Cert.Kernel7Ideal.defs _ _).mono (fun r h c => ⟨((h.1 c).1 3).trans (Cert.Kernel7Ideal.Act.arr_pair m c), ((h.1 c).1 4).trans (Cert.Kernel7Ideal.Act.arr_act m c),
        ((h.1 c).1 5).trans (Cert.Kernel7Ideal.Act.arr_transposed m c), h.2 c⟩)
      (θ_run_and (Cert.Kernel7Ideal.Gen.run_main m g) (Cert.Kernel7Ideal.Gen.unchanged m g))
  · refine (θ_run Cert.Reference7Ideal.defs _ _).mono (fun r h c => ⟨(h c).1.trans ?_, (h c).2.1.trans ?_, (h c).2.2.1.trans ?_, (h c).2.2.2⟩)
      (Cert.Reference7Ideal.Value.run (F := Ideal) m' g')
    all_goals obtain ⟨e0, e1⟩ := hm c
    · rw [Cert.Reference7Ideal.Read.val_main_v17_eq]
      exact Cert.Kernel7Ideal.Act.pair_eq m c _ _ e0.symm e1.symm
    · rw [Cert.Reference7Ideal.Read.val_main_v18_eq]
      exact Cert.Kernel7Ideal.Act.activation_eq m c _ _ e0.symm e1.symm
    · rw [Cert.Reference7Ideal.Read.val_main_v20_eq]
      exact Cert.Kernel7Ideal.Act.transposed_eq m c _ _ e0.symm e1.symm

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The feed-forward block's last product: the launch leaves what the reference computes. -/
theorem algebraic8 : Cert.algebraic_Kernel8Ideal_Reference8Ideal (hKernel8Ideal := Cert.Kernel8Ideal.Gen.facts)
    (hReference8Ideal := Cert.Reference8Ideal.Gen.facts) := by
  intro m g m' g' _ hm
  refine ⟨fun c => Cert.Kernel8Ideal.Down.result m c, ?_, ?_⟩
  · exact (θ_run Cert.Kernel8Ideal.defs _ _).mono (fun r h c => ⟨((h.1 c).1 2).trans (Cert.Kernel8Ideal.Down.arr_eq m c), h.2 c⟩)
      (θ_run_and (Cert.Kernel8Ideal.Gen.run_main m g) (Cert.Kernel8Ideal.Gen.unchanged m g))
  · refine (θ_run Cert.Reference8Ideal.defs _ _).mono (fun r h c => ⟨(h c).1.trans ?_, (h c).2⟩) (Cert.Reference8Ideal.Value.run (F := Ideal) m' g')
    obtain ⟨e0, e1⟩ := hm c
    rw [Cert.Reference8Ideal.Read.val_main_v3_eq]
    exact Cert.Kernel8Ideal.Down.result_eq m c _ _ e0.symm e1.symm

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The gradient of the input projection's matrix: the launch leaves what the reference computes. -/
theorem algebraic9 : Cert.algebraic_Kernel9Ideal_Reference9Ideal (hKernel9Ideal := Cert.Kernel9Ideal.Gen.facts)
    (hReference9Ideal := Cert.Reference9Ideal.Gen.facts) := by
  intro m g m' g' _ hm
  refine ⟨fun c => Cert.Kernel9Ideal.DwIn.result m c, ?_, ?_⟩
  · exact (θ_run Cert.Kernel9Ideal.defs _ _).mono (fun r h c => ⟨((h.1 c).1 2).trans (Cert.Kernel9Ideal.DwIn.arr_eq m c), h.2 c⟩)
      (θ_run_and (Cert.Kernel9Ideal.Gen.run_main m g) (Cert.Kernel9Ideal.Gen.unchanged m g))
  · refine (θ_run Cert.Reference9Ideal.defs _ _).mono (fun r h c => ⟨(h c).1.trans ?_, (h c).2⟩) (Cert.Reference9Ideal.Value.run (F := Ideal) m' g')
    obtain ⟨e0, e1⟩ := hm c
    rw [Cert.Reference9Ideal.Read.val_main_v6_eq]
    exact Cert.Kernel9Ideal.DwIn.result_eq m c _ _ e0.symm e1.symm

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The gradient of the input projection's argument: the launch leaves what the reference computes. -/
theorem algebraic10 : Cert.algebraic_Kernel10Ideal_Reference10Ideal (hKernel10Ideal := Cert.Kernel10Ideal.Gen.facts)
    (hReference10Ideal := Cert.Reference10Ideal.Gen.facts) := by
  intro m g m' g' _ hm
  refine ⟨fun c => Cert.Kernel10Ideal.DxIn.result m c, ?_, ?_⟩
  · exact (θ_run Cert.Kernel10Ideal.defs _ _).mono (fun r h c => ⟨((h.1 c).1 2).trans (Cert.Kernel10Ideal.DxIn.arr_eq m c), h.2 c⟩)
      (θ_run_and (Cert.Kernel10Ideal.Gen.run_main m g) (Cert.Kernel10Ideal.Gen.unchanged m g))
  · refine (θ_run Cert.Reference10Ideal.defs _ _).mono (fun r h c => ⟨(h c).1.trans ?_, (h c).2⟩) (Cert.Reference10Ideal.Value.run (F := Ideal) m' g')
    obtain ⟨e0, e1⟩ := hm c
    rw [Cert.Reference10Ideal.Read.val_main_v5_eq]
    exact Cert.Kernel10Ideal.DxIn.result_eq m c _ _ e0.symm e1.symm

theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The input projection: the launch leaves what the reference computes. -/
theorem algebraic11 : Cert.algebraic_Kernel11Ideal_Reference11Ideal (hKernel11Ideal := Cert.Kernel11Ideal.Gen.facts)
    (hReference11Ideal := Cert.Reference11Ideal.Gen.facts) := by
  intro m g m' g' _ hm
  refine ⟨fun c => Cert.Kernel11Ideal.ZIn.result m c, ?_, ?_⟩
  · exact (θ_run Cert.Kernel11Ideal.defs _ _).mono (fun r h c => ⟨((h.1 c).1 2).trans (Cert.Kernel11Ideal.ZIn.arr_eq m c), h.2 c⟩)
      (θ_run_and (Cert.Kernel11Ideal.Gen.run_main m g) (Cert.Kernel11Ideal.Gen.unchanged m g))
  · refine (θ_run Cert.Reference11Ideal.defs _ _).mono (fun r h c => ⟨(h c).1.trans ?_, (h c).2⟩) (Cert.Reference11Ideal.Value.run (F := Ideal) m' g')
    obtain ⟨e0, e1⟩ := hm c
    rw [Cert.Reference11Ideal.Read.val_main_v3_eq]
    exact Cert.Kernel11Ideal.ZIn.result_eq m c _ _ e0.symm e1.symm

theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The product with the output matrix: the launch leaves what the reference computes. -/
theorem algebraic12 : Cert.algebraic_Kernel12Ideal_Reference12Ideal (hKernel12Ideal := Cert.Kernel12Ideal.Gen.facts)
    (hReference12Ideal := Cert.Reference12Ideal.Gen.facts) := by
  intro m g m' g' _ hm
  refine ⟨fun c => Cert.Kernel12Ideal.WOut.result m c, ?_, ?_⟩
  · exact (θ_run Cert.Kernel12Ideal.defs _ _).mono (fun r h c => ⟨((h.1 c).1 2).trans (Cert.Kernel12Ideal.WOut.arr_eq m c), h.2 c⟩)
      (θ_run_and (Cert.Kernel12Ideal.Gen.run_main m g) (Cert.Kernel12Ideal.Gen.unchanged m g))
  · refine (θ_run Cert.Reference12Ideal.defs _ _).mono (fun r h c => ⟨(h c).1.trans ?_, (h c).2⟩) (Cert.Reference12Ideal.Value.run (F := Ideal) m' g')
    obtain ⟨e0, e1⟩ := hm c
    rw [Cert.Reference12Ideal.Read.val_main_v3_eq]
    exact Cert.Kernel12Ideal.WOut.result_eq m c _ _ e0.symm e1.symm

theorem frame_reference13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The gradient of that product's argument: the launch leaves what the reference computes. -/
theorem algebraic13 : Cert.algebraic_Kernel13Ideal_Reference13Ideal (hKernel13Ideal := Cert.Kernel13Ideal.Gen.facts)
    (hReference13Ideal := Cert.Reference13Ideal.Gen.facts) := by
  intro m g m' g' _ hm
  refine ⟨fun c => Cert.Kernel13Ideal.WOutDx.result m c, ?_, ?_⟩
  · exact (θ_run Cert.Kernel13Ideal.defs _ _).mono (fun r h c => ⟨((h.1 c).1 2).trans (Cert.Kernel13Ideal.WOutDx.arr_eq m c), h.2 c⟩)
      (θ_run_and (Cert.Kernel13Ideal.Gen.run_main m g) (Cert.Kernel13Ideal.Gen.unchanged m g))
  · refine (θ_run Cert.Reference13Ideal.defs _ _).mono (fun r h c => ⟨(h c).1.trans ?_, (h c).2⟩) (Cert.Reference13Ideal.Value.run (F := Ideal) m' g')
    obtain ⟨e0, e1⟩ := hm c
    rw [Cert.Reference13Ideal.Read.val_main_v5_eq]
    exact Cert.Kernel13Ideal.WOutDx.result_eq m c _ _ e0.symm e1.symm

theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- The gradient of the output matrix: the launch leaves what the reference computes. -/
theorem algebraic14 : Cert.algebraic_Kernel14Ideal_Reference14Ideal (hKernel14Ideal := Cert.Kernel14Ideal.Gen.facts)
    (hReference14Ideal := Cert.Reference14Ideal.Gen.facts) := by
  intro m g m' g' _ hm
  refine ⟨fun c => Cert.Kernel14Ideal.WOutDw.result m c, ?_, ?_⟩
  · exact (θ_run Cert.Kernel14Ideal.defs _ _).mono (fun r h c => ⟨((h.1 c).1 2).trans (Cert.Kernel14Ideal.WOutDw.arr_eq m c), h.2 c⟩)
      (θ_run_and (Cert.Kernel14Ideal.Gen.run_main m g) (Cert.Kernel14Ideal.Gen.unchanged m g))
  · refine (θ_run Cert.Reference14Ideal.defs _ _).mono (fun r h c => ⟨(h c).1.trans ?_, (h c).2⟩) (Cert.Reference14Ideal.Value.run (F := Ideal) m' g')
    obtain ⟨e0, e1⟩ := hm c
    rw [Cert.Reference14Ideal.Read.val_main_v6_eq]
    exact Cert.Kernel14Ideal.WOutDw.result_eq m c _ _ e0.symm e1.symm

theorem frame_reference15 : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- A branch's product with its matrix: the launch leaves what the reference computes. -/
theorem algebraic15 : Cert.algebraic_Kernel15Ideal_Reference15Ideal (hKernel15Ideal := Cert.Kernel15Ideal.Gen.facts)
    (hReference15Ideal := Cert.Reference15Ideal.Gen.facts) := by
  intro m g m' g' _ hm
  refine ⟨fun c => Cert.Kernel15Ideal.Branch.result m c, ?_, ?_⟩
  · exact (θ_run Cert.Kernel15Ideal.defs _ _).mono (fun r h c => ⟨((h.1 c).1 2).trans (Cert.Kernel15Ideal.Branch.arr_eq m c), h.2 c⟩)
      (θ_run_and (Cert.Kernel15Ideal.Gen.run_main m g) (Cert.Kernel15Ideal.Gen.unchanged m g))
  · refine (θ_run Cert.Reference15Ideal.defs _ _).mono (fun r h c => ⟨(h c).1.trans ?_, (h c).2⟩) (Cert.Reference15Ideal.Value.run (F := Ideal) m' g')
    obtain ⟨e0, e1⟩ := hm c
    rw [Cert.Reference15Ideal.Read.val_main_v3_eq]
    exact Cert.Kernel15Ideal.Branch.result_eq m c _ _ e0.symm e1.symm

theorem frame_reference16 : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

/-- The gradient of a branch's product's argument: the launch leaves what the reference computes. -/
theorem algebraic16 : Cert.algebraic_Kernel16Ideal_Reference16Ideal (hKernel16Ideal := Cert.Kernel16Ideal.Gen.facts)
    (hReference16Ideal := Cert.Reference16Ideal.Gen.facts) := by
  intro m g m' g' _ hm
  refine ⟨fun c => Cert.Kernel16Ideal.BranchDx.result m c, ?_, ?_⟩
  · exact (θ_run Cert.Kernel16Ideal.defs _ _).mono (fun r h c => ⟨((h.1 c).1 2).trans (Cert.Kernel16Ideal.BranchDx.arr_eq m c), h.2 c⟩)
      (θ_run_and (Cert.Kernel16Ideal.Gen.run_main m g) (Cert.Kernel16Ideal.Gen.unchanged m g))
  · refine (θ_run Cert.Reference16Ideal.defs _ _).mono (fun r h c => ⟨(h c).1.trans ?_, (h c).2⟩) (Cert.Reference16Ideal.Value.run (F := Ideal) m' g')
    obtain ⟨e0, e1⟩ := hm c
    rw [Cert.Reference16Ideal.Read.val_main_v5_eq]
    exact Cert.Kernel16Ideal.BranchDx.result_eq m c _ _ e0.symm e1.symm

theorem frame_reference17 : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

/-- The gradient of a branch's matrix: the launch leaves what the reference computes. -/
theorem algebraic17 : Cert.algebraic_Kernel17Ideal_Reference17Ideal (hKernel17Ideal := Cert.Kernel17Ideal.Gen.facts)
    (hReference17Ideal := Cert.Reference17Ideal.Gen.facts) := by
  intro m g m' g' _ hm
  refine ⟨fun c => Cert.Kernel17Ideal.BranchDw.result m c, ?_, ?_⟩
  · exact (θ_run Cert.Kernel17Ideal.defs _ _).mono (fun r h c => ⟨((h.1 c).1 2).trans (Cert.Kernel17Ideal.BranchDw.arr_eq m c), h.2 c⟩)
      (θ_run_and (Cert.Kernel17Ideal.Gen.run_main m g) (Cert.Kernel17Ideal.Gen.unchanged m g))
  · refine (θ_run Cert.Reference17Ideal.defs _ _).mono (fun r h c => ⟨(h c).1.trans ?_, (h c).2⟩) (Cert.Reference17Ideal.Value.run (F := Ideal) m' g')
    obtain ⟨e0, e1⟩ := hm c
    rw [Cert.Reference17Ideal.Read.val_main_v6_eq]
    exact Cert.Kernel17Ideal.BranchDw.result_eq m c _ _ e0.symm e1.symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Pre_finite.facts, Cert.Pre_finite3.facts,
    frame_kernel, frame_kernelIdeal, frame_kernelIdeal_finite, frame_reference, frame_reference_finite,
    frame_kernel2, frame_kernel2Ideal, frame_kernel2Ideal_finite, frame_reference2, frame_reference2_finite,
    fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    trivial, algebraic, preserves2, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17⟩

end Cert.Proof

end
